-- ==== Defs.lean ====
def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesRefIdeal (m : (ℓ : Loc Cert.QueriesRefIdeal.nD Cert.QueriesRefIdeal.τ Cert.QueriesRefIdeal.sig) → Buf (Elt Ideal) ℓ) : Prop :=
  True

def Pre_IdxQueries (m : (ℓ : Loc Cert.IdxQueries.nD Cert.IdxQueries.τ Cert.IdxQueries.sig) → Buf (Elt Bits) ℓ) : Prop :=
  True

def Pre_IdxQueriesIdeal (m : (ℓ : Loc Cert.IdxQueriesIdeal.nD Cert.IdxQueriesIdeal.τ Cert.IdxQueriesIdeal.sig) → Buf (Elt Ideal) ℓ) : Prop :=
  True

def Pre_IdxQueriesRefIdeal (m : (ℓ : Loc Cert.IdxQueriesRefIdeal.nD Cert.IdxQueriesRefIdeal.τ Cert.IdxQueriesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Scores [hPre_table_in_range : Cert.Pre_table_in_range.Facts] (m : (ℓ : Loc Cert.Scores.nD Cert.Scores.τ Cert.Scores.sig) → Buf (Elt Bits) ℓ) : Prop :=
  ∀ c : Dev Cert.Scores.nD,
    (Cert.Pre_table_in_range.fn (F := Bits) (m ((c.tc : Thread Cert.Scores.nD Cert.Scores.τ).loc Cert.Scores.main_arg0)) (m ((c.tc : Thread Cert.Scores.nD Cert.Scores.τ).loc Cert.Scores.main_arg1)) (m ((c.tc : Thread Cert.Scores.nD Cert.Scores.τ).loc Cert.Scores.main_arg2)) (m ((c.tc : Thread Cert.Scores.nD Cert.Scores.τ).loc Cert.Scores.main_arg3)) (m ((c.tc : Thread Cert.Scores.nD Cert.Scores.τ).loc Cert.Scores.main_arg4))) = (fun _ => 1#1)

def Pre_ScoresIdeal [hPre_table_in_range : Cert.Pre_table_in_range.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_table_in_range.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))) = (fun _ => 1#1)

def Pre_ScoresRefIdeal [hPre_table_in_range : Cert.Pre_table_in_range.Facts] (m : (ℓ : Loc Cert.ScoresRefIdeal.nD Cert.ScoresRefIdeal.τ Cert.ScoresRefIdeal.sig) → Buf (Elt Ideal) ℓ) : Prop :=
  ∀ c : Dev Cert.ScoresRefIdeal.nD,
    (Cert.Pre_table_in_range.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2)) (m ((c.tc : Thread Cert.ScoresRefIdeal.nD Cert.ScoresRefIdeal.τ).loc Cert.ScoresRefIdeal.main_arg3)) (m ((c.tc : Thread Cert.ScoresRefIdeal.nD Cert.ScoresRefIdeal.τ).loc Cert.ScoresRefIdeal.main_arg4))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ConvFfn (m : (ℓ : Loc Cert.ConvFfn.nD Cert.ConvFfn.τ Cert.ConvFfn.sig) → Buf (Elt Bits) ℓ) : Prop :=
  True

def Pre_ConvFfnIdeal (m : (ℓ : Loc Cert.ConvFfnIdeal.nD Cert.ConvFfnIdeal.τ Cert.ConvFfnIdeal.sig) → Buf (Elt Ideal) ℓ) : Prop :=
  True

def Pre_ConvFfnRefIdeal (m : (ℓ : Loc Cert.ConvFfnRefIdeal.nD Cert.ConvFfnRefIdeal.τ Cert.ConvFfnRefIdeal.sig) → Buf (Elt Ideal) ℓ) : Prop :=
  True

def Pre_ConvA (m : (ℓ : Loc Cert.ConvA.nD Cert.ConvA.τ Cert.ConvA.sig) → Buf (Elt Bits) ℓ) : Prop :=
  True

def Pre_ConvAIdeal (m : (ℓ : Loc Cert.ConvAIdeal.nD Cert.ConvAIdeal.τ Cert.ConvAIdeal.sig) → Buf (Elt Ideal) ℓ) : Prop :=
  True

def Pre_ConvARefIdeal (m : (ℓ : Loc Cert.ConvARefIdeal.nD Cert.ConvARefIdeal.τ Cert.ConvARefIdeal.sig) → Buf (Elt Ideal) ℓ) : Prop :=
  True

def Pre_IdxKeys (m : (ℓ : Loc Cert.IdxKeys.nD Cert.IdxKeys.τ Cert.IdxKeys.sig) → Buf (Elt Bits) ℓ) : Prop :=
  True

def Pre_IdxKeysIdeal (m : (ℓ : Loc Cert.IdxKeysIdeal.nD Cert.IdxKeysIdeal.τ Cert.IdxKeysIdeal.sig) → Buf (Elt Ideal) ℓ) : Prop :=
  True

def Pre_IdxKeysRefIdeal (m : (ℓ : Loc Cert.IdxKeysRefIdeal.nD Cert.IdxKeysRefIdeal.τ Cert.IdxKeysRefIdeal.sig) → Buf (Elt Ideal) ℓ) : Prop :=
  True

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_QueriesRefIdeal [hQueriesRefIdeal : Cert.QueriesRefIdeal.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1))
      ∧ r.2.sem = fun _ => 0)

def quiescent_IdxQueries [hIdxQueries : Cert.IdxQueries.Facts] : Prop :=
  ∀ (m : (ℓ : Loc Cert.IdxQueries.nD Cert.IdxQueries.τ Cert.IdxQueries.sig) → Buf (Elt Bits) ℓ) (g : Dev Cert.IdxQueries.nD → PrngReg), Pre_IdxQueries m →
    θ_run (Cert.IdxQueries.defs (F := Bits)) (onTc (τ := Cert.IdxQueries.τ) (Cert.IdxQueries.main (F := Bits))) ⟨m, fun _ => 0, g⟩ (fun r => (∀ c : Dev Cert.IdxQueries.nD,
      r.2.mem ((c.tc : Thread Cert.IdxQueries.nD Cert.IdxQueries.τ).loc Cert.IdxQueries.main_arg0) = m ((c.tc : Thread Cert.IdxQueries.nD Cert.IdxQueries.τ).loc Cert.IdxQueries.main_arg0)
      ∧ r.2.mem ((c.tc : Thread Cert.IdxQueries.nD Cert.IdxQueries.τ).loc Cert.IdxQueries.main_arg1) = m ((c.tc : Thread Cert.IdxQueries.nD Cert.IdxQueries.τ).loc Cert.IdxQueries.main_arg1))
      ∧ r.2.sem = fun _ => 0)

def quiescent_IdxQueriesIdeal [hIdxQueriesIdeal : Cert.IdxQueriesIdeal.Facts] : Prop :=
  ∀ (m : (ℓ : Loc Cert.IdxQueriesIdeal.nD Cert.IdxQueriesIdeal.τ Cert.IdxQueriesIdeal.sig) → Buf (Elt Ideal) ℓ) (g : Dev Cert.IdxQueriesIdeal.nD → PrngReg), Pre_IdxQueriesIdeal m →
    θ_run (Cert.IdxQueriesIdeal.defs (F := Ideal)) (onTc (τ := Cert.IdxQueriesIdeal.τ) (Cert.IdxQueriesIdeal.main (F := Ideal))) ⟨m, fun _ => 0, g⟩ (fun r => (∀ c : Dev Cert.IdxQueriesIdeal.nD,
      r.2.mem ((c.tc : Thread Cert.IdxQueriesIdeal.nD Cert.IdxQueriesIdeal.τ).loc Cert.IdxQueriesIdeal.main_arg0) = m ((c.tc : Thread Cert.IdxQueriesIdeal.nD Cert.IdxQueriesIdeal.τ).loc Cert.IdxQueriesIdeal.main_arg0)
      ∧ r.2.mem ((c.tc : Thread Cert.IdxQueriesIdeal.nD Cert.IdxQueriesIdeal.τ).loc Cert.IdxQueriesIdeal.main_arg1) = m ((c.tc : Thread Cert.IdxQueriesIdeal.nD Cert.IdxQueriesIdeal.τ).loc Cert.IdxQueriesIdeal.main_arg1))
      ∧ r.2.sem = fun _ => 0)

def quiescent_IdxQueriesRefIdeal [hIdxQueriesRefIdeal : Cert.IdxQueriesRefIdeal.Facts] : Prop :=
  ∀ (m : (ℓ : Loc Cert.IdxQueriesRefIdeal.nD Cert.IdxQueriesRefIdeal.τ Cert.IdxQueriesRefIdeal.sig) → Buf (Elt Ideal) ℓ) (g : Dev Cert.IdxQueriesRefIdeal.nD → PrngReg), Pre_IdxQueriesRefIdeal m →
    θ_run (Cert.IdxQueriesRefIdeal.defs (F := Ideal)) (onTc (τ := Cert.IdxQueriesRefIdeal.τ) (Cert.IdxQueriesRefIdeal.main (F := Ideal))) ⟨m, fun _ => 0, g⟩ (fun r => (∀ c : Dev Cert.IdxQueriesRefIdeal.nD,
      r.2.mem ((c.tc : Thread Cert.IdxQueriesRefIdeal.nD Cert.IdxQueriesRefIdeal.τ).loc Cert.IdxQueriesRefIdeal.main_arg0) = m ((c.tc : Thread Cert.IdxQueriesRefIdeal.nD Cert.IdxQueriesRefIdeal.τ).loc Cert.IdxQueriesRefIdeal.main_arg0)
      ∧ r.2.mem ((c.tc : Thread Cert.IdxQueriesRefIdeal.nD Cert.IdxQueriesRefIdeal.τ).loc Cert.IdxQueriesRefIdeal.main_arg1) = m ((c.tc : Thread Cert.IdxQueriesRefIdeal.nD Cert.IdxQueriesRefIdeal.τ).loc Cert.IdxQueriesRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Scores [hScores : Cert.Scores.Facts] [hPre_table_in_range : Cert.Pre_table_in_range.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4))
      ∧ r.2.sem = fun _ => 0)

def quiescent_ScoresIdeal [hScoresIdeal : Cert.ScoresIdeal.Facts] [hPre_table_in_range : Cert.Pre_table_in_range.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresRefIdeal [hScoresRefIdeal : Cert.ScoresRefIdeal.Facts] [hPre_table_in_range : Cert.Pre_table_in_range.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3)
      ∧ r.2.mem ((c.tc : Thread Cert.ScoresRefIdeal.nD Cert.ScoresRefIdeal.τ).loc Cert.ScoresRefIdeal.main_arg4) = m ((c.tc : Thread Cert.ScoresRefIdeal.nD Cert.ScoresRefIdeal.τ).loc Cert.ScoresRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_ConvFfn [hConvFfn : Cert.ConvFfn.Facts] : Prop :=
  ∀ (m : (ℓ : Loc Cert.ConvFfn.nD Cert.ConvFfn.τ Cert.ConvFfn.sig) → Buf (Elt Bits) ℓ) (g : Dev Cert.ConvFfn.nD → PrngReg), Pre_ConvFfn m →
    θ_run (Cert.ConvFfn.defs (F := Bits)) (onTc (τ := Cert.ConvFfn.τ) (Cert.ConvFfn.main (F := Bits))) ⟨m, fun _ => 0, g⟩ (fun r => (∀ c : Dev Cert.ConvFfn.nD,
      r.2.mem ((c.tc : Thread Cert.ConvFfn.nD Cert.ConvFfn.τ).loc Cert.ConvFfn.main_arg0) = m ((c.tc : Thread Cert.ConvFfn.nD Cert.ConvFfn.τ).loc Cert.ConvFfn.main_arg0)
      ∧ r.2.mem ((c.tc : Thread Cert.ConvFfn.nD Cert.ConvFfn.τ).loc Cert.ConvFfn.main_arg1) = m ((c.tc : Thread Cert.ConvFfn.nD Cert.ConvFfn.τ).loc Cert.ConvFfn.main_arg1)
      ∧ r.2.mem ((c.tc : Thread Cert.ConvFfn.nD Cert.ConvFfn.τ).loc Cert.ConvFfn.main_arg2) = m ((c.tc : Thread Cert.ConvFfn.nD Cert.ConvFfn.τ).loc Cert.ConvFfn.main_arg2)
      ∧ r.2.mem ((c.tc : Thread Cert.ConvFfn.nD Cert.ConvFfn.τ).loc Cert.ConvFfn.main_arg3) = m ((c.tc : Thread Cert.ConvFfn.nD Cert.ConvFfn.τ).loc Cert.ConvFfn.main_arg3)
      ∧ r.2.mem ((c.tc : Thread Cert.ConvFfn.nD Cert.ConvFfn.τ).loc Cert.ConvFfn.main_arg4) = m ((c.tc : Thread Cert.ConvFfn.nD Cert.ConvFfn.τ).loc Cert.ConvFfn.main_arg4))
      ∧ r.2.sem = fun _ => 0)

def quiescent_ConvFfnIdeal [hConvFfnIdeal : Cert.ConvFfnIdeal.Facts] : Prop :=
  ∀ (m : (ℓ : Loc Cert.ConvFfnIdeal.nD Cert.ConvFfnIdeal.τ Cert.ConvFfnIdeal.sig) → Buf (Elt Ideal) ℓ) (g : Dev Cert.ConvFfnIdeal.nD → PrngReg), Pre_ConvFfnIdeal m →
    θ_run (Cert.ConvFfnIdeal.defs (F := Ideal)) (onTc (τ := Cert.ConvFfnIdeal.τ) (Cert.ConvFfnIdeal.main (F := Ideal))) ⟨m, fun _ => 0, g⟩ (fun r => (∀ c : Dev Cert.ConvFfnIdeal.nD,
      r.2.mem ((c.tc : Thread Cert.ConvFfnIdeal.nD Cert.ConvFfnIdeal.τ).loc Cert.ConvFfnIdeal.main_arg0) = m ((c.tc : Thread Cert.ConvFfnIdeal.nD Cert.ConvFfnIdeal.τ).loc Cert.ConvFfnIdeal.main_arg0)
      ∧ r.2.mem ((c.tc : Thread Cert.ConvFfnIdeal.nD Cert.ConvFfnIdeal.τ).loc Cert.ConvFfnIdeal.main_arg1) = m ((c.tc : Thread Cert.ConvFfnIdeal.nD Cert.ConvFfnIdeal.τ).loc Cert.ConvFfnIdeal.main_arg1)
      ∧ r.2.mem ((c.tc : Thread Cert.ConvFfnIdeal.nD Cert.ConvFfnIdeal.τ).loc Cert.ConvFfnIdeal.main_arg2) = m ((c.tc : Thread Cert.ConvFfnIdeal.nD Cert.ConvFfnIdeal.τ).loc Cert.ConvFfnIdeal.main_arg2)
      ∧ r.2.mem ((c.tc : Thread Cert.ConvFfnIdeal.nD Cert.ConvFfnIdeal.τ).loc Cert.ConvFfnIdeal.main_arg3) = m ((c.tc : Thread Cert.ConvFfnIdeal.nD Cert.ConvFfnIdeal.τ).loc Cert.ConvFfnIdeal.main_arg3)
      ∧ r.2.mem ((c.tc : Thread Cert.ConvFfnIdeal.nD Cert.ConvFfnIdeal.τ).loc Cert.ConvFfnIdeal.main_arg4) = m ((c.tc : Thread Cert.ConvFfnIdeal.nD Cert.ConvFfnIdeal.τ).loc Cert.ConvFfnIdeal.main_arg4))
      ∧ r.2.sem = fun _ => 0)

def quiescent_ConvFfnRefIdeal [hConvFfnRefIdeal : Cert.ConvFfnRefIdeal.Facts] : Prop :=
  ∀ (m : (ℓ : Loc Cert.ConvFfnRefIdeal.nD Cert.ConvFfnRefIdeal.τ Cert.ConvFfnRefIdeal.sig) → Buf (Elt Ideal) ℓ) (g : Dev Cert.ConvFfnRefIdeal.nD → PrngReg), Pre_ConvFfnRefIdeal m →
    θ_run (Cert.ConvFfnRefIdeal.defs (F := Ideal)) (onTc (τ := Cert.ConvFfnRefIdeal.τ) (Cert.ConvFfnRefIdeal.main (F := Ideal))) ⟨m, fun _ => 0, g⟩ (fun r => (∀ c : Dev Cert.ConvFfnRefIdeal.nD,
      r.2.mem ((c.tc : Thread Cert.ConvFfnRefIdeal.nD Cert.ConvFfnRefIdeal.τ).loc Cert.ConvFfnRefIdeal.main_arg0) = m ((c.tc : Thread Cert.ConvFfnRefIdeal.nD Cert.ConvFfnRefIdeal.τ).loc Cert.ConvFfnRefIdeal.main_arg0)
      ∧ r.2.mem ((c.tc : Thread Cert.ConvFfnRefIdeal.nD Cert.ConvFfnRefIdeal.τ).loc Cert.ConvFfnRefIdeal.main_arg1) = m ((c.tc : Thread Cert.ConvFfnRefIdeal.nD Cert.ConvFfnRefIdeal.τ).loc Cert.ConvFfnRefIdeal.main_arg1)
      ∧ r.2.mem ((c.tc : Thread Cert.ConvFfnRefIdeal.nD Cert.ConvFfnRefIdeal.τ).loc Cert.ConvFfnRefIdeal.main_arg2) = m ((c.tc : Thread Cert.ConvFfnRefIdeal.nD Cert.ConvFfnRefIdeal.τ).loc Cert.ConvFfnRefIdeal.main_arg2)
      ∧ r.2.mem ((c.tc : Thread Cert.ConvFfnRefIdeal.nD Cert.ConvFfnRefIdeal.τ).loc Cert.ConvFfnRefIdeal.main_arg3) = m ((c.tc : Thread Cert.ConvFfnRefIdeal.nD Cert.ConvFfnRefIdeal.τ).loc Cert.ConvFfnRefIdeal.main_arg3)
      ∧ r.2.mem ((c.tc : Thread Cert.ConvFfnRefIdeal.nD Cert.ConvFfnRefIdeal.τ).loc Cert.ConvFfnRefIdeal.main_arg4) = m ((c.tc : Thread Cert.ConvFfnRefIdeal.nD Cert.ConvFfnRefIdeal.τ).loc Cert.ConvFfnRefIdeal.main_arg4))
      ∧ r.2.sem = fun _ => 0)

def quiescent_ConvA [hConvA : Cert.ConvA.Facts] : Prop :=
  ∀ (m : (ℓ : Loc Cert.ConvA.nD Cert.ConvA.τ Cert.ConvA.sig) → Buf (Elt Bits) ℓ) (g : Dev Cert.ConvA.nD → PrngReg), Pre_ConvA m →
    θ_run (Cert.ConvA.defs (F := Bits)) (onTc (τ := Cert.ConvA.τ) (Cert.ConvA.main (F := Bits))) ⟨m, fun _ => 0, g⟩ (fun r => (∀ c : Dev Cert.ConvA.nD,
      r.2.mem ((c.tc : Thread Cert.ConvA.nD Cert.ConvA.τ).loc Cert.ConvA.main_arg0) = m ((c.tc : Thread Cert.ConvA.nD Cert.ConvA.τ).loc Cert.ConvA.main_arg0)
      ∧ r.2.mem ((c.tc : Thread Cert.ConvA.nD Cert.ConvA.τ).loc Cert.ConvA.main_arg1) = m ((c.tc : Thread Cert.ConvA.nD Cert.ConvA.τ).loc Cert.ConvA.main_arg1)
      ∧ r.2.mem ((c.tc : Thread Cert.ConvA.nD Cert.ConvA.τ).loc Cert.ConvA.main_arg2) = m ((c.tc : Thread Cert.ConvA.nD Cert.ConvA.τ).loc Cert.ConvA.main_arg2))
      ∧ r.2.sem = fun _ => 0)

def quiescent_ConvAIdeal [hConvAIdeal : Cert.ConvAIdeal.Facts] : Prop :=
  ∀ (m : (ℓ : Loc Cert.ConvAIdeal.nD Cert.ConvAIdeal.τ Cert.ConvAIdeal.sig) → Buf (Elt Ideal) ℓ) (g : Dev Cert.ConvAIdeal.nD → PrngReg), Pre_ConvAIdeal m →
    θ_run (Cert.ConvAIdeal.defs (F := Ideal)) (onTc (τ := Cert.ConvAIdeal.τ) (Cert.ConvAIdeal.main (F := Ideal))) ⟨m, fun _ => 0, g⟩ (fun r => (∀ c : Dev Cert.ConvAIdeal.nD,
      r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
      ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1)
      ∧ r.2.mem ((c.tc : Thread Cert.ConvAIdeal.nD Cert.ConvAIdeal.τ).loc Cert.ConvAIdeal.main_arg2) = m ((c.tc : Thread Cert.ConvAIdeal.nD Cert.ConvAIdeal.τ).loc Cert.ConvAIdeal.main_arg2))
      ∧ r.2.sem = fun _ => 0)

def quiescent_ConvARefIdeal [hConvARefIdeal : Cert.ConvARefIdeal.Facts] : Prop :=
  ∀ (m : (ℓ : Loc Cert.ConvARefIdeal.nD Cert.ConvARefIdeal.τ Cert.ConvARefIdeal.sig) → Buf (Elt Ideal) ℓ) (g : Dev Cert.ConvARefIdeal.nD → PrngReg), Pre_ConvARefIdeal m →
    θ_run (Cert.ConvARefIdeal.defs (F := Ideal)) (onTc (τ := Cert.ConvARefIdeal.τ) (Cert.ConvARefIdeal.main (F := Ideal))) ⟨m, fun _ => 0, g⟩ (fun r => (∀ c : Dev Cert.ConvARefIdeal.nD,
      r.2.mem ((c.tc : Thread Cert.ConvARefIdeal.nD Cert.ConvARefIdeal.τ).loc Cert.ConvARefIdeal.main_arg0) = m ((c.tc : Thread Cert.ConvARefIdeal.nD Cert.ConvARefIdeal.τ).loc Cert.ConvARefIdeal.main_arg0)
      ∧ r.2.mem ((c.tc : Thread Cert.ConvARefIdeal.nD Cert.ConvARefIdeal.τ).loc Cert.ConvARefIdeal.main_arg1) = m ((c.tc : Thread Cert.ConvARefIdeal.nD Cert.ConvARefIdeal.τ).loc Cert.ConvARefIdeal.main_arg1)
      ∧ r.2.mem ((c.tc : Thread Cert.ConvARefIdeal.nD Cert.ConvARefIdeal.τ).loc Cert.ConvARefIdeal.main_arg2) = m ((c.tc : Thread Cert.ConvARefIdeal.nD Cert.ConvARefIdeal.τ).loc Cert.ConvARefIdeal.main_arg2))
      ∧ r.2.sem = fun _ => 0)

def quiescent_IdxKeys [hIdxKeys : Cert.IdxKeys.Facts] : Prop :=
  ∀ (m : (ℓ : Loc Cert.IdxKeys.nD Cert.IdxKeys.τ Cert.IdxKeys.sig) → Buf (Elt Bits) ℓ) (g : Dev Cert.IdxKeys.nD → PrngReg), Pre_IdxKeys m →
    θ_run (Cert.IdxKeys.defs (F := Bits)) (onTc (τ := Cert.IdxKeys.τ) (Cert.IdxKeys.main (F := Bits))) ⟨m, fun _ => 0, g⟩ (fun r => (∀ c : Dev Cert.IdxKeys.nD,
      r.2.mem ((c.tc : Thread Cert.IdxKeys.nD Cert.IdxKeys.τ).loc Cert.IdxKeys.main_arg0) = m ((c.tc : Thread Cert.IdxKeys.nD Cert.IdxKeys.τ).loc Cert.IdxKeys.main_arg0)
      ∧ r.2.mem ((c.tc : Thread Cert.IdxKeys.nD Cert.IdxKeys.τ).loc Cert.IdxKeys.main_arg1) = m ((c.tc : Thread Cert.IdxKeys.nD Cert.IdxKeys.τ).loc Cert.IdxKeys.main_arg1)
      ∧ r.2.mem ((c.tc : Thread Cert.IdxKeys.nD Cert.IdxKeys.τ).loc Cert.IdxKeys.main_arg2) = m ((c.tc : Thread Cert.IdxKeys.nD Cert.IdxKeys.τ).loc Cert.IdxKeys.main_arg2)
      ∧ r.2.mem ((c.tc : Thread Cert.IdxKeys.nD Cert.IdxKeys.τ).loc Cert.IdxKeys.main_arg3) = m ((c.tc : Thread Cert.IdxKeys.nD Cert.IdxKeys.τ).loc Cert.IdxKeys.main_arg3))
      ∧ r.2.sem = fun _ => 0)

def quiescent_IdxKeysIdeal [hIdxKeysIdeal : Cert.IdxKeysIdeal.Facts] : Prop :=
  ∀ (m : (ℓ : Loc Cert.IdxKeysIdeal.nD Cert.IdxKeysIdeal.τ Cert.IdxKeysIdeal.sig) → Buf (Elt Ideal) ℓ) (g : Dev Cert.IdxKeysIdeal.nD → PrngReg), Pre_IdxKeysIdeal m →
    θ_run (Cert.IdxKeysIdeal.defs (F := Ideal)) (onTc (τ := Cert.IdxKeysIdeal.τ) (Cert.IdxKeysIdeal.main (F := Ideal))) ⟨m, fun _ => 0, g⟩ (fun r => (∀ c : Dev Cert.IdxKeysIdeal.nD,
      r.2.mem ((c.tc : Thread Cert.IdxKeysIdeal.nD Cert.IdxKeysIdeal.τ).loc Cert.IdxKeysIdeal.main_arg0) = m ((c.tc : Thread Cert.IdxKeysIdeal.nD Cert.IdxKeysIdeal.τ).loc Cert.IdxKeysIdeal.main_arg0)
      ∧ r.2.mem ((c.tc : Thread Cert.IdxKeysIdeal.nD Cert.IdxKeysIdeal.τ).loc Cert.IdxKeysIdeal.main_arg1) = m ((c.tc : Thread Cert.IdxKeysIdeal.nD Cert.IdxKeysIdeal.τ).loc Cert.IdxKeysIdeal.main_arg1)
      ∧ r.2.mem ((c.tc : Thread Cert.IdxKeysIdeal.nD Cert.IdxKeysIdeal.τ).loc Cert.IdxKeysIdeal.main_arg2) = m ((c.tc : Thread Cert.IdxKeysIdeal.nD Cert.IdxKeysIdeal.τ).loc Cert.IdxKeysIdeal.main_arg2)
      ∧ r.2.mem ((c.tc : Thread Cert.IdxKeysIdeal.nD Cert.IdxKeysIdeal.τ).loc Cert.IdxKeysIdeal.main_arg3) = m ((c.tc : Thread Cert.IdxKeysIdeal.nD Cert.IdxKeysIdeal.τ).loc Cert.IdxKeysIdeal.main_arg3))
      ∧ r.2.sem = fun _ => 0)

def quiescent_IdxKeysRefIdeal [hIdxKeysRefIdeal : Cert.IdxKeysRefIdeal.Facts] : Prop :=
  ∀ (m : (ℓ : Loc Cert.IdxKeysRefIdeal.nD Cert.IdxKeysRefIdeal.τ Cert.IdxKeysRefIdeal.sig) → Buf (Elt Ideal) ℓ) (g : Dev Cert.IdxKeysRefIdeal.nD → PrngReg), Pre_IdxKeysRefIdeal m →
    θ_run (Cert.IdxKeysRefIdeal.defs (F := Ideal)) (onTc (τ := Cert.IdxKeysRefIdeal.τ) (Cert.IdxKeysRefIdeal.main (F := Ideal))) ⟨m, fun _ => 0, g⟩ (fun r => (∀ c : Dev Cert.IdxKeysRefIdeal.nD,
      r.2.mem ((c.tc : Thread Cert.IdxKeysRefIdeal.nD Cert.IdxKeysRefIdeal.τ).loc Cert.IdxKeysRefIdeal.main_arg0) = m ((c.tc : Thread Cert.IdxKeysRefIdeal.nD Cert.IdxKeysRefIdeal.τ).loc Cert.IdxKeysRefIdeal.main_arg0)
      ∧ r.2.mem ((c.tc : Thread Cert.IdxKeysRefIdeal.nD Cert.IdxKeysRefIdeal.τ).loc Cert.IdxKeysRefIdeal.main_arg1) = m ((c.tc : Thread Cert.IdxKeysRefIdeal.nD Cert.IdxKeysRefIdeal.τ).loc Cert.IdxKeysRefIdeal.main_arg1)
      ∧ r.2.mem ((c.tc : Thread Cert.IdxKeysRefIdeal.nD Cert.IdxKeysRefIdeal.τ).loc Cert.IdxKeysRefIdeal.main_arg2) = m ((c.tc : Thread Cert.IdxKeysRefIdeal.nD Cert.IdxKeysRefIdeal.τ).loc Cert.IdxKeysRefIdeal.main_arg2)
      ∧ r.2.mem ((c.tc : Thread Cert.IdxKeysRefIdeal.nD Cert.IdxKeysRefIdeal.τ).loc Cert.IdxKeysRefIdeal.main_arg3) = m ((c.tc : Thread Cert.IdxKeysRefIdeal.nD Cert.IdxKeysRefIdeal.τ).loc Cert.IdxKeysRefIdeal.main_arg3))
      ∧ r.2.sem = fun _ => 0)

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v5) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v27) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Queries_QueriesIdeal : Prop :=
  True

def algebraic_QueriesIdeal_QueriesRefIdeal [hQueriesIdeal : Cert.QueriesIdeal.Facts] [hQueriesRefIdeal : Cert.QueriesRefIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesRefIdeal.nD Cert.QueriesRefIdeal.τ Cert.QueriesRefIdeal.sig) → Buf (Elt Ideal) ℓ) (g' : Dev Cert.QueriesRefIdeal.nD → PrngReg), Pre_QueriesIdeal m →
    (∀ c : Dev Cert.QueriesIdeal.nD,
      m' ((c.tc : Thread Cert.QueriesRefIdeal.nD Cert.QueriesRefIdeal.τ).loc Cert.QueriesRefIdeal.main_arg0) = m ((c.tc : Thread Cert.QueriesIdeal.nD Cert.QueriesIdeal.τ).loc Cert.QueriesIdeal.main_arg0)
      ∧ m' ((c.tc : Thread Cert.QueriesRefIdeal.nD Cert.QueriesRefIdeal.τ).loc Cert.QueriesRefIdeal.main_arg1) = m ((c.tc : Thread Cert.QueriesIdeal.nD Cert.QueriesIdeal.τ).loc Cert.QueriesIdeal.main_arg1)) →
    ∃ (v0 : (c : Dev Cert.QueriesIdeal.nD) → Buf (Elt Ideal) ((c.tc : Thread Cert.QueriesIdeal.nD Cert.QueriesIdeal.τ).loc Cert.QueriesIdeal.main_v38)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v38) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ θ_run (Cert.QueriesRefIdeal.defs (F := Ideal)) (onTc (τ := Cert.QueriesRefIdeal.τ) (Cert.QueriesRefIdeal.main (F := Ideal))) ⟨m', fun _ => 0, g'⟩ (fun r => ∀ c : Dev Cert.QueriesRefIdeal.nD,
          r.2.mem ((c.tc : Thread Cert.QueriesRefIdeal.nD Cert.QueriesRefIdeal.τ).loc Cert.QueriesRefIdeal.main_v50) = v0 c
          ∧ r.2.mem ((c.tc : Thread Cert.QueriesRefIdeal.nD Cert.QueriesRefIdeal.τ).loc Cert.QueriesRefIdeal.main_arg0) = m' ((c.tc : Thread Cert.QueriesRefIdeal.nD Cert.QueriesRefIdeal.τ).loc Cert.QueriesRefIdeal.main_arg0)
          ∧ r.2.mem ((c.tc : Thread Cert.QueriesRefIdeal.nD Cert.QueriesRefIdeal.τ).loc Cert.QueriesRefIdeal.main_arg1) = m' ((c.tc : Thread Cert.QueriesRefIdeal.nD Cert.QueriesRefIdeal.τ).loc Cert.QueriesRefIdeal.main_arg1))

def preserves_IdxQueries_IdxQueriesIdeal : Prop :=
  True

def algebraic_IdxQueriesIdeal_IdxQueriesRefIdeal [hIdxQueriesIdeal : Cert.IdxQueriesIdeal.Facts] [hIdxQueriesRefIdeal : Cert.IdxQueriesRefIdeal.Facts] : Prop :=
  ∀ (m : (ℓ : Loc Cert.IdxQueriesIdeal.nD Cert.IdxQueriesIdeal.τ Cert.IdxQueriesIdeal.sig) → Buf (Elt Ideal) ℓ) (g : Dev Cert.IdxQueriesIdeal.nD → PrngReg)
    (m' : (ℓ : Loc Cert.IdxQueriesRefIdeal.nD Cert.IdxQueriesRefIdeal.τ Cert.IdxQueriesRefIdeal.sig) → Buf (Elt Ideal) ℓ) (g' : Dev Cert.IdxQueriesRefIdeal.nD → PrngReg), Pre_IdxQueriesIdeal m →
    (∀ c : Dev Cert.IdxQueriesIdeal.nD,
      m' ((c.tc : Thread Cert.IdxQueriesRefIdeal.nD Cert.IdxQueriesRefIdeal.τ).loc Cert.IdxQueriesRefIdeal.main_arg0) = m ((c.tc : Thread Cert.IdxQueriesIdeal.nD Cert.IdxQueriesIdeal.τ).loc Cert.IdxQueriesIdeal.main_arg0)
      ∧ m' ((c.tc : Thread Cert.IdxQueriesRefIdeal.nD Cert.IdxQueriesRefIdeal.τ).loc Cert.IdxQueriesRefIdeal.main_arg1) = m ((c.tc : Thread Cert.IdxQueriesIdeal.nD Cert.IdxQueriesIdeal.τ).loc Cert.IdxQueriesIdeal.main_arg1)) →
    ∃ (v0 : (c : Dev Cert.IdxQueriesIdeal.nD) → Buf (Elt Ideal) ((c.tc : Thread Cert.IdxQueriesIdeal.nD Cert.IdxQueriesIdeal.τ).loc Cert.IdxQueriesIdeal.main_v38)),
      θ_run (Cert.IdxQueriesIdeal.defs (F := Ideal)) (onTc (τ := Cert.IdxQueriesIdeal.τ) (Cert.IdxQueriesIdeal.main (F := Ideal))) ⟨m, fun _ => 0, g⟩ (fun r => ∀ c : Dev Cert.IdxQueriesIdeal.nD,
          r.2.mem ((c.tc : Thread Cert.IdxQueriesIdeal.nD Cert.IdxQueriesIdeal.τ).loc Cert.IdxQueriesIdeal.main_v38) = v0 c
          ∧ r.2.mem ((c.tc : Thread Cert.IdxQueriesIdeal.nD Cert.IdxQueriesIdeal.τ).loc Cert.IdxQueriesIdeal.main_arg0) = m ((c.tc : Thread Cert.IdxQueriesIdeal.nD Cert.IdxQueriesIdeal.τ).loc Cert.IdxQueriesIdeal.main_arg0)
          ∧ r.2.mem ((c.tc : Thread Cert.IdxQueriesIdeal.nD Cert.IdxQueriesIdeal.τ).loc Cert.IdxQueriesIdeal.main_arg1) = m ((c.tc : Thread Cert.IdxQueriesIdeal.nD Cert.IdxQueriesIdeal.τ).loc Cert.IdxQueriesIdeal.main_arg1))
      ∧ θ_run (Cert.IdxQueriesRefIdeal.defs (F := Ideal)) (onTc (τ := Cert.IdxQueriesRefIdeal.τ) (Cert.IdxQueriesRefIdeal.main (F := Ideal))) ⟨m', fun _ => 0, g'⟩ (fun r => ∀ c : Dev Cert.IdxQueriesRefIdeal.nD,
          r.2.mem ((c.tc : Thread Cert.IdxQueriesRefIdeal.nD Cert.IdxQueriesRefIdeal.τ).loc Cert.IdxQueriesRefIdeal.main_v48) = v0 c
          ∧ r.2.mem ((c.tc : Thread Cert.IdxQueriesRefIdeal.nD Cert.IdxQueriesRefIdeal.τ).loc Cert.IdxQueriesRefIdeal.main_arg0) = m' ((c.tc : Thread Cert.IdxQueriesRefIdeal.nD Cert.IdxQueriesRefIdeal.τ).loc Cert.IdxQueriesRefIdeal.main_arg0)
          ∧ r.2.mem ((c.tc : Thread Cert.IdxQueriesRefIdeal.nD Cert.IdxQueriesRefIdeal.τ).loc Cert.IdxQueriesRefIdeal.main_arg1) = m' ((c.tc : Thread Cert.IdxQueriesRefIdeal.nD Cert.IdxQueriesRefIdeal.τ).loc Cert.IdxQueriesRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v10) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Scores_ScoresIdeal : Prop :=
  True

def algebraic_ScoresIdeal_ScoresRefIdeal [hScoresIdeal : Cert.ScoresIdeal.Facts] [hScoresRefIdeal : Cert.ScoresRefIdeal.Facts] [hPre_table_in_range : Cert.Pre_table_in_range.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)
      ∧ m' ((c.tc : Thread Cert.ScoresRefIdeal.nD Cert.ScoresRefIdeal.τ).loc Cert.ScoresRefIdeal.main_arg3) = m ((c.tc : Thread Cert.ScoresIdeal.nD Cert.ScoresIdeal.τ).loc Cert.ScoresIdeal.main_arg3)
      ∧ m' ((c.tc : Thread Cert.ScoresRefIdeal.nD Cert.ScoresRefIdeal.τ).loc Cert.ScoresRefIdeal.main_arg4) = m ((c.tc : Thread Cert.ScoresIdeal.nD Cert.ScoresIdeal.τ).loc Cert.ScoresIdeal.main_arg4)) →
    ∃ (v0 : (c : Dev Cert.ScoresIdeal.nD) → Buf (Elt Ideal) ((c.tc : Thread Cert.ScoresIdeal.nD Cert.ScoresIdeal.τ).loc Cert.ScoresIdeal.main_v11_0)) (v1 : (c : Dev Cert.ScoresIdeal.nD) → Buf (Elt Ideal) ((c.tc : Thread Cert.ScoresIdeal.nD Cert.ScoresIdeal.τ).loc Cert.ScoresIdeal.main_v11_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v11_0) = v0 c
          ∧ r.2.mem ((c.tc : Thread Cert.ScoresIdeal.nD Cert.ScoresIdeal.τ).loc Cert.ScoresIdeal.main_v11_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v18) = v0 c
          ∧ r.2.mem ((c.tc : Thread Cert.ScoresRefIdeal.nD Cert.ScoresRefIdeal.τ).loc Cert.ScoresRefIdeal.main_v20) = v1 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2)
          ∧ r.2.mem ((c.tc : Thread Cert.ScoresRefIdeal.nD Cert.ScoresRefIdeal.τ).loc Cert.ScoresRefIdeal.main_arg3) = m' ((c.tc : Thread Cert.ScoresRefIdeal.nD Cert.ScoresRefIdeal.τ).loc Cert.ScoresRefIdeal.main_arg3)
          ∧ r.2.mem ((c.tc : Thread Cert.ScoresRefIdeal.nD Cert.ScoresRefIdeal.τ).loc Cert.ScoresRefIdeal.main_arg4) = m' ((c.tc : Thread Cert.ScoresRefIdeal.nD Cert.ScoresRefIdeal.τ).loc Cert.ScoresRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v9_0)) (v1 : (c : Dev Cert.MixIdeal.nD) → Buf (Elt Ideal) ((c.tc : Thread Cert.MixIdeal.nD Cert.MixIdeal.τ).loc Cert.MixIdeal.main_v9_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v9_0) = v0 c
          ∧ r.2.mem ((c.tc : Thread Cert.MixIdeal.nD Cert.MixIdeal.τ).loc Cert.MixIdeal.main_v9_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v31) = v0 c
          ∧ r.2.mem ((c.tc : Thread Cert.MixRefIdeal.nD Cert.MixRefIdeal.τ).loc Cert.MixRefIdeal.main_v32) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v9_0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v9_0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v31) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_ConvFfn_ConvFfnIdeal : Prop :=
  True

def algebraic_ConvFfnIdeal_ConvFfnRefIdeal [hConvFfnIdeal : Cert.ConvFfnIdeal.Facts] [hConvFfnRefIdeal : Cert.ConvFfnRefIdeal.Facts] : Prop :=
  ∀ (m : (ℓ : Loc Cert.ConvFfnIdeal.nD Cert.ConvFfnIdeal.τ Cert.ConvFfnIdeal.sig) → Buf (Elt Ideal) ℓ) (g : Dev Cert.ConvFfnIdeal.nD → PrngReg)
    (m' : (ℓ : Loc Cert.ConvFfnRefIdeal.nD Cert.ConvFfnRefIdeal.τ Cert.ConvFfnRefIdeal.sig) → Buf (Elt Ideal) ℓ) (g' : Dev Cert.ConvFfnRefIdeal.nD → PrngReg), Pre_ConvFfnIdeal m →
    (∀ c : Dev Cert.ConvFfnIdeal.nD,
      m' ((c.tc : Thread Cert.ConvFfnRefIdeal.nD Cert.ConvFfnRefIdeal.τ).loc Cert.ConvFfnRefIdeal.main_arg0) = m ((c.tc : Thread Cert.ConvFfnIdeal.nD Cert.ConvFfnIdeal.τ).loc Cert.ConvFfnIdeal.main_arg0)
      ∧ m' ((c.tc : Thread Cert.ConvFfnRefIdeal.nD Cert.ConvFfnRefIdeal.τ).loc Cert.ConvFfnRefIdeal.main_arg1) = m ((c.tc : Thread Cert.ConvFfnIdeal.nD Cert.ConvFfnIdeal.τ).loc Cert.ConvFfnIdeal.main_arg1)
      ∧ m' ((c.tc : Thread Cert.ConvFfnRefIdeal.nD Cert.ConvFfnRefIdeal.τ).loc Cert.ConvFfnRefIdeal.main_arg2) = m ((c.tc : Thread Cert.ConvFfnIdeal.nD Cert.ConvFfnIdeal.τ).loc Cert.ConvFfnIdeal.main_arg2)
      ∧ m' ((c.tc : Thread Cert.ConvFfnRefIdeal.nD Cert.ConvFfnRefIdeal.τ).loc Cert.ConvFfnRefIdeal.main_arg3) = m ((c.tc : Thread Cert.ConvFfnIdeal.nD Cert.ConvFfnIdeal.τ).loc Cert.ConvFfnIdeal.main_arg3)
      ∧ m' ((c.tc : Thread Cert.ConvFfnRefIdeal.nD Cert.ConvFfnRefIdeal.τ).loc Cert.ConvFfnRefIdeal.main_arg4) = m ((c.tc : Thread Cert.ConvFfnIdeal.nD Cert.ConvFfnIdeal.τ).loc Cert.ConvFfnIdeal.main_arg4)) →
    ∃ (v0 : (c : Dev Cert.ConvFfnIdeal.nD) → Buf (Elt Ideal) ((c.tc : Thread Cert.ConvFfnIdeal.nD Cert.ConvFfnIdeal.τ).loc Cert.ConvFfnIdeal.main_v14)) (v1 : (c : Dev Cert.ConvFfnIdeal.nD) → Buf (Elt Ideal) ((c.tc : Thread Cert.ConvFfnIdeal.nD Cert.ConvFfnIdeal.τ).loc Cert.ConvFfnIdeal.main_v13)),
      θ_run (Cert.ConvFfnIdeal.defs (F := Ideal)) (onTc (τ := Cert.ConvFfnIdeal.τ) (Cert.ConvFfnIdeal.main (F := Ideal))) ⟨m, fun _ => 0, g⟩ (fun r => ∀ c : Dev Cert.ConvFfnIdeal.nD,
          r.2.mem ((c.tc : Thread Cert.ConvFfnIdeal.nD Cert.ConvFfnIdeal.τ).loc Cert.ConvFfnIdeal.main_v14) = v0 c
          ∧ r.2.mem ((c.tc : Thread Cert.ConvFfnIdeal.nD Cert.ConvFfnIdeal.τ).loc Cert.ConvFfnIdeal.main_v13) = v1 c
          ∧ r.2.mem ((c.tc : Thread Cert.ConvFfnIdeal.nD Cert.ConvFfnIdeal.τ).loc Cert.ConvFfnIdeal.main_arg0) = m ((c.tc : Thread Cert.ConvFfnIdeal.nD Cert.ConvFfnIdeal.τ).loc Cert.ConvFfnIdeal.main_arg0)
          ∧ r.2.mem ((c.tc : Thread Cert.ConvFfnIdeal.nD Cert.ConvFfnIdeal.τ).loc Cert.ConvFfnIdeal.main_arg1) = m ((c.tc : Thread Cert.ConvFfnIdeal.nD Cert.ConvFfnIdeal.τ).loc Cert.ConvFfnIdeal.main_arg1)
          ∧ r.2.mem ((c.tc : Thread Cert.ConvFfnIdeal.nD Cert.ConvFfnIdeal.τ).loc Cert.ConvFfnIdeal.main_arg2) = m ((c.tc : Thread Cert.ConvFfnIdeal.nD Cert.ConvFfnIdeal.τ).loc Cert.ConvFfnIdeal.main_arg2)
          ∧ r.2.mem ((c.tc : Thread Cert.ConvFfnIdeal.nD Cert.ConvFfnIdeal.τ).loc Cert.ConvFfnIdeal.main_arg3) = m ((c.tc : Thread Cert.ConvFfnIdeal.nD Cert.ConvFfnIdeal.τ).loc Cert.ConvFfnIdeal.main_arg3)
          ∧ r.2.mem ((c.tc : Thread Cert.ConvFfnIdeal.nD Cert.ConvFfnIdeal.τ).loc Cert.ConvFfnIdeal.main_arg4) = m ((c.tc : Thread Cert.ConvFfnIdeal.nD Cert.ConvFfnIdeal.τ).loc Cert.ConvFfnIdeal.main_arg4))
      ∧ θ_run (Cert.ConvFfnRefIdeal.defs (F := Ideal)) (onTc (τ := Cert.ConvFfnRefIdeal.τ) (Cert.ConvFfnRefIdeal.main (F := Ideal))) ⟨m', fun _ => 0, g'⟩ (fun r => ∀ c : Dev Cert.ConvFfnRefIdeal.nD,
          r.2.mem ((c.tc : Thread Cert.ConvFfnRefIdeal.nD Cert.ConvFfnRefIdeal.τ).loc Cert.ConvFfnRefIdeal.main_v46) = v0 c
          ∧ r.2.mem ((c.tc : Thread Cert.ConvFfnRefIdeal.nD Cert.ConvFfnRefIdeal.τ).loc Cert.ConvFfnRefIdeal.main_v47) = v1 c
          ∧ r.2.mem ((c.tc : Thread Cert.ConvFfnRefIdeal.nD Cert.ConvFfnRefIdeal.τ).loc Cert.ConvFfnRefIdeal.main_arg0) = m' ((c.tc : Thread Cert.ConvFfnRefIdeal.nD Cert.ConvFfnRefIdeal.τ).loc Cert.ConvFfnRefIdeal.main_arg0)
          ∧ r.2.mem ((c.tc : Thread Cert.ConvFfnRefIdeal.nD Cert.ConvFfnRefIdeal.τ).loc Cert.ConvFfnRefIdeal.main_arg1) = m' ((c.tc : Thread Cert.ConvFfnRefIdeal.nD Cert.ConvFfnRefIdeal.τ).loc Cert.ConvFfnRefIdeal.main_arg1)
          ∧ r.2.mem ((c.tc : Thread Cert.ConvFfnRefIdeal.nD Cert.ConvFfnRefIdeal.τ).loc Cert.ConvFfnRefIdeal.main_arg2) = m' ((c.tc : Thread Cert.ConvFfnRefIdeal.nD Cert.ConvFfnRefIdeal.τ).loc Cert.ConvFfnRefIdeal.main_arg2)
          ∧ r.2.mem ((c.tc : Thread Cert.ConvFfnRefIdeal.nD Cert.ConvFfnRefIdeal.τ).loc Cert.ConvFfnRefIdeal.main_arg3) = m' ((c.tc : Thread Cert.ConvFfnRefIdeal.nD Cert.ConvFfnRefIdeal.τ).loc Cert.ConvFfnRefIdeal.main_arg3)
          ∧ r.2.mem ((c.tc : Thread Cert.ConvFfnRefIdeal.nD Cert.ConvFfnRefIdeal.τ).loc Cert.ConvFfnRefIdeal.main_arg4) = m' ((c.tc : Thread Cert.ConvFfnRefIdeal.nD Cert.ConvFfnRefIdeal.τ).loc Cert.ConvFfnRefIdeal.main_arg4))

def preserves_ConvA_ConvAIdeal : Prop :=
  True

def algebraic_ConvAIdeal_ConvARefIdeal [hConvAIdeal : Cert.ConvAIdeal.Facts] [hConvARefIdeal : Cert.ConvARefIdeal.Facts] : Prop :=
  ∀ (m : (ℓ : Loc Cert.ConvAIdeal.nD Cert.ConvAIdeal.τ Cert.ConvAIdeal.sig) → Buf (Elt Ideal) ℓ) (g : Dev Cert.ConvAIdeal.nD → PrngReg)
    (m' : (ℓ : Loc Cert.ConvARefIdeal.nD Cert.ConvARefIdeal.τ Cert.ConvARefIdeal.sig) → Buf (Elt Ideal) ℓ) (g' : Dev Cert.ConvARefIdeal.nD → PrngReg), Pre_ConvAIdeal m →
    (∀ c : Dev Cert.ConvAIdeal.nD,
      m' ((c.tc : Thread Cert.ConvARefIdeal.nD Cert.ConvARefIdeal.τ).loc Cert.ConvARefIdeal.main_arg0) = m ((c.tc : Thread Cert.ConvAIdeal.nD Cert.ConvAIdeal.τ).loc Cert.ConvAIdeal.main_arg0)
      ∧ m' ((c.tc : Thread Cert.ConvARefIdeal.nD Cert.ConvARefIdeal.τ).loc Cert.ConvARefIdeal.main_arg1) = m ((c.tc : Thread Cert.ConvAIdeal.nD Cert.ConvAIdeal.τ).loc Cert.ConvAIdeal.main_arg1)
      ∧ m' ((c.tc : Thread Cert.ConvARefIdeal.nD Cert.ConvARefIdeal.τ).loc Cert.ConvARefIdeal.main_arg2) = m ((c.tc : Thread Cert.ConvAIdeal.nD Cert.ConvAIdeal.τ).loc Cert.ConvAIdeal.main_arg2)) →
    ∃ (v0 : (c : Dev Cert.ConvAIdeal.nD) → Buf (Elt Ideal) ((c.tc : Thread Cert.ConvAIdeal.nD Cert.ConvAIdeal.τ).loc Cert.ConvAIdeal.main_v11)) (v1 : (c : Dev Cert.ConvAIdeal.nD) → Buf (Elt Ideal) ((c.tc : Thread Cert.ConvAIdeal.nD Cert.ConvAIdeal.τ).loc Cert.ConvAIdeal.main_v10)),
      θ_run (Cert.ConvAIdeal.defs (F := Ideal)) (onTc (τ := Cert.ConvAIdeal.τ) (Cert.ConvAIdeal.main (F := Ideal))) ⟨m, fun _ => 0, g⟩ (fun r => ∀ c : Dev Cert.ConvAIdeal.nD,
          r.2.mem ((c.tc : Thread Cert.ConvAIdeal.nD Cert.ConvAIdeal.τ).loc Cert.ConvAIdeal.main_v11) = v0 c
          ∧ r.2.mem ((c.tc : Thread Cert.ConvAIdeal.nD Cert.ConvAIdeal.τ).loc Cert.ConvAIdeal.main_v10) = v1 c
          ∧ r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
          ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1)
          ∧ r.2.mem ((c.tc : Thread Cert.ConvAIdeal.nD Cert.ConvAIdeal.τ).loc Cert.ConvAIdeal.main_arg2) = m ((c.tc : Thread Cert.ConvAIdeal.nD Cert.ConvAIdeal.τ).loc Cert.ConvAIdeal.main_arg2))
      ∧ θ_run (Cert.ConvARefIdeal.defs (F := Ideal)) (onTc (τ := Cert.ConvARefIdeal.τ) (Cert.ConvARefIdeal.main (F := Ideal))) ⟨m', fun _ => 0, g'⟩ (fun r => ∀ c : Dev Cert.ConvARefIdeal.nD,
          r.2.mem ((c.tc : Thread Cert.ConvARefIdeal.nD Cert.ConvARefIdeal.τ).loc Cert.ConvARefIdeal.main_v39) = v0 c
          ∧ r.2.mem ((c.tc : Thread Cert.ConvARefIdeal.nD Cert.ConvARefIdeal.τ).loc Cert.ConvARefIdeal.main_v40) = v1 c
          ∧ r.2.mem ((c.tc : Thread Cert.ConvARefIdeal.nD Cert.ConvARefIdeal.τ).loc Cert.ConvARefIdeal.main_arg0) = m' ((c.tc : Thread Cert.ConvARefIdeal.nD Cert.ConvARefIdeal.τ).loc Cert.ConvARefIdeal.main_arg0)
          ∧ r.2.mem ((c.tc : Thread Cert.ConvARefIdeal.nD Cert.ConvARefIdeal.τ).loc Cert.ConvARefIdeal.main_arg1) = m' ((c.tc : Thread Cert.ConvARefIdeal.nD Cert.ConvARefIdeal.τ).loc Cert.ConvARefIdeal.main_arg1)
          ∧ r.2.mem ((c.tc : Thread Cert.ConvARefIdeal.nD Cert.ConvARefIdeal.τ).loc Cert.ConvARefIdeal.main_arg2) = m' ((c.tc : Thread Cert.ConvARefIdeal.nD Cert.ConvARefIdeal.τ).loc Cert.ConvARefIdeal.main_arg2))

def preserves_IdxKeys_IdxKeysIdeal : Prop :=
  True

def algebraic_IdxKeysIdeal_IdxKeysRefIdeal [hIdxKeysIdeal : Cert.IdxKeysIdeal.Facts] [hIdxKeysRefIdeal : Cert.IdxKeysRefIdeal.Facts] : Prop :=
  ∀ (m : (ℓ : Loc Cert.IdxKeysIdeal.nD Cert.IdxKeysIdeal.τ Cert.IdxKeysIdeal.sig) → Buf (Elt Ideal) ℓ) (g : Dev Cert.IdxKeysIdeal.nD → PrngReg)
    (m' : (ℓ : Loc Cert.IdxKeysRefIdeal.nD Cert.IdxKeysRefIdeal.τ Cert.IdxKeysRefIdeal.sig) → Buf (Elt Ideal) ℓ) (g' : Dev Cert.IdxKeysRefIdeal.nD → PrngReg), Pre_IdxKeysIdeal m →
    (∀ c : Dev Cert.IdxKeysIdeal.nD,
      m' ((c.tc : Thread Cert.IdxKeysRefIdeal.nD Cert.IdxKeysRefIdeal.τ).loc Cert.IdxKeysRefIdeal.main_arg0) = m ((c.tc : Thread Cert.IdxKeysIdeal.nD Cert.IdxKeysIdeal.τ).loc Cert.IdxKeysIdeal.main_arg0)
      ∧ m' ((c.tc : Thread Cert.IdxKeysRefIdeal.nD Cert.IdxKeysRefIdeal.τ).loc Cert.IdxKeysRefIdeal.main_arg1) = m ((c.tc : Thread Cert.IdxKeysIdeal.nD Cert.IdxKeysIdeal.τ).loc Cert.IdxKeysIdeal.main_arg1)
      ∧ m' ((c.tc : Thread Cert.IdxKeysRefIdeal.nD Cert.IdxKeysRefIdeal.τ).loc Cert.IdxKeysRefIdeal.main_arg2) = m ((c.tc : Thread Cert.IdxKeysIdeal.nD Cert.IdxKeysIdeal.τ).loc Cert.IdxKeysIdeal.main_arg2)
      ∧ m' ((c.tc : Thread Cert.IdxKeysRefIdeal.nD Cert.IdxKeysRefIdeal.τ).loc Cert.IdxKeysRefIdeal.main_arg3) = m ((c.tc : Thread Cert.IdxKeysIdeal.nD Cert.IdxKeysIdeal.τ).loc Cert.IdxKeysIdeal.main_arg3)) →
    ∃ (v0 : (c : Dev Cert.IdxKeysIdeal.nD) → Buf (Elt Ideal) ((c.tc : Thread Cert.IdxKeysIdeal.nD Cert.IdxKeysIdeal.τ).loc Cert.IdxKeysIdeal.main_v45_0)) (v1 : (c : Dev Cert.IdxKeysIdeal.nD) → Buf (Elt Ideal) ((c.tc : Thread Cert.IdxKeysIdeal.nD Cert.IdxKeysIdeal.τ).loc Cert.IdxKeysIdeal.main_v45_1)),
      θ_run (Cert.IdxKeysIdeal.defs (F := Ideal)) (onTc (τ := Cert.IdxKeysIdeal.τ) (Cert.IdxKeysIdeal.main (F := Ideal))) ⟨m, fun _ => 0, g⟩ (fun r => ∀ c : Dev Cert.IdxKeysIdeal.nD,
          r.2.mem ((c.tc : Thread Cert.IdxKeysIdeal.nD Cert.IdxKeysIdeal.τ).loc Cert.IdxKeysIdeal.main_v45_0) = v0 c
          ∧ r.2.mem ((c.tc : Thread Cert.IdxKeysIdeal.nD Cert.IdxKeysIdeal.τ).loc Cert.IdxKeysIdeal.main_v45_1) = v1 c
          ∧ r.2.mem ((c.tc : Thread Cert.IdxKeysIdeal.nD Cert.IdxKeysIdeal.τ).loc Cert.IdxKeysIdeal.main_arg0) = m ((c.tc : Thread Cert.IdxKeysIdeal.nD Cert.IdxKeysIdeal.τ).loc Cert.IdxKeysIdeal.main_arg0)
          ∧ r.2.mem ((c.tc : Thread Cert.IdxKeysIdeal.nD Cert.IdxKeysIdeal.τ).loc Cert.IdxKeysIdeal.main_arg1) = m ((c.tc : Thread Cert.IdxKeysIdeal.nD Cert.IdxKeysIdeal.τ).loc Cert.IdxKeysIdeal.main_arg1)
          ∧ r.2.mem ((c.tc : Thread Cert.IdxKeysIdeal.nD Cert.IdxKeysIdeal.τ).loc Cert.IdxKeysIdeal.main_arg2) = m ((c.tc : Thread Cert.IdxKeysIdeal.nD Cert.IdxKeysIdeal.τ).loc Cert.IdxKeysIdeal.main_arg2)
          ∧ r.2.mem ((c.tc : Thread Cert.IdxKeysIdeal.nD Cert.IdxKeysIdeal.τ).loc Cert.IdxKeysIdeal.main_arg3) = m ((c.tc : Thread Cert.IdxKeysIdeal.nD Cert.IdxKeysIdeal.τ).loc Cert.IdxKeysIdeal.main_arg3))
      ∧ θ_run (Cert.IdxKeysRefIdeal.defs (F := Ideal)) (onTc (τ := Cert.IdxKeysRefIdeal.τ) (Cert.IdxKeysRefIdeal.main (F := Ideal))) ⟨m', fun _ => 0, g'⟩ (fun r => ∀ c : Dev Cert.IdxKeysRefIdeal.nD,
          r.2.mem ((c.tc : Thread Cert.IdxKeysRefIdeal.nD Cert.IdxKeysRefIdeal.τ).loc Cert.IdxKeysRefIdeal.main_v76) = v0 c
          ∧ r.2.mem ((c.tc : Thread Cert.IdxKeysRefIdeal.nD Cert.IdxKeysRefIdeal.τ).loc Cert.IdxKeysRefIdeal.main_v79) = v1 c
          ∧ r.2.mem ((c.tc : Thread Cert.IdxKeysRefIdeal.nD Cert.IdxKeysRefIdeal.τ).loc Cert.IdxKeysRefIdeal.main_arg0) = m' ((c.tc : Thread Cert.IdxKeysRefIdeal.nD Cert.IdxKeysRefIdeal.τ).loc Cert.IdxKeysRefIdeal.main_arg0)
          ∧ r.2.mem ((c.tc : Thread Cert.IdxKeysRefIdeal.nD Cert.IdxKeysRefIdeal.τ).loc Cert.IdxKeysRefIdeal.main_arg1) = m' ((c.tc : Thread Cert.IdxKeysRefIdeal.nD Cert.IdxKeysRefIdeal.τ).loc Cert.IdxKeysRefIdeal.main_arg1)
          ∧ r.2.mem ((c.tc : Thread Cert.IdxKeysRefIdeal.nD Cert.IdxKeysRefIdeal.τ).loc Cert.IdxKeysRefIdeal.main_arg2) = m' ((c.tc : Thread Cert.IdxKeysRefIdeal.nD Cert.IdxKeysRefIdeal.τ).loc Cert.IdxKeysRefIdeal.main_arg2)
          ∧ r.2.mem ((c.tc : Thread Cert.IdxKeysRefIdeal.nD Cert.IdxKeysRefIdeal.τ).loc Cert.IdxKeysRefIdeal.main_arg3) = m' ((c.tc : Thread Cert.IdxKeysRefIdeal.nD Cert.IdxKeysRefIdeal.τ).loc Cert.IdxKeysRefIdeal.main_arg3))

def Claim : Prop :=
  ∃ (hGates : Cert.Gates.Facts) (hGatesIdeal : Cert.GatesIdeal.Facts) (hGatesRefIdeal : Cert.GatesRefIdeal.Facts) (hQueries : Cert.Queries.Facts) (hQueriesIdeal : Cert.QueriesIdeal.Facts) (hQueriesRefIdeal : Cert.QueriesRefIdeal.Facts) (hIdxQueries : Cert.IdxQueries.Facts) (hIdxQueriesIdeal : Cert.IdxQueriesIdeal.Facts) (hIdxQueriesRefIdeal : Cert.IdxQueriesRefIdeal.Facts) (hMerge : Cert.Merge.Facts) (hMergeIdeal : Cert.MergeIdeal.Facts) (hMergeRefIdeal : Cert.MergeRefIdeal.Facts) (hScores : Cert.Scores.Facts) (hScoresIdeal : Cert.ScoresIdeal.Facts) (hScoresRefIdeal : Cert.ScoresRefIdeal.Facts) (hMix : Cert.Mix.Facts) (hMixIdeal : Cert.MixIdeal.Facts) (hMixRefIdeal : Cert.MixRefIdeal.Facts) (hDown : Cert.Down.Facts) (hDownIdeal : Cert.DownIdeal.Facts) (hDownRefIdeal : Cert.DownRefIdeal.Facts) (hConvFfn : Cert.ConvFfn.Facts) (hConvFfnIdeal : Cert.ConvFfnIdeal.Facts) (hConvFfnRefIdeal : Cert.ConvFfnRefIdeal.Facts) (hConvA : Cert.ConvA.Facts) (hConvAIdeal : Cert.ConvAIdeal.Facts) (hConvARefIdeal : Cert.ConvARefIdeal.Facts) (hIdxKeys : Cert.IdxKeys.Facts) (hIdxKeysIdeal : Cert.IdxKeysIdeal.Facts) (hIdxKeysRefIdeal : Cert.IdxKeysRefIdeal.Facts) (hPre_table_in_range : Cert.Pre_table_in_range.Facts),
    quiescent_Gates (hGates := hGates)
    ∧ quiescent_GatesIdeal (hGatesIdeal := hGatesIdeal)
    ∧ quiescent_GatesRefIdeal (hGatesRefIdeal := hGatesRefIdeal)
    ∧ quiescent_Queries (hQueries := hQueries)
    ∧ quiescent_QueriesIdeal (hQueriesIdeal := hQueriesIdeal)
    ∧ quiescent_QueriesRefIdeal (hQueriesRefIdeal := hQueriesRefIdeal)
    ∧ quiescent_IdxQueries (hIdxQueries := hIdxQueries)
    ∧ quiescent_IdxQueriesIdeal (hIdxQueriesIdeal := hIdxQueriesIdeal)
    ∧ quiescent_IdxQueriesRefIdeal (hIdxQueriesRefIdeal := hIdxQueriesRefIdeal)
    ∧ quiescent_Merge (hMerge := hMerge)
    ∧ quiescent_MergeIdeal (hMergeIdeal := hMergeIdeal)
    ∧ quiescent_MergeRefIdeal (hMergeRefIdeal := hMergeRefIdeal)
    ∧ quiescent_Scores (hScores := hScores) (hPre_table_in_range := hPre_table_in_range)
    ∧ quiescent_ScoresIdeal (hScoresIdeal := hScoresIdeal) (hPre_table_in_range := hPre_table_in_range)
    ∧ quiescent_ScoresRefIdeal (hScoresRefIdeal := hScoresRefIdeal) (hPre_table_in_range := hPre_table_in_range)
    ∧ quiescent_Mix (hMix := hMix)
    ∧ quiescent_MixIdeal (hMixIdeal := hMixIdeal)
    ∧ quiescent_MixRefIdeal (hMixRefIdeal := hMixRefIdeal)
    ∧ quiescent_Down (hDown := hDown)
    ∧ quiescent_DownIdeal (hDownIdeal := hDownIdeal)
    ∧ quiescent_DownRefIdeal (hDownRefIdeal := hDownRefIdeal)
    ∧ quiescent_ConvFfn (hConvFfn := hConvFfn)
    ∧ quiescent_ConvFfnIdeal (hConvFfnIdeal := hConvFfnIdeal)
    ∧ quiescent_ConvFfnRefIdeal (hConvFfnRefIdeal := hConvFfnRefIdeal)
    ∧ quiescent_ConvA (hConvA := hConvA)
    ∧ quiescent_ConvAIdeal (hConvAIdeal := hConvAIdeal)
    ∧ quiescent_ConvARefIdeal (hConvARefIdeal := hConvARefIdeal)
    ∧ quiescent_IdxKeys (hIdxKeys := hIdxKeys)
    ∧ quiescent_IdxKeysIdeal (hIdxKeysIdeal := hIdxKeysIdeal)
    ∧ quiescent_IdxKeysRefIdeal (hIdxKeysRefIdeal := hIdxKeysRefIdeal)
    ∧ preserves_Gates_GatesIdeal
    ∧ algebraic_GatesIdeal_GatesRefIdeal (hGatesIdeal := hGatesIdeal) (hGatesRefIdeal := hGatesRefIdeal)
    ∧ preserves_Queries_QueriesIdeal
    ∧ algebraic_QueriesIdeal_QueriesRefIdeal (hQueriesIdeal := hQueriesIdeal) (hQueriesRefIdeal := hQueriesRefIdeal)
    ∧ preserves_IdxQueries_IdxQueriesIdeal
    ∧ algebraic_IdxQueriesIdeal_IdxQueriesRefIdeal (hIdxQueriesIdeal := hIdxQueriesIdeal) (hIdxQueriesRefIdeal := hIdxQueriesRefIdeal)
    ∧ preserves_Merge_MergeIdeal
    ∧ algebraic_MergeIdeal_MergeRefIdeal (hMergeIdeal := hMergeIdeal) (hMergeRefIdeal := hMergeRefIdeal)
    ∧ preserves_Scores_ScoresIdeal
    ∧ algebraic_ScoresIdeal_ScoresRefIdeal (hScoresIdeal := hScoresIdeal) (hScoresRefIdeal := hScoresRefIdeal) (hPre_table_in_range := hPre_table_in_range)
    ∧ preserves_Mix_MixIdeal
    ∧ algebraic_MixIdeal_MixRefIdeal (hMixIdeal := hMixIdeal) (hMixRefIdeal := hMixRefIdeal)
    ∧ preserves_Down_DownIdeal
    ∧ algebraic_DownIdeal_DownRefIdeal (hDownIdeal := hDownIdeal) (hDownRefIdeal := hDownRefIdeal)
    ∧ preserves_ConvFfn_ConvFfnIdeal
    ∧ algebraic_ConvFfnIdeal_ConvFfnRefIdeal (hConvFfnIdeal := hConvFfnIdeal) (hConvFfnRefIdeal := hConvFfnRefIdeal)
    ∧ preserves_ConvA_ConvAIdeal
    ∧ algebraic_ConvAIdeal_ConvARefIdeal (hConvAIdeal := hConvAIdeal) (hConvARefIdeal := hConvARefIdeal)
    ∧ preserves_IdxKeys_IdxKeysIdeal
    ∧ algebraic_IdxKeysIdeal_IdxKeysRefIdeal (hIdxKeysIdeal := hIdxKeysIdeal) (hIdxKeysRefIdeal := hIdxKeysRefIdeal)
-- ==== Pre_table_in_range.lean ====
abbrev S32x64 : Shape := ⟨2, ![32, 64]⟩
abbrev S32x4x16x64 : Shape := ⟨4, ![32, 4, 16, 64]⟩
abbrev S32x4x64 : Shape := ⟨3, ![32, 4, 64]⟩
abbrev S32x4x16 : Shape := ⟨3, ![32, 4, 16]⟩
abbrev S1x2560x128x64 : Shape := ⟨4, ![1, 2560, 128, 64]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : IVec S32x64 32) (main_arg1 : FVec F S32x4x16x64 .f32) (main_arg2 : FVec F S32x4x64 .f32) (main_arg3 : FVec F S32x4x16 .f32) (main_arg4 : FVec F S1x2560x128x64 .f32) : IVec S32x64 1 :=
  let main_c : IVec S_ 32 := constantI S_ 32 0#32
  let main_v0 : IVec S32x64 32 := broadcastInDim S32x64 ![] bcast_S_S32x64 main_c
  let main_v1 : IVec S32x64 1 := cmpi .sge main_arg0 main_v0
  let main_c_0 : IVec S_ 32 := constantI S_ 32 2560#32
  let main_v2 : IVec S32x64 32 := broadcastInDim S32x64 ![] bcast_S_S32x64 main_c_0
  let main_v3 : IVec S32x64 1 := cmpi .slt main_arg0 main_v2
  let main_v4 : IVec S32x64 1 := andi main_v1 main_v3
  main_v4
-- ==== Gates.lean ====
abbrev S8x2048x2048 : Shape := ⟨3, ![8, 2048, 2048]⟩
abbrev S1x2048x11344 : Shape := ⟨3, ![1, 2048, 11344]⟩
abbrev S16384x2048 : Shape := ⟨2, ![16384, 2048]⟩
abbrev S2048x11344 : Shape := ⟨2, ![2048, 11344]⟩
abbrev S2048x4096 : Shape := ⟨2, ![2048, 4096]⟩
abbrev S16384x4096 : Shape := ⟨2, ![16384, 4096]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S1x2048x11344, .f32⟩
  | .hbm, ⟨2, _⟩ => ⟨S16384x2048, .f32⟩
  | .hbm, ⟨3, _⟩ => ⟨S16384x2048, .bf16⟩
  | .hbm, ⟨4, _⟩ => ⟨S2048x11344, .f32⟩
  | .hbm, ⟨5, _⟩ => ⟨S2048x4096, .f32⟩
  | .hbm, ⟨6, _⟩ => ⟨S2048x4096, .bf16⟩
  | .hbm, ⟨7, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8x2048x2048 : Shape := ⟨3, ![8, 2048, 2048]⟩
abbrev S1x2048x11344 : Shape := ⟨3, ![1, 2048, 11344]⟩
abbrev S2048x11344 : Shape := ⟨2, ![2048, 11344]⟩
abbrev S8x2048x11344 : Shape := ⟨3, ![8, 2048, 11344]⟩
abbrev S8x2048x1024 : Shape := ⟨3, ![8, 2048, 1024]⟩
abbrev S8x2048x512 : Shape := ⟨3, ![8, 2048, 512]⟩
abbrev S8x2048x64 : Shape := ⟨3, ![8, 2048, 64]⟩
abbrev S8x2048x16 : Shape := ⟨3, ![8, 2048, 16]⟩
abbrev S_ : Shape := ⟨0, ![]⟩
abbrev S8x2048x4096 : Shape := ⟨3, ![8, 2048, 4096]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x11344, .f32⟩
  | .hbm, ⟨2, _⟩ => ⟨S2048x11344, .f32⟩
  | .hbm, ⟨3, _⟩ => ⟨S8x2048x11344, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S8x2048x512, .f32⟩
  | .hbm, ⟨9, _⟩ => ⟨S8x2048x512, .f32⟩
  | .hbm, ⟨10, _⟩ => ⟨S8x2048x1024, .f32⟩
  | .hbm, ⟨11, _⟩ => ⟨S8x2048x64, .f32⟩
  | .hbm, ⟨12, _⟩ => ⟨S8x2048x16, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x4096, .f32⟩
  | .hbm, ⟨32, _⟩ => ⟨S16384x4096, .f32⟩
  | .hbm, ⟨33, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Queries.lean ====
abbrev S8x2048x2048 : Shape := ⟨3, ![8, 2048, 2048]⟩
abbrev S1x2048x11344 : Shape := ⟨3, ![1, 2048, 11344]⟩
abbrev S16384x2048 : Shape := ⟨2, ![16384, 2048]⟩
abbrev S2048x11344 : Shape := ⟨2, ![2048, 11344]⟩
abbrev S2048x2048 : Shape := ⟨2, ![2048, 2048]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S2048x112 : Shape := ⟨2, ![2048, 112]⟩
abbrev S1x2048x1x128 : Shape := ⟨4, ![1, 2048, 1, 128]⟩
abbrev S2048x384 : Shape := ⟨2, ![2048, 384]⟩
abbrev S512x2048 : Shape := ⟨2, ![512, 2048]⟩
abbrev S2048x512 : Shape := ⟨2, ![2048, 512]⟩
abbrev S512x384 : Shape := ⟨2, ![512, 384]⟩
abbrev S512x512 : Shape := ⟨2, ![512, 512]⟩
abbrev S512x128 : Shape := ⟨2, ![512, 128]⟩

abbrev nBuf : Space → Nat
  | .hbm => 47
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048x11344, .f32⟩
  | .hbm, ⟨2, _⟩ => ⟨S16384x2048, .f32⟩
  | .hbm, ⟨3, _⟩ => ⟨S16384x2048, .bf16⟩
  | .hbm, ⟨4, _⟩ => ⟨S2048x11344, .f32⟩
  | .hbm, ⟨5, _⟩ => ⟨S2048x2048, .f32⟩
  | .hbm, ⟨6, _⟩ => ⟨S2048x2048, .bf16⟩
  | .hbm, ⟨7, _⟩ => ⟨S2048, .i32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S2048, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S_, .f32⟩
  | .hbm, ⟨25, _⟩ => ⟨S2048x96, .f32⟩
  | .hbm, ⟨26, _⟩ => ⟨S2048x128, .f32⟩
  | .hbm, ⟨27, _⟩ => ⟨S2048x16, .f32⟩
  | .hbm, ⟨28, _⟩ => ⟨S_, .f32⟩
  | .hbm, ⟨29, _⟩ => ⟨S2048x112, .f32⟩
  | .hbm, ⟨30, _⟩ => ⟨S2048x128, .f32⟩
  | .hbm, ⟨31, _⟩ => ⟨S_, .f32⟩
  | .hbm, ⟨32, _⟩ => ⟨S2048x16, .f32⟩
  | .hbm, ⟨33, _⟩ => ⟨S_, .f32⟩
  | .hbm, ⟨34, _⟩ => ⟨S2048x96, .f32⟩
  | .hbm, ⟨35, _⟩ => ⟨S2048x128, .f32⟩
  | .hbm, ⟨36, _⟩ => ⟨S1x2048x1x128, .f32⟩
  | .hbm, ⟨37, _⟩ => ⟨S1x2048x1x128, .f32⟩
  | .hbm, ⟨38, _⟩ => ⟨S2048x128, .f32⟩
  | .hbm, ⟨39, _⟩ => ⟨S1x2048x1x128, .f32⟩
  | .hbm, ⟨40, _⟩ => ⟨S1x2048x1x128, .f32⟩
  | .hbm, ⟨41, _⟩ => ⟨S2048x128, .f32⟩
  | .hbm, ⟨42, _⟩ => ⟨S1x2048x1x128, .f32⟩
  | .hbm, ⟨43, _⟩ => ⟨S1x2048x1x128, .f32⟩
  | .hbm, ⟨44, _⟩ => ⟨S2048x128, .f32⟩
  | .hbm, ⟨45, _⟩ => ⟨S2048x384, .f32⟩
  | .hbm, ⟨46, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x384, .f32⟩
  | .local _ .vmem, ⟨5, _⟩ => ⟨S512x384, .f32⟩
  | .local _ .vmem, ⟨6, _⟩ => ⟨S512x512, .bf16⟩
  | .local _ .vmem, ⟨7, _⟩ => ⟨S512x512, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueriesRefIdeal.lean ====
abbrev S8x2048x2048 : Shape := ⟨3, ![8, 2048, 2048]⟩
abbrev S1x2048x11344 : Shape := ⟨3, ![1, 2048, 11344]⟩
abbrev S2048x11344 : Shape := ⟨2, ![2048, 11344]⟩
abbrev S8x2048x11344 : Shape := ⟨3, ![8, 2048, 11344]⟩
abbrev S8x2048x1024 : Shape := ⟨3, ![8, 2048, 1024]⟩
abbrev S8x2048x512 : Shape := ⟨3, ![8, 2048, 512]⟩
abbrev S8x2048x64 : Shape := ⟨3, ![8, 2048, 64]⟩
abbrev S8x2048x16 : Shape := ⟨3, ![8, 2048, 16]⟩
abbrev S8x2048x16x128 : Shape := ⟨4, ![8, 2048, 16, 128]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x16x32 : Shape := ⟨4, ![8, 2048, 16, 32]⟩
abbrev S8x2048x16x16 : Shape := ⟨4, ![8, 2048, 16, 16]⟩
abbrev S8x2048x16x96 : Shape := ⟨4, ![8, 2048, 16, 96]⟩
abbrev S16384x2048 : Shape := ⟨2, ![16384, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x11344, .f32⟩
  | .hbm, ⟨2, _⟩ => ⟨S2048x11344, .f32⟩
  | .hbm, ⟨3, _⟩ => ⟨S8x2048x11344, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S8x2048x512, .f32⟩
  | .hbm, ⟨9, _⟩ => ⟨S8x2048x512, .f32⟩
  | .hbm, ⟨10, _⟩ => ⟨S8x2048x1024, .f32⟩
  | .hbm, ⟨11, _⟩ => ⟨S8x2048x64, .f32⟩
  | .hbm, ⟨12, _⟩ => ⟨S8x2048x16, .f32⟩
  | .hbm, ⟨13, _⟩ => ⟨S8x2048x2048, .f32⟩
  | .hbm, ⟨14, _⟩ => ⟨S8x2048x2048, .f32⟩
  | .hbm, ⟨15, _⟩ => ⟨S8x2048x16x128, .f32⟩
  | .hbm, ⟨16, _⟩ => ⟨S2048, .i32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S2048, .f32⟩
  | .hbm, ⟨26, _⟩ => ⟨S2048x1, .f32⟩
  | .hbm, ⟨27, _⟩ => ⟨S1x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S1x2048x1x16, .f32⟩
  | .hbm, ⟨33, _⟩ => ⟨S2048x16, .f32⟩
  | .hbm, ⟨34, _⟩ => ⟨S1x2048x1x16, .f32⟩
  | .hbm, ⟨35, _⟩ => ⟨S8x2048x16x32, .f32⟩
  | .hbm, ⟨36, _⟩ => ⟨S8x2048x16x16, .f32⟩
  | .hbm, ⟨37, _⟩ => ⟨S8x2048x16x16, .f32⟩
  | .hbm, ⟨38, _⟩ => ⟨S8x2048x16x16, .f32⟩
  | .hbm, ⟨39, _⟩ => ⟨S8x2048x16x16, .f32⟩
  | .hbm, ⟨40, _⟩ => ⟨S8x2048x16x16, .f32⟩
  | .hbm, ⟨41, _⟩ => ⟨S8x2048x16x16, .f32⟩
  | .hbm, ⟨42, _⟩ => ⟨S8x2048x16x16, .f32⟩
  | .hbm, ⟨43, _⟩ => ⟨S8x2048x16x16, .f32⟩
  | .hbm, ⟨44, _⟩ => ⟨S8x2048x16x16, .f32⟩
  | .hbm, ⟨45, _⟩ => ⟨S8x2048x16x16, .f32⟩
  | .hbm, ⟨46, _⟩ => ⟨S8x2048x16x16, .f32⟩
  | .hbm, ⟨47, _⟩ => ⟨S8x2048x16x16, .f32⟩
  | .hbm, ⟨48, _⟩ => ⟨S8x2048x16x32, .f32⟩
  | .hbm, ⟨49, _⟩ => ⟨S8x2048x16x96, .f32⟩
  | .hbm, ⟨50, _⟩ => ⟨S8x2048x16x128, .f32⟩
  | .hbm, ⟨51, _⟩ => ⟨S_, .f32⟩
  | .hbm, ⟨52, _⟩ => ⟨S8x2048x16x128, .f32⟩
  | .hbm, ⟨53, _⟩ => ⟨S8x2048x16x128, .f32⟩
  | .hbm, ⟨54, _⟩ => ⟨S16384x2048, .f32⟩
  | .hbm, ⟨55, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst_1 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩

abbrev nD : Nat := 1
abbrev τ : Topo := Topo.v7x

variable {F : FTy → Type} [FloatOps F]
-- ==== IdxQueries.lean ====
abbrev S8x2048x2048 : Shape := ⟨3, ![8, 2048, 2048]⟩
abbrev S1x2048x11344 : Shape := ⟨3, ![1, 2048, 11344]⟩
abbrev S16384x2048 : Shape := ⟨2, ![16384, 2048]⟩
abbrev S2048x11344 : Shape := ⟨2, ![2048, 11344]⟩
abbrev S2048x1024 : Shape := ⟨2, ![2048, 1024]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x56 : Shape := ⟨2, ![2048, 56]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2048x384 : Shape := ⟨2, ![2048, 384]⟩
abbrev S16384x1024 : Shape := ⟨2, ![16384, 1024]⟩
abbrev S512x2048 : Shape := ⟨2, ![512, 2048]⟩
abbrev S2048x512 : Shape := ⟨2, ![2048, 512]⟩
abbrev S512x384 : Shape := ⟨2, ![512, 384]⟩
abbrev S512x512 : Shape := ⟨2, ![512, 512]⟩
abbrev S512x128 : Shape := ⟨2, ![512, 128]⟩

abbrev nBuf : Space → Nat
  | .hbm => 47
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048x11344, .f32⟩
  | .hbm, ⟨2, _⟩ => ⟨S16384x2048, .f32⟩
  | .hbm, ⟨3, _⟩ => ⟨S16384x2048, .bf16⟩
  | .hbm, ⟨4, _⟩ => ⟨S2048x11344, .f32⟩
  | .hbm, ⟨5, _⟩ => ⟨S2048x1024, .f32⟩
  | .hbm, ⟨6, _⟩ => ⟨S2048x1024, .bf16⟩
  | .hbm, ⟨7, _⟩ => ⟨S2048, .i32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S2048, .f32⟩
  | .hbm, ⟨17, _⟩ => ⟨S2048x1, .f32⟩
  | .hbm, ⟨18, _⟩ => ⟨S1x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048x48, .f32⟩
  | .hbm, ⟨26, _⟩ => ⟨S2048x64, .f32⟩
  | .hbm, ⟨27, _⟩ => ⟨S2048x8, .f32⟩
  | .hbm, ⟨28, _⟩ => ⟨S_, .f32⟩
  | .hbm, ⟨29, _⟩ => ⟨S2048x56, .f32⟩
  | .hbm, ⟨30, _⟩ => ⟨S2048x64, .f32⟩
  | .hbm, ⟨31, _⟩ => ⟨S_, .f32⟩
  | .hbm, ⟨32, _⟩ => ⟨S2048x8, .f32⟩
  | .hbm, ⟨33, _⟩ => ⟨S_, .f32⟩
  | .hbm, ⟨34, _⟩ => ⟨S2048x48, .f32⟩
  | .hbm, ⟨35, _⟩ => ⟨S2048x64, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S1x2048x1x64, .f32⟩
  | .hbm, ⟨40, _⟩ => ⟨S1x2048x2x64, .f32⟩
  | .hbm, ⟨41, _⟩ => ⟨S2048x128, .f32⟩
  | .hbm, ⟨42, _⟩ => ⟨S1x2048x1x64, .f32⟩
  | .hbm, ⟨43, _⟩ => ⟨S1x2048x2x64, .f32⟩
  | .hbm, ⟨44, _⟩ => ⟨S2048x128, .f32⟩
  | .hbm, ⟨45, _⟩ => ⟨S2048x384, .f32⟩
  | .hbm, ⟨46, _⟩ => ⟨S16384x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x384, .f32⟩
  | .local _ .vmem, ⟨5, _⟩ => ⟨S512x384, .f32⟩
  | .local _ .vmem, ⟨6, _⟩ => ⟨S512x512, .bf16⟩
  | .local _ .vmem, ⟨7, _⟩ => ⟨S512x512, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== IdxQueriesRefIdeal.lean ====
abbrev S8x2048x2048 : Shape := ⟨3, ![8, 2048, 2048]⟩
abbrev S1x2048x11344 : Shape := ⟨3, ![1, 2048, 11344]⟩
abbrev S2048x11344 : Shape := ⟨2, ![2048, 11344]⟩
abbrev S8x2048x11344 : Shape := ⟨3, ![8, 2048, 11344]⟩
abbrev S8x2048x1024 : Shape := ⟨3, ![8, 2048, 1024]⟩
abbrev S8x2048x512 : Shape := ⟨3, ![8, 2048, 512]⟩
abbrev S8x2048x64 : Shape := ⟨3, ![8, 2048, 64]⟩
abbrev S8x2048x16 : Shape := ⟨3, ![8, 2048, 16]⟩
abbrev S8x2048x16x64 : Shape := ⟨4, ![8, 2048, 16, 64]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x16x16 : Shape := ⟨4, ![8, 2048, 16, 16]⟩
abbrev S8x2048x16x8 : Shape := ⟨4, ![8, 2048, 16, 8]⟩
abbrev S8x2048x16x48 : Shape := ⟨4, ![8, 2048, 16, 48]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x11344, .f32⟩
  | .hbm, ⟨2, _⟩ => ⟨S2048x11344, .f32⟩
  | .hbm, ⟨3, _⟩ => ⟨S8x2048x11344, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S8x2048x512, .f32⟩
  | .hbm, ⟨9, _⟩ => ⟨S8x2048x512, .f32⟩
  | .hbm, ⟨10, _⟩ => ⟨S8x2048x1024, .f32⟩
  | .hbm, ⟨11, _⟩ => ⟨S8x2048x64, .f32⟩
  | .hbm, ⟨12, _⟩ => ⟨S8x2048x16, .f32⟩
  | .hbm, ⟨13, _⟩ => ⟨S8x2048x2048, .f32⟩
  | .hbm, ⟨14, _⟩ => ⟨S8x2048x2048, .f32⟩
  | .hbm, ⟨15, _⟩ => ⟨S8x2048x16x64, .f32⟩
  | .hbm, ⟨16, _⟩ => ⟨S2048, .i32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S2048, .f32⟩
  | .hbm, ⟨26, _⟩ => ⟨S2048x1, .f32⟩
  | .hbm, ⟨27, _⟩ => ⟨S1x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S2048x8, .f32⟩
  | .hbm, ⟨32, _⟩ => ⟨S1x2048x1x8, .f32⟩
  | .hbm, ⟨33, _⟩ => ⟨S2048x8, .f32⟩
  | .hbm, ⟨34, _⟩ => ⟨S1x2048x1x8, .f32⟩
  | .hbm, ⟨35, _⟩ => ⟨S8x2048x16x16, .f32⟩
  | .hbm, ⟨36, _⟩ => ⟨S8x2048x16x8, .f32⟩
  | .hbm, ⟨37, _⟩ => ⟨S8x2048x16x8, .f32⟩
  | .hbm, ⟨38, _⟩ => ⟨S8x2048x16x8, .f32⟩
  | .hbm, ⟨39, _⟩ => ⟨S8x2048x16x8, .f32⟩
  | .hbm, ⟨40, _⟩ => ⟨S8x2048x16x8, .f32⟩
  | .hbm, ⟨41, _⟩ => ⟨S8x2048x16x8, .f32⟩
  | .hbm, ⟨42, _⟩ => ⟨S8x2048x16x8, .f32⟩
  | .hbm, ⟨43, _⟩ => ⟨S8x2048x16x8, .f32⟩
  | .hbm, ⟨44, _⟩ => ⟨S8x2048x16x8, .f32⟩
  | .hbm, ⟨45, _⟩ => ⟨S8x2048x16x8, .f32⟩
  | .hbm, ⟨46, _⟩ => ⟨S8x2048x16x8, .f32⟩
  | .hbm, ⟨47, _⟩ => ⟨S8x2048x16x8, .f32⟩
  | .hbm, ⟨48, _⟩ => ⟨S8x2048x16x16, .f32⟩
  | .hbm, ⟨49, _⟩ => ⟨S8x2048x16x48, .f32⟩
  | .hbm, ⟨50, _⟩ => ⟨S8x2048x16x64, .f32⟩
  | .hbm, ⟨51, _⟩ => ⟨S16384x1024, .f32⟩
  | .hbm, ⟨52, _⟩ => ⟨S16384x1024, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x2048 : Shape := ⟨3, ![8, 2048, 2048]⟩
abbrev S8x2048x4096 : Shape := ⟨3, ![8, 2048, 4096]⟩
abbrev S1x1024x2048 : Shape := ⟨3, ![1, 1024, 2048]⟩
abbrev S1x2048x2048 : Shape := ⟨3, ![1, 2048, 2048]⟩
abbrev S16384x1024 : Shape := ⟨2, ![16384, 1024]⟩
abbrev S16384x2048 : Shape := ⟨2, ![16384, 2048]⟩
abbrev S16384x4096 : Shape := ⟨2, ![16384, 4096]⟩
abbrev S1024x2048 : Shape := ⟨2, ![1024, 2048]⟩
abbrev S2048x2048 : Shape := ⟨2, ![2048, 2048]⟩
abbrev S512x1024 : Shape := ⟨2, ![512, 1024]⟩
abbrev S512x2048 : Shape := ⟨2, ![512, 2048]⟩
abbrev S1024x512 : Shape := ⟨2, ![1024, 512]⟩
abbrev S2048x512 : Shape := ⟨2, ![2048, 512]⟩
abbrev S512x512 : Shape := ⟨2, ![512, 512]⟩

abbrev nBuf : Space → Nat
  | .hbm => 16
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S8x2048x4096, .f32⟩
  | .hbm, ⟨3, _⟩ => ⟨S1x1024x2048, .f32⟩
  | .hbm, ⟨4, _⟩ => ⟨S1x2048x2048, .f32⟩
  | .hbm, ⟨5, _⟩ => ⟨S16384x1024, .f32⟩
  | .hbm, ⟨6, _⟩ => ⟨S16384x1024, .bf16⟩
  | .hbm, ⟨7, _⟩ => ⟨S16384x2048, .f32⟩
  | .hbm, ⟨8, _⟩ => ⟨S16384x2048, .bf16⟩
  | .hbm, ⟨9, _⟩ => ⟨S16384x4096, .f32⟩
  | .hbm, ⟨10, _⟩ => ⟨S16384x4096, .bf16⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8x2048x1024 : Shape := ⟨3, ![8, 2048, 1024]⟩
abbrev S8x2048x2048 : Shape := ⟨3, ![8, 2048, 2048]⟩
abbrev S8x2048x4096 : Shape := ⟨3, ![8, 2048, 4096]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S16384x2048 : Shape := ⟨2, ![16384, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S8x2048x4096, .f32⟩
  | .hbm, ⟨3, _⟩ => ⟨S1x1024x2048, .f32⟩
  | .hbm, ⟨4, _⟩ => ⟨S1x2048x2048, .f32⟩
  | .hbm, ⟨5, _⟩ => ⟨S1024x2048, .f32⟩
  | .hbm, ⟨6, _⟩ => ⟨S8x2048x2048, .f32⟩
  | .hbm, ⟨7, _⟩ => ⟨S2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S16384x2048, .f32⟩
  | .hbm, ⟨15, _⟩ => ⟨S16384x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Scores.lean ====
abbrev S32x64 : Shape := ⟨2, ![32, 64]⟩
abbrev S32x4x16x64 : Shape := ⟨4, ![32, 4, 16, 64]⟩
abbrev S32x4x64 : Shape := ⟨3, ![32, 4, 64]⟩
abbrev S32x4x16 : Shape := ⟨3, ![32, 4, 16]⟩
abbrev S1x2560x128x64 : Shape := ⟨4, ![1, 2560, 128, 64]⟩
abbrev S2560x128x64 : Shape := ⟨3, ![2560, 128, 64]⟩
abbrev S327680x64 : Shape := ⟨2, ![327680, 64]⟩
abbrev S32x64x64 : Shape := ⟨3, ![32, 64, 64]⟩
abbrev S_ : Shape := ⟨0, ![]⟩
abbrev S32x64x1 : Shape := ⟨3, ![32, 64, 1]⟩
abbrev S32x64x128 : Shape := ⟨3, ![32, 64, 128]⟩
abbrev S32x64x4 : Shape := ⟨3, ![32, 64, 4]⟩
abbrev S32x4x8192 : Shape := ⟨3, ![32, 4, 8192]⟩
abbrev S32x4x128 : Shape := ⟨3, ![32, 4, 128]⟩
abbrev S1x64x64 : Shape := ⟨3, ![1, 64, 64]⟩
abbrev S1x64x128 : Shape := ⟨3, ![1, 64, 128]⟩
abbrev S128x64 : Shape := ⟨2, ![128, 64]⟩
abbrev S1x1 : Shape := ⟨2, ![1, 1]⟩
abbrev S1x4x1024 : Shape := ⟨3, ![1, 4, 1024]⟩
abbrev S1x4x128 : Shape := ⟨3, ![1, 4, 128]⟩
abbrev S64x64 : Shape := ⟨2, ![64, 64]⟩
abbrev S64x128 : Shape := ⟨2, ![64, 128]⟩
abbrev S4x16x128 : Shape := ⟨3, ![4, 16, 128]⟩
abbrev S4x128 : Shape := ⟨2, ![4, 128]⟩

abbrev nBuf : Space → Nat
  | .hbm => 20
  | .vmem => 26
  | .smem => 1
  | _ => 0

abbrev bufTy : (tb : Table) → Fin (tcTables nBuf tb) → BufTy
  | .hbm, ⟨0, _⟩ => ⟨S32x4x16x64, .f32⟩
  | .hbm, ⟨1, _⟩ => ⟨S32x4x64, .f32⟩
  | .hbm, ⟨2, _⟩ => ⟨S32x4x16, .f32⟩
  | .hbm, ⟨3, _⟩ => ⟨S1x2560x128x64, .f32⟩
  | .hbm, ⟨4, _⟩ => ⟨S2560x128x64, .f32⟩
  | .hbm, ⟨5, _⟩ => ⟨S327680x64, .f32⟩
  | .hbm, ⟨6, _⟩ => ⟨S32x4x16x64, .bf16⟩
  | .hbm, ⟨7, _⟩ => ⟨S32x64x64, .bf16⟩
  | .hbm, ⟨8, _⟩ => ⟨S_, .f32⟩
  | .hbm, ⟨9, _⟩ => ⟨S32x4x16, .f32⟩
  | .hbm, ⟨10, _⟩ => ⟨S32x4x16, .f32⟩
  | .hbm, ⟨11, _⟩ => ⟨S32x64x1, .f32⟩
  | .hbm, ⟨12, _⟩ => ⟨S32x64x128, .f32⟩
  | .hbm, ⟨13, _⟩ => ⟨S32x64x4, .f32⟩
  | .hbm, ⟨14, _⟩ => ⟨S_, .i32⟩
  | .hbm, ⟨15, _⟩ => ⟨S_, .f32⟩
  | .hbm, ⟨16, _⟩ => ⟨S32x64x128, .f32⟩
  | .hbm, ⟨17, _⟩ => ⟨S32x64x128, .bf16⟩
  | .hbm, ⟨18, _⟩ => ⟨S32x4x8192, .f32⟩
  | .hbm, ⟨19, _⟩ => ⟨S32x4x128, .f32⟩
  | .local _ .vmem, ⟨0, _⟩ => ⟨S1x64x64, .bf16⟩
  | .local _ .vmem, ⟨1, _⟩ => ⟨S1x64x64, .bf16⟩
  | .local _ .vmem, ⟨2, _⟩ => ⟨S1x64x128, .f32⟩
  | .local _ .vmem, ⟨3, _⟩ => ⟨S1x64x128, .f32⟩
  | .local _ .vmem, ⟨4, _⟩ => ⟨S1x64x128, .bf16⟩
  | .local _ .vmem, ⟨5, _⟩ => ⟨S1x64x128, .bf16⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | .local _ .vmem, ⟨14, _⟩ => ⟨S128x64, .f32⟩
  | .local _ .vmem, ⟨15, _⟩ => ⟨S128x64, .f32⟩
  | .local _ .vmem, ⟨16, _⟩ => ⟨S128x64, .f32⟩
  | .local _ .vmem, ⟨17, _⟩ => ⟨S128x64, .f32⟩
  | .local _ .vmem, ⟨18, _⟩ => ⟨S128x64, .f32⟩
  | .local _ .vmem, ⟨19, _⟩ => ⟨S128x64, .f32⟩
  | .local _ .vmem, ⟨20, _⟩ => ⟨S128x64, .f32⟩
  | .local _ .vmem, ⟨21, _⟩ => ⟨S128x64, .f32⟩
  | .local _ .vmem, ⟨22, _⟩ => ⟨S1x4x1024, .f32⟩
  | .local _ .vmem, ⟨23, _⟩ => ⟨S1x4x1024, .f32⟩
  | .local _ .vmem, ⟨24, _⟩ => ⟨S1x4x128, .f32⟩
  | .local _ .vmem, ⟨25, _⟩ => ⟨S1x4x128, .f32⟩
  | .local _ .smem, ⟨0, _⟩ => ⟨S32x64, .i32⟩
  | _, _ => ⟨S32x4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_5 : BitVec 32 := 0#32
  let v6 : BitVec 1 := Scalar.cmpi .ne v5 c0_i32_5
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x64) ![v2.toNat, v3.toNat] S1x1.size (k0_off1_inb i 0)) numel1_S1x1
  let c0_i32_0 : BitVec 32 := 0#32
  let c0_i32_1 : BitVec 32 := 0#32
  ![v4.toNat, c0_i32_0.toNat]

def cc0_transform_4 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x64) ![v2.toNat, v3.toNat] S1x1.size (k0_off1_inb i 1)) numel1_S1x1
  let c0_i32 : BitVec 32 := 0#32
  let c0_i32_0 : BitVec 32 := 0#32
  ![v4.toNat, c0_i32.toNat]

def cc0_transform_5 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x64) ![v2.toNat, v3.toNat] S1x1.size (k0_off1_inb i 2)) numel1_S1x1
  let c0_i32 : BitVec 32 := 0#32
  let c0_i32_0 : BitVec 32 := 0#32
  ![v4.toNat, c0_i32.toNat]

def cc0_transform_6 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x64) ![v2.toNat, v3.toNat] S1x1.size (k0_off1_inb i 3)) numel1_S1x1
  let c0_i32 : BitVec 32 := 0#32
  let c0_i32_0 : BitVec 32 := 0#32
  ![v4.toNat, c0_i32.toNat]

def cc0_transform_7 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x64) ![v2.toNat, v3.toNat] S1x1.size (k0_off1_inb i 4)) numel1_S1x1
  let c0_i32 : BitVec 32 := 0#32
  let c0_i32_0 : BitVec 32 := 0#32
  ![v4.toNat, c0_i32.toNat]

def cc0_transform_8 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x64) ![v2.toNat, v3.toNat] S1x1.size (k0_off1_inb i 5)) numel1_S1x1
  let c0_i32 : BitVec 32 := 0#32
  let c0_i32_0 : BitVec 32 := 0#32
  ![v4.toNat, c0_i32.toNat]

def cc0_transform_9 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x64) ![v2.toNat, v3.toNat] S1x1.size (k0_off1_inb i 6)) numel1_S1x1
  let c0_i32 : BitVec 32 := 0#32
  let c0_i32_0 : BitVec 32 := 0#32
  ![v4.toNat, c0_i32.toNat]

def cc0_transform_10 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x64) ![v2.toNat, v3.toNat] S1x1.size (k0_off1_inb i 7)) numel1_S1x1
  let c0_i32 : BitVec 32 := 0#32
  let c0_i32_0 : BitVec 32 := 0#32
  ![v4.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ScoresRefIdeal.lean ====
abbrev S32x64 : Shape := ⟨2, ![32, 64]⟩
abbrev S32x4x16x64 : Shape := ⟨4, ![32, 4, 16, 64]⟩
abbrev S32x4x64 : Shape := ⟨3, ![32, 4, 64]⟩
abbrev S32x4x16 : Shape := ⟨3, ![32, 4, 16]⟩
abbrev S1x2560x128x64 : Shape := ⟨4, ![1, 2560, 128, 64]⟩
abbrev S_ : Shape := ⟨0, ![]⟩
abbrev S32x64x1 : Shape := ⟨3, ![32, 64, 1]⟩
abbrev S32x64x2 : Shape := ⟨3, ![32, 64, 2]⟩
abbrev S32x64x128x64 : Shape := ⟨4, ![32, 64, 128, 64]⟩
abbrev S32x8192x64 : Shape := ⟨3, ![32, 8192, 64]⟩
abbrev S32x8196x64 : Shape := ⟨3, ![32, 8196, 64]⟩
abbrev S32x4x16x8196 : Shape := ⟨4, ![32, 4, 16, 8196]⟩
abbrev S32x4x8196 : Shape := ⟨3, ![32, 4, 8196]⟩
abbrev S32x4x8192 : Shape := ⟨3, ![32, 4, 8192]⟩
abbrev S32x4x4 : Shape := ⟨3, ![32, 4, 4]⟩
abbrev S32x4x128 : Shape := ⟨3, ![32, 4, 128]⟩

abbrev nBuf : Space → Nat
  | .hbm => 34
  | .vmem => 0
  | .smem => 0
  | _ => 0

abbrev bufTy : (tb : Table) → Fin (tcTables nBuf tb) → BufTy
  | .hbm, ⟨0, _⟩ => ⟨S32x64, .i32⟩
  | .hbm, ⟨1, _⟩ => ⟨S32x4x16x64, .f32⟩
  | .hbm, ⟨2, _⟩ => ⟨S32x4x64, .f32⟩
  | .hbm, ⟨3, _⟩ => ⟨S32x4x16, .f32⟩
  | .hbm, ⟨4, _⟩ => ⟨S1x2560x128x64, .f32⟩
  | .hbm, ⟨5, _⟩ => ⟨S_, .i32⟩
  | .hbm, ⟨6, _⟩ => ⟨S32x64, .i32⟩
  | .hbm, ⟨7, _⟩ => ⟨S32x64, .i1⟩
  | .hbm, ⟨8, _⟩ => ⟨S_, .i32⟩
  | .hbm, ⟨9, _⟩ => ⟨S32x64, .i32⟩
  | .hbm, ⟨10, _⟩ => ⟨S32x64, .i32⟩
  | .hbm, ⟨11, _⟩ => ⟨S32x64, .i32⟩
  | .hbm, ⟨12, _⟩ => ⟨S_, .i32⟩
  | .hbm, ⟨13, _⟩ => ⟨S32x64, .i32⟩
  | .hbm, ⟨14, _⟩ => ⟨S32x64, .i32⟩
  | .hbm, ⟨15, _⟩ => ⟨S32x64x1, .i32⟩
  | .hbm, ⟨16, _⟩ => ⟨S32x64x1, .i32⟩
  | .hbm, ⟨17, _⟩ => ⟨S32x64x2, .i32⟩
  | .hbm, ⟨18, _⟩ => ⟨S32x64x128x64, .f32⟩
  | .hbm, ⟨19, _⟩ => ⟨S32x8192x64, .f32⟩
  | .hbm, ⟨20, _⟩ => ⟨S32x8196x64, .f32⟩
  | .hbm, ⟨21, _⟩ => ⟨S32x4x16x8196, .f32⟩
  | .hbm, ⟨22, _⟩ => ⟨S_, .f32⟩
  | .hbm, ⟨23, _⟩ => ⟨S32x4x16x8196, .f32⟩
  | .hbm, ⟨24, _⟩ => ⟨S32x4x16x8196, .f32⟩
  | .hbm, ⟨25, _⟩ => ⟨S_, .f32⟩
  | .hbm, ⟨26, _⟩ => ⟨S32x4x16x8196, .f32⟩
  | .hbm, ⟨27, _⟩ => ⟨S32x4x16x8196, .f32⟩
  | .hbm, ⟨28, _⟩ => ⟨S32x4x8196, .f32⟩
  | .hbm, ⟨29, _⟩ => ⟨S32x4x8192, .f32⟩
  | .hbm, ⟨30, _⟩ => ⟨S32x4x4, .f32⟩
  | .hbm, ⟨31, _⟩ => ⟨S_, .i32⟩
  | .hbm, ⟨32, _⟩ => ⟨S_, .f32⟩
  | .hbm, ⟨33, _⟩ => ⟨S32x4x128, .f32⟩
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_call1_v0 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Mix.lean ====
abbrev S8x2048x2048 : Shape := ⟨3, ![8, 2048, 2048]⟩
abbrev S1x2048x2048 : Shape := ⟨3, ![1, 2048, 2048]⟩
abbrev S1x2048 : Shape := ⟨2, ![1, 2048]⟩
abbrev S16384x2048 : Shape := ⟨2, ![16384, 2048]⟩
abbrev S2048x2048 : Shape := ⟨2, ![2048, 2048]⟩
abbrev S2048 : Shape := ⟨1, ![2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S1x2048x2048, .f32⟩
  | .hbm, ⟨2, _⟩ => ⟨S8x2048x2048, .f32⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S16384x2048, .bf16⟩
  | .hbm, ⟨7, _⟩ => ⟨S2048x2048, .f32⟩
  | .hbm, ⟨8, _⟩ => ⟨S2048x2048, .bf16⟩
  | .hbm, ⟨9, _⟩ => ⟨S16384x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S16384x2048, .f32⟩
  | .hbm, ⟨15, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 2 → Nat :=
  let c0_3 : Index := 0#32
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  ![0, v7.toNat]
def k0_cond1 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32 : BitVec 32 := 0#32
  let v13 : BitVec 1 := Scalar.cmpi .ne v12 c0_i32
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MixRefIdeal.lean ====
abbrev S8x2048x2048 : Shape := ⟨3, ![8, 2048, 2048]⟩
abbrev S1x2048x2048 : Shape := ⟨3, ![1, 2048, 2048]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x2048, .f32⟩
  | .hbm, ⟨2, _⟩ => ⟨S8x2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S2048x2048, .f32⟩
  | .hbm, ⟨9, _⟩ => ⟨S8x2048x2048, .f32⟩
  | .hbm, ⟨10, _⟩ => ⟨S8x2048x2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S1x1x2048, .f32⟩
  | .hbm, ⟨37, _⟩ => ⟨S8x2048x2048, .f32⟩
  | .hbm, ⟨38, _⟩ => ⟨S8x2048x2048, .f32⟩
  | .hbm, ⟨39, _⟩ => ⟨S1x1x2048, .f32⟩
  | .hbm, ⟨40, _⟩ => ⟨S8x2048x2048, .f32⟩
  | .hbm, ⟨41, _⟩ => ⟨S8x2048x2048, .f32⟩
  | .hbm, ⟨42, _⟩ => ⟨S16384x2048, .f32⟩
  | .hbm, ⟨43, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Down.lean ====
abbrev S8x2048x5632 : Shape := ⟨3, ![8, 2048, 5632]⟩
abbrev S1x5632x2048 : Shape := ⟨3, ![1, 5632, 2048]⟩
abbrev S8x2048x2048 : Shape := ⟨3, ![8, 2048, 2048]⟩
abbrev S1x2048 : Shape := ⟨2, ![1, 2048]⟩
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S512x5632 : Shape := ⟨2, ![512, 5632]⟩
abbrev S5632x256 : Shape := ⟨2, ![5632, 256]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S8x2048x5632, .f32⟩
  | .hbm, ⟨1, _⟩ => ⟨S1x5632x2048, .f32⟩
  | .hbm, ⟨2, _⟩ => ⟨S8x2048x2048, .f32⟩
  | .hbm, ⟨3, _⟩ => ⟨S1x2048, .f32⟩
  | .hbm, ⟨4, _⟩ => ⟨S1x2048, .f32⟩
  | .hbm, ⟨5, _⟩ => ⟨S16384x5632, .f32⟩
  | .hbm, ⟨6, _⟩ => ⟨S16384x5632, .bf16⟩
  | .hbm, ⟨7, _⟩ => ⟨S5632x2048, .f32⟩
  | .hbm, ⟨8, _⟩ => ⟨S5632x2048, .bf16⟩
  | .hbm, ⟨9, _⟩ => ⟨S16384x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S16384x2048, .f32⟩
  | .hbm, ⟨15, _⟩ => ⟨S16384x2048, .bf16⟩
  | .local _ .vmem, ⟨0, _⟩ => ⟨S512x5632, .bf16⟩
  | .local _ .vmem, ⟨1, _⟩ => ⟨S512x5632, .bf16⟩
  | .local _ .vmem, ⟨2, _⟩ => ⟨S5632x256, .bf16⟩
  | .local _ .vmem, ⟨3, _⟩ => ⟨S5632x256, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S8x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 2 → Nat :=
  let c0_3 : Index := 0#32
  let arg1 : BitVec 32 := BitVec.ofNat 32 (i 1).val
  let c256_i32 : BitVec 32 := 256#32
  let v5 : BitVec 32 := Scalar.muli arg1 c256_i32
  let v6 : BitVec 32 := v5
  let v7 : Index := Scalar.indexCast v6
  ![0, v7.toNat]
def k0_cond1 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32 : BitVec 32 := 0#32
  let v13 : BitVec 1 := Scalar.cmpi .ne v12 c0_i32
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S8x2048x5632 : Shape := ⟨3, ![8, 2048, 5632]⟩
abbrev S1x5632x2048 : Shape := ⟨3, ![1, 5632, 2048]⟩
abbrev S8x2048x2048 : Shape := ⟨3, ![8, 2048, 2048]⟩
abbrev S1x2048 : Shape := ⟨2, ![1, 2048]⟩
abbrev S5632x2048 : Shape := ⟨2, ![5632, 2048]⟩
abbrev S_ : Shape := ⟨0, ![]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x5632, .f32⟩
  | .hbm, ⟨1, _⟩ => ⟨S1x5632x2048, .f32⟩
  | .hbm, ⟨2, _⟩ => ⟨S8x2048x2048, .f32⟩
  | .hbm, ⟨3, _⟩ => ⟨S1x2048, .f32⟩
  | .hbm, ⟨4, _⟩ => ⟨S1x2048, .f32⟩
  | .hbm, ⟨5, _⟩ => ⟨S5632x2048, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S1x1x2048, .f32⟩
  | .hbm, ⟨37, _⟩ => ⟨S8x2048x2048, .f32⟩
  | .hbm, ⟨38, _⟩ => ⟨S8x2048x2048, .f32⟩
  | .hbm, ⟨39, _⟩ => ⟨S1x1x2048, .f32⟩
  | .hbm, ⟨40, _⟩ => ⟨S8x2048x2048, .f32⟩
  | .hbm, ⟨41, _⟩ => ⟨S8x2048x2048, .f32⟩
  | .hbm, ⟨42, _⟩ => ⟨S16384x2048, .f32⟩
  | _, _ => ⟨S8x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== ConvFfn.lean ====
abbrev S8x2048x2048 : Shape := ⟨3, ![8, 2048, 2048]⟩
abbrev S1x2048x5632 : Shape := ⟨3, ![1, 2048, 5632]⟩
abbrev S1x3x5632 : Shape := ⟨3, ![1, 3, 5632]⟩
abbrev S1x5632 : Shape := ⟨2, ![1, 5632]⟩
abbrev S16384x2048 : Shape := ⟨2, ![16384, 2048]⟩
abbrev S2048x5632 : Shape := ⟨2, ![2048, 5632]⟩
abbrev S3x5632 : Shape := ⟨2, ![3, 5632]⟩
abbrev S5632 : Shape := ⟨1, ![5632]⟩
abbrev S16384x5632 : Shape := ⟨2, ![16384, 5632]⟩
abbrev S256x5632 : Shape := ⟨2, ![256, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S512x512 : Shape := ⟨2, ![512, 512]⟩
abbrev S8x512 : Shape := ⟨2, ![8, 512]⟩
abbrev S11x8x512 : Shape := ⟨3, ![11, 8, 512]⟩
abbrev S2048x256 : Shape := ⟨2, ![2048, 256]⟩
abbrev S512x256 : Shape := ⟨2, ![512, 256]⟩
abbrev S1x8x256 : Shape := ⟨3, ![1, 8, 256]⟩
abbrev S8x256 : Shape := ⟨2, ![8, 256]⟩
abbrev S1x256 : Shape := ⟨2, ![1, 256]⟩
abbrev S3x256 : Shape := ⟨2, ![3, 256]⟩
abbrev S8x4x8x5632 : Shape := ⟨4, ![8, 4, 8, 5632]⟩
abbrev S8x1x2x5632 : Shape := ⟨4, ![8, 1, 2, 5632]⟩
abbrev S8x2x5632 : Shape := ⟨3, ![8, 2, 5632]⟩
abbrev S1x8x2x5632 : Shape := ⟨4, ![1, 8, 2, 5632]⟩
abbrev S8x2048x5632 : Shape := ⟨3, ![8, 2048, 5632]⟩

abbrev nBuf : Space → Nat
  | .hbm => 21
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S1x2048x5632, .f32⟩
  | .hbm, ⟨2, _⟩ => ⟨S1x2048x5632, .f32⟩
  | .hbm, ⟨3, _⟩ => ⟨S1x3x5632, .f32⟩
  | .hbm, ⟨4, _⟩ => ⟨S1x5632, .f32⟩
  | .hbm, ⟨5, _⟩ => ⟨S16384x2048, .f32⟩
  | .hbm, ⟨6, _⟩ => ⟨S16384x2048, .bf16⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S3x5632, .f32⟩
  | .hbm, ⟨12, _⟩ => ⟨S5632, .f32⟩
  | .hbm, ⟨13, _⟩ => ⟨S1x5632, .f32⟩
  | .hbm, ⟨14, _⟩ => ⟨S16384x5632, .bf16⟩
  | .hbm, ⟨15, _⟩ => ⟨S256x5632, .f32⟩
  | .hbm, ⟨16, _⟩ => ⟨S8x4x8x5632, .f32⟩
  | .hbm, ⟨17, _⟩ => ⟨S8x1x2x5632, .f32⟩
  | .hbm, ⟨18, _⟩ => ⟨S8x2x5632, .f32⟩
  | .hbm, ⟨19, _⟩ => ⟨S1x8x2x5632, .f32⟩
  | .hbm, ⟨20, _⟩ => ⟨S8x2048x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S8x512, .f32⟩
  | .local _ .vmem, ⟨13, _⟩ => ⟨S8x512, .f32⟩
  | .local _ .vmem, ⟨14, _⟩ => ⟨S11x8x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 11], ![false, false]⟩

def k0_off1 (i : grid0.Coords) : Fin 3 → Nat :=
  let arg1 : BitVec 32 := BitVec.ofNat 32 (i 1).val
  let v27 : Index := Scalar.indexCast arg1
  let c0_14 : Index := 0#32
  let c0_15 : Index := 0#32
  ![v27.toNat, 0, 0]
def k0_off2 (i : grid0.Coords) : Fin 3 → Nat :=
  let arg1 : BitVec 32 := BitVec.ofNat 32 (i 1).val
  let v109 : Index := Scalar.indexCast arg1
  let c0_48 : Index := 0#32
  let c256_49 : Index := 256#32
  ![v109.toNat, 0, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFfnRefIdeal.lean ====
abbrev S8x2048x2048 : Shape := ⟨3, ![8, 2048, 2048]⟩
abbrev S1x2048x5632 : Shape := ⟨3, ![1, 2048, 5632]⟩
abbrev S1x3x5632 : Shape := ⟨3, ![1, 3, 5632]⟩
abbrev S1x5632 : Shape := ⟨2, ![1, 5632]⟩
abbrev S_ : Shape := ⟨0, ![]⟩
abbrev S8x2x5632 : Shape := ⟨3, ![8, 2, 5632]⟩
abbrev S2048x5632 : Shape := ⟨2, ![2048, 5632]⟩
abbrev S8x2048x5632 : Shape := ⟨3, ![8, 2048, 5632]⟩
abbrev S3x5632 : Shape := ⟨2, ![3, 5632]⟩
abbrev S8x2050x5632 : Shape := ⟨3, ![8, 2050, 5632]⟩
abbrev S5632 : Shape := ⟨1, ![5632]⟩
abbrev S1x1x5632 : Shape := ⟨3, ![1, 1, 5632]⟩
abbrev S1x8x2x5632 : Shape := ⟨4, ![1, 8, 2, 5632]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x5632, .f32⟩
  | .hbm, ⟨2, _⟩ => ⟨S1x2048x5632, .f32⟩
  | .hbm, ⟨3, _⟩ => ⟨S1x3x5632, .f32⟩
  | .hbm, ⟨4, _⟩ => ⟨S1x5632, .f32⟩
  | .hbm, ⟨5, _⟩ => ⟨S_, .f32⟩
  | .hbm, ⟨6, _⟩ => ⟨S8x2x5632, .f32⟩
  | .hbm, ⟨7, _⟩ => ⟨S2048x5632, .f32⟩
  | .hbm, ⟨8, _⟩ => ⟨S8x2048x5632, .f32⟩
  | .hbm, ⟨9, _⟩ => ⟨S2048x5632, .f32⟩
  | .hbm, ⟨10, _⟩ => ⟨S8x2048x5632, .f32⟩
  | .hbm, ⟨11, _⟩ => ⟨S3x5632, .f32⟩
  | .hbm, ⟨12, _⟩ => ⟨S8x2050x5632, .f32⟩
  | .hbm, ⟨13, _⟩ => ⟨S8x2048x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S8x2048x5632, .f32⟩
  | .hbm, ⟨18, _⟩ => ⟨S8x2048x5632, .f32⟩
  | .hbm, ⟨19, _⟩ => ⟨S8x2048x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S8x2048x5632, .f32⟩
  | .hbm, ⟨24, _⟩ => ⟨S8x2048x5632, .f32⟩
  | .hbm, ⟨25, _⟩ => ⟨S8x2048x5632, .f32⟩
  | .hbm, ⟨26, _⟩ => ⟨S8x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S8x2048x5632, .f32⟩
  | .hbm, ⟨31, _⟩ => ⟨S8x2048x5632, .f32⟩
  | .hbm, ⟨32, _⟩ => ⟨S8x2048x5632, .f32⟩
  | .hbm, ⟨33, _⟩ => ⟨S8x2x5632, .f32⟩
  | .hbm, ⟨34, _⟩ => ⟨S5632, .f32⟩
  | .hbm, ⟨35, _⟩ => ⟨S1x1x5632, .f32⟩
  | .hbm, ⟨36, _⟩ => ⟨S8x2048x5632, .f32⟩
  | .hbm, ⟨37, _⟩ => ⟨S8x2048x5632, .f32⟩
  | .hbm, ⟨38, _⟩ => ⟨S8x2048x5632, .f32⟩
  | .hbm, ⟨39, _⟩ => ⟨S8x2048x5632, .f32⟩
  | .hbm, ⟨40, _⟩ => ⟨S_, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S_, .f32⟩
  | .hbm, ⟨45, _⟩ => ⟨S8x2048x5632, .f32⟩
  | .hbm, ⟨46, _⟩ => ⟨S8x2048x5632, .f32⟩
  | .hbm, ⟨47, _⟩ => ⟨S8x2048x5632, .f32⟩
  | .hbm, ⟨48, _⟩ => ⟨S_, .f32⟩
  | .hbm, ⟨49, _⟩ => ⟨S8x2048x5632, .f32⟩
  | .hbm, ⟨50, _⟩ => ⟨S8x2048x5632, .f32⟩
  | .hbm, ⟨51, _⟩ => ⟨S_, .f32⟩
  | .hbm, ⟨52, _⟩ => ⟨S8x2048x5632, .f32⟩
  | .hbm, ⟨53, _⟩ => ⟨S8x2048x5632, .f32⟩
  | .hbm, ⟨54, _⟩ => ⟨S8x2048x5632, .f32⟩
  | .hbm, ⟨55, _⟩ => ⟨S8x2048x5632, .f32⟩
  | .hbm, ⟨56, _⟩ => ⟨S8x2048x5632, .bf16⟩
  | .hbm, ⟨57, _⟩ => ⟨S1x8x2x5632, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== ConvA.lean ====
abbrev S8x2048x2048 : Shape := ⟨3, ![8, 2048, 2048]⟩
abbrev S1x2048x11344 : Shape := ⟨3, ![1, 2048, 11344]⟩
abbrev S1x3x1024 : Shape := ⟨3, ![1, 3, 1024]⟩
abbrev S16384x2048 : Shape := ⟨2, ![16384, 2048]⟩
abbrev S2048x11344 : Shape := ⟨2, ![2048, 11344]⟩
abbrev S2048x3072 : Shape := ⟨2, ![2048, 3072]⟩
abbrev S3x1024 : Shape := ⟨2, ![3, 1024]⟩
abbrev S16384x1024 : Shape := ⟨2, ![16384, 1024]⟩
abbrev S256x1024 : Shape := ⟨2, ![256, 1024]⟩
abbrev S512x2048 : Shape := ⟨2, ![512, 2048]⟩
abbrev S2048x256 : Shape := ⟨2, ![2048, 256]⟩
abbrev S3x256 : Shape := ⟨2, ![3, 256]⟩
abbrev S512x256 : Shape := ⟨2, ![512, 256]⟩
abbrev S8x256 : Shape := ⟨2, ![8, 256]⟩
abbrev S4x8x256 : Shape := ⟨3, ![4, 8, 256]⟩
abbrev S1x8x256 : Shape := ⟨3, ![1, 8, 256]⟩
abbrev S1x256 : Shape := ⟨2, ![1, 256]⟩
abbrev S8x4x8x1024 : Shape := ⟨4, ![8, 4, 8, 1024]⟩
abbrev S8x1x2x1024 : Shape := ⟨4, ![8, 1, 2, 1024]⟩
abbrev S8x2x1024 : Shape := ⟨3, ![8, 2, 1024]⟩
abbrev S1x8x2x1024 : Shape := ⟨4, ![1, 8, 2, 1024]⟩
abbrev S8x2048x1024 : Shape := ⟨3, ![8, 2048, 1024]⟩

abbrev nBuf : Space → Nat
  | .hbm => 16
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S1x2048x11344, .f32⟩
  | .hbm, ⟨2, _⟩ => ⟨S1x3x1024, .f32⟩
  | .hbm, ⟨3, _⟩ => ⟨S16384x2048, .f32⟩
  | .hbm, ⟨4, _⟩ => ⟨S16384x2048, .bf16⟩
  | .hbm, ⟨5, _⟩ => ⟨S2048x11344, .f32⟩
  | .hbm, ⟨6, _⟩ => ⟨S2048x3072, .f32⟩
  | .hbm, ⟨7, _⟩ => ⟨S2048x3072, .bf16⟩
  | .hbm, ⟨8, _⟩ => ⟨S3x1024, .f32⟩
  | .hbm, ⟨9, _⟩ => ⟨S16384x1024, .bf16⟩
  | .hbm, ⟨10, _⟩ => ⟨S256x1024, .f32⟩
  | .hbm, ⟨11, _⟩ => ⟨S8x4x8x1024, .f32⟩
  | .hbm, ⟨12, _⟩ => ⟨S8x1x2x1024, .f32⟩
  | .hbm, ⟨13, _⟩ => ⟨S8x2x1024, .f32⟩
  | .hbm, ⟨14, _⟩ => ⟨S1x8x2x1024, .f32⟩
  | .hbm, ⟨15, _⟩ => ⟨S8x2048x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S3x256, .f32⟩
  | .local _ .vmem, ⟨9, _⟩ => ⟨S3x256, .f32⟩
  | .local _ .vmem, ⟨10, _⟩ => ⟨S512x256, .bf16⟩
  | .local _ .vmem, ⟨11, _⟩ => ⟨S512x256, .bf16⟩
  | .local _ .vmem, ⟨12, _⟩ => ⟨S8x256, .f32⟩
  | .local _ .vmem, ⟨13, _⟩ => ⟨S8x256, .f32⟩
  | .local _ .vmem, ⟨14, _⟩ => ⟨S4x8x256, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def k0_off1 (i : grid0.Coords) : Fin 3 → Nat :=
  let arg1 : BitVec 32 := BitVec.ofNat 32 (i 1).val
  let v31 : Index := Scalar.indexCast arg1
  let c0_17 : Index := 0#32
  let c0_18 : Index := 0#32
  ![v31.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvARefIdeal.lean ====
abbrev S8x2048x2048 : Shape := ⟨3, ![8, 2048, 2048]⟩
abbrev S1x2048x11344 : Shape := ⟨3, ![1, 2048, 11344]⟩
abbrev S1x3x1024 : Shape := ⟨3, ![1, 3, 1024]⟩
abbrev S2048x11344 : Shape := ⟨2, ![2048, 11344]⟩
abbrev S8x2048x11344 : Shape := ⟨3, ![8, 2048, 11344]⟩
abbrev S8x2048x1024 : Shape := ⟨3, ![8, 2048, 1024]⟩
abbrev S8x2048x512 : Shape := ⟨3, ![8, 2048, 512]⟩
abbrev S8x2048x64 : Shape := ⟨3, ![8, 2048, 64]⟩
abbrev S8x2048x16 : Shape := ⟨3, ![8, 2048, 16]⟩
abbrev S_ : Shape := ⟨0, ![]⟩
abbrev S8x2x1024 : Shape := ⟨3, ![8, 2, 1024]⟩
abbrev S3x1024 : Shape := ⟨2, ![3, 1024]⟩
abbrev S8x2050x1024 : Shape := ⟨3, ![8, 2050, 1024]⟩
abbrev S1x1024 : Shape := ⟨2, ![1, 1024]⟩
abbrev S1024 : Shape := ⟨1, ![1024]⟩
abbrev S1x1x1024 : Shape := ⟨3, ![1, 1, 1024]⟩
abbrev S1x8x2x1024 : Shape := ⟨4, ![1, 8, 2, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x11344, .f32⟩
  | .hbm, ⟨2, _⟩ => ⟨S1x3x1024, .f32⟩
  | .hbm, ⟨3, _⟩ => ⟨S2048x11344, .f32⟩
  | .hbm, ⟨4, _⟩ => ⟨S8x2048x11344, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S8x2048x512, .f32⟩
  | .hbm, ⟨10, _⟩ => ⟨S8x2048x512, .f32⟩
  | .hbm, ⟨11, _⟩ => ⟨S8x2048x1024, .f32⟩
  | .hbm, ⟨12, _⟩ => ⟨S8x2048x64, .f32⟩
  | .hbm, ⟨13, _⟩ => ⟨S8x2048x16, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2x1024, .f32⟩
  | .hbm, ⟨18, _⟩ => ⟨S8x2048x1024, .f32⟩
  | .hbm, ⟨19, _⟩ => ⟨S3x1024, .f32⟩
  | .hbm, ⟨20, _⟩ => ⟨S8x2050x1024, .f32⟩
  | .hbm, ⟨21, _⟩ => ⟨S8x2048x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2x1024, .f32⟩
  | .hbm, ⟨42, _⟩ => ⟨S8x2048x1024, .f32⟩
  | .hbm, ⟨43, _⟩ => ⟨S8x2048x1024, .bf16⟩
  | .hbm, ⟨44, _⟩ => ⟨S1x8x2x1024, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩

abbrev nD : Nat := 1
abbrev τ : Topo := Topo.v7x

variable {F : FTy → Type} [FloatOps F]
-- ==== IdxKeys.lean ====
abbrev S8x2048x2048 : Shape := ⟨3, ![8, 2048, 2048]⟩
abbrev S1x2048x11344 : Shape := ⟨3, ![1, 2048, 11344]⟩
abbrev S1x64 : Shape := ⟨2, ![1, 64]⟩
abbrev S16384x2048 : Shape := ⟨2, ![16384, 2048]⟩
abbrev S2048x11344 : Shape := ⟨2, ![2048, 11344]⟩
abbrev S2048x80 : Shape := ⟨2, ![2048, 80]⟩
abbrev S_ : Shape := ⟨0, ![]⟩
abbrev S2048x128 : Shape := ⟨2, ![2048, 128]⟩
abbrev S64 : Shape := ⟨1, ![64]⟩
abbrev S128 : Shape := ⟨1, ![128]⟩
abbrev S1x128 : Shape := ⟨2, ![1, 128]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x56 : Shape := ⟨2, ![2048, 56]⟩
abbrev S1x2048x1x64 : Shape := ⟨4, ![1, 2048, 1, 64]⟩
abbrev S1x2048x2x64 : Shape := ⟨4, ![1, 2048, 2, 64]⟩
abbrev S2048x384 : Shape := ⟨2, ![2048, 384]⟩
abbrev S16384x64 : Shape := ⟨2, ![16384, 64]⟩
abbrev S16384x16 : Shape := ⟨2, ![16384, 16]⟩
abbrev S512x2048 : Shape := ⟨2, ![512, 2048]⟩
abbrev S512x384 : Shape := ⟨2, ![512, 384]⟩
abbrev S512x64 : Shape := ⟨2, ![512, 64]⟩
abbrev S512x16 : Shape := ⟨2, ![512, 16]⟩
abbrev S512x128 : Shape := ⟨2, ![512, 128]⟩
abbrev S512 : Shape := ⟨1, ![512]⟩
abbrev S512x1 : Shape := ⟨2, ![512, 1]⟩

abbrev nBuf : Space → Nat
  | .hbm => 63
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S1x2048x11344, .f32⟩
  | .hbm, ⟨2, _⟩ => ⟨S1x64, .f32⟩
  | .hbm, ⟨3, _⟩ => ⟨S1x64, .f32⟩
  | .hbm, ⟨4, _⟩ => ⟨S16384x2048, .f32⟩
  | .hbm, ⟨5, _⟩ => ⟨S16384x2048, .bf16⟩
  | .hbm, ⟨6, _⟩ => ⟨S2048x11344, .f32⟩
  | .hbm, ⟨7, _⟩ => ⟨S2048x80, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S64, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S64, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S2048, .i32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S2048, .f32⟩
  | .hbm, ⟨32, _⟩ => ⟨S2048x1, .f32⟩
  | .hbm, ⟨33, _⟩ => ⟨S1x8, .f32⟩
  | .hbm, ⟨34, _⟩ => ⟨S2048x8, .f32⟩
  | .hbm, ⟨35, _⟩ => ⟨S2048x8, .f32⟩
  | .hbm, ⟨36, _⟩ => ⟨S2048x8, .f32⟩
  | .hbm, ⟨37, _⟩ => ⟨S2048x8, .f32⟩
  | .hbm, ⟨38, _⟩ => ⟨S2048x8, .f32⟩
  | .hbm, ⟨39, _⟩ => ⟨S_, .f32⟩
  | .hbm, ⟨40, _⟩ => ⟨S2048x48, .f32⟩
  | .hbm, ⟨41, _⟩ => ⟨S2048x64, .f32⟩
  | .hbm, ⟨42, _⟩ => ⟨S2048x8, .f32⟩
  | .hbm, ⟨43, _⟩ => ⟨S_, .f32⟩
  | .hbm, ⟨44, _⟩ => ⟨S2048x56, .f32⟩
  | .hbm, ⟨45, _⟩ => ⟨S2048x64, .f32⟩
  | .hbm, ⟨46, _⟩ => ⟨S_, .f32⟩
  | .hbm, ⟨47, _⟩ => ⟨S2048x8, .f32⟩
  | .hbm, ⟨48, _⟩ => ⟨S_, .f32⟩
  | .hbm, ⟨49, _⟩ => ⟨S2048x48, .f32⟩
  | .hbm, ⟨50, _⟩ => ⟨S2048x64, .f32⟩
  | .hbm, ⟨51, _⟩ => ⟨S1x2048x1x64, .f32⟩
  | .hbm, ⟨52, _⟩ => ⟨S1x2048x2x64, .f32⟩
  | .hbm, ⟨53, _⟩ => ⟨S2048x128, .f32⟩
  | .hbm, ⟨54, _⟩ => ⟨S1x2048x1x64, .f32⟩
  | .hbm, ⟨55, _⟩ => ⟨S1x2048x2x64, .f32⟩
  | .hbm, ⟨56, _⟩ => ⟨S2048x128, .f32⟩
  | .hbm, ⟨57, _⟩ => ⟨S1x2048x1x64, .f32⟩
  | .hbm, ⟨58, _⟩ => ⟨S1x2048x2x64, .f32⟩
  | .hbm, ⟨59, _⟩ => ⟨S2048x128, .f32⟩
  | .hbm, ⟨60, _⟩ => ⟨S2048x384, .f32⟩
  | .hbm, ⟨61, _⟩ => ⟨S16384x64, .f32⟩
  | .hbm, ⟨62, _⟩ => ⟨S16384x16, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x384, .f32⟩
  | .local _ .vmem, ⟨4, _⟩ => ⟨S512x384, .f32⟩
  | .local _ .vmem, ⟨5, _⟩ => ⟨S1x128, .f32⟩
  | .local _ .vmem, ⟨6, _⟩ => ⟨S1x128, .f32⟩
  | .local _ .vmem, ⟨7, _⟩ => ⟨S512x64, .f32⟩
  | .local _ .vmem, ⟨8, _⟩ => ⟨S512x64, .f32⟩
  | .local _ .vmem, ⟨9, _⟩ => ⟨S512x16, .f32⟩
  | .local _ .vmem, ⟨10, _⟩ => ⟨S512x16, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== IdxKeysRefIdeal.lean ====
abbrev S8x2048x2048 : Shape := ⟨3, ![8, 2048, 2048]⟩
abbrev S1x2048x11344 : Shape := ⟨3, ![1, 2048, 11344]⟩
abbrev S1x64 : Shape := ⟨2, ![1, 64]⟩
abbrev S2048x11344 : Shape := ⟨2, ![2048, 11344]⟩
abbrev S8x2048x11344 : Shape := ⟨3, ![8, 2048, 11344]⟩
abbrev S8x2048x1024 : Shape := ⟨3, ![8, 2048, 1024]⟩
abbrev S8x2048x512 : Shape := ⟨3, ![8, 2048, 512]⟩
abbrev S8x2048x64 : Shape := ⟨3, ![8, 2048, 64]⟩
abbrev S8x2048x16 : Shape := ⟨3, ![8, 2048, 16]⟩
abbrev S64 : Shape := ⟨1, ![64]⟩
abbrev S_ : Shape := ⟨0, ![]⟩
abbrev S8x2048 : Shape := ⟨2, ![8, 2048]⟩
abbrev S8x2048x1 : Shape := ⟨3, ![8, 2048, 1]⟩
abbrev S1x1x64 : Shape := ⟨3, ![1, 1, 64]⟩
abbrev S8x2048x1x64 : Shape := ⟨4, ![8, 2048, 1, 64]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x1x16 : Shape := ⟨4, ![8, 2048, 1, 16]⟩
abbrev S8x2048x1x8 : Shape := ⟨4, ![8, 2048, 1, 8]⟩
abbrev S8x2048x1x48 : Shape := ⟨4, ![8, 2048, 1, 48]⟩
abbrev S16384x64 : Shape := ⟨2, ![16384, 64]⟩
abbrev S16384x16 : Shape := ⟨2, ![16384, 16]⟩

abbrev nBuf : Space → Nat
  | .hbm => 93
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x11344, .f32⟩
  | .hbm, ⟨2, _⟩ => ⟨S1x64, .f32⟩
  | .hbm, ⟨3, _⟩ => ⟨S1x64, .f32⟩
  | .hbm, ⟨4, _⟩ => ⟨S2048x11344, .f32⟩
  | .hbm, ⟨5, _⟩ => ⟨S8x2048x11344, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x2048, .f32⟩
  | .hbm, ⟨10, _⟩ => ⟨S8x2048x512, .f32⟩
  | .hbm, ⟨11, _⟩ => ⟨S8x2048x512, .f32⟩
  | .hbm, ⟨12, _⟩ => ⟨S8x2048x1024, .f32⟩
  | .hbm, ⟨13, _⟩ => ⟨S8x2048x64, .f32⟩
  | .hbm, ⟨14, _⟩ => ⟨S8x2048x16, .f32⟩
  | .hbm, ⟨15, _⟩ => ⟨S8x2048x2048, .f32⟩
  | .hbm, ⟨16, _⟩ => ⟨S8x2048x2048, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x64, .f32⟩
  | .hbm, ⟨26, _⟩ => ⟨S8x2048x64, .f32⟩
  | .hbm, ⟨27, _⟩ => ⟨S8x2048x64, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x64, .f32⟩
  | .hbm, ⟨35, _⟩ => ⟨S8x2048x64, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x64, .f32⟩
  | .hbm, ⟨41, _⟩ => ⟨S8x2048x64, .f32⟩
  | .hbm, ⟨42, _⟩ => ⟨S1x1x64, .f32⟩
  | .hbm, ⟨43, _⟩ => ⟨S8x2048x64, .f32⟩
  | .hbm, ⟨44, _⟩ => ⟨S8x2048x64, .f32⟩
  | .hbm, ⟨45, _⟩ => ⟨S1x1x64, .f32⟩
  | .hbm, ⟨46, _⟩ => ⟨S8x2048x64, .f32⟩
  | .hbm, ⟨47, _⟩ => ⟨S8x2048x64, .f32⟩
  | .hbm, ⟨48, _⟩ => ⟨S8x2048x1x64, .f32⟩
  | .hbm, ⟨49, _⟩ => ⟨S2048, .i32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S2048, .f32⟩
  | .hbm, ⟨59, _⟩ => ⟨S2048x1, .f32⟩
  | .hbm, ⟨60, _⟩ => ⟨S1x8, .f32⟩
  | .hbm, ⟨61, _⟩ => ⟨S2048x8, .f32⟩
  | .hbm, ⟨62, _⟩ => ⟨S2048x8, .f32⟩
  | .hbm, ⟨63, _⟩ => ⟨S2048x8, .f32⟩
  | .hbm, ⟨64, _⟩ => ⟨S2048x8, .f32⟩
  | .hbm, ⟨65, _⟩ => ⟨S1x2048x1x8, .f32⟩
  | .hbm, ⟨66, _⟩ => ⟨S2048x8, .f32⟩
  | .hbm, ⟨67, _⟩ => ⟨S1x2048x1x8, .f32⟩
  | .hbm, ⟨68, _⟩ => ⟨S8x2048x1x16, .f32⟩
  | .hbm, ⟨69, _⟩ => ⟨S8x2048x1x8, .f32⟩
  | .hbm, ⟨70, _⟩ => ⟨S8x2048x1x8, .f32⟩
  | .hbm, ⟨71, _⟩ => ⟨S8x2048x1x8, .f32⟩
  | .hbm, ⟨72, _⟩ => ⟨S8x2048x1x8, .f32⟩
  | .hbm, ⟨73, _⟩ => ⟨S8x2048x1x8, .f32⟩
  | .hbm, ⟨74, _⟩ => ⟨S8x2048x1x8, .f32⟩
  | .hbm, ⟨75, _⟩ => ⟨S8x2048x1x8, .f32⟩
  | .hbm, ⟨76, _⟩ => ⟨S8x2048x1x8, .f32⟩
  | .hbm, ⟨77, _⟩ => ⟨S8x2048x1x8, .f32⟩
  | .hbm, ⟨78, _⟩ => ⟨S8x2048x1x8, .f32⟩
  | .hbm, ⟨79, _⟩ => ⟨S8x2048x1x8, .f32⟩
  | .hbm, ⟨80, _⟩ => ⟨S8x2048x1x8, .f32⟩
  | .hbm, ⟨81, _⟩ => ⟨S8x2048x1x16, .f32⟩
  | .hbm, ⟨82, _⟩ => ⟨S8x2048x1x48, .f32⟩
  | .hbm, ⟨83, _⟩ => ⟨S8x2048x1x64, .f32⟩
  | .hbm, ⟨84, _⟩ => ⟨S8x2048x64, .f32⟩
  | .hbm, ⟨85, _⟩ => ⟨S_, .f32⟩
  | .hbm, ⟨86, _⟩ => ⟨S8x2048x16, .f32⟩
  | .hbm, ⟨87, _⟩ => ⟨S8x2048x16, .f32⟩
  | .hbm, ⟨88, _⟩ => ⟨S16384x64, .f32⟩
  | .hbm, ⟨89, _⟩ => ⟨S_, .f32⟩
  | .hbm, ⟨90, _⟩ => ⟨S8x2048x16, .f32⟩
  | .hbm, ⟨91, _⟩ => ⟨S8x2048x16, .f32⟩
  | .hbm, ⟨92, _⟩ => ⟨S16384x16, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_6 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_7 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩

abbrev nD : Nat := 1
abbrev τ : Topo := Topo.v7x

variable {F : FTy → Type} [FloatOps F]
-- ==== Proof.Gates.lean ====
/-
  The two sigmoid gates of the layer: every block the kernel writes is the reference's block.
-/
module

public import proofs.«01_k».proof.Defs
public import proofs.«01_k».proof.Proof.Gen.GatesIdeal.Frame
public import proofs.«01_k».proof.Proof.Gen.GatesRefIdeal.Run
public import proofs.«01_k».proof.Proof.Gen.GatesRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.GatesIdeal.Proved

open Idealize.ShloMosaic Idealize.ShloMosaic.TcCoe Idealize.SL.Sem
open Idealize.ShloMosaic.Pipeline (Dat)
open Cert.GatesIdeal Cert.GatesIdeal.Gen Cert.GatesRefIdeal.Read

variable (m : (ℓ : Loc nD τ sig) → Buf (Elt Ideal) ℓ)

/-- The reference's result as a function of the tokens and the combined projection's weights. -/
abbrev REF (X : FVec Ideal S8x2048x2048 .f32) (W : FVec Ideal S1x2048x11344 .f32) : FVec Ideal S16384x4096 .bf16 :=
  val_main_v27 (F := Ideal) X W

/-- Which blocks a point of the grid takes: token blocks vary slowly, column blocks fast. -/
theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

/-- Row `r`, column `k` of the token block at a point is the tokens' entry at the row's sequence and position. -/
theorem read_x (c : Dev nD) (t : Fin cfg0.N) (r : Fin 512) (k : Fin 2048) (a : Fin 8) (b : Fin 2048)
    (h : t.val / 8 * 512 + r.val = a.val * 2048 + b.val) :
    (iblk m c 0 t : FVec Ideal S512x2048 .bf16) (ix2 r k)
      = (m ((c : Thread nD τ).loc main_arg0) : FVec Ideal S8x2048x2048 .f32) (ix3 a b k) := by
  have ht : t.val < 256 := lt_of_lt_of_eq t.isLt N_0
  have e : (iblk m c 0 t : FVec Ideal S512x2048 .bf16) (ix2 r k)
      = (V m c main_v1 : FVec Ideal S16384x2048 .bf16) (ix2 ⟨t.val / 8 * 512 + r.val, by omega⟩ k) := by
    blk_ext [iblk, idx t]
  rw [e]
  entry_read
  pointwise
  blk_ext

/-- Row `k`, column `r` of the weight block at a point is the combined projection's entry in the gates' columns. -/
theorem read_w (c : Dev nD) (t : Fin cfg0.N) (k : Fin 2048) (r : Fin 512) (a : Fin 11344)
    (h : 7248 + t.val % 8 * 512 + r.val = a.val) :
    (iblk m c 1 t : FVec Ideal S2048x512 .bf16) (ix2 k r)
      = (m ((c : Thread nD τ).loc main_arg1) : FVec Ideal S1x2048x11344 .f32) (ix3 0 k a) := by
  have e : (iblk m c 1 t : FVec Ideal S2048x512 .bf16) (ix2 k r)
      = (V m c main_v4 : FVec Ideal S2048x4096 .bf16) (ix2 k ⟨t.val % 8 * 512 + r.val, by omega⟩) := by
    blk_ext [iblk, idx t]
  rw [e]
  entry_read
  pointwise
  blk_ext

/-- The block a point writes is the reference's, entry by entry: a sigmoid of one product of rows and columns. -/
theorem point (c : Dev nD) (t : Fin cfg0.N) (r s : Fin 512) (p : Fin 16384) (q : Fin 4096)
    (hp : p.val = t.val / 8 * 512 + r.val) (hq : q.val = t.val % 8 * 512 + s.val) :
    k0_pay1 (F := Ideal) (iblk m c 0 t) (iblk m c 1 t) (ix2 r s)
      = REF (m ((c : Thread nD τ).loc main_arg0)) (m ((c : Thread nD τ).loc main_arg1)) (ix2 p q) := by
  have ht : t.val < 256 := lt_of_lt_of_eq t.isLt N_0
  pointwise [k0_pay1, REF,
    val_main_v0, val_main_v1, val_main_v2, val_main_v3, val_main_v4, val_main_v5, val_main_v6, val_main_v7,
    val_main_v8, val_main_v9, val_main_v10, val_main_v11, val_main_v12, val_main_v13, val_main_v14,
    val_main_cst, val_main_v15, val_main_v16, val_main_cst_0, val_main_v17, val_main_v18, val_main_v19,
    val_main_v20, val_main_cst_1, val_main_v21, val_main_v22, val_main_cst_2, val_main_v23, val_main_v24,
    val_main_v25, val_main_v26, val_main_v27]
  split_ifs with hlt
  all_goals
    rw [zero_sub]
    refine congrArg (fun s : EReal => Ideal.div 1 (1 + Ideal.exp (-s))) (Finset.sum_congr rfl fun k _ => ?_)
    refine Ideal.mul_congr (read_x m c t _ _ _ _ ?_) (read_w m c t _ _ _ ?_)
  all_goals
    try dsimp only
    omega

/-- The array of gates after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  have e := point m c t (y 0) (y 1) (((cfg0.win 2).blk t).view.emb y 0) (((cfg0.win 2).blk t).view.emb y 1)
    (by blk_simp [idx t]) (by blk_simp [idx t])
  blk_simp
  rw [after0_2]; frame_out
  exact (congrArg _ (eq_ix2 y)).trans (e.trans (congrArg _ (ix2_eta _)))

/-- Over the reals the gate kernel computes the reference's gates. -/
theorem algebraic : Cert.algebraic_GatesIdeal_GatesRefIdeal := by
  pair_intro
  · run_from Cert.GatesIdeal.Gen.run_main m g
  · run_from Cert.GatesRefIdeal.Value.run m' g'
    exact (final m c).symm

end Cert.GatesIdeal.Proved

end
-- ==== Proof.Queries.lean ====
/-
  x
-/
module

public import proofs.«01_k».proof.Defs
public import proofs.«01_k».proof.Proof.Gen.QueriesIdeal.Frame
public import proofs.«01_k».proof.Proof.Gen.QueriesRefIdeal.Run
public import proofs.«01_k».proof.Proof.Gen.QueriesRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.QueriesIdeal.Proved

open Idealize.ShloMosaic Idealize.ShloMosaic.TcCoe Idealize.SL.Sem
open Idealize.ShloMosaic.Pipeline (Dat)
open Cert.QueriesIdeal Cert.QueriesIdeal.Gen Cert.QueriesRefIdeal.Read

variable (m : (ℓ : Loc nD τ sig) → Buf (Elt Ideal) ℓ)

def part (A : FVec Ideal S2048x128 .f32) : FVec Ideal S2048x128 .f32 :=
  shapeCast _ (broadcastInDim S1x2048x1x128 ![0, 1, 2, 3] bcast_S1x2048x1x128_S1x2048x1x128_0_1_2_3
    (shapeCast _ A shapeCasts_S2048x128_S1x2048x1x128)) shapeCasts_S1x2048x1x128_S2048x128

def beside (A B C : FVec Ideal S2048x128 .f32) : FVec Ideal S2048x384 .f32 :=
  concatenate S2048x384 1 [⟨S2048x128, A⟩, ⟨S2048x128, B⟩, ⟨S2048x128, C⟩]
    concatenates_S2048x128_S2048x128_S2048x128_S2048x384_d1

def lanes (A B : FVec Ideal S2048x16 .f32) (C : FVec Ideal S2048x96 .f32) : FVec Ideal S2048x128 .f32 :=
  concatenate S2048x128 1 [⟨S2048x16, A⟩, ⟨S2048x16, B⟩, ⟨S2048x96, C⟩]
    concatenates_S2048x16_S2048x16_S2048x96_S2048x128_d1

def first (A : FVec Ideal S2048x16 .f32) (B : FVec Ideal S2048x112 .f32) : FVec Ideal S2048x128 .f32 :=
  concatenate S2048x128 1 [⟨S2048x16, A⟩, ⟨S2048x112, B⟩] concatenates_S2048x16_S2048x112_S2048x128_d1

abbrev CS : FVec Ideal S2048x16 .f32 := val_main_v27 (F := Ideal)
abbrev SN : FVec Ideal S2048x16 .f32 := val_main_v29 (F := Ideal)

theorem host_v37 (c : Dev nD) : (V m c main_v37 : FVec Ideal S2048x384 .f32) =
    beside (V m c main_v30) (V m c main_v33) (V m c main_v36) := by
  rfl

theorem host_v30 (c : Dev nD) : (V m c main_v30 : FVec Ideal S2048x128 .f32) =
    part (V m c main_v21) := by
  rfl

theorem host_v33 (c : Dev nD) : (V m c main_v33 : FVec Ideal S2048x128 .f32) =
    part (V m c main_v24) := by
  rfl

theorem host_v36 (c : Dev nD) : (V m c main_v36 : FVec Ideal S2048x128 .f32) =
    part (V m c main_v27) := by
  rfl

theorem host_v21 (c : Dev nD) : (V m c main_v21 : FVec Ideal S2048x128 .f32) =
    lanes (V m c main_v18) (V m c main_v18) (V m c main_v20) := by
  rfl

theorem host_v24 (c : Dev nD) : (V m c main_v24 : FVec Ideal S2048x128 .f32) =
    first (V m c main_v22) (V m c main_v23) := by
  rfl

theorem host_v27 (c : Dev nD) : (V m c main_v27 : FVec Ideal S2048x128 .f32) =
    lanes (V m c main_v25) (V m c main_v19) (V m c main_v26) := by
  rfl

theorem host_v22 (c : Dev nD) : (V m c main_v22 : FVec Ideal S2048x16 .f32) =
    Host.negf (SN) := by
  rfl

theorem host_v20 (c : Dev nD) : (V m c main_v20 : FVec Ideal S2048x96 .f32) =
    broadcastInDim S2048x96 ![] bcast_S_S2048x96 (constant (F := Ideal) S_ .f32 0x3F800000#32) := by
  rfl

theorem host_v23 (c : Dev nD) : (V m c main_v23 : FVec Ideal S2048x112 .f32) =
    broadcastInDim S2048x112 ![] bcast_S_S2048x112 (constant (F := Ideal) S_ .f32 0x00000000#32) := by
  rfl

theorem host_v25 (c : Dev nD) : (V m c main_v25 : FVec Ideal S2048x16 .f32) =
    broadcastInDim S2048x16 ![] bcast_S_S2048x16 (constant (F := Ideal) S_ .f32 0x00000000#32) := by
  rfl

theorem host_v26 (c : Dev nD) : (V m c main_v26 : FVec Ideal S2048x96 .f32) =
    broadcastInDim S2048x96 ![] bcast_S_S2048x96 (constant (F := Ideal) S_ .f32 0x00000000#32) := by
  rfl

theorem host_v18 (c : Dev nD) : (V m c main_v18 : FVec Ideal S2048x16 .f32) =
    CS := by
  rfl

theorem host_v19 (c : Dev nD) : (V m c main_v19 : FVec Ideal S2048x16 .f32) =
    SN := by
  rfl

/-- The reference's result as a function of the tokens and the combined projection's weights. -/
abbrev REF (X : FVec Ideal S8x2048x2048 .f32) (W : FVec Ideal S1x2048x11344 .f32) : FVec Ideal S16384x2048 .bf16 :=
  val_main_v50 (F := Ideal) X W

/-- The table's first 128 columns: the cosine of the lane's angle where the head is rotated, else one. -/
theorem tab_cos (c : Dev nD) (b : Fin 2048) (l : Fin 384) (h : l.val < 128) :
    (V m c main_v37 : FVec Ideal S2048x384 .f32) (ix2 b l) =
      if h1 : l.val < 16 then CS (ix2 b ⟨l.val, h1⟩)
      else if h2 : l.val - 16 < 16 then CS (ix2 b ⟨l.val - 16, h2⟩) else (1 : EReal) := by
  rw [host_v37, host_v30, host_v33, host_v36, host_v21, host_v20, host_v18]
  generalize CS = C
  pointwise [beside, part, lanes]
  rw [dif_pos h]

/-- The next 128 columns: minus the sine, on the first half of the rotated lanes. -/
theorem tab_up (c : Dev nD) (b : Fin 2048) (l : Fin 384) (h : 128 ≤ l.val) (h' : l.val < 256) :
    (V m c main_v37 : FVec Ideal S2048x384 .f32) (ix2 b l) =
      if h1 : l.val - 128 < 16 then -SN (ix2 b ⟨l.val - 128, h1⟩) else (0 : EReal) := by
  rw [host_v37, host_v30, host_v33, host_v36, host_v24, host_v22, host_v23]
  generalize SN = S
  pointwise [beside, part, first]
  rw [dif_neg (by omega), dif_pos (by omega)]

/-- The last 128 columns: the sine, on the second half of the rotated lanes. -/
theorem tab_dn (c : Dev nD) (b : Fin 2048) (l : Fin 384) (h : 256 ≤ l.val) :
    (V m c main_v37 : FVec Ideal S2048x384 .f32) (ix2 b l) =
      if h1 : l.val - 128 - 128 < 16 then (0 : EReal)
      else if h2 : l.val - 128 - 128 - 16 < 16 then SN (ix2 b ⟨l.val - 128 - 128 - 16, h2⟩) else (0 : EReal) := by
  rw [host_v37, host_v30, host_v33, host_v36, host_v27, host_v25, host_v26, host_v19]
  generalize SN = S
  pointwise [beside, part, lanes]
  rw [dif_neg (by omega), dif_neg (by omega)]

/-- Three products taken at equal indices have equal sums. -/
theorem combine {α β : Type} (Z : α → EReal) (T : β → EReal) {a a' b b' d d' : α} {i i' j j' k k' : β}
    (ha : a = a') (hb : b = b') (hd : d = d') (hi : i = i') (hj : j = j') (hk : k = k') :
    Z a * T i + Z b * T j + Z d * T k = Z a' * T i' + Z b' * T j' + Z d' * T k' := by
  subst ha hb hd hi hj hk; rfl

/-- Row `r` of a token block times column `s` of a weight block. -/
abbrev dotAt (x0 : Vec Ideal S512x2048 .bf16) (x1 : Vec Ideal S2048x512 .bf16) (r s : Fin 512) : EReal :=
  ∑ x : Fin 2048, x0 (ix2 r x) * x1 (ix2 x s)

/-- What a point writes: each 128 columns of the product times the cosines, plus its columns moved down and up by the
    half of the rotated lanes times the two sine tables. -/
theorem ker_at (x0 : Vec Ideal S512x2048 .bf16) (x1 : Vec Ideal S2048x512 .bf16) (x2 : Vec Ideal S512x384 .f32)
    (r s : Fin 512) :
    out0_3 (F := Ideal) x0 x1 x2 (ix2 r s) =
      (dotAt x0 x1 r (s) * x2 (ix2 r ⟨s.val % 128, by omega⟩)
        + dotAt x0 x1 r (⟨s.val / 128 * 128 + (s.val % 128 + 16) % 128, by omega⟩)
          * x2 (ix2 r ⟨128 + s.val % 128, by omega⟩)
        + dotAt x0 x1 r (⟨s.val / 128 * 128 + (s.val % 128 + 112) % 128, by omega⟩)
          * x2 (ix2 r ⟨256 + s.val % 128, by omega⟩) : EReal) * Ideal.ofBits .f32 1040356334#32 := by
  unfold out0_3
  frame_out
  pointwise [k0_pay1, k0_pay3, k0_pay4, k0_pay5, k0_pay6, k0_pay7, k0_pay8, k0_pay9, k0_pay10, k0_pay11,
    k0_pay12, k0_pay2, r0_0, r0_1, r0_2, r0_3, r0_4, View.ld]
  refine congrArg (· * Ideal.ofBits .f32 1040356334#32) ?_
  split_ifs
  all_goals
    refine combine (fun s => dotAt x0 x1 r (s)) (fun l => x2 (ix2 r l)) ?_ ?_ ?_ ?_ ?_ ?_
  all_goals first | rfl | exact Fin.ext (by dsimp only; omega) | exact Fin.ext (by omega)

/-- Which blocks a point of the grid takes: token blocks vary slowly, column blocks fast, the table repeats with
    the sequence. -/
theorem idx : ∀ t : Fin cfg0.N, win0_0.index t = ![t.val / 4, 0] ∧ win0_1.index t = ![0, t.val % 4]
    ∧ win0_2.index t = ![t.val / 4 % 4, 0] ∧ win0_3.index t = ![t.val / 4, t.val % 4] :=
  (by decide +kernel : ∀ t : Fin grid0.N, _)

/-- Row `r`, column `k` of the token block at a point is the tokens' entry at the row's sequence and position. -/
theorem read_x (c : Dev nD) (t : Fin cfg0.N) (r : Fin 512) (k : Fin 2048) (a : Fin 8) (b : Fin 2048)
    (h : t.val / 4 * 512 + r.val = a.val * 2048 + b.val) :
    (iblk m c 0 t : FVec Ideal S512x2048 .bf16) (ix2 r k)
      = (m ((c : Thread nD τ).loc main_arg0) : FVec Ideal S8x2048x2048 .f32) (ix3 a b k) := by
  have ht : t.val < 128 := lt_of_lt_of_eq t.isLt N_0
  have e : (iblk m c 0 t : FVec Ideal S512x2048 .bf16) (ix2 r k)
      = (V m c main_v1 : FVec Ideal S16384x2048 .bf16) (ix2 ⟨t.val / 4 * 512 + r.val, by omega⟩ k) := by
    blk_ext [iblk, idx t]
  rw [e]
  entry_read
  pointwise
  blk_ext

/-- Row `k`, column `r` of the weight block at a point is the combined projection's entry in the queries' columns. -/
theorem read_w (c : Dev nD) (t : Fin cfg0.N) (k : Fin 2048) (r : Fin 512) (a : Fin 11344)
    (h : 3072 + t.val % 4 * 512 + r.val = a.val) :
    (iblk m c 1 t : FVec Ideal S2048x512 .bf16) (ix2 k r)
      = (m ((c : Thread nD τ).loc main_arg1) : FVec Ideal S1x2048x11344 .f32) (ix3 0 k a) := by
  have e : (iblk m c 1 t : FVec Ideal S2048x512 .bf16) (ix2 k r)
      = (V m c main_v4 : FVec Ideal S2048x2048 .bf16) (ix2 k ⟨t.val % 4 * 512 + r.val, by omega⟩) := by
    blk_ext [iblk, idx t]
  rw [e]
  entry_read
  pointwise
  blk_ext

/-- Row `r` of the table block at a point is the table's row at the token's position. -/
theorem read_t (c : Dev nD) (t : Fin cfg0.N) (r : Fin 512) (l : Fin 384) (b : Fin 2048)
    (h : t.val / 4 % 4 * 512 + r.val = b.val) :
    (iblk m c 2 t : FVec Ideal S512x384 .f32) (ix2 r l) = (V m c main_v37 : FVec Ideal S2048x384 .f32) (ix2 b l) := by
  blk_ext [iblk, idx t]

/-- One column of the projection at a token, as the two programs write it. -/
abbrev col (X : FVec Ideal S8x2048x2048 .f32) (W : FVec Ideal S1x2048x11344 .f32) (p : Fin 16384) (w : Fin 11344) : EReal :=
  ∑ x : Fin 2048, X (ix3 ⟨p.val / 2048, by omega⟩ ⟨p.val % 2048, by omega⟩ x) * W (ix3 0 x w)

/-- A column of the blocks' product is the projection's column. -/
theorem col_eq (c : Dev nD) (t : Fin cfg0.N) (r s : Fin 512) (p : Fin 16384) (w : Fin 11344)
    (hp : p.val = t.val / 4 * 512 + r.val) (hw : 3072 + t.val % 4 * 512 + s.val = w.val) :
    dotAt (iblk m c 0 t) (iblk m c 1 t) r s
      = col (m ((c : Thread nD τ).loc main_arg0)) (m ((c : Thread nD τ).loc main_arg1)) p w := by
  have ht : t.val < 128 := lt_of_lt_of_eq t.isLt N_0
  refine Finset.sum_congr rfl fun k _ => ?_
  refine Ideal.mul_congr (read_x m c t _ _ _ _ ?_) (read_w m c t _ _ _ ?_)
  · dsimp only; omega
  · omega

/-- The block a point writes is the reference's, entry by entry. -/
theorem point (c : Dev nD) (t : Fin cfg0.N) (r s : Fin 512) (p : Fin 16384) (q : Fin 2048)
    (hp : p.val = t.val / 4 * 512 + r.val) (hq : q.val = t.val % 4 * 512 + s.val) :
    out0_3 (F := Ideal) (iblk m c 0 t) (iblk m c 1 t) (iblk m c 2 t) (ix2 r s)
      = REF (m ((c : Thread nD τ).loc main_arg0)) (m ((c : Thread nD τ).loc main_arg1)) (ix2 p q) := by
  have ht : t.val < 128 := lt_of_lt_of_eq t.isLt N_0
  rw [ker_at, read_t m c t r _ ⟨p.val % 2048, by omega⟩ (by dsimp only; omega),
    read_t m c t r _ ⟨p.val % 2048, by omega⟩ (by dsimp only; omega),
    read_t m c t r _ ⟨p.val % 2048, by omega⟩ (by dsimp only; omega),
    tab_cos m c _ _ (by dsimp only; omega), tab_up m c _ _ (by dsimp only; omega) (by dsimp only; omega),
    tab_dn m c _ _ (by dsimp only; omega)]
  rw [col_eq m c t r s p ⟨3072 + q.val, by omega⟩ hp (by dsimp only; omega),
    col_eq m c t r _ p ⟨3072 + (q.val / 128 * 128 + (q.val % 128 + 16) % 128), by omega⟩ hp (by dsimp only; omega),
    col_eq m c t r _ p ⟨3072 + (q.val / 128 * 128 + (q.val % 128 + 112) % 128), by omega⟩ hp (by dsimp only; omega)]
  generalize m ((c : Thread nD τ).loc main_arg0) = X
  generalize m ((c : Thread nD τ).loc main_arg1) = W
  have hs : s.val % 128 = q.val % 128 := by omega
  pointwise [REF,
    val_main_v0, val_main_v1, val_main_v2, val_main_v3, val_main_v4, val_main_v5, val_main_v6, val_main_v7,
    val_main_v8, val_main_v9, val_main_v10, val_main_v11, val_main_v12, val_main_v13, val_main_v14,
    val_main_v15, val_main_v16, val_main_cst, val_main_v17, val_main_v18, val_main_cst_0, val_main_v19,
    val_main_v20, val_main_v21, val_main_v22, val_main_v23, val_main_v24, val_main_v25, val_main_v26,
     val_main_v28,  val_main_v30, val_main_v31, val_main_v32, val_main_v33,
    val_main_v34, val_main_v35, val_main_v36, val_main_v37, val_main_v38, val_main_v39, val_main_v40,
    val_main_v41, val_main_v42, val_main_v43, val_main_v44, val_main_v45, val_main_v46, val_main_cst_1,
    val_main_v47, val_main_v48, val_main_v49, val_main_v50]
  refine congrArg (· * Ideal.ofBits .f32 1040356334#32) ?_
  by_cases h1 : q.val % 128 < 16
  · simp only [hs, h1, dif_pos, Nat.add_sub_cancel_left, show q.val % 128 < 32 by omega,
      show 256 + q.val % 128 - 128 - 128 = q.val % 128 by omega, mul_zero, add_zero, mul_neg, ← sub_eq_add_neg]
    congr
    omega
  by_cases h2 : q.val % 128 < 32
  · simp only [hs, h1, h2, dif_pos, dif_neg, not_false_eq_true, Nat.add_sub_cancel_left, show q.val % 128 - 16 < 16 by omega,
      show 256 + q.val % 128 - 128 - 128 = q.val % 128 by omega, mul_zero, add_zero]
    refine congrArg₂ (· + ·) (congrArg (· * _) ?_) (congrArg (· * _) ?_)
    · exact congrArg (col X W p) (Fin.ext (by dsimp only; omega))
    · exact congrArg (col X W p) (Fin.ext (by dsimp only; omega))
  · simp only [hs, h1, h2, dif_pos, dif_neg, not_false_eq_true, Nat.add_sub_cancel_left, show ¬ (q.val % 128 - 16 < 16) by omega,
      show 256 + q.val % 128 - 128 - 128 = q.val % 128 by omega, mul_zero, add_zero, mul_one]
    exact congrArg (col X W p) (Fin.ext (by dsimp only; omega))

/-- The array of queries after the run is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  have e := point m c t (y 0) (y 1) (((cfg0.win 3).blk t).view.emb y 0) (((cfg0.win 3).blk t).view.emb y 1)
    (by blk_simp [idx t]) (by blk_simp [idx t])
  blk_simp
  rw [after0_3]
  exact (congrArg _ (eq_ix2 y)).trans (e.trans (congrArg _ (ix2_eta _)))

/-- Over the reals the query kernel computes the reference's queries. -/
theorem algebraic : Cert.algebraic_QueriesIdeal_QueriesRefIdeal := by
  pair_intro
  · run_from Cert.QueriesIdeal.Gen.run_main m g
  · run_from Cert.QueriesRefIdeal.Value.run m' g'
    rw [Cert.QueriesRefIdeal.Read.val_main_v50_eq m' c, (hagree c).1, (hagree c).2]
    exact (final m c).symm

end Cert.QueriesIdeal.Proved

end
-- ==== Proof.IdxQueries.lean ====
/-
  The indexer's queries
-/
module

public import proofs.«01_k».proof.Defs
public import proofs.«01_k».proof.Proof.Gen.IdxQueriesIdeal.Frame
public import proofs.«01_k».proof.Proof.Gen.IdxQueriesRefIdeal.Run
public import proofs.«01_k».proof.Proof.Gen.IdxQueriesRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.IdxQueriesIdeal.Proved

open Idealize.ShloMosaic Idealize.ShloMosaic.TcCoe Idealize.SL.Sem
open Idealize.ShloMosaic.Pipeline (Dat)
open Cert.IdxQueriesIdeal Cert.IdxQueriesIdeal.Gen Cert.IdxQueriesRefIdeal.Read

variable (m : (ℓ : Loc nD τ sig) → Buf (Elt Ideal) ℓ)

def part (A : FVec Ideal S2048x64 .f32) : FVec Ideal S2048x128 .f32 :=
  shapeCast _ (broadcastInDim S1x2048x2x64 ![0, 1, 2, 3] bcast_S1x2048x1x64_S1x2048x2x64_0_1_2_3
    (shapeCast _ A shapeCasts_S2048x64_S1x2048x1x64)) shapeCasts_S1x2048x2x64_S2048x128

def beside (A B C : FVec Ideal S2048x128 .f32) : FVec Ideal S2048x384 .f32 :=
  concatenate S2048x384 1 [⟨S2048x128, A⟩, ⟨S2048x128, B⟩, ⟨S2048x128, C⟩]
    concatenates_S2048x128_S2048x128_S2048x128_S2048x384_d1

def lanes (A B : FVec Ideal S2048x8 .f32) (C : FVec Ideal S2048x48 .f32) : FVec Ideal S2048x64 .f32 :=
  concatenate S2048x64 1 [⟨S2048x8, A⟩, ⟨S2048x8, B⟩, ⟨S2048x48, C⟩]
    concatenates_S2048x8_S2048x8_S2048x48_S2048x64_d1

def first (A : FVec Ideal S2048x8 .f32) (B : FVec Ideal S2048x56 .f32) : FVec Ideal S2048x64 .f32 :=
  concatenate S2048x64 1 [⟨S2048x8, A⟩, ⟨S2048x56, B⟩] concatenates_S2048x8_S2048x56_S2048x64_d1

abbrev CS : FVec Ideal S2048x8 .f32 := val_main_v27 (F := Ideal)
abbrev SN : FVec Ideal S2048x8 .f32 := val_main_v29 (F := Ideal)

theorem host_v37 (c : Dev nD) : (V m c main_v37 : FVec Ideal S2048x384 .f32) =
    beside (V m c main_v30) (V m c main_v33) (V m c main_v36) := by
  rfl

theorem host_v30 (c : Dev nD) : (V m c main_v30 : FVec Ideal S2048x128 .f32) =
    part (V m c main_v21) := by
  rfl

theorem host_v33 (c : Dev nD) : (V m c main_v33 : FVec Ideal S2048x128 .f32) =
    part (V m c main_v24) := by
  rfl

theorem host_v36 (c : Dev nD) : (V m c main_v36 : FVec Ideal S2048x128 .f32) =
    part (V m c main_v27) := by
  rfl

theorem host_v21 (c : Dev nD) : (V m c main_v21 : FVec Ideal S2048x64 .f32) =
    lanes (V m c main_v18) (V m c main_v18) (V m c main_v20) := by
  rfl

theorem host_v24 (c : Dev nD) : (V m c main_v24 : FVec Ideal S2048x64 .f32) =
    first (V m c main_v22) (V m c main_v23) := by
  rfl

theorem host_v27 (c : Dev nD) : (V m c main_v27 : FVec Ideal S2048x64 .f32) =
    lanes (V m c main_v25) (V m c main_v19) (V m c main_v26) := by
  rfl

theorem host_v22 (c : Dev nD) : (V m c main_v22 : FVec Ideal S2048x8 .f32) =
    Host.negf (SN) := by
  rfl

theorem host_v20 (c : Dev nD) : (V m c main_v20 : FVec Ideal S2048x48 .f32) =
    broadcastInDim S2048x48 ![] bcast_S_S2048x48 (constant (F := Ideal) S_ .f32 0x3F800000#32) := by
  rfl

theorem host_v23 (c : Dev nD) : (V m c main_v23 : FVec Ideal S2048x56 .f32) =
    broadcastInDim S2048x56 ![] bcast_S_S2048x56 (constant (F := Ideal) S_ .f32 0x00000000#32) := by
  rfl

theorem host_v25 (c : Dev nD) : (V m c main_v25 : FVec Ideal S2048x8 .f32) =
    broadcastInDim S2048x8 ![] bcast_S_S2048x8 (constant (F := Ideal) S_ .f32 0x00000000#32) := by
  rfl

theorem host_v26 (c : Dev nD) : (V m c main_v26 : FVec Ideal S2048x48 .f32) =
    broadcastInDim S2048x48 ![] bcast_S_S2048x48 (constant (F := Ideal) S_ .f32 0x00000000#32) := by
  rfl

theorem host_v18 (c : Dev nD) : (V m c main_v18 : FVec Ideal S2048x8 .f32) =
    CS := by
  rfl

theorem host_v19 (c : Dev nD) : (V m c main_v19 : FVec Ideal S2048x8 .f32) =
    SN := by
  rfl

/-- The reference's result as a function of the tokens and the combined projection's weights. -/
abbrev REF (X : FVec Ideal S8x2048x2048 .f32) (W : FVec Ideal S1x2048x11344 .f32) : FVec Ideal S16384x1024 .bf16 :=
  val_main_v48 (F := Ideal) X W

/-- The table's first 128 columns: the cosine of the lane's angle where the head is rotated, else one. -/
theorem tab_cos (c : Dev nD) (b : Fin 2048) (l : Fin 384) (h : l.val < 128) :
    (V m c main_v37 : FVec Ideal S2048x384 .f32) (ix2 b l) =
      if h1 : l.val % 64 < 8 then CS (ix2 b ⟨l.val % 64, h1⟩)
      else if h2 : l.val % 64 - 8 < 8 then CS (ix2 b ⟨l.val % 64 - 8, h2⟩) else (1 : EReal) := by
  rw [host_v37, host_v30, host_v33, host_v36, host_v21, host_v20, host_v18]
  generalize CS = C
  pointwise [beside, part, lanes]
  rw [dif_pos h]

/-- The next 128 columns: minus the sine, on the first half of the rotated lanes. -/
theorem tab_up (c : Dev nD) (b : Fin 2048) (l : Fin 384) (h : 128 ≤ l.val) (h' : l.val < 256) :
    (V m c main_v37 : FVec Ideal S2048x384 .f32) (ix2 b l) =
      if h1 : (l.val - 128) % 64 < 8 then -SN (ix2 b ⟨(l.val - 128) % 64, h1⟩) else (0 : EReal) := by
  rw [host_v37, host_v30, host_v33, host_v36, host_v24, host_v22, host_v23]
  generalize SN = S
  pointwise [beside, part, first]
  rw [dif_neg (by omega), dif_pos (by omega)]

/-- The last 128 columns: the sine, on the second half of the rotated lanes. -/
theorem tab_dn (c : Dev nD) (b : Fin 2048) (l : Fin 384) (h : 256 ≤ l.val) :
    (V m c main_v37 : FVec Ideal S2048x384 .f32) (ix2 b l) =
      if h1 : (l.val - 128 - 128) % 64 < 8 then (0 : EReal)
      else if h2 : (l.val - 128 - 128) % 64 - 8 < 8 then SN (ix2 b ⟨(l.val - 128 - 128) % 64 - 8, h2⟩) else (0 : EReal) := by
  rw [host_v37, host_v30, host_v33, host_v36, host_v27, host_v25, host_v26, host_v19]
  generalize SN = S
  pointwise [beside, part, lanes]
  rw [dif_neg (by omega), dif_neg (by omega)]

/-- Three products taken at equal indices have equal sums. -/
theorem combine {α β : Type} (Z : α → EReal) (T : β → EReal) {a a' b b' d d' : α} {i i' j j' k k' : β}
    (ha : a = a') (hb : b = b') (hd : d = d') (hi : i = i') (hj : j = j') (hk : k = k') :
    Z a * T i + Z b * T j + Z d * T k = Z a' * T i' + Z b' * T j' + Z d' * T k' := by
  subst ha hb hd hi hj hk; rfl

/-- Row `r` of a token block times column `s` of a weight block. -/
abbrev dotAt (x0 : Vec Ideal S512x2048 .bf16) (x1 : Vec Ideal S2048x512 .bf16) (r s : Fin 512) : EReal :=
  ∑ x : Fin 2048, x0 (ix2 r x) * x1 (ix2 x s)

/-- What a point writes: each 128 columns of the product times the cosines, plus its columns moved down and up by the
    half of the rotated lanes times the two sine tables. -/
theorem ker_at (x0 : Vec Ideal S512x2048 .bf16) (x1 : Vec Ideal S2048x512 .bf16) (x2 : Vec Ideal S512x384 .f32)
    (r s : Fin 512) :
    out0_3 (F := Ideal) x0 x1 x2 (ix2 r s) =
      (dotAt x0 x1 r (s) * x2 (ix2 r ⟨s.val % 128, by omega⟩)
        + dotAt x0 x1 r (⟨s.val / 128 * 128 + (s.val % 128 + 8) % 128, by omega⟩)
          * x2 (ix2 r ⟨128 + s.val % 128, by omega⟩)
        + dotAt x0 x1 r (⟨s.val / 128 * 128 + (s.val % 128 + 120) % 128, by omega⟩)
          * x2 (ix2 r ⟨256 + s.val % 128, by omega⟩) : EReal) := by
  unfold out0_3
  frame_out
  pointwise [k0_pay1, k0_pay3, k0_pay4, k0_pay5, k0_pay6, k0_pay7, k0_pay8, k0_pay9, k0_pay10, k0_pay11,
    k0_pay12, k0_pay2, r0_0, r0_1, r0_2, r0_3, r0_4, View.ld]
  split_ifs
  all_goals
    refine combine (fun s => dotAt x0 x1 r (s)) (fun l => x2 (ix2 r l)) ?_ ?_ ?_ ?_ ?_ ?_
  all_goals first | rfl | exact Fin.ext (by dsimp only; omega) | exact Fin.ext (by omega)

/-- Which blocks a point of the grid takes: token blocks vary slowly, column blocks fast, the table repeats with
    the sequence. -/
theorem idx : ∀ t : Fin cfg0.N, win0_0.index t = ![t.val / 2, 0] ∧ win0_1.index t = ![0, t.val % 2]
    ∧ win0_2.index t = ![t.val / 2 % 4, 0] ∧ win0_3.index t = ![t.val / 2, t.val % 2] :=
  (by decide +kernel : ∀ t : Fin grid0.N, _)

/-- Row `r`, column `k` of the token block at a point is the tokens' entry at the row's sequence and position. -/
theorem read_x (c : Dev nD) (t : Fin cfg0.N) (r : Fin 512) (k : Fin 2048) (a : Fin 8) (b : Fin 2048)
    (h : t.val / 2 * 512 + r.val = a.val * 2048 + b.val) :
    (iblk m c 0 t : FVec Ideal S512x2048 .bf16) (ix2 r k)
      = (m ((c : Thread nD τ).loc main_arg0) : FVec Ideal S8x2048x2048 .f32) (ix3 a b k) := by
  have ht : t.val < 64 := lt_of_lt_of_eq t.isLt N_0
  have e : (iblk m c 0 t : FVec Ideal S512x2048 .bf16) (ix2 r k)
      = (V m c main_v1 : FVec Ideal S16384x2048 .bf16) (ix2 ⟨t.val / 2 * 512 + r.val, by omega⟩ k) := by
    blk_ext [iblk, idx t]
  rw [e]
  entry_read
  pointwise
  blk_ext

/-- Row `k`, column `r` of the weight block at a point is the combined projection's entry in the queries' columns. -/
theorem read_w (c : Dev nD) (t : Fin cfg0.N) (k : Fin 2048) (r : Fin 512) (a : Fin 11344)
    (h : 6144 + t.val % 2 * 512 + r.val = a.val) :
    (iblk m c 1 t : FVec Ideal S2048x512 .bf16) (ix2 k r)
      = (m ((c : Thread nD τ).loc main_arg1) : FVec Ideal S1x2048x11344 .f32) (ix3 0 k a) := by
  have e : (iblk m c 1 t : FVec Ideal S2048x512 .bf16) (ix2 k r)
      = (V m c main_v4 : FVec Ideal S2048x1024 .bf16) (ix2 k ⟨t.val % 2 * 512 + r.val, by omega⟩) := by
    blk_ext [iblk, idx t]
  rw [e]
  entry_read
  pointwise
  blk_ext

/-- Row `r` of the table block at a point is the table's row at the token's position. -/
theorem read_t (c : Dev nD) (t : Fin cfg0.N) (r : Fin 512) (l : Fin 384) (b : Fin 2048)
    (h : t.val / 2 % 4 * 512 + r.val = b.val) :
    (iblk m c 2 t : FVec Ideal S512x384 .f32) (ix2 r l) = (V m c main_v37 : FVec Ideal S2048x384 .f32) (ix2 b l) := by
  blk_ext [iblk, idx t]

/-- One column of the projection at a token, as the two programs write it. -/
abbrev col (X : FVec Ideal S8x2048x2048 .f32) (W : FVec Ideal S1x2048x11344 .f32) (p : Fin 16384) (w : Fin 11344) : EReal :=
  ∑ x : Fin 2048, X (ix3 ⟨p.val / 2048, by omega⟩ ⟨p.val % 2048, by omega⟩ x) * W (ix3 0 x w)

/-- A column of the blocks' product is the projection's column. -/
theorem col_eq (c : Dev nD) (t : Fin cfg0.N) (r s : Fin 512) (p : Fin 16384) (w : Fin 11344)
    (hp : p.val = t.val / 2 * 512 + r.val) (hw : 6144 + t.val % 2 * 512 + s.val = w.val) :
    dotAt (iblk m c 0 t) (iblk m c 1 t) r s
      = col (m ((c : Thread nD τ).loc main_arg0)) (m ((c : Thread nD τ).loc main_arg1)) p w := by
  have ht : t.val < 64 := lt_of_lt_of_eq t.isLt N_0
  refine Finset.sum_congr rfl fun k _ => ?_
  refine Ideal.mul_congr (read_x m c t _ _ _ _ ?_) (read_w m c t _ _ _ ?_)
  · dsimp only; omega
  · omega

/-- The block a point writes is the reference's, entry by entry. -/
theorem point (c : Dev nD) (t : Fin cfg0.N) (r s : Fin 512) (p : Fin 16384) (q : Fin 1024)
    (hp : p.val = t.val / 2 * 512 + r.val) (hq : q.val = t.val % 2 * 512 + s.val) :
    out0_3 (F := Ideal) (iblk m c 0 t) (iblk m c 1 t) (iblk m c 2 t) (ix2 r s)
      = REF (m ((c : Thread nD τ).loc main_arg0)) (m ((c : Thread nD τ).loc main_arg1)) (ix2 p q) := by
  have ht : t.val < 64 := lt_of_lt_of_eq t.isLt N_0
  rw [ker_at, read_t m c t r _ ⟨p.val % 2048, by omega⟩ (by dsimp only; omega),
    read_t m c t r _ ⟨p.val % 2048, by omega⟩ (by dsimp only; omega),
    read_t m c t r _ ⟨p.val % 2048, by omega⟩ (by dsimp only; omega),
    tab_cos m c _ _ (by dsimp only; omega), tab_up m c _ _ (by dsimp only; omega) (by dsimp only; omega),
    tab_dn m c _ _ (by dsimp only; omega)]
  rw [col_eq m c t r s p ⟨6144 + q.val, by omega⟩ hp (by dsimp only; omega),
    col_eq m c t r _ p ⟨6144 + (q.val / 128 * 128 + (q.val % 128 + 8) % 128), by omega⟩ hp (by dsimp only; omega),
    col_eq m c t r _ p ⟨6144 + (q.val / 128 * 128 + (q.val % 128 + 120) % 128), by omega⟩ hp (by dsimp only; omega)]
  generalize m ((c : Thread nD τ).loc main_arg0) = X
  generalize m ((c : Thread nD τ).loc main_arg1) = W
  have hs : s.val % 128 = q.val % 128 := by omega
  have hs1 : (128 + s.val % 128 - 128) % 64 = q.val % 64 := by omega
  have hs2 : (256 + s.val % 128 - 128 - 128) % 64 = q.val % 64 := by omega
  have hs3 : s.val % 128 % 64 = q.val % 64 := by omega
  pointwise [REF,
    val_main_v0, val_main_v1, val_main_v2, val_main_v3, val_main_v4, val_main_v5, val_main_v6, val_main_v7,
    val_main_v8, val_main_v9, val_main_v10, val_main_v11, val_main_v12, val_main_v13, val_main_v14,
    val_main_v15, val_main_v16, val_main_cst, val_main_v17, val_main_v18, val_main_cst_0, val_main_v19,
    val_main_v20, val_main_v21, val_main_v22, val_main_v23, val_main_v24, val_main_v25, val_main_v26,
    val_main_v28, val_main_v30, val_main_v31, val_main_v32, val_main_v33, val_main_v34, val_main_v35,
    val_main_v36, val_main_v37, val_main_v38, val_main_v39, val_main_v40, val_main_v41, val_main_v42,
    val_main_v43, val_main_v44, val_main_v45, val_main_v46, val_main_v47, val_main_v48]
  by_cases h1 : q.val % 64 < 8
  · simp only [hs1, hs2, hs3, h1, dif_pos, show q.val % 64 < 16 by omega, mul_zero, add_zero, mul_neg,
      ← sub_eq_add_neg]
    refine congrArg₂ (· - ·) (congrArg (· * _) ?_) (congrArg (· * _) ?_)
    · exact congrArg (col X W p) (Fin.ext (by dsimp only))
    · exact congrArg (col X W p) (Fin.ext (by dsimp only; omega))
  by_cases h2 : q.val % 64 < 16
  · simp only [hs1, hs2, hs3, h1, h2, dif_pos, dif_neg, not_false_eq_true, show q.val % 64 - 8 < 8 by omega,
      mul_zero, add_zero]
    refine congrArg₂ (· + ·) (congrArg (· * _) ?_) (congrArg (· * _) ?_)
    · exact congrArg (col X W p) (Fin.ext (by dsimp only; omega))
    · exact congrArg (col X W p) (Fin.ext (by dsimp only; omega))
  · simp only [hs1, hs2, hs3, h1, h2, dif_pos, dif_neg, not_false_eq_true,
      show ¬ (q.val % 64 - 8 < 8) by omega, mul_zero, add_zero, mul_one]
    exact congrArg (col X W p) (Fin.ext (by dsimp only; omega))

/-- The array of the indexer's queries after the run is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  have e := point m c t (y 0) (y 1) (((cfg0.win 3).blk t).view.emb y 0) (((cfg0.win 3).blk t).view.emb y 1)
    (by blk_simp [idx t]) (by blk_simp [idx t])
  blk_simp
  rw [after0_3]
  exact (congrArg _ (eq_ix2 y)).trans (e.trans (congrArg _ (ix2_eta _)))

/-- Over the reals the kernel computes the indexer's queries. -/
theorem algebraic : Cert.algebraic_IdxQueriesIdeal_IdxQueriesRefIdeal := by
  pair_intro
  · run_from Cert.IdxQueriesIdeal.Gen.run_main m g
  · run_from Cert.IdxQueriesRefIdeal.Value.run m' g'
    rw [Cert.IdxQueriesRefIdeal.Read.val_main_v48_eq m' c, (hagree c).1, (hagree c).2]
    exact (final m c).symm

end Cert.IdxQueriesIdeal.Proved

end
-- ==== Proof.Merge.lean ====
/-
  The gated merge of the two branches: two products, each scaled by its gate, added.
-/
module

public import proofs.«01_k».proof.Defs
public import proofs.«01_k».proof.Proof.Gen.MergeIdeal.Frame
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MergeIdeal.Proved

open Idealize.ShloMosaic Idealize.ShloMosaic.TcCoe Idealize.SL.Sem
open Idealize.ShloMosaic.Pipeline (Dat)
open Cert.MergeIdeal Cert.MergeIdeal.Gen Cert.MergeRefIdeal.Read

variable (m : (ℓ : Loc nD τ sig) → Buf (Elt Ideal) ℓ)

/-- The reference's result as a function of the two branches, the gates and the two output projections. -/
abbrev REF (A : FVec Ideal S8x2048x1024 .f32) (O : FVec Ideal S8x2048x2048 .f32) (G : FVec Ideal S8x2048x4096 .f32)
    (WA : FVec Ideal S1x1024x2048 .f32) (WO : FVec Ideal S1x2048x2048 .f32) : FVec Ideal S16384x2048 .bf16 :=
  val_main_v10 (F := Ideal) A O G WA WO

/-- Which blocks a point of the grid takes: the two gate windows look at one array, half its width apart. -/
theorem idx : ∀ t : Fin cfg0.N, win0_0.index t = ![t.val / 4, 0] ∧ win0_1.index t = ![t.val / 4, 0]
    ∧ win0_2.index t = ![0, t.val % 4] ∧ win0_3.index t = ![0, t.val % 4]
    ∧ win0_4.index t = ![t.val / 4, t.val % 4] ∧ win0_5.index t = ![t.val / 4, t.val % 4 + 4]
    ∧ win0_6.index t = ![t.val / 4, t.val % 4] :=
  (by decide +kernel : ∀ t : Fin grid0.N, _)

theorem read_a (c : Dev nD) (t : Fin cfg0.N) (r : Fin 512) (k : Fin 1024) (a : Fin 8) (b : Fin 2048)
    (h : t.val / 4 * 512 + r.val = a.val * 2048 + b.val) :
    (iblk m c 0 t : FVec Ideal S512x1024 .bf16) (ix2 r k)
      = (m ((c : Thread nD τ).loc main_arg0) : FVec Ideal S8x2048x1024 .f32) (ix3 a b k) := by
  have ht : t.val < 128 := lt_of_lt_of_eq t.isLt N_0
  have e : (iblk m c 0 t : FVec Ideal S512x1024 .bf16) (ix2 r k)
      = (V m c main_v1 : FVec Ideal S16384x1024 .bf16) (ix2 ⟨t.val / 4 * 512 + r.val, by omega⟩ k) := by
    blk_ext [iblk, idx t]
  rw [e]
  entry_read
  pointwise
  blk_ext

theorem read_o (c : Dev nD) (t : Fin cfg0.N) (r : Fin 512) (k : Fin 2048) (a : Fin 8) (b : Fin 2048)
    (h : t.val / 4 * 512 + r.val = a.val * 2048 + b.val) :
    (iblk m c 1 t : FVec Ideal S512x2048 .bf16) (ix2 r k)
      = (m ((c : Thread nD τ).loc main_arg1) : FVec Ideal S8x2048x2048 .f32) (ix3 a b k) := by
  have ht : t.val < 128 := lt_of_lt_of_eq t.isLt N_0
  have e : (iblk m c 1 t : FVec Ideal S512x2048 .bf16) (ix2 r k)
      = (V m c main_v3 : FVec Ideal S16384x2048 .bf16) (ix2 ⟨t.val / 4 * 512 + r.val, by omega⟩ k) := by
    blk_ext [iblk, idx t]
  rw [e]
  entry_read
  pointwise
  blk_ext

theorem read_wa (c : Dev nD) (t : Fin cfg0.N) (k : Fin 1024) (r : Fin 512) (a : Fin 2048)
    (h : t.val % 4 * 512 + r.val = a.val) :
    (iblk m c 2 t : FVec Ideal S1024x512 .bf16) (ix2 k r)
      = (m ((c : Thread nD τ).loc main_arg3) : FVec Ideal S1x1024x2048 .f32) (ix3 0 k a) := by
  have e : (iblk m c 2 t : FVec Ideal S1024x512 .bf16) (ix2 k r)
      = (V m c main_v7 : FVec Ideal S1024x2048 .bf16) (ix2 k ⟨t.val % 4 * 512 + r.val, by omega⟩) := by
    blk_ext [iblk, idx t]
  rw [e]
  entry_read
  pointwise
  blk_ext

theorem read_wo (c : Dev nD) (t : Fin cfg0.N) (k : Fin 2048) (r : Fin 512) (a : Fin 2048)
    (h : t.val % 4 * 512 + r.val = a.val) :
    (iblk m c 3 t : FVec Ideal S2048x512 .bf16) (ix2 k r)
      = (m ((c : Thread nD τ).loc main_arg4) : FVec Ideal S1x2048x2048 .f32) (ix3 0 k a) := by
  have e : (iblk m c 3 t : FVec Ideal S2048x512 .bf16) (ix2 k r)
      = (V m c main_v9 : FVec Ideal S2048x2048 .bf16) (ix2 k ⟨t.val % 4 * 512 + r.val, by omega⟩) := by
    blk_ext [iblk, idx t]
  rw [e]
  entry_read
  pointwise
  blk_ext

theorem read_ga (c : Dev nD) (t : Fin cfg0.N) (r : Fin 512) (k : Fin 512) (a : Fin 8) (b : Fin 2048) (d : Fin 4096)
    (h : t.val / 4 * 512 + r.val = a.val * 2048 + b.val) (hd : t.val % 4 * 512 + k.val = d.val) :
    (iblk m c 4 t : FVec Ideal S512x512 .bf16) (ix2 r k)
      = (m ((c : Thread nD τ).loc main_arg2) : FVec Ideal S8x2048x4096 .f32) (ix3 a b d) := by
  have ht : t.val < 128 := lt_of_lt_of_eq t.isLt N_0
  have e : (iblk m c 4 t : FVec Ideal S512x512 .bf16) (ix2 r k)
      = (V m c main_v5 : FVec Ideal S16384x4096 .bf16) (ix2 ⟨t.val / 4 * 512 + r.val, by omega⟩ ⟨t.val % 4 * 512 + k.val, by omega⟩) := by
    blk_ext [iblk, idx t]
  rw [e]
  entry_read
  pointwise
  blk_ext

theorem read_gb (c : Dev nD) (t : Fin cfg0.N) (r : Fin 512) (k : Fin 512) (a : Fin 8) (b : Fin 2048) (d : Fin 4096)
    (h : t.val / 4 * 512 + r.val = a.val * 2048 + b.val) (hd : 2048 + t.val % 4 * 512 + k.val = d.val) :
    (iblk m c 5 t : FVec Ideal S512x512 .bf16) (ix2 r k)
      = (m ((c : Thread nD τ).loc main_arg2) : FVec Ideal S8x2048x4096 .f32) (ix3 a b d) := by
  have ht : t.val < 128 := lt_of_lt_of_eq t.isLt N_0
  have e : (iblk m c 5 t : FVec Ideal S512x512 .bf16) (ix2 r k)
      = (V m c main_v5 : FVec Ideal S16384x4096 .bf16) (ix2 ⟨t.val / 4 * 512 + r.val, by omega⟩ ⟨2048 + t.val % 4 * 512 + k.val, by omega⟩) := by
    blk_ext [iblk, idx t]
  rw [e]
  entry_read
  pointwise
  blk_ext

/-- The block a point writes is the reference's, entry by entry. -/
theorem point (c : Dev nD) (t : Fin cfg0.N) (r s : Fin 512) (p : Fin 16384) (q : Fin 2048)
    (hp : p.val = t.val / 4 * 512 + r.val) (hq : q.val = t.val % 4 * 512 + s.val) :
    k0_pay1 (F := Ideal) (iblk m c 0 t) (iblk m c 2 t) (iblk m c 1 t) (iblk m c 3 t) (iblk m c 4 t) (iblk m c 5 t)
        (ix2 r s)
    = REF (m ((c : Thread nD τ).loc main_arg0)) (m ((c : Thread nD τ).loc main_arg1)) (m ((c : Thread nD τ).loc main_arg2))
        (m ((c : Thread nD τ).loc main_arg3)) (m ((c : Thread nD τ).loc main_arg4)) (ix2 p q) := by
  have ht : t.val < 128 := lt_of_lt_of_eq t.isLt N_0
  pointwise [k0_pay1, REF,
    val_main_v0, val_main_v1, val_main_v2, val_main_v3, val_main_v4, val_main_v5, val_main_v6, val_main_v7,
    val_main_v8, val_main_v9, val_main_v10]
  refine congrArg₂ (fun s u : EReal => s + u)
    (Ideal.mul_congr (read_ga m c t _ _ _ _ _ ?_ ?_) (Finset.sum_congr rfl fun k _ =>
      Ideal.mul_congr (read_a m c t _ _ _ _ ?_) (read_wa m c t _ _ _ ?_)))
    (Ideal.mul_congr (read_gb m c t _ _ _ _ _ ?_ ?_) (Finset.sum_congr rfl fun k _ =>
      Ideal.mul_congr (read_o m c t _ _ _ _ ?_) (read_wo m c t _ _ _ ?_)))
  all_goals
    try dsimp only
    omega

/-- The merged array after the run is the reference's. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  have e := point m c t (y 0) (y 1) (((cfg0.win 6).blk t).view.emb y 0) (((cfg0.win 6).blk t).view.emb y 1)
    (by blk_simp [idx t]) (by blk_simp [idx t])
  blk_simp
  rw [after0_6]; frame_out
  exact (congrArg _ (eq_ix2 y)).trans (e.trans (congrArg _ (ix2_eta _)))

/-- Over the reals the merge kernel computes the reference's merge. -/
theorem algebraic : Cert.algebraic_MergeIdeal_MergeRefIdeal := by
  pair_intro
  · run_from Cert.MergeIdeal.Gen.run_main m g
  · run_from Cert.MergeRefIdeal.Value.run m' g'
    exact (final m c).symm

end Cert.MergeIdeal.Proved

end
-- ==== Proof.ScoresIdealRun.lean ====
module

public import proofs.«01_k».proof.Proof.Gen.ScoresIdeal.Launch
public import proofs.«01_k».proof.Proof.Gen.ScoresIdeal.Skeleton
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ScoresIdeal.Proved

open Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The page table, as the body is handed it. -/
abbrev pageTable : Memref sig .tc .smem S32x64 .i32 := Memref.whole main_arg0

/-- Half of the page table's buffer at contents `f`: the body may read it and not write it. -/
abbrev held (c : Dev nD) (f : Buf (Elt F) (pageTable.view.loc (c : Thread nD τ))) : sProp 𝕄 :=
  pageTable.view.loc (c : Thread nD τ) ↦{fullShare.right} f

theorem zero3 : (![0, 0, 0] : Fin 3 → ℕ) = fun _ => 0 := by decide
theorem zero2 : (![0, 0] : Fin 2 → ℕ) = fun _ => 0 := by decide

theorem ld_q {e : EltTy} (x : Vec F S1x64x64 e) (h) : View.ld x (Rect.unit (s := S1x64x64) ![0, 0, 0] ![1, 64, 64] h) = x :=
  View.ld_unit_zero (S := S1x64x64) zero3 h x
theorem ld_w {e : EltTy} (x : Vec F S1x64x128 e) (h) : View.ld x (Rect.unit (s := S1x64x128) ![0, 0, 0] ![1, 64, 128] h) = x :=
  View.ld_unit_zero (S := S1x64x128) zero3 h x
theorem ld_p {e : EltTy} (x : Vec F S128x64 e) (h) : View.ld x (Rect.unit (s := S128x64) ![0, 0] ![128, 64] h) = x :=
  View.ld_unit_zero (S := S128x64) zero2 h x

/-- What the body leaves in the block of scores: one tile of 128 lanes for each of the eight pages. -/
def tiles (x0 : Vec F S1x64x64 .bf16) (x1 : Vec F S1x64x128 .f32) (p0 : Vec F S128x64 .f32) (p1 : Vec F S128x64 .f32) (p2 : Vec F S128x64 .f32) (p3 : Vec F S128x64 .f32) (p4 : Vec F S128x64 .f32) (p5 : Vec F S128x64 .f32) (p6 : Vec F S128x64 .f32) (p7 : Vec F S128x64 .f32) : Vec F S1x4x1024 .f32 :=
  View.canon (Val := Elt F) (s := S1x4x1024) (e := .f32)
  [⟨Rect.unit (s := S1x4x1024) ![0, 0, 896] S1x4x128.size inb_S1x4x1024_S1x4x128_0_0_896, k0_pay1 (k0_pay13 (k0_pay2 x0) (k0_pay3 x1) p7)⟩,
   ⟨Rect.unit (s := S1x4x1024) ![0, 0, 768] S1x4x128.size inb_S1x4x1024_S1x4x128_0_0_768, k0_pay12 (k0_pay2 x0) (k0_pay3 x1) p6⟩,
   ⟨Rect.unit (s := S1x4x1024) ![0, 0, 640] S1x4x128.size inb_S1x4x1024_S1x4x128_0_0_640, k0_pay11 (k0_pay2 x0) (k0_pay3 x1) p5⟩,
   ⟨Rect.unit (s := S1x4x1024) ![0, 0, 512] S1x4x128.size inb_S1x4x1024_S1x4x128_0_0_512, k0_pay10 (k0_pay9 (k0_pay2 x0) (k0_pay3 x1) p4)⟩,
   ⟨Rect.unit (s := S1x4x1024) ![0, 0, 384] S1x4x128.size inb_S1x4x1024_S1x4x128_0_0_384, k0_pay8 (k0_pay2 x0) (k0_pay3 x1) p3⟩,
   ⟨Rect.unit (s := S1x4x1024) ![0, 0, 256] S1x4x128.size inb_S1x4x1024_S1x4x128_0_0_256, k0_pay7 (k0_pay2 x0) (k0_pay3 x1) p2⟩,
   ⟨Rect.unit (s := S1x4x1024) ![0, 0, 128] S1x4x128.size inb_S1x4x1024_S1x4x128_0_0_128, k0_pay6 x0 x1 p1⟩,
   ⟨Rect.unit (s := S1x4x1024) ![0, 0, 0] S1x4x128.size inb_S1x4x1024_S1x4x128_0_0_0, k0_pay5 x0 x1 p0⟩]

set_option maxHeartbeats 4000000 in
/-- At the first step of a batch entry the body also stores the scores of the new keys. -/
theorem runA (c : Dev nD) (i : grid0.Coords) (arg3 : Memref sig .tc .vmem S1x64x64 .bf16) (harg3 : arg3.IsWhole) (arg4 : Memref sig .tc .vmem S1x64x128 .f32) (harg4 : arg4.IsWhole) (arg5 : Memref sig .tc .vmem S1x64x128 .bf16) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x64 .f32) (harg13 : arg13.IsWhole) (arg14 : Memref sig .tc .vmem S1x4x1024 .f32) (harg14 : arg14.IsWhole) (arg15 : Memref sig .tc .vmem S1x4x128 .f32) (harg15 : arg15.IsWhole) (hc0 : k0_cond1 i = 1#1)
    (x0 : Vec F S1x64x64 .bf16) (x1 : Vec F S1x64x128 .f32) (x2 : Vec F S1x64x128 .bf16) (p0 : Vec F S128x64 .f32) (p1 : Vec F S128x64 .f32) (p2 : Vec F S128x64 .f32) (p3 : Vec F S128x64 .f32) (p4 : Vec F S128x64 .f32) (p5 : Vec F S128x64 .f32) (p6 : Vec F S128x64 .f32) (p7 : Vec F S128x64 .f32) (xt0 : Buf (Elt F) (pageTable.view.loc (c : Thread nD τ)))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare p0 ∗ owns (c : Thread nD τ) arg7 fullShare p1 ∗ owns (c : Thread nD τ) arg8 fullShare p2 ∗ owns (c : Thread nD τ) arg9 fullShare p3 ∗ owns (c : Thread nD τ) arg10 fullShare p4 ∗ owns (c : Thread nD τ) arg11 fullShare p5 ∗ owns (c : Thread nD τ) arg12 fullShare p6 ∗ owns (c : Thread nD τ) arg13 fullShare p7 ∗ (∃ d, owns (c : Thread nD τ) arg14 fullShare d) ∗ (∃ d, owns (c : Thread nD τ) arg15 fullShare d) ∗ held c xt0
        ∗ (iprop(owns (c : Thread nD τ) arg3 fullShare x0 ∗ owns (c : Thread nD τ) arg4 fullShare x1 ∗ owns (c : Thread nD τ) arg5 fullShare x2 ∗ owns (c : Thread nD τ) arg6 fullShare p0 ∗ owns (c : Thread nD τ) arg7 fullShare p1 ∗ owns (c : Thread nD τ) arg8 fullShare p2 ∗ owns (c : Thread nD τ) arg9 fullShare p3 ∗ owns (c : Thread nD τ) arg10 fullShare p4 ∗ owns (c : Thread nD τ) arg11 fullShare p5 ∗ owns (c : Thread nD τ) arg12 fullShare p6 ∗ owns (c : Thread nD τ) arg13 fullShare p7 ∗ owns (c : Thread nD τ) arg14 fullShare (tiles x0 x1 p0 p1 p2 p3 p4 p5 p6 p7) ∗ owns (c : Thread nD τ) arg15 fullShare (k0_pay4 x0 x1 x2) ∗ held c xt0) -∗ K ⟨⟩))
      ⊢ wp frame (wpE (defs₀ (F := F)) Variants.none c none) E (cc0__sample_score_kernel i pageTable (Memref.isWhole_whole _) arg3 harg3 arg4 harg4 arg5 harg5 arg6 harg6 arg7 harg7 arg8 harg8 arg9 harg9 arg10 harg10 arg11 harg11 arg12 harg12 arg13 harg13 arg14 harg14 arg15 harg15) K := by
  simp only [cc0__sample_score_kernel_eq_skeleton]; unfold cc0__sample_score_kernel_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr
    rotate_left
    · iexact H11
    · ipureintro
      refine (View.read_writes_eq_canon _ _ _ ?_).trans ?_
      rotate_left
      · sl_unfold_words
        simp only [View.readAt_eq_ld, Memref.IsWhole.read_unread, ld_q, ld_w, ld_p]
        rfl
      · intro y
        exact View.cover_of_tiledL (s := S1x4x1024) _ ![1, 4, 128] (by sl_kernel_rfl) y
  isplitl [H12]
  · iexists _; isplitr
    rotate_left
    · iexact H12
    · ipureintro
      refine (View.read_writes_eq_canon _ _ _ ?_).trans ?_
      rotate_left
      · sl_unfold_words
        simp only [View.readAt_eq_ld, Memref.IsWhole.read_unread, ld_q, ld_w, ld_p]
        exact View.canon_unit_zero (S := S1x4x128) zero3 _ _
      · intro y
        exact View.cover_of_tiledL (s := S1x4x128) _ ![1, 4, 128] (by sl_kernel_rfl) y
  iexact HT0

set_option maxHeartbeats 4000000 in
/-- At a later step the body leaves the scores of the new keys as it finds them. -/
theorem runB (c : Dev nD) (i : grid0.Coords) (arg3 : Memref sig .tc .vmem S1x64x64 .bf16) (harg3 : arg3.IsWhole) (arg4 : Memref sig .tc .vmem S1x64x128 .f32) (harg4 : arg4.IsWhole) (arg5 : Memref sig .tc .vmem S1x64x128 .bf16) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x64 .f32) (harg13 : arg13.IsWhole) (arg14 : Memref sig .tc .vmem S1x4x1024 .f32) (harg14 : arg14.IsWhole) (arg15 : Memref sig .tc .vmem S1x4x128 .f32) (harg15 : arg15.IsWhole) (hc0 : ¬ k0_cond1 i = 1#1)
    (x0 : Vec F S1x64x64 .bf16) (x1 : Vec F S1x64x128 .f32) (x2 : Vec F S1x64x128 .bf16) (p0 : Vec F S128x64 .f32) (p1 : Vec F S128x64 .f32) (p2 : Vec F S128x64 .f32) (p3 : Vec F S128x64 .f32) (p4 : Vec F S128x64 .f32) (p5 : Vec F S128x64 .f32) (p6 : Vec F S128x64 .f32) (p7 : Vec F S128x64 .f32) (d12 : Vec F S1x4x128 .f32) (xt0 : Buf (Elt F) (pageTable.view.loc (c : Thread nD τ)))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare p0 ∗ owns (c : Thread nD τ) arg7 fullShare p1 ∗ owns (c : Thread nD τ) arg8 fullShare p2 ∗ owns (c : Thread nD τ) arg9 fullShare p3 ∗ owns (c : Thread nD τ) arg10 fullShare p4 ∗ owns (c : Thread nD τ) arg11 fullShare p5 ∗ owns (c : Thread nD τ) arg12 fullShare p6 ∗ owns (c : Thread nD τ) arg13 fullShare p7 ∗ (∃ d, owns (c : Thread nD τ) arg14 fullShare d) ∗ owns (c : Thread nD τ) arg15 fullShare d12 ∗ held c xt0
        ∗ (iprop(owns (c : Thread nD τ) arg3 fullShare x0 ∗ owns (c : Thread nD τ) arg4 fullShare x1 ∗ owns (c : Thread nD τ) arg5 fullShare x2 ∗ owns (c : Thread nD τ) arg6 fullShare p0 ∗ owns (c : Thread nD τ) arg7 fullShare p1 ∗ owns (c : Thread nD τ) arg8 fullShare p2 ∗ owns (c : Thread nD τ) arg9 fullShare p3 ∗ owns (c : Thread nD τ) arg10 fullShare p4 ∗ owns (c : Thread nD τ) arg11 fullShare p5 ∗ owns (c : Thread nD τ) arg12 fullShare p6 ∗ owns (c : Thread nD τ) arg13 fullShare p7 ∗ owns (c : Thread nD τ) arg14 fullShare (tiles x0 x1 p0 p1 p2 p3 p4 p5 p6 p7) ∗ owns (c : Thread nD τ) arg15 fullShare d12 ∗ held c xt0) -∗ K ⟨⟩))
      ⊢ wp frame (wpE (defs₀ (F := F)) Variants.none c none) E (cc0__sample_score_kernel i pageTable (Memref.isWhole_whole _) arg3 harg3 arg4 harg4 arg5 harg5 arg6 harg6 arg7 harg7 arg8 harg8 arg9 harg9 arg10 harg10 arg11 harg11 arg12 harg12 arg13 harg13 arg14 harg14 arg15 harg15) K := by
  simp only [cc0__sample_score_kernel_eq_skeleton]; unfold cc0__sample_score_kernel_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hf12
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr
    rotate_left
    · iexact H11
    · ipureintro
      refine (View.read_writes_eq_canon _ _ _ ?_).trans ?_
      rotate_left
      · sl_unfold_words
        simp only [View.readAt_eq_ld, Memref.IsWhole.read_unread, ld_q, ld_w, ld_p]
        rfl
      · intro y
        exact View.cover_of_tiledL (s := S1x4x1024) _ ![1, 4, 128] (by sl_kernel_rfl) y
  isplitl [H12]
  · iexists _; isplitr; · ipureintro; exact harg15.read_unread _
    iexact H12
  iexact HT0

end Cert.ScoresIdeal.Proved

end
-- ==== Proof.ScoresIdealFrame.lean ====
module

public import proofs.«01_k».proof.Proof.Gen.ScoresIdeal.Launch
public import proofs.«01_k».proof.Proof.ScoresIdealRun
public import proofs.«01_k».proof.Proof.Gen.ScoresIdeal.Skeleton
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ScoresIdeal.Proved

open Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's part before the kernel -/

/-- The buffers of core `c` when the kernel starts: as launched, the host's operations run. -/
abbrev V (c : Dev nD) (b : Ref sig .tc) : Buf (Elt F) ((c : Thread nD τ).loc b) :=
  StableHlo.after (List.flatten [hostOps0, hostOps0_1, hostOps0_2]) (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor

set_option maxHeartbeats 800000 in
/-- The program up to the kernel runs the host's operations and reaches the kernel at `V`. -/
theorem to_kernel (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] ⟨hostOps0_sub, hostOps0_1_sub, hostOps0_2_sub⟩ ⟨fresh_0, fresh_1, fresh_2⟩ main_chain

/-- The host writes nothing into argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host writes nothing into argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host writes nothing into argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host writes nothing into argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host writes nothing into argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The page table -/

/-- The page table as the kernel finds it. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every page that the table names lies in the cache. -/
abbrev Ok : Prop := ok0 (F := F) (tbl m)
abbrev adm (hO : Ok m) : (pcfg0 (F := F)).Adm := ⟨tbl m, hO⟩
/-- The pipeline at the table's contents. -/
abbrev at_ (hO : Ok m) : Pipeline.Cfg sig Λ₀ := cfg0 (adm m hO)

theorem PhiT_eq (c : Dev nD) : (Pipeline.ΦT pre0 (tbl m) c : sProp 𝕄) = iprop(held c (tbl m 0)) := by
  unfold Pipeline.ΦT Pipeline.prefHeld
  rw [show (Finset.univ : Finset (Fin 1)) = {(0 : Fin 1)} from by decide, bigSep_singleton]
  rfl

/-! ## What the windows hold -/

/-- Window `w`'s block at step `t`, read off its array as the kernel finds it. -/
def iblk (hO : Ok m) (c : Dev nD) (w : Fin (at_ m hO).W) (t : Fin (at_ m hO).N) : (((at_ m hO).win w).xblock ((at_ m hO).grid.coords t)).Idx → Elt F ((at_ m hO).win w).elt :=
  (((at_ m hO).win w).blk t).view.read (Elt F) (V m c (Pipeline.arrRef spec0 w))

theorem before_0 (hO : Ok m) {c : Dev nD} (dat : Dat τ (Elt F) Unit ℕ (UR sig nD τ) ℕ (at_ m hO) c) (hA : dat.A 0 = V m c (Pipeline.arrRef spec0 0))
    (hafter : ∀ t, dat.after 0 t = iblk m hO c 0 t) (t : Fin (at_ m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1 (hO : Ok m) {c : Dev nD} (dat : Dat τ (Elt F) Unit ℕ (UR sig nD τ) ℕ (at_ m hO) c) (hA : dat.A 1 = V m c (Pipeline.arrRef spec0 1))
    (hafter : ∀ t, dat.after 1 t = iblk m hO c 1 t) (t : Fin (at_ m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2 (hO : Ok m) {c : Dev nD} (dat : Dat τ (Elt F) Unit ℕ (UR sig nD τ) ℕ (at_ m hO) c) (hA : dat.A 2 = V m c (Pipeline.arrRef spec0 2))
    (hafter : ∀ t, dat.after 2 t = iblk m hO c 2 t) (t : Fin (at_ m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3 (hO : Ok m) {c : Dev nD} (dat : Dat τ (Elt F) Unit ℕ (UR sig nD τ) ℕ (at_ m hO) c) (hA : dat.A 3 = V m c (Pipeline.arrRef spec0 3))
    (hafter : ∀ t, dat.after 3 t = iblk m hO c 3 t) (t : Fin (at_ m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4 (hO : Ok m) {c : Dev nD} (dat : Dat τ (Elt F) Unit ℕ (UR sig nD τ) ℕ (at_ m hO) c) (hA : dat.A 4 = V m c (Pipeline.arrRef spec0 4))
    (hafter : ∀ t, dat.after 4 t = iblk m hO c 4 t) (t : Fin (at_ m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5 (hO : Ok m) {c : Dev nD} (dat : Dat τ (Elt F) Unit ℕ (UR sig nD τ) ℕ (at_ m hO) c) (hA : dat.A 5 = V m c (Pipeline.arrRef spec0 5))
    (hafter : ∀ t, dat.after 5 t = iblk m hO c 5 t) (t : Fin (at_ m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6 (hO : Ok m) {c : Dev nD} (dat : Dat τ (Elt F) Unit ℕ (UR sig nD τ) ℕ (at_ m hO) c) (hA : dat.A 6 = V m c (Pipeline.arrRef spec0 6))
    (hafter : ∀ t, dat.after 6 t = iblk m hO c 6 t) (t : Fin (at_ m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7 (hO : Ok m) {c : Dev nD} (dat : Dat τ (Elt F) Unit ℕ (UR sig nD τ) ℕ (at_ m hO) c) (hA : dat.A 7 = V m c (Pipeline.arrRef spec0 7))
    (hafter : ∀ t, dat.after 7 t = iblk m hO c 7 t) (t : Fin (at_ m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before_8 (hO : Ok m) {c : Dev nD} (dat : Dat τ (Elt F) Unit ℕ (UR sig nD τ) ℕ (at_ m hO) c) (hA : dat.A 8 = V m c (Pipeline.arrRef spec0 8))
    (hafter : ∀ t, dat.after 8 t = iblk m hO c 8 t) (t : Fin (at_ m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before_9 (hO : Ok m) {c : Dev nD} (dat : Dat τ (Elt F) Unit ℕ (UR sig nD τ) ℕ (at_ m hO) c) (hA : dat.A 9 = V m c (Pipeline.arrRef spec0 9))
    (hafter : ∀ t, dat.after 9 t = iblk m hO c 9 t) (t : Fin (at_ m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before_10 (hO : Ok m) {c : Dev nD} (dat : Dat τ (Elt F) Unit ℕ (UR sig nD τ) ℕ (at_ m hO) c) (hA : dat.A 10 = V m c (Pipeline.arrRef spec0 10))
    (hafter : ∀ t, dat.after 10 t = iblk m hO c 10 t) (t : Fin (at_ m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- The first step of the batch entry that step `t` works on. -/
def rowStart (hO : Ok m) (t : Fin (at_ m hO).N) : Fin (at_ m hO).N := ⟨t.val / 8 * 8, lt_of_le_of_lt (Nat.div_mul_le_self _ _) t.isLt⟩

/-- The scores that step `t` leaves: of the eight pages that it was handed. -/
def pastBlock (hO : Ok m) (c : Dev nD) (t : Fin (at_ m hO).N) : Vec F S1x4x1024 .f32 :=
  tiles (iblk m hO c 0 t) (iblk m hO c 1 t) (iblk m hO c 3 t) (iblk m hO c 4 t) (iblk m hO c 5 t) (iblk m hO c 6 t) (iblk m hO c 7 t) (iblk m hO c 8 t) (iblk m hO c 9 t) (iblk m hO c 10 t)

/-- The scores of a batch entry's new keys, left by the first of the entry's steps. -/
def newBlock (hO : Ok m) (c : Dev nD) (t : Fin (at_ m hO).N) : Vec F S1x4x128 .f32 :=
  k0_pay4 (iblk m hO c 0 (rowStart m hO t)) (iblk m hO c 1 (rowStart m hO t)) (iblk m hO c 2 (rowStart m hO t))

/-- The branch of the body is taken at the first step of each batch entry. -/
theorem cond_iff : ∀ t : Fin grid0.N, k0_cond1 (grid0.coords t) = 1#1 ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [k0_cond1, e0, e1]
    word_cmp)

theorem flush_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 2 (fun _ => rfl) (by decide)) (P := 1) (m := 0) (by decide) rfl t).mpr (Nat.mod_one _) : ∀ t : Fin grid0.N, Pipeline.Window.flushOf grid0 true cc0_transform_11 t = true)

theorem flush_12 (a : (pcfg0 (F := F)).Adm) : ∀ t : Fin (cfg0 a).N, ((cfg0 a).win 12).flush t = true ↔ t.val % 8 = 7 :=
  (fun t => Pipeline.Window.flushOf_reads cc0_transform_12 reads0_12 hreads0_12 0 (by decide) (by decide) (Pipeline.Window.sep_of_coord cc0_transform_12 0 0 (fun _ => rfl) (by decide)) (P := 8) (m := 7) (by decide) rfl t : ∀ t : Fin grid0.N, Pipeline.Window.flushOf grid0 true cc0_transform_12 t = true ↔ t.val % 8 = 7)

/-! ## The body at every step -/

/-- The two windows whose contents the body names. -/
def outs : Fin 13 → Bool := fun w => w.val == 11 || w.val == 12

/-- What the body leaves in the two outputs. -/
def Left (hO : Ok m) (c : Dev nD) (w : Fin (at_ m hO).W) (t : Fin (at_ m hO).N) (X : ((at_ m hO).win w).block.Idx → Elt F ((at_ m hO).win w).elt) : Prop :=
  match w, X with
  | ⟨11, _⟩, X => X = pastBlock m hO c t
  | ⟨12, _⟩, X => X = newBlock m hO c t
  | _, _ => True

/-- The arrays as the kernel finds them, and what each step leaves in the input windows. -/
def dats (hO : Ok m) (_ : Fin 1) (c : Dev nD) : Dat τ (Elt F) Unit ℕ (UR sig nD τ) ℕ (at_ m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, h⟩ => Pipeline.Dat.unnamed (cfg := (at_ m hO)) ⟨11, h⟩ t
    | ⟨12, h⟩ => Pipeline.Dat.unnamed (cfg := (at_ m hO)) ⟨12, h⟩ t
  Φ _ := iprop(Pipeline.ΦA spec0 c ∗ Pipeline.ΦT pre0 (tbl m) c)
  q w := Pipeline.shareOf spec0 w
  owed _ := 0

theorem A_eq (hO : Ok m) (c : Dev nD) (w : Fin (at_ m hO).W) : (dats m hO 0 c).A w = V m c (Pipeline.arrRef spec0 w) := by
  dsimp only [dats]

abbrev rdat (hO : Ok m) (c : Dev nD) : RDat τ (Elt F) Unit ℕ (UR sig nD τ) ℕ (at_ m hO) c := (dats m hO 0 c).toRRel outs (Left m hO c)

theorem after_0 (hO : Ok m) (c : Dev nD) (t : Fin (at_ m hO).N) : (dats m hO 0 c).after 0 t = iblk m hO c 0 t := by dsimp only [dats]; try rfl
theorem found_0 (hO : Ok m) (c : Dev nD) (t : Fin (at_ m hO).N) (d) : (dats m hO 0 c).before 0 t d = iblk m hO c 0 t :=
  before_0 m hO (dats m hO 0 c) (A_eq m hO c 0) (after_0 m hO c) t d
theorem after_1 (hO : Ok m) (c : Dev nD) (t : Fin (at_ m hO).N) : (dats m hO 0 c).after 1 t = iblk m hO c 1 t := by dsimp only [dats]; try rfl
theorem found_1 (hO : Ok m) (c : Dev nD) (t : Fin (at_ m hO).N) (d) : (dats m hO 0 c).before 1 t d = iblk m hO c 1 t :=
  before_1 m hO (dats m hO 0 c) (A_eq m hO c 1) (after_1 m hO c) t d
theorem after_2 (hO : Ok m) (c : Dev nD) (t : Fin (at_ m hO).N) : (dats m hO 0 c).after 2 t = iblk m hO c 2 t := by dsimp only [dats]; try rfl
theorem found_2 (hO : Ok m) (c : Dev nD) (t : Fin (at_ m hO).N) (d) : (dats m hO 0 c).before 2 t d = iblk m hO c 2 t :=
  before_2 m hO (dats m hO 0 c) (A_eq m hO c 2) (after_2 m hO c) t d
theorem after_3 (hO : Ok m) (c : Dev nD) (t : Fin (at_ m hO).N) : (dats m hO 0 c).after 3 t = iblk m hO c 3 t := by dsimp only [dats]; try rfl
theorem found_3 (hO : Ok m) (c : Dev nD) (t : Fin (at_ m hO).N) (d) : (dats m hO 0 c).before 3 t d = iblk m hO c 3 t :=
  before_3 m hO (dats m hO 0 c) (A_eq m hO c 3) (after_3 m hO c) t d
theorem after_4 (hO : Ok m) (c : Dev nD) (t : Fin (at_ m hO).N) : (dats m hO 0 c).after 4 t = iblk m hO c 4 t := by dsimp only [dats]; try rfl
theorem found_4 (hO : Ok m) (c : Dev nD) (t : Fin (at_ m hO).N) (d) : (dats m hO 0 c).before 4 t d = iblk m hO c 4 t :=
  before_4 m hO (dats m hO 0 c) (A_eq m hO c 4) (after_4 m hO c) t d
theorem after_5 (hO : Ok m) (c : Dev nD) (t : Fin (at_ m hO).N) : (dats m hO 0 c).after 5 t = iblk m hO c 5 t := by dsimp only [dats]; try rfl
theorem found_5 (hO : Ok m) (c : Dev nD) (t : Fin (at_ m hO).N) (d) : (dats m hO 0 c).before 5 t d = iblk m hO c 5 t :=
  before_5 m hO (dats m hO 0 c) (A_eq m hO c 5) (after_5 m hO c) t d
theorem after_6 (hO : Ok m) (c : Dev nD) (t : Fin (at_ m hO).N) : (dats m hO 0 c).after 6 t = iblk m hO c 6 t := by dsimp only [dats]; try rfl
theorem found_6 (hO : Ok m) (c : Dev nD) (t : Fin (at_ m hO).N) (d) : (dats m hO 0 c).before 6 t d = iblk m hO c 6 t :=
  before_6 m hO (dats m hO 0 c) (A_eq m hO c 6) (after_6 m hO c) t d
theorem after_7 (hO : Ok m) (c : Dev nD) (t : Fin (at_ m hO).N) : (dats m hO 0 c).after 7 t = iblk m hO c 7 t := by dsimp only [dats]; try rfl
theorem found_7 (hO : Ok m) (c : Dev nD) (t : Fin (at_ m hO).N) (d) : (dats m hO 0 c).before 7 t d = iblk m hO c 7 t :=
  before_7 m hO (dats m hO 0 c) (A_eq m hO c 7) (after_7 m hO c) t d
theorem after_8 (hO : Ok m) (c : Dev nD) (t : Fin (at_ m hO).N) : (dats m hO 0 c).after 8 t = iblk m hO c 8 t := by dsimp only [dats]; try rfl
theorem found_8 (hO : Ok m) (c : Dev nD) (t : Fin (at_ m hO).N) (d) : (dats m hO 0 c).before 8 t d = iblk m hO c 8 t :=
  before_8 m hO (dats m hO 0 c) (A_eq m hO c 8) (after_8 m hO c) t d
theorem after_9 (hO : Ok m) (c : Dev nD) (t : Fin (at_ m hO).N) : (dats m hO 0 c).after 9 t = iblk m hO c 9 t := by dsimp only [dats]; try rfl
theorem found_9 (hO : Ok m) (c : Dev nD) (t : Fin (at_ m hO).N) (d) : (dats m hO 0 c).before 9 t d = iblk m hO c 9 t :=
  before_9 m hO (dats m hO 0 c) (A_eq m hO c 9) (after_9 m hO c) t d
theorem after_10 (hO : Ok m) (c : Dev nD) (t : Fin (at_ m hO).N) : (dats m hO 0 c).after 10 t = iblk m hO c 10 t := by dsimp only [dats]; try rfl
theorem found_10 (hO : Ok m) (c : Dev nD) (t : Fin (at_ m hO).N) (d) : (dats m hO 0 c).before 10 t d = iblk m hO c 10 t :=
  before_10 m hO (dats m hO 0 c) (A_eq m hO c 10) (after_10 m hO c) t d
abbrev stg0 (hO : Ok m) (t : Fin (at_ m hO).N) : Memref sig .tc .vmem S1x64x64 .bf16 := spec0_0.stage ((at_ m hO).slots t 0)
abbrev wh0 (hO : Ok m) (t : Fin (at_ m hO).N) : (stg0 m hO t).IsWhole := hstage0_0 (((at_ m hO).slots t 0).cast nbuf0_0)
abbrev stg1 (hO : Ok m) (t : Fin (at_ m hO).N) : Memref sig .tc .vmem S1x64x128 .f32 := spec0_1.stage ((at_ m hO).slots t 1)
abbrev wh1 (hO : Ok m) (t : Fin (at_ m hO).N) : (stg1 m hO t).IsWhole := hstage0_1 (((at_ m hO).slots t 1).cast nbuf0_1)
abbrev stg2 (hO : Ok m) (t : Fin (at_ m hO).N) : Memref sig .tc .vmem S1x64x128 .bf16 := spec0_2.stage ((at_ m hO).slots t 2)
abbrev wh2 (hO : Ok m) (t : Fin (at_ m hO).N) : (stg2 m hO t).IsWhole := hstage0_2 (((at_ m hO).slots t 2).cast nbuf0_2)
abbrev stg3 (hO : Ok m) (t : Fin (at_ m hO).N) : Memref sig .tc .vmem S128x64 .f32 := spec0_3.stage ((at_ m hO).slots t 3)
abbrev wh3 (hO : Ok m) (t : Fin (at_ m hO).N) : (stg3 m hO t).IsWhole := hstage0_3 (((at_ m hO).slots t 3).cast nbuf0_3)
abbrev stg4 (hO : Ok m) (t : Fin (at_ m hO).N) : Memref sig .tc .vmem S128x64 .f32 := spec0_4.stage ((at_ m hO).slots t 4)
abbrev wh4 (hO : Ok m) (t : Fin (at_ m hO).N) : (stg4 m hO t).IsWhole := hstage0_4 (((at_ m hO).slots t 4).cast nbuf0_4)
abbrev stg5 (hO : Ok m) (t : Fin (at_ m hO).N) : Memref sig .tc .vmem S128x64 .f32 := spec0_5.stage ((at_ m hO).slots t 5)
abbrev wh5 (hO : Ok m) (t : Fin (at_ m hO).N) : (stg5 m hO t).IsWhole := hstage0_5 (((at_ m hO).slots t 5).cast nbuf0_5)
abbrev stg6 (hO : Ok m) (t : Fin (at_ m hO).N) : Memref sig .tc .vmem S128x64 .f32 := spec0_6.stage ((at_ m hO).slots t 6)
abbrev wh6 (hO : Ok m) (t : Fin (at_ m hO).N) : (stg6 m hO t).IsWhole := hstage0_6 (((at_ m hO).slots t 6).cast nbuf0_6)
abbrev stg7 (hO : Ok m) (t : Fin (at_ m hO).N) : Memref sig .tc .vmem S128x64 .f32 := spec0_7.stage ((at_ m hO).slots t 7)
abbrev wh7 (hO : Ok m) (t : Fin (at_ m hO).N) : (stg7 m hO t).IsWhole := hstage0_7 (((at_ m hO).slots t 7).cast nbuf0_7)
abbrev stg8 (hO : Ok m) (t : Fin (at_ m hO).N) : Memref sig .tc .vmem S128x64 .f32 := spec0_8.stage ((at_ m hO).slots t 8)
abbrev wh8 (hO : Ok m) (t : Fin (at_ m hO).N) : (stg8 m hO t).IsWhole := hstage0_8 (((at_ m hO).slots t 8).cast nbuf0_8)
abbrev stg9 (hO : Ok m) (t : Fin (at_ m hO).N) : Memref sig .tc .vmem S128x64 .f32 := spec0_9.stage ((at_ m hO).slots t 9)
abbrev wh9 (hO : Ok m) (t : Fin (at_ m hO).N) : (stg9 m hO t).IsWhole := hstage0_9 (((at_ m hO).slots t 9).cast nbuf0_9)
abbrev stg10 (hO : Ok m) (t : Fin (at_ m hO).N) : Memref sig .tc .vmem S128x64 .f32 := spec0_10.stage ((at_ m hO).slots t 10)
abbrev wh10 (hO : Ok m) (t : Fin (at_ m hO).N) : (stg10 m hO t).IsWhole := hstage0_10 (((at_ m hO).slots t 10).cast nbuf0_10)
abbrev stg11 (hO : Ok m) (t : Fin (at_ m hO).N) : Memref sig .tc .vmem S1x4x1024 .f32 := spec0_11.stage ((at_ m hO).slots t 11)
abbrev wh11 (hO : Ok m) (t : Fin (at_ m hO).N) : (stg11 m hO t).IsWhole := hstage0_11 (((at_ m hO).slots t 11).cast nbuf0_11)
abbrev stg12 (hO : Ok m) (t : Fin (at_ m hO).N) : Memref sig .tc .vmem S1x4x128 .f32 := spec0_12.stage ((at_ m hO).slots t 12)
abbrev wh12 (hO : Ok m) (t : Fin (at_ m hO).N) : (stg12 m hO t).IsWhole := hstage0_12 (((at_ m hO).slots t 12).cast nbuf0_12)

abbrev bodyAt (hO : Ok m) (t : Fin (at_ m hO).N) : Prog (TpuEff nD τ sig (Elt F) Λ₀ .tc) PUnit :=
  cc0__sample_score_kernel (grid0.coords t) pageTable (Memref.isWhole_whole _) (stg0 m hO t) (wh0 m hO t) (stg1 m hO t) (wh1 m hO t) (stg2 m hO t) (wh2 m hO t) (stg3 m hO t) (wh3 m hO t) (stg4 m hO t) (wh4 m hO t) (stg5 m hO t) (wh5 m hO t) (stg6 m hO t) (wh6 m hO t) (stg7 m hO t) (wh7 m hO t) (stg8 m hO t) (wh8 m hO t) (stg9 m hO t) (wh9 m hO t) (stg10 m hO t) (wh10 m hO t) (stg11 m hO t) (wh11 m hO t) (stg12 m hO t) (wh12 m hO t)

/-- After the first step of a batch entry the body finds, in the block of the new keys' scores, what that step left. -/
theorem finds_new (hO : Ok m) (c : Dev nD) (t : Fin (at_ m hO).N) (h0 : ¬ t.val % 8 = 0) (Y : Vec F S1x4x128 .f32)
    (h : (rdat m hO c).Finds 12 t Y) : Y = newBlock m hO c t := by
  unfold RDat.Finds at h
  rw [if_neg (by rw [Pipeline.Window.fetch_out _ rfl]; exact Bool.false_ne_true), if_neg (by omega)] at h
  have hlt : t.val - 1 < (at_ m hO).N := by have := t.isLt; omega
  rw [if_neg (fun hf => by have := (flush_12 (adm m hO) ⟨t.val - 1, hlt⟩).mp hf; simp only at this; omega)] at h
  obtain ⟨Y', -, hY⟩ := h
  rw [(dats m hO 0 c).toRRel_after_of_eq_true (w := 12) rfl] at hY
  have hY : Y = newBlock m hO c ⟨t.val - 1, hlt⟩ := hY
  rw [hY]; unfold newBlock
  rw [show rowStart m hO ⟨t.val - 1, hlt⟩ = rowStart m hO t from Fin.ext (by unfold rowStart; simp only; omega)]

/-- What the body is handed at step `t`. -/
def bodyPre (hO : Ok m) (c : Dev nD) (t : Fin (at_ m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d)) ∗ (∃ d, owns (c : Thread nD τ) (stg1 m hO t) fullShare ((dats m hO 0 c).before 1 t d)) ∗ (∃ d, owns (c : Thread nD τ) (stg2 m hO t) fullShare ((dats m hO 0 c).before 2 t d)) ∗ (∃ d, owns (c : Thread nD τ) (stg3 m hO t) fullShare ((dats m hO 0 c).before 3 t d)) ∗ (∃ d, owns (c : Thread nD τ) (stg4 m hO t) fullShare ((dats m hO 0 c).before 4 t d)) ∗ (∃ d, owns (c : Thread nD τ) (stg5 m hO t) fullShare ((dats m hO 0 c).before 5 t d)) ∗ (∃ d, owns (c : Thread nD τ) (stg6 m hO t) fullShare ((dats m hO 0 c).before 6 t d)) ∗ (∃ d, owns (c : Thread nD τ) (stg7 m hO t) fullShare ((dats m hO 0 c).before 7 t d)) ∗ (∃ d, owns (c : Thread nD τ) (stg8 m hO t) fullShare ((dats m hO 0 c).before 8 t d)) ∗ (∃ d, owns (c : Thread nD τ) (stg9 m hO t) fullShare ((dats m hO 0 c).before 9 t d)) ∗ (∃ d, owns (c : Thread nD τ) (stg10 m hO t) fullShare ((dats m hO 0 c).before 10 t d))
    ∗ (∃ Y, ⌜(rdat m hO c).Finds 11 t Y⌝ ∗ owns (c : Thread nD τ) (stg11 m hO t) fullShare Y) ∗ (∃ Y, ⌜(rdat m hO c).Finds 12 t Y⌝ ∗ owns (c : Thread nD τ) (stg12 m hO t) fullShare Y))

/-- What it gives back. -/
def bodyPost (hO : Ok m) (c : Dev nD) (t : Fin (at_ m hO).N) : sProp 𝕄 :=
  iprop((dats m hO 0 c).Φ t.succ ∗ (dats m hO 0 c).owesAt () t.succ
    ∗ owns (c : Thread nD τ) (stg0 m hO t) fullShare ((dats m hO 0 c).after 0 t) ∗ owns (c : Thread nD τ) (stg1 m hO t) fullShare ((dats m hO 0 c).after 1 t) ∗ owns (c : Thread nD τ) (stg2 m hO t) fullShare ((dats m hO 0 c).after 2 t) ∗ owns (c : Thread nD τ) (stg3 m hO t) fullShare ((dats m hO 0 c).after 3 t) ∗ owns (c : Thread nD τ) (stg4 m hO t) fullShare ((dats m hO 0 c).after 4 t) ∗ owns (c : Thread nD τ) (stg5 m hO t) fullShare ((dats m hO 0 c).after 5 t) ∗ owns (c : Thread nD τ) (stg6 m hO t) fullShare ((dats m hO 0 c).after 6 t) ∗ owns (c : Thread nD τ) (stg7 m hO t) fullShare ((dats m hO 0 c).after 7 t) ∗ owns (c : Thread nD τ) (stg8 m hO t) fullShare ((dats m hO 0 c).after 8 t) ∗ owns (c : Thread nD τ) (stg9 m hO t) fullShare ((dats m hO 0 c).after 9 t) ∗ owns (c : Thread nD τ) (stg10 m hO t) fullShare ((dats m hO 0 c).after 10 t)
    ∗ (∃ X, ⌜Left m hO c 11 t X⌝ ∗ owns (c : Thread nD τ) (stg11 m hO t) fullShare X) ∗ (∃ X, ⌜Left m hO c 12 t X⌝ ∗ owns (c : Thread nD τ) (stg12 m hO t) fullShare X))

set_option maxHeartbeats 2400000 in
/-- The body takes the one to the other at every step. -/
theorem body_at (hO : Ok m) (c : Dev nD) (t : Fin (at_ m hO).N) :
    bodyPre m hO c t ⊢ wp frame (wpE (defs₀ (F := F)) Variants.none c none) Set.univ (bodyAt m hO t) (fun _ => bodyPost m hO c t) := by
  unfold bodyPre bodyPost bodyAt
  simp only [found_0, found_1, found_2, found_3, found_4, found_5, found_6, found_7, found_8, found_9, found_10, after_0, after_1, after_2, after_3, after_4, after_5, after_6, after_7, after_8, after_9, after_10]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT_eq]
  by_cases h0 : t.val % 8 = 0
  · iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, %hd12, H12⟩⟩
    iapply (runA c (grid0.coords t) _ _ _ _ _ _ _ _ _ _ _ _ _ _ _ _ _ _ _ _ _ _ _ _ _ _ ((cond_iff t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HT0]; · iexact HT0
    iintro ⟨H0, H1, H2, H3, H4, H5, H6, H7, H8, H9, H10, H11, H12, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr
      rotate_left
      · iexact H11
      · ipureintro; exact rfl
    iexists _; isplitr
    rotate_left
    · iexact H12
    · ipureintro
      show _ = newBlock m hO c t
      unfold newBlock
      rw [show rowStart m hO t = t from Fin.ext (by unfold rowStart; simp only; omega)]
  · iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, %hd12, H12⟩⟩
    iapply (runB c (grid0.coords t) _ _ _ _ _ _ _ _ _ _ _ _ _ _ _ _ _ _ _ _ _ _ _ _ _ _ (fun h => h0 ((cond_iff t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) _ (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [HT0]; · iexact HT0
    iintro ⟨H0, H1, H2, H3, H4, H5, H6, H7, H8, H9, H10, H11, H12, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr
      rotate_left
      · iexact H11
      · ipureintro; exact rfl
    iexists _; isplitr
    rotate_left
    · iexact H12
    · ipureintro
      exact finds_new m hO c t h0 d12 hd12

theorem body_row (hO : Ok m) (t : Fin (at_ m hO).N) :
    defs₀ (F := F) .tc (at_ m hO).body ((at_ m hO).bodyArgs t ((at_ m hO).slots t)) = bodyAt m hO t := by
  unfold defs₀; rw [Defs.onTc_tc]

theorem body_holds (hO : Ok m) (c : Dev nD) : Pipeline.BodyObligationRel (dats (F := F) m hO 0 c) (defs₀ (F := F)) Variants.none () Set.univ outs (Left m hO c) := fun t => by
  rw [bigSep_W0, bigSep_W0, body_row m hO]
  exact triple_restated (body_at m hO c t) rfl .rfl fun _ => .rfl

/-! ## The run -/

set_option backward.isDefEq.respectTransparency.types false in
/-- The program terminates; its inputs are unchanged, and the outputs hold what `Left` says. -/
theorem run (hO : Ok m) : θ_run defs (onTc (τ := τ) (main (F := F))) (s₀ m ρ) (fun r => RDat.FramePost ((Pipeline.pin pcfgs fun _ => adm m hO) 0) (fun c => rdat m hO c) (V m) r ∧ r.2.sem = fun _ => 0) :=
  RDat.θ_run_frameP_track_shared (Q' := _) pcfgs (fun _ => adm m hO) (0 : Fin 1) launch₀0 defs₀ Variants.none (fun c => rdat m hO c) m ρ main
    (hbody := fun c => (body_holds m hO c).toRRel) (hq := fun _ _ _ => rfl)
    (howed := fun _ _ => rfl) (V := V m) (hmain := to_kernel m Variants.none) (hA := A_eq m hO) (hpf := V_pre m)
    (hin := fun _ => .rfl) (hout := fun c => by
      show iprop(Pipeline.ΦA spec0 c ∗ Pipeline.ΦT pre0 (tbl m) c) ⊢ Pipeline.ΦA spec0 c
      iintro ⟨H, -⟩; iexact H)

/-- Every run ends, with the arguments as launched and no semaphore raised. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c)⟩, h.2⟩) (run m ρ hO)

end Cert.ScoresIdeal.Proved

end
-- ==== Proof.ScoresIdealTable.lean ====
module

public import proofs.«01_k».proof.Proof.ScoresIdealFrame
public import proofs.«01_k».proof.Proof.Gen.Pre_table_in_range
public import Idealize.ShloMosaic.Lib.Pointwise

/-!
# The page table

Which page a grid step's block index map names, and that every page a table of the declared range names lies in the
cache.
-/

@[expose] public section

set_option maxRecDepth 16384

noncomputable section

namespace Cert.ScoresIdeal.Proved

open Cert.ScoresIdeal.Gen
open Idealize.ShloMosaic Idealize.ShloMosaic.TcCoe
open Idealize.ShloMosaic.Pipeline (Dat RDat Cfg Window cellOf)

variable {F : FTy → Type} [FloatOps F]
variable (m : (ℓ : Loc nD τ sig) → Buf (Elt F) ℓ)

theorem andi_one (a b : BitVec 1) : IntOp.andi a b = 1#1 ↔ a = 1#1 ∧ b = 1#1 := by
  revert a b; decide

theorem ofBool_one (p : Bool) : BitVec.ofBool p = 1#1 ↔ p = true := by
  cases p <;> decide

/-- The lane of the page table that grid step `(n, s)` reads for its `u`-th page. -/
theorem lane : ∀ (s : Fin 8) (u : Fin 8), (Scalar.addi (Scalar.muli (BitVec.ofNat 32 s.val) 8#32) (BitVec.ofNat 32 u.val)).toNat = 8 * s.val + u.val := by
  decide

theorem row : ∀ n : Fin 32, (BitVec.ofNat 32 n.val).toNat = n.val := by decide

/-- The words of a table in range are below the number of pages. -/
theorem word_lt (x : IVec Cert.Pre_table_in_range.S32x64 32) (x1 : FVec F Cert.Pre_table_in_range.S32x4x16x64 .f32)
    (x2 : FVec F Cert.Pre_table_in_range.S32x4x64 .f32) (x3 : FVec F Cert.Pre_table_in_range.S32x4x16 .f32)
    (x4 : FVec F Cert.Pre_table_in_range.S1x2560x128x64 .f32)
    (h : Cert.Pre_table_in_range.fn (F := F) x x1 x2 x3 x4 = fun _ => 1#1) (y : Cert.Pre_table_in_range.S32x64.Idx) :
    (x y).toNat < 2560 := by
  have pre := congrFun h y
  simp only [Cert.Pre_table_in_range.fn, constantI, broadcastInDim, cmpi, andi, andi_one] at pre
  obtain ⟨h0, h1⟩ := pre
  simp only [ofBool_one, IntOp.cmpi, BitVec.sle, BitVec.slt, decide_eq_true_eq, BitVec.toInt, BitVec.toNat_ofNat] at h0 h1
  omega

theorem page_0 (pf : pre0.Contents (Elt F)) (i : grid0.Coords) (h : 8 * (i 1).val + 0 < 64) :
    cc0_transform_3 k0_off1_inb numel1_S1x1 pf i = ![(show BitVec 32 from pf 0 (ix2 ⟨(i 0).val, (i 0).isLt⟩ ⟨8 * (i 1).val + 0, h⟩)).toNat, 0] := by
  have e : (Rect.unit (s := S32x64) ![(Scalar.indexCast (BitVec.ofNat 32 (i 0).val)).toNat, (Scalar.indexCast (Scalar.addi (Scalar.muli (BitVec.ofNat 32 (i 1).val) 8#32) 0#32)).toNat] S1x1.size (k0_off1_inb i 0)).emb (Shape.Idx.first (Nat.lt_of_lt_of_eq Nat.one_pos numel1_S1x1.symm))
      = ix2 ⟨(i 0).val, (i 0).isLt⟩ ⟨8 * (i 1).val + 0, h⟩ := by
    funext a
    refine Fin.ext ?_
    rw [Rect.emb_apply]
    match a with
    | ⟨0, _⟩ => exact (congrArg (fun n => n + 0 * 1) (row (i 0)))
    | ⟨1, _⟩ => exact (congrArg (fun n => n + 0 * 1) (lane (i 1) 0))
  funext a
  match a with
  | ⟨0, _⟩ => exact congrArg (fun y => (show BitVec 32 from pf 0 y).toNat) e
  | ⟨1, _⟩ => rfl

theorem page_1 (pf : pre0.Contents (Elt F)) (i : grid0.Coords) (h : 8 * (i 1).val + 1 < 64) :
    cc0_transform_4 k0_off1_inb numel1_S1x1 pf i = ![(show BitVec 32 from pf 0 (ix2 ⟨(i 0).val, (i 0).isLt⟩ ⟨8 * (i 1).val + 1, h⟩)).toNat, 0] := by
  have e : (Rect.unit (s := S32x64) ![(Scalar.indexCast (BitVec.ofNat 32 (i 0).val)).toNat, (Scalar.indexCast (Scalar.addi (Scalar.muli (BitVec.ofNat 32 (i 1).val) 8#32) 1#32)).toNat] S1x1.size (k0_off1_inb i 1)).emb (Shape.Idx.first (Nat.lt_of_lt_of_eq Nat.one_pos numel1_S1x1.symm))
      = ix2 ⟨(i 0).val, (i 0).isLt⟩ ⟨8 * (i 1).val + 1, h⟩ := by
    funext a
    refine Fin.ext ?_
    rw [Rect.emb_apply]
    match a with
    | ⟨0, _⟩ => exact (congrArg (fun n => n + 0 * 1) (row (i 0)))
    | ⟨1, _⟩ => exact (congrArg (fun n => n + 0 * 1) (lane (i 1) 1))
  funext a
  match a with
  | ⟨0, _⟩ => exact congrArg (fun y => (show BitVec 32 from pf 0 y).toNat) e
  | ⟨1, _⟩ => rfl

theorem page_2 (pf : pre0.Contents (Elt F)) (i : grid0.Coords) (h : 8 * (i 1).val + 2 < 64) :
    cc0_transform_5 k0_off1_inb numel1_S1x1 pf i = ![(show BitVec 32 from pf 0 (ix2 ⟨(i 0).val, (i 0).isLt⟩ ⟨8 * (i 1).val + 2, h⟩)).toNat, 0] := by
  have e : (Rect.unit (s := S32x64) ![(Scalar.indexCast (BitVec.ofNat 32 (i 0).val)).toNat, (Scalar.indexCast (Scalar.addi (Scalar.muli (BitVec.ofNat 32 (i 1).val) 8#32) 2#32)).toNat] S1x1.size (k0_off1_inb i 2)).emb (Shape.Idx.first (Nat.lt_of_lt_of_eq Nat.one_pos numel1_S1x1.symm))
      = ix2 ⟨(i 0).val, (i 0).isLt⟩ ⟨8 * (i 1).val + 2, h⟩ := by
    funext a
    refine Fin.ext ?_
    rw [Rect.emb_apply]
    match a with
    | ⟨0, _⟩ => exact (congrArg (fun n => n + 0 * 1) (row (i 0)))
    | ⟨1, _⟩ => exact (congrArg (fun n => n + 0 * 1) (lane (i 1) 2))
  funext a
  match a with
  | ⟨0, _⟩ => exact congrArg (fun y => (show BitVec 32 from pf 0 y).toNat) e
  | ⟨1, _⟩ => rfl

theorem page_3 (pf : pre0.Contents (Elt F)) (i : grid0.Coords) (h : 8 * (i 1).val + 3 < 64) :
    cc0_transform_6 k0_off1_inb numel1_S1x1 pf i = ![(show BitVec 32 from pf 0 (ix2 ⟨(i 0).val, (i 0).isLt⟩ ⟨8 * (i 1).val + 3, h⟩)).toNat, 0] := by
  have e : (Rect.unit (s := S32x64) ![(Scalar.indexCast (BitVec.ofNat 32 (i 0).val)).toNat, (Scalar.indexCast (Scalar.addi (Scalar.muli (BitVec.ofNat 32 (i 1).val) 8#32) 3#32)).toNat] S1x1.size (k0_off1_inb i 3)).emb (Shape.Idx.first (Nat.lt_of_lt_of_eq Nat.one_pos numel1_S1x1.symm))
      = ix2 ⟨(i 0).val, (i 0).isLt⟩ ⟨8 * (i 1).val + 3, h⟩ := by
    funext a
    refine Fin.ext ?_
    rw [Rect.emb_apply]
    match a with
    | ⟨0, _⟩ => exact (congrArg (fun n => n + 0 * 1) (row (i 0)))
    | ⟨1, _⟩ => exact (congrArg (fun n => n + 0 * 1) (lane (i 1) 3))
  funext a
  match a with
  | ⟨0, _⟩ => exact congrArg (fun y => (show BitVec 32 from pf 0 y).toNat) e
  | ⟨1, _⟩ => rfl

theorem page_4 (pf : pre0.Contents (Elt F)) (i : grid0.Coords) (h : 8 * (i 1).val + 4 < 64) :
    cc0_transform_7 k0_off1_inb numel1_S1x1 pf i = ![(show BitVec 32 from pf 0 (ix2 ⟨(i 0).val, (i 0).isLt⟩ ⟨8 * (i 1).val + 4, h⟩)).toNat, 0] := by
  have e : (Rect.unit (s := S32x64) ![(Scalar.indexCast (BitVec.ofNat 32 (i 0).val)).toNat, (Scalar.indexCast (Scalar.addi (Scalar.muli (BitVec.ofNat 32 (i 1).val) 8#32) 4#32)).toNat] S1x1.size (k0_off1_inb i 4)).emb (Shape.Idx.first (Nat.lt_of_lt_of_eq Nat.one_pos numel1_S1x1.symm))
      = ix2 ⟨(i 0).val, (i 0).isLt⟩ ⟨8 * (i 1).val + 4, h⟩ := by
    funext a
    refine Fin.ext ?_
    rw [Rect.emb_apply]
    match a with
    | ⟨0, _⟩ => exact (congrArg (fun n => n + 0 * 1) (row (i 0)))
    | ⟨1, _⟩ => exact (congrArg (fun n => n + 0 * 1) (lane (i 1) 4))
  funext a
  match a with
  | ⟨0, _⟩ => exact congrArg (fun y => (show BitVec 32 from pf 0 y).toNat) e
  | ⟨1, _⟩ => rfl

theorem page_5 (pf : pre0.Contents (Elt F)) (i : grid0.Coords) (h : 8 * (i 1).val + 5 < 64) :
    cc0_transform_8 k0_off1_inb numel1_S1x1 pf i = ![(show BitVec 32 from pf 0 (ix2 ⟨(i 0).val, (i 0).isLt⟩ ⟨8 * (i 1).val + 5, h⟩)).toNat, 0] := by
  have e : (Rect.unit (s := S32x64) ![(Scalar.indexCast (BitVec.ofNat 32 (i 0).val)).toNat, (Scalar.indexCast (Scalar.addi (Scalar.muli (BitVec.ofNat 32 (i 1).val) 8#32) 5#32)).toNat] S1x1.size (k0_off1_inb i 5)).emb (Shape.Idx.first (Nat.lt_of_lt_of_eq Nat.one_pos numel1_S1x1.symm))
      = ix2 ⟨(i 0).val, (i 0).isLt⟩ ⟨8 * (i 1).val + 5, h⟩ := by
    funext a
    refine Fin.ext ?_
    rw [Rect.emb_apply]
    match a with
    | ⟨0, _⟩ => exact (congrArg (fun n => n + 0 * 1) (row (i 0)))
    | ⟨1, _⟩ => exact (congrArg (fun n => n + 0 * 1) (lane (i 1) 5))
  funext a
  match a with
  | ⟨0, _⟩ => exact congrArg (fun y => (show BitVec 32 from pf 0 y).toNat) e
  | ⟨1, _⟩ => rfl

theorem page_6 (pf : pre0.Contents (Elt F)) (i : grid0.Coords) (h : 8 * (i 1).val + 6 < 64) :
    cc0_transform_9 k0_off1_inb numel1_S1x1 pf i = ![(show BitVec 32 from pf 0 (ix2 ⟨(i 0).val, (i 0).isLt⟩ ⟨8 * (i 1).val + 6, h⟩)).toNat, 0] := by
  have e : (Rect.unit (s := S32x64) ![(Scalar.indexCast (BitVec.ofNat 32 (i 0).val)).toNat, (Scalar.indexCast (Scalar.addi (Scalar.muli (BitVec.ofNat 32 (i 1).val) 8#32) 6#32)).toNat] S1x1.size (k0_off1_inb i 6)).emb (Shape.Idx.first (Nat.lt_of_lt_of_eq Nat.one_pos numel1_S1x1.symm))
      = ix2 ⟨(i 0).val, (i 0).isLt⟩ ⟨8 * (i 1).val + 6, h⟩ := by
    funext a
    refine Fin.ext ?_
    rw [Rect.emb_apply]
    match a with
    | ⟨0, _⟩ => exact (congrArg (fun n => n + 0 * 1) (row (i 0)))
    | ⟨1, _⟩ => exact (congrArg (fun n => n + 0 * 1) (lane (i 1) 6))
  funext a
  match a with
  | ⟨0, _⟩ => exact congrArg (fun y => (show BitVec 32 from pf 0 y).toNat) e
  | ⟨1, _⟩ => rfl

theorem page_7 (pf : pre0.Contents (Elt F)) (i : grid0.Coords) (h : 8 * (i 1).val + 7 < 64) :
    cc0_transform_10 k0_off1_inb numel1_S1x1 pf i = ![(show BitVec 32 from pf 0 (ix2 ⟨(i 0).val, (i 0).isLt⟩ ⟨8 * (i 1).val + 7, h⟩)).toNat, 0] := by
  have e : (Rect.unit (s := S32x64) ![(Scalar.indexCast (BitVec.ofNat 32 (i 0).val)).toNat, (Scalar.indexCast (Scalar.addi (Scalar.muli (BitVec.ofNat 32 (i 1).val) 8#32) 7#32)).toNat] S1x1.size (k0_off1_inb i 7)).emb (Shape.Idx.first (Nat.lt_of_lt_of_eq Nat.one_pos numel1_S1x1.symm))
      = ix2 ⟨(i 0).val, (i 0).isLt⟩ ⟨8 * (i 1).val + 7, h⟩ := by
    funext a
    refine Fin.ext ?_
    rw [Rect.emb_apply]
    match a with
    | ⟨0, _⟩ => exact (congrArg (fun n => n + 0 * 1) (row (i 0)))
    | ⟨1, _⟩ => exact (congrArg (fun n => n + 0 * 1) (lane (i 1) 7))
  funext a
  match a with
  | ⟨0, _⟩ => exact congrArg (fun y => (show BitVec 32 from pf 0 y).toNat) e
  | ⟨1, _⟩ => rfl

/-- A table whose words are below the number of pages names pages inside the cache. -/
theorem ok_of_lt (h : ∀ y, (show BitVec 32 from tbl m 0 y).toNat < 2560) : Ok m :=
  ⟨fun i => ⟨fun a => by
      have hi : 8 * (i 1).val + 0 < 64 := by have : (i 1).val < 8 := (i 1).isLt; omega
      rw [page_0 (tbl m) i hi]
      match a with
      | ⟨0, _⟩ =>
        have := h (ix2 ⟨(i 0).val, (i 0).isLt⟩ ⟨8 * (i 1).val + 0, hi⟩)
        show ((show BitVec 32 from tbl m 0 (ix2 ⟨(i 0).val, (i 0).isLt⟩ ⟨8 * (i 1).val + 0, hi⟩)).toNat + 1) * 128 ≤ 327680
        omega
      | ⟨1, _⟩ => show (0 + 1) * 64 ≤ 64; decide, Or.inl rfl⟩,
   fun i => ⟨fun a => by
      have hi : 8 * (i 1).val + 1 < 64 := by have : (i 1).val < 8 := (i 1).isLt; omega
      rw [page_1 (tbl m) i hi]
      match a with
      | ⟨0, _⟩ =>
        have := h (ix2 ⟨(i 0).val, (i 0).isLt⟩ ⟨8 * (i 1).val + 1, hi⟩)
        show ((show BitVec 32 from tbl m 0 (ix2 ⟨(i 0).val, (i 0).isLt⟩ ⟨8 * (i 1).val + 1, hi⟩)).toNat + 1) * 128 ≤ 327680
        omega
      | ⟨1, _⟩ => show (0 + 1) * 64 ≤ 64; decide, Or.inl rfl⟩,
   fun i => ⟨fun a => by
      have hi : 8 * (i 1).val + 2 < 64 := by have : (i 1).val < 8 := (i 1).isLt; omega
      rw [page_2 (tbl m) i hi]
      match a with
      | ⟨0, _⟩ =>
        have := h (ix2 ⟨(i 0).val, (i 0).isLt⟩ ⟨8 * (i 1).val + 2, hi⟩)
        show ((show BitVec 32 from tbl m 0 (ix2 ⟨(i 0).val, (i 0).isLt⟩ ⟨8 * (i 1).val + 2, hi⟩)).toNat + 1) * 128 ≤ 327680
        omega
      | ⟨1, _⟩ => show (0 + 1) * 64 ≤ 64; decide, Or.inl rfl⟩,
   fun i => ⟨fun a => by
      have hi : 8 * (i 1).val + 3 < 64 := by have : (i 1).val < 8 := (i 1).isLt; omega
      rw [page_3 (tbl m) i hi]
      match a with
      | ⟨0, _⟩ =>
        have := h (ix2 ⟨(i 0).val, (i 0).isLt⟩ ⟨8 * (i 1).val + 3, hi⟩)
        show ((show BitVec 32 from tbl m 0 (ix2 ⟨(i 0).val, (i 0).isLt⟩ ⟨8 * (i 1).val + 3, hi⟩)).toNat + 1) * 128 ≤ 327680
        omega
      | ⟨1, _⟩ => show (0 + 1) * 64 ≤ 64; decide, Or.inl rfl⟩,
   fun i => ⟨fun a => by
      have hi : 8 * (i 1).val + 4 < 64 := by have : (i 1).val < 8 := (i 1).isLt; omega
      rw [page_4 (tbl m) i hi]
      match a with
      | ⟨0, _⟩ =>
        have := h (ix2 ⟨(i 0).val, (i 0).isLt⟩ ⟨8 * (i 1).val + 4, hi⟩)
        show ((show BitVec 32 from tbl m 0 (ix2 ⟨(i 0).val, (i 0).isLt⟩ ⟨8 * (i 1).val + 4, hi⟩)).toNat + 1) * 128 ≤ 327680
        omega
      | ⟨1, _⟩ => show (0 + 1) * 64 ≤ 64; decide, Or.inl rfl⟩,
   fun i => ⟨fun a => by
      have hi : 8 * (i 1).val + 5 < 64 := by have : (i 1).val < 8 := (i 1).isLt; omega
      rw [page_5 (tbl m) i hi]
      match a with
      | ⟨0, _⟩ =>
        have := h (ix2 ⟨(i 0).val, (i 0).isLt⟩ ⟨8 * (i 1).val + 5, hi⟩)
        show ((show BitVec 32 from tbl m 0 (ix2 ⟨(i 0).val, (i 0).isLt⟩ ⟨8 * (i 1).val + 5, hi⟩)).toNat + 1) * 128 ≤ 327680
        omega
      | ⟨1, _⟩ => show (0 + 1) * 64 ≤ 64; decide, Or.inl rfl⟩,
   fun i => ⟨fun a => by
      have hi : 8 * (i 1).val + 6 < 64 := by have : (i 1).val < 8 := (i 1).isLt; omega
      rw [page_6 (tbl m) i hi]
      match a with
      | ⟨0, _⟩ =>
        have := h (ix2 ⟨(i 0).val, (i 0).isLt⟩ ⟨8 * (i 1).val + 6, hi⟩)
        show ((show BitVec 32 from tbl m 0 (ix2 ⟨(i 0).val, (i 0).isLt⟩ ⟨8 * (i 1).val + 6, hi⟩)).toNat + 1) * 128 ≤ 327680
        omega
      | ⟨1, _⟩ => show (0 + 1) * 64 ≤ 64; decide, Or.inl rfl⟩,
   fun i => ⟨fun a => by
      have hi : 8 * (i 1).val + 7 < 64 := by have : (i 1).val < 8 := (i 1).isLt; omega
      rw [page_7 (tbl m) i hi]
      match a with
      | ⟨0, _⟩ =>
        have := h (ix2 ⟨(i 0).val, (i 0).isLt⟩ ⟨8 * (i 1).val + 7, hi⟩)
        show ((show BitVec 32 from tbl m 0 (ix2 ⟨(i 0).val, (i 0).isLt⟩ ⟨8 * (i 1).val + 7, hi⟩)).toNat + 1) * 128 ≤ 327680
        omega
      | ⟨1, _⟩ => show (0 + 1) * 64 ≤ 64; decide, Or.inl rfl⟩⟩

theorem tbl_eq : (tbl m 0 : IVec S32x64 32) = (m (((0 : Dev nD) : Thread nD τ).loc main_arg0) : IVec S32x64 32) := V_arg0 m 0

end Cert.ScoresIdeal.Proved

end
-- ==== Proof.ScoresIdealTile.lean ====
module

public import proofs.«01_k».proof.Defs
public import proofs.«01_k».proof.Proof.ScoresIdealTable
public import proofs.«01_k».proof.Proof.Gen.ScoresRefIdeal.Run
public import proofs.«01_k».proof.Proof.Gen.ScoresRefIdeal.Read
public import Idealize.ShloMosaic.Lib.Pipeline.ValueKit
public import Idealize.ShloMosaic.Lib.Pointwise
public import Idealize.ShloMosaic.Lib.Claim

/-!
# The scores of one page, and of the new keys

What the blocks hold that a grid step is handed, in the launch's own arrays, and what the body makes of them.
-/

@[expose] public section

set_option maxRecDepth 16384

noncomputable section

namespace Cert.ScoresIdeal.Proved

open Cert.ScoresIdeal.Gen Cert.ScoresRefIdeal.Read
open Idealize.ShloMosaic Idealize.ShloMosaic.TcCoe Idealize.SL.Sem
open Idealize.ShloMosaic.Pipeline (Dat RDat Cfg Window cellOf)

variable (m : (ℓ : Loc nD τ sig) → Buf (Elt Ideal) ℓ)

/-- The grid's steps: batch entries vary slowly, groups of eight pages fast. -/
theorem coords_eq : ∀ t : Fin grid0.N, (grid0.coords t 0).val = t.val / 8 ∧ (grid0.coords t 1).val = t.val % 8 := by
  decide +kernel

theorem idxQ : ∀ t : Fin grid0.N, cc0_transform_0 (grid0.coords t) = ![t.val / 8, 0, 0] := by decide +kernel

/-- One score tile's entry: the weighted sum over the heads of the positive parts of the head's product with the key. -/
def scoreOf (q : Fin 16 → Fin 64 → EReal) (w : Fin 16 → EReal) (k : Fin 64 → EReal) : EReal :=
  ∑ h : Fin 16, max (∑ d : Fin 64, q h d * k d) 0 * w h

/-- A page's tile: row `s`, lane `l` is the score of query row `s` against the page's key `l`. -/
theorem page_tile (x0 : FVec Ideal S1x64x64 .bf16) (x1 : FVec Ideal S1x64x128 .f32) (p : FVec Ideal S128x64 .f32) (s : Fin 4) (l : Fin 128) :
    k0_pay5 (F := Ideal) x0 x1 p (ix3 (0 : Fin 1) s l)
      = scoreOf (fun h d => x0 (ix3 (0 : Fin 1) ⟨s.val * 16 + h.val, by omega⟩ d)) (fun h => x1 (ix3 (0 : Fin 1) ⟨s.val * 16 + h.val, by omega⟩ l)) (fun d => p (ix2 l d)) := by
  unfold scoreOf
  pointwise [k0_pay5, k0_pay2, k0_pay3]

/-- The new keys' tile. -/
theorem new_tile (x0 : FVec Ideal S1x64x64 .bf16) (x1 : FVec Ideal S1x64x128 .f32) (p : FVec Ideal S1x64x128 .bf16) (s : Fin 4) (l : Fin 128) :
    k0_pay4 (F := Ideal) x0 x1 p (ix3 (0 : Fin 1) s l)
      = scoreOf (fun h d => x0 (ix3 (0 : Fin 1) ⟨s.val * 16 + h.val, by omega⟩ d)) (fun h => x1 (ix3 (0 : Fin 1) ⟨s.val * 16 + h.val, by omega⟩ l)) (fun d => p (ix3 (0 : Fin 1) d l)) := by
  unfold scoreOf
  pointwise [k0_pay4, k0_pay2, k0_pay3]

/-- The block of scores: lane `g` lies in page `g / 128`, at its key `g % 128`. -/
theorem tiles_apply (x0 : FVec Ideal S1x64x64 .bf16) (x1 : FVec Ideal S1x64x128 .f32) (p : Fin 8 → FVec Ideal S128x64 .f32) (s : Fin 4) (g : Fin 1024) :
    tiles (F := Ideal) x0 x1 (p 0) (p 1) (p 2) (p 3) (p 4) (p 5) (p 6) (p 7) (ix3 (0 : Fin 1) s g)
      = k0_pay5 (F := Ideal) x0 x1 (p ⟨g.val / 128, by omega⟩) (ix3 (0 : Fin 1) s ⟨g.val % 128, by omega⟩) := by
  have key : ∀ (u : Fin 8) (x : S1x4x128.Idx) (h1 : s.val = (x 1).val) (h2 : g.val = 128 * u.val + (x 2).val),
      k0_pay5 (F := Ideal) x0 x1 (p u) x = k0_pay5 (F := Ideal) x0 x1 (p ⟨g.val / 128, by omega⟩) (ix3 (0 : Fin 1) s ⟨g.val % 128, by omega⟩) := by
    intro u x h1 h2
    have hx : (x 2).val < 128 := (x 2).isLt
    have hu : u = ⟨g.val / 128, by omega⟩ := Fin.ext (by show u.val = g.val / 128; omega)
    have he : x = ix3 (0 : Fin 1) s ⟨g.val % 128, by omega⟩ := by
      funext a
      match a with
      | ⟨0, _⟩ => exact Fin.ext (by have : (x 0).val < 1 := (x 0).isLt; show (x 0).val = 0; omega)
      | ⟨1, _⟩ => exact Fin.ext h1.symm
      | ⟨2, _⟩ => exact Fin.ext (by show (x 2).val = g.val % 128; omega)
    exact congr (congrArg (k0_pay5 (F := Ideal) x0 x1) (congrArg p hu)) he
  unfold tiles
  canon_tiles x hx
  · exact key 7 x hx1 (by have e : g.val = 896 + (x 2).val := hx2; omega)
  · exact key 6 x hx1 (by have e : g.val = 768 + (x 2).val := hx2; omega)
  · exact key 5 x hx1 (by have e : g.val = 640 + (x 2).val := hx2; omega)
  · exact key 4 x hx1 (by have e : g.val = 512 + (x 2).val := hx2; omega)
  · exact key 3 x hx1 (by have e : g.val = 384 + (x 2).val := hx2; omega)
  · exact key 2 x hx1 (by have e : g.val = 256 + (x 2).val := hx2; omega)
  · exact key 1 x hx1 (by have e : g.val = 128 + (x 2).val := hx2; omega)
  · exact key 0 x hx1 (by have e : g.val = (x 2).val := hx2; omega)

end Cert.ScoresIdeal.Proved

end
-- ==== Proof.ScoresIdealRead.lean ====
module

public import proofs.«01_k».proof.Proof.ScoresIdealTile

/-!
# What a grid step is handed

The blocks of queries, of weights, of new keys and of the eight pages, entry by entry, in the launch's own arrays.
-/

@[expose] public section

set_option maxRecDepth 16384

noncomputable section

namespace Cert.ScoresIdeal.Proved

open Cert.ScoresIdeal.Gen Cert.ScoresRefIdeal.Read
open Idealize.ShloMosaic Idealize.ShloMosaic.TcCoe Idealize.SL.Sem
open Idealize.ShloMosaic.Pipeline (Dat RDat Cfg Window cellOf)

variable (m : (ℓ : Loc nD τ sig) → Buf (Elt Ideal) ℓ)

/-- The queries as rows of one block per batch entry. -/
def queryRows (x : FVec Ideal S32x4x16x64 .f32) : FVec Ideal S32x64x64 .bf16 :=
  shapeCast S32x64x64 (truncf (F := Ideal) .bf16 x bitsLt_bf16_f32) shapeCasts_S32x4x16x64_S32x64x64

/-- The heads' weights, scaled, one per query row, repeated along the lanes. -/
def weightRows (x : FVec Ideal S32x4x16 .f32) : FVec Ideal S32x64x128 .f32 :=
  broadcastInDim S32x64x128 ![0, 1, 2] bcast_S32x64x1_S32x64x128_0_1_2 (shapeCast S32x64x1 (mulf (F := Ideal) x
    (broadcastInDim S32x4x16 ![] bcast_S_S32x4x16 (constant (F := Ideal) S_ .f32 0x3E000000#32))) shapeCasts_S32x4x16_S32x64x1)

/-- The new keys, transposed, with lanes of zeros behind them. -/
def newKeys (x : FVec Ideal S32x4x64 .f32) : FVec Ideal S32x64x128 .bf16 :=
  truncf (F := Ideal) .bf16 (pad S32x64x128 ![0, 0, 0] ![0, 0, 124] ![0, 0, 0]
    (transpose S32x64x4 [0, 2, 1] x transposes_S32x4x64_S32x64x4_0_2_1) (sitofp (F := Ideal) .f32 (constantI S_ 32 0#32)) pads_S32x64x4_S32x64x128_000_000_01240 h_S_) bitsLt_bf16_f32

/-- The cache as one long list of keys. -/
def keyRows (x : FVec Ideal S1x2560x128x64 .f32) : FVec Ideal S327680x64 .f32 :=
  shapeCast S327680x64 (shapeCast S2560x128x64 x shapeCasts_S1x2560x128x64_S2560x128x64) shapeCasts_S2560x128x64_S327680x64

theorem host_q (c : Dev nD) : (V m c main_v3 : FVec Ideal S32x64x64 .bf16) = queryRows (m ((c : Thread nD τ).loc main_arg1)) := by
  rfl
theorem host_w (c : Dev nD) : (V m c main_v7 : FVec Ideal S32x64x128 .f32) = weightRows (m ((c : Thread nD τ).loc main_arg3)) := by
  rfl
theorem host_k (c : Dev nD) : (V m c main_v10 : FVec Ideal S32x64x128 .bf16) = newKeys (m ((c : Thread nD τ).loc main_arg2)) := by
  rfl
theorem host_p (c : Dev nD) : (V m c main_v1 : FVec Ideal S327680x64 .f32) = keyRows (m ((c : Thread nD τ).loc main_arg4)) := by
  rfl

/-- Row `s * 16 + h` of the block of queries is head `h` of query `s` of the step's batch entry. -/
theorem read_q (hO : Ok m) (c : Dev nD) (t : Fin (at_ m hO).N) (n : Fin 32) (s : Fin 4) (h : Fin 16) (d : Fin 64) (hn : n.val = t.val / 8) :
    (iblk m hO c 0 t : FVec Ideal S1x64x64 .bf16) (ix3 0 ⟨s.val * 16 + h.val, by omega⟩ d)
      = (m ((c : Thread nD τ).loc main_arg1) : FVec Ideal S32x4x16x64 .f32) (ix4 n s h d) := by
  have e : (iblk m hO c 0 t : FVec Ideal S1x64x64 .bf16) (ix3 0 ⟨s.val * 16 + h.val, by omega⟩ d)
      = (V m c main_v3 : FVec Ideal S32x64x64 .bf16) (ix3 n ⟨s.val * 16 + h.val, by omega⟩ d) := by
    have hi : ((at_ m hO).win 0).index t = ![n.val, 0, 0] := by rw [hn]; exact idxQ t
    blk_ext [iblk, hi]
  rw [e, host_q]
  pointwise [queryRows]
  blk_ext

/-- A head's weight times the scale of the scores. -/
def scaled (x : FVec Ideal S32x4x16 .f32) (n : Fin 32) (s : Fin 4) (h : Fin 16) : EReal :=
  x (ix3 n s h) * Ideal.ofBits .f32 0x3E000000#32

/-- Coordinate `d` of new key `l`, and zero past the fourth. -/
def newKey (x : FVec Ideal S32x4x64 .f32) (n : Fin 32) (l : Fin 128) (d : Fin 64) : EReal :=
  if h : l.val < 4 then x (ix3 n ⟨l.val, h⟩ d) else 0

theorem sitofp_zero : (FloatOps.sitofp (F := Ideal) .f32 0#32 : EReal) = 0 := by
  show (((0#32).toInt : ℝ) : EReal) = 0
  simp

/-- The weight of head `h` of query `s`, scaled, on every lane. -/
theorem read_w (hO : Ok m) (c : Dev nD) (t : Fin (at_ m hO).N) (n : Fin 32) (s : Fin 4) (h : Fin 16) (l : Fin 128) (hn : n.val = t.val / 8) :
    (iblk m hO c 1 t : FVec Ideal S1x64x128 .f32) (ix3 0 ⟨s.val * 16 + h.val, by omega⟩ l)
      = scaled (m ((c : Thread nD τ).loc main_arg3)) n s h := by
  have e : (iblk m hO c 1 t : FVec Ideal S1x64x128 .f32) (ix3 0 ⟨s.val * 16 + h.val, by omega⟩ l)
      = (V m c main_v7 : FVec Ideal S32x64x128 .f32) (ix3 n ⟨s.val * 16 + h.val, by omega⟩ l) := by
    have hi : ((at_ m hO).win 1).index t = ![n.val, 0, 0] := by rw [hn]; exact idxQ t
    blk_ext [iblk, hi]
  rw [e, host_w]
  unfold scaled
  pointwise [weightRows]
  blk_ext

/-- The new keys, one per lane; zero on the lanes behind them. -/
theorem read_k (hO : Ok m) (c : Dev nD) (t : Fin (at_ m hO).N) (n : Fin 32) (d : Fin 64) (l : Fin 128) (hn : n.val = t.val / 8) :
    (iblk m hO c 2 t : FVec Ideal S1x64x128 .bf16) (ix3 0 d l)
      = newKey (m ((c : Thread nD τ).loc main_arg2)) n l d := by
  have e : (iblk m hO c 2 t : FVec Ideal S1x64x128 .bf16) (ix3 0 d l)
      = (V m c main_v10 : FVec Ideal S32x64x128 .bf16) (ix3 n d l) := by
    have hi : ((at_ m hO).win 2).index t = ![n.val, 0, 0] := by rw [hn]; exact idxQ t
    blk_ext [iblk, hi]
  rw [e, host_k]
  unfold newKey
  pointwise [newKeys]
  split
  · rfl
  · exact sitofp_zero

/-- Page 0 of the step: key `l` of the page that the table names. -/
theorem read_p0 (hO : Ok m) (c : Dev nD) (t : Fin (at_ m hO).N) (n : Fin 32) (g : Fin 64) (hn : n.val = t.val / 8) (hg : g.val = 8 * (t.val % 8) + 0)
    (w : Fin 2560) (hw : w.val = (show BitVec 32 from tbl m 0 (ix2 n g)).toNat) (l : Fin 128) (d : Fin 64) :
    (iblk m hO c 3 t : FVec Ideal S128x64 .f32) (ix2 l d)
      = (m ((c : Thread nD τ).loc main_arg4) : FVec Ideal S1x2560x128x64 .f32) (ix4 0 w l d) := by
  have hi : ((at_ m hO).win 3).index t = ![w.val, 0] := by
    have hb : 8 * (grid0.coords t 1).val + 0 < 64 := by rw [(coords_eq t).2, ← hg]; exact g.isLt
    rw [hw]
    refine (page_0 (tbl m) (grid0.coords t) hb).trans ?_
    exact congrArg (fun y : S32x64.Idx => ![(show BitVec 32 from tbl m 0 y).toNat, 0])
      (congr (congrArg ix2 (Fin.ext ((coords_eq t).1.trans hn.symm))) (Fin.ext (by
        show 8 * (grid0.coords t 1).val + 0 = g.val
        rw [(coords_eq t).2, ← hg])))
  have e : (iblk m hO c 3 t : FVec Ideal S128x64 .f32) (ix2 l d)
      = (V m c main_v1 : FVec Ideal S327680x64 .f32) (ix2 ⟨w.val * 128 + l.val, by omega⟩ d) := by
    blk_ext [iblk, hi]
  rw [e, host_p]
  pointwise [keyRows]
  blk_ext

/-- Page 1 of the step: key `l` of the page that the table names. -/
theorem read_p1 (hO : Ok m) (c : Dev nD) (t : Fin (at_ m hO).N) (n : Fin 32) (g : Fin 64) (hn : n.val = t.val / 8) (hg : g.val = 8 * (t.val % 8) + 1)
    (w : Fin 2560) (hw : w.val = (show BitVec 32 from tbl m 0 (ix2 n g)).toNat) (l : Fin 128) (d : Fin 64) :
    (iblk m hO c 4 t : FVec Ideal S128x64 .f32) (ix2 l d)
      = (m ((c : Thread nD τ).loc main_arg4) : FVec Ideal S1x2560x128x64 .f32) (ix4 0 w l d) := by
  have hi : ((at_ m hO).win 4).index t = ![w.val, 0] := by
    have hb : 8 * (grid0.coords t 1).val + 1 < 64 := by rw [(coords_eq t).2, ← hg]; exact g.isLt
    rw [hw]
    refine (page_1 (tbl m) (grid0.coords t) hb).trans ?_
    exact congrArg (fun y : S32x64.Idx => ![(show BitVec 32 from tbl m 0 y).toNat, 0])
      (congr (congrArg ix2 (Fin.ext ((coords_eq t).1.trans hn.symm))) (Fin.ext (by
        show 8 * (grid0.coords t 1).val + 1 = g.val
        rw [(coords_eq t).2, ← hg])))
  have e : (iblk m hO c 4 t : FVec Ideal S128x64 .f32) (ix2 l d)
      = (V m c main_v1 : FVec Ideal S327680x64 .f32) (ix2 ⟨w.val * 128 + l.val, by omega⟩ d) := by
    blk_ext [iblk, hi]
  rw [e, host_p]
  pointwise [keyRows]
  blk_ext

/-- Page 2 of the step: key `l` of the page that the table names. -/
theorem read_p2 (hO : Ok m) (c : Dev nD) (t : Fin (at_ m hO).N) (n : Fin 32) (g : Fin 64) (hn : n.val = t.val / 8) (hg : g.val = 8 * (t.val % 8) + 2)
    (w : Fin 2560) (hw : w.val = (show BitVec 32 from tbl m 0 (ix2 n g)).toNat) (l : Fin 128) (d : Fin 64) :
    (iblk m hO c 5 t : FVec Ideal S128x64 .f32) (ix2 l d)
      = (m ((c : Thread nD τ).loc main_arg4) : FVec Ideal S1x2560x128x64 .f32) (ix4 0 w l d) := by
  have hi : ((at_ m hO).win 5).index t = ![w.val, 0] := by
    have hb : 8 * (grid0.coords t 1).val + 2 < 64 := by rw [(coords_eq t).2, ← hg]; exact g.isLt
    rw [hw]
    refine (page_2 (tbl m) (grid0.coords t) hb).trans ?_
    exact congrArg (fun y : S32x64.Idx => ![(show BitVec 32 from tbl m 0 y).toNat, 0])
      (congr (congrArg ix2 (Fin.ext ((coords_eq t).1.trans hn.symm))) (Fin.ext (by
        show 8 * (grid0.coords t 1).val + 2 = g.val
        rw [(coords_eq t).2, ← hg])))
  have e : (iblk m hO c 5 t : FVec Ideal S128x64 .f32) (ix2 l d)
      = (V m c main_v1 : FVec Ideal S327680x64 .f32) (ix2 ⟨w.val * 128 + l.val, by omega⟩ d) := by
    blk_ext [iblk, hi]
  rw [e, host_p]
  pointwise [keyRows]
  blk_ext

/-- Page 3 of the step: key `l` of the page that the table names. -/
theorem read_p3 (hO : Ok m) (c : Dev nD) (t : Fin (at_ m hO).N) (n : Fin 32) (g : Fin 64) (hn : n.val = t.val / 8) (hg : g.val = 8 * (t.val % 8) + 3)
    (w : Fin 2560) (hw : w.val = (show BitVec 32 from tbl m 0 (ix2 n g)).toNat) (l : Fin 128) (d : Fin 64) :
    (iblk m hO c 6 t : FVec Ideal S128x64 .f32) (ix2 l d)
      = (m ((c : Thread nD τ).loc main_arg4) : FVec Ideal S1x2560x128x64 .f32) (ix4 0 w l d) := by
  have hi : ((at_ m hO).win 6).index t = ![w.val, 0] := by
    have hb : 8 * (grid0.coords t 1).val + 3 < 64 := by rw [(coords_eq t).2, ← hg]; exact g.isLt
    rw [hw]
    refine (page_3 (tbl m) (grid0.coords t) hb).trans ?_
    exact congrArg (fun y : S32x64.Idx => ![(show BitVec 32 from tbl m 0 y).toNat, 0])
      (congr (congrArg ix2 (Fin.ext ((coords_eq t).1.trans hn.symm))) (Fin.ext (by
        show 8 * (grid0.coords t 1).val + 3 = g.val
        rw [(coords_eq t).2, ← hg])))
  have e : (iblk m hO c 6 t : FVec Ideal S128x64 .f32) (ix2 l d)
      = (V m c main_v1 : FVec Ideal S327680x64 .f32) (ix2 ⟨w.val * 128 + l.val, by omega⟩ d) := by
    blk_ext [iblk, hi]
  rw [e, host_p]
  pointwise [keyRows]
  blk_ext

/-- Page 4 of the step: key `l` of the page that the table names. -/
theorem read_p4 (hO : Ok m) (c : Dev nD) (t : Fin (at_ m hO).N) (n : Fin 32) (g : Fin 64) (hn : n.val = t.val / 8) (hg : g.val = 8 * (t.val % 8) + 4)
    (w : Fin 2560) (hw : w.val = (show BitVec 32 from tbl m 0 (ix2 n g)).toNat) (l : Fin 128) (d : Fin 64) :
    (iblk m hO c 7 t : FVec Ideal S128x64 .f32) (ix2 l d)
      = (m ((c : Thread nD τ).loc main_arg4) : FVec Ideal S1x2560x128x64 .f32) (ix4 0 w l d) := by
  have hi : ((at_ m hO).win 7).index t = ![w.val, 0] := by
    have hb : 8 * (grid0.coords t 1).val + 4 < 64 := by rw [(coords_eq t).2, ← hg]; exact g.isLt
    rw [hw]
    refine (page_4 (tbl m) (grid0.coords t) hb).trans ?_
    exact congrArg (fun y : S32x64.Idx => ![(show BitVec 32 from tbl m 0 y).toNat, 0])
      (congr (congrArg ix2 (Fin.ext ((coords_eq t).1.trans hn.symm))) (Fin.ext (by
        show 8 * (grid0.coords t 1).val + 4 = g.val
        rw [(coords_eq t).2, ← hg])))
  have e : (iblk m hO c 7 t : FVec Ideal S128x64 .f32) (ix2 l d)
      = (V m c main_v1 : FVec Ideal S327680x64 .f32) (ix2 ⟨w.val * 128 + l.val, by omega⟩ d) := by
    blk_ext [iblk, hi]
  rw [e, host_p]
  pointwise [keyRows]
  blk_ext

/-- Page 5 of the step: key `l` of the page that the table names. -/
theorem read_p5 (hO : Ok m) (c : Dev nD) (t : Fin (at_ m hO).N) (n : Fin 32) (g : Fin 64) (hn : n.val = t.val / 8) (hg : g.val = 8 * (t.val % 8) + 5)
    (w : Fin 2560) (hw : w.val = (show BitVec 32 from tbl m 0 (ix2 n g)).toNat) (l : Fin 128) (d : Fin 64) :
    (iblk m hO c 8 t : FVec Ideal S128x64 .f32) (ix2 l d)
      = (m ((c : Thread nD τ).loc main_arg4) : FVec Ideal S1x2560x128x64 .f32) (ix4 0 w l d) := by
  have hi : ((at_ m hO).win 8).index t = ![w.val, 0] := by
    have hb : 8 * (grid0.coords t 1).val + 5 < 64 := by rw [(coords_eq t).2, ← hg]; exact g.isLt
    rw [hw]
    refine (page_5 (tbl m) (grid0.coords t) hb).trans ?_
    exact congrArg (fun y : S32x64.Idx => ![(show BitVec 32 from tbl m 0 y).toNat, 0])
      (congr (congrArg ix2 (Fin.ext ((coords_eq t).1.trans hn.symm))) (Fin.ext (by
        show 8 * (grid0.coords t 1).val + 5 = g.val
        rw [(coords_eq t).2, ← hg])))
  have e : (iblk m hO c 8 t : FVec Ideal S128x64 .f32) (ix2 l d)
      = (V m c main_v1 : FVec Ideal S327680x64 .f32) (ix2 ⟨w.val * 128 + l.val, by omega⟩ d) := by
    blk_ext [iblk, hi]
  rw [e, host_p]
  pointwise [keyRows]
  blk_ext

/-- Page 6 of the step: key `l` of the page that the table names. -/
theorem read_p6 (hO : Ok m) (c : Dev nD) (t : Fin (at_ m hO).N) (n : Fin 32) (g : Fin 64) (hn : n.val = t.val / 8) (hg : g.val = 8 * (t.val % 8) + 6)
    (w : Fin 2560) (hw : w.val = (show BitVec 32 from tbl m 0 (ix2 n g)).toNat) (l : Fin 128) (d : Fin 64) :
    (iblk m hO c 9 t : FVec Ideal S128x64 .f32) (ix2 l d)
      = (m ((c : Thread nD τ).loc main_arg4) : FVec Ideal S1x2560x128x64 .f32) (ix4 0 w l d) := by
  have hi : ((at_ m hO).win 9).index t = ![w.val, 0] := by
    have hb : 8 * (grid0.coords t 1).val + 6 < 64 := by rw [(coords_eq t).2, ← hg]; exact g.isLt
    rw [hw]
    refine (page_6 (tbl m) (grid0.coords t) hb).trans ?_
    exact congrArg (fun y : S32x64.Idx => ![(show BitVec 32 from tbl m 0 y).toNat, 0])
      (congr (congrArg ix2 (Fin.ext ((coords_eq t).1.trans hn.symm))) (Fin.ext (by
        show 8 * (grid0.coords t 1).val + 6 = g.val
        rw [(coords_eq t).2, ← hg])))
  have e : (iblk m hO c 9 t : FVec Ideal S128x64 .f32) (ix2 l d)
      = (V m c main_v1 : FVec Ideal S327680x64 .f32) (ix2 ⟨w.val * 128 + l.val, by omega⟩ d) := by
    blk_ext [iblk, hi]
  rw [e, host_p]
  pointwise [keyRows]
  blk_ext

/-- Page 7 of the step: key `l` of the page that the table names. -/
theorem read_p7 (hO : Ok m) (c : Dev nD) (t : Fin (at_ m hO).N) (n : Fin 32) (g : Fin 64) (hn : n.val = t.val / 8) (hg : g.val = 8 * (t.val % 8) + 7)
    (w : Fin 2560) (hw : w.val = (show BitVec 32 from tbl m 0 (ix2 n g)).toNat) (l : Fin 128) (d : Fin 64) :
    (iblk m hO c 10 t : FVec Ideal S128x64 .f32) (ix2 l d)
      = (m ((c : Thread nD τ).loc main_arg4) : FVec Ideal S1x2560x128x64 .f32) (ix4 0 w l d) := by
  have hi : ((at_ m hO).win 10).index t = ![w.val, 0] := by
    have hb : 8 * (grid0.coords t 1).val + 7 < 64 := by rw [(coords_eq t).2, ← hg]; exact g.isLt
    rw [hw]
    refine (page_7 (tbl m) (grid0.coords t) hb).trans ?_
    exact congrArg (fun y : S32x64.Idx => ![(show BitVec 32 from tbl m 0 y).toNat, 0])
      (congr (congrArg ix2 (Fin.ext ((coords_eq t).1.trans hn.symm))) (Fin.ext (by
        show 8 * (grid0.coords t 1).val + 7 = g.val
        rw [(coords_eq t).2, ← hg])))
  have e : (iblk m hO c 10 t : FVec Ideal S128x64 .f32) (ix2 l d)
      = (V m c main_v1 : FVec Ideal S327680x64 .f32) (ix2 ⟨w.val * 128 + l.val, by omega⟩ d) := by
    blk_ext [iblk, hi]
  rw [e, host_p]
  pointwise [keyRows]
  blk_ext

end Cert.ScoresIdeal.Proved

end
-- ==== Proof.ScoresRefGather.lean ====
module

public import proofs.«01_k».proof.Proof.Gen.ScoresRefIdeal.Read
public import Idealize.ShloMosaic.Lib.Pipeline.ValueKit
public import Idealize.ShloMosaic.Lib.Pointwise

/-!
# The reference's scores

The gather through the page table read at an entry, and the two results as sums over heads and coordinates.
-/

@[expose] public section

set_option maxRecDepth 16384

noncomputable section

namespace Cert.ScoresRefIdeal.Proved

open Cert.ScoresRefIdeal Cert.ScoresRefIdeal.Gen Cert.ScoresRefIdeal.Read
open Idealize.ShloMosaic Idealize.ShloMosaic.TcCoe

/-- The wrap of negative table words leaves a word in range alone. -/
theorem no_wrap (x0 : IVec S32x64 32) (y : S32x64.Idx) (h : (x0 y).toNat < 2560) : val_main_v4 (F := Ideal) x0 y = x0 y := by
  have h' : ¬ ((x0 y).toInt < 0) := by
    rw [BitVec.toInt_eq_toNat_cond]; split <;> omega
  have e : val_main_v1 (F := Ideal) x0 y = 0#1 := by
    show BitVec.ofBool ((x0 y).slt 0#32) = 0#1
    rw [BitVec.slt_eq_decide]
    simp [h']
  rw [val_main_v4_apply, e]
  rfl

/-- The two start coordinates of entry `(n, g)`: plane 0, and the page the table names. -/
theorem start_0 (x0 : IVec S32x64 32) (n : Fin 32) (g : Fin 64) : val_main_v9 (F := Ideal) x0 (ix3 n g (0 : Fin 2)) = 0#32 := by
  unfold val_main_v9
  refine (concatenate_pair_apply_left (t := S32x64x2) (s₁ := S32x64x1) (s₂ := S32x64x1) 2 _ _ _ (ix3 n g (0 : Fin 2)) rfl (ix3 n g (0 : Fin 1)) (fun b => by match b with | ⟨0, _⟩ => rfl | ⟨1, _⟩ => rfl | ⟨2, _⟩ => rfl)).trans ?_
  rfl

theorem start_1 (x0 : IVec S32x64 32) (n : Fin 32) (g : Fin 64) (h : (x0 (ix2 n g)).toNat < 2560) :
    val_main_v9 (F := Ideal) x0 (ix3 n g (1 : Fin 2)) = x0 (ix2 n g) := by
  unfold val_main_v9
  refine (concatenate_pair_apply_right (t := S32x64x2) (s₁ := S32x64x1) (s₂ := S32x64x1) 2 _ _ _ (ix3 n g (1 : Fin 2)) rfl rfl (ix3 n g (0 : Fin 1)) (fun b hb => by match b, hb with | ⟨0, _⟩, _ => rfl | ⟨1, _⟩, _ => rfl | ⟨2, _⟩, hb => exact absurd rfl hb) rfl).trans ?_
  refine (val_main_v8_apply x0 _).trans ?_
  exact (congrArg (val_main_v4 (F := Ideal) x0) (show idx_main_v8 (ix3 n g (0 : Fin 1)) = ix2 n g by funext a; match a with | ⟨0, _⟩ => rfl | ⟨1, _⟩ => rfl)).trans (no_wrap x0 (ix2 n g) h)

/-- The gather's dimension numbers. -/
abbrev gd := gather_S1x2560x128x64_S32x64x2_S32x64x128x64_23_01_n_n_01_2_1112864

theorem si_0 (j : S32x64x128x64.Idx) (h) : gd.siIdx j ⟨0, h⟩ = ix3 (j 0) (j 1) (0 : Fin 2) := by
  funext b; refine Fin.ext ?_
  match b with
  | ⟨0, _⟩ => rfl
  | ⟨1, _⟩ => rfl
  | ⟨2, _⟩ => rfl

theorem si_1 (j : S32x64x128x64.Idx) (h) : gd.siIdx j ⟨1, h⟩ = ix3 (j 0) (j 1) (1 : Fin 2) := by
  funext b; refine Fin.ext ?_
  match b with
  | ⟨0, _⟩ => rfl
  | ⟨1, _⟩ => rfl
  | ⟨2, _⟩ => rfl

/-- The gather reads key `r` of the page that the table names. -/
theorem gathered (x0 : IVec S32x64 32) (x4 : FVec Ideal S1x2560x128x64 .f32) (n : Fin 32) (g : Fin 64) (r : Fin 128) (d : Fin 64)
    (h : (x0 (ix2 n g)).toNat < 2560) :
    val_main_v10 (F := Ideal) x0 x4 (ix4 n g r d) = x4 (ix4 (0 : Fin 1) ⟨(x0 (ix2 n g)).toNat, h⟩ r d) := by
  unfold val_main_v10 Host.gather
  refine congrArg x4 ?_
  funext a
  refine Fin.ext ?_
  show gd.start (ix4 n g r d) (val_main_v9 (F := Ideal) x0) a + gd.batchCoord (ix4 n g r d) a + gd.offCoord (ix4 n g r d) a = _
  rw [GatherDims.batchCoord_eq_zero _ _ _ List.not_mem_nil]
  have ha : a = 0 ∨ a = 1 ∨ a = 2 ∨ a = 3 := by revert a; decide
  rcases ha with rfl | rfl | rfl | rfl
  · have := gd.lt (ix4 n g r d) (val_main_v9 (F := Ideal) x0) 0
    rw [GatherDims.batchCoord_eq_zero _ _ _ List.not_mem_nil] at this
    exact Nat.lt_one_iff.mp this
  · rw [GatherDims.offCoord_eq_zero _ _ _ (show (1 : Fin 4) ∉ gd.sKept by decide)]
    unfold GatherDims.start
    rw [dif_pos (show (1 : Fin 4) ∈ gd.startIndexMap by decide)]
    have e := (congrArg (val_main_v9 (F := Ideal) x0) (si_1 (ix4 n g r d) (by decide))).trans (start_1 x0 n g h)
    have hc : (x0 (ix2 n g)).toInt.toNat = (x0 (ix2 n g)).toNat := by
      rw [BitVec.toInt_eq_toNat_cond]; split <;> omega
    show min (val_main_v9 (F := Ideal) x0 (gd.siIdx (ix4 n g r d) ⟨1, by decide⟩)).toInt.toNat (2560 - 1) + 0 + 0 = (x0 (ix2 n g)).toNat
    rw [e, hc]
    omega
  · unfold GatherDims.start
    rw [dif_neg (show (2 : Fin 4) ∉ gd.startIndexMap by decide)]
    unfold GatherDims.offCoord
    rw [dif_pos (show (2 : Fin 4) ∈ gd.sKept by decide)]
    show 0 + 0 + r.val = r.val
    omega
  · unfold GatherDims.start
    rw [dif_neg (show (3 : Fin 4) ∉ gd.startIndexMap by decide)]
    unfold GatherDims.offCoord
    rw [dif_pos (show (3 : Fin 4) ∈ gd.sKept by decide)]
    show 0 + 0 + d.val = d.val
    omega

/-- Score of a key `k` for query `(n, s)`: the positive parts of the scaled products, weighted and summed over the heads. -/
def refScore (x1 : FVec Ideal S32x4x16x64 .f32) (x3 : FVec Ideal S32x4x16 .f32) (n : Fin 32) (s : Fin 4) (k : Fin 64 → EReal) : EReal :=
  ∑ h : Fin 16, max ((∑ d : Fin 64, x1 (ix4 n s h d) * k d) * Ideal.ofBits .f32 0x3E000000#32) 0 * x3 (ix3 n s h)

/-- The reference's score of cached key `e`. -/
theorem past (x0 : IVec S32x64 32) (x1 : FVec Ideal S32x4x16x64 .f32) (x2 : FVec Ideal S32x4x64 .f32) (x3 : FVec Ideal S32x4x16 .f32)
    (x4 : FVec Ideal S1x2560x128x64 .f32) (n : Fin 32) (s : Fin 4) (e : Fin 8192) :
    val_main_v18 (F := Ideal) x0 x1 x2 x3 x4 (ix3 n s e)
      = refScore x1 x3 n s fun d => val_main_v10 (F := Ideal) x0 x4 (ix4 n ⟨e.val / 128, by omega⟩ ⟨e.val % 128, by omega⟩ d) := by
  unfold refScore
  generalize hv : val_main_v10 (F := Ideal) x0 x4 = G
  have he : e.val < 8192 := e.isLt
  pointwise [val_main_v18, val_main_v17, val_main_v16, val_main_v15, val_main_v14, val_main_v13, val_main_v12, val_main_v11, val_main_cst, val_main_call0_v0, val_main_call0_cst, val_main_call1_v0, val_main_c_2, hv]

theorem sitofp_zero : (FloatOps.sitofp (F := Ideal) .f32 0#32 : EReal) = 0 := by
  show (((0#32).toInt : ℝ) : EReal) = 0
  simp

/-- The reference's score of a new key, zero past the fourth. -/
theorem fresh (x0 : IVec S32x64 32) (x1 : FVec Ideal S32x4x16x64 .f32) (x2 : FVec Ideal S32x4x64 .f32) (x3 : FVec Ideal S32x4x16 .f32)
    (x4 : FVec Ideal S1x2560x128x64 .f32) (n : Fin 32) (s : Fin 4) (l : Fin 128) :
    val_main_v20 (F := Ideal) x0 x1 x2 x3 x4 (ix3 n s l)
      = if h : l.val < 4 then refScore x1 x3 n s fun d => x2 (ix3 n ⟨l.val, h⟩ d) else 0 := by
  unfold refScore
  generalize hv : val_main_v10 (F := Ideal) x0 x4 = G
  pointwise [val_main_v20, val_main_v19, val_main_v17, val_main_v16, val_main_v15, val_main_v14, val_main_v13, val_main_v12, val_main_v11, val_main_cst, val_main_call0_v0, val_main_call0_cst, val_main_call1_v0, val_main_c_2, hv]
  split
  · rfl
  · exact sitofp_zero

end Cert.ScoresRefIdeal.Proved

end
-- ==== Proof.ScoresIdealPoint.lean ====
module

public import proofs.«01_k».proof.Defs
public import proofs.«01_k».proof.Proof.ScoresIdealRead
public import proofs.«01_k».proof.Proof.ScoresRefGather
public import proofs.«01_k».proof.Proof.Gen.ScoresRefIdeal.Run

/-!
# The scores are the reference's

Each block that the kernel writes holds the reference's entries, hence so do the two arrays.
-/

@[expose] public section

set_option maxRecDepth 16384

noncomputable section

namespace Cert.ScoresIdeal.Proved

open Cert.ScoresIdeal.Gen Cert.ScoresRefIdeal.Read Cert.ScoresRefIdeal.Proved
open Idealize.ShloMosaic Idealize.ShloMosaic.TcCoe Idealize.SL.Sem
open Idealize.ShloMosaic.Pipeline (Dat RDat Cfg Window cellOf)

variable (m : (ℓ : Loc nD τ sig) → Buf (Elt Ideal) ℓ)

theorem scale_nonneg : (0 : EReal) ≤ Ideal.ofBits .f32 0x3E000000#32 := by
  have e : Ideal.ofBits .f32 0x3E000000#32 = (((1 / 8 : ℝ)) : EReal) := by
    simp [Ideal.ofBits, Ideal.ieee, -EReal.coe_mul]; norm_num
  rw [e]; exact_mod_cast (by norm_num : (0 : ℝ) ≤ 1 / 8)

/-- Scaling by a nonnegative number commutes with taking the positive part, so the scale may go with the weight. -/
theorem scale_out (S w k : EReal) (hk : 0 ≤ k) : max S 0 * (w * k) = max (S * k) 0 * w := by
  have e : max (S * k) 0 = max S 0 * k := by
    rcases le_total S 0 with h | h
    · rw [max_eq_right h, zero_mul]
      exact max_eq_right (EReal.mul_nonpos_iff.mpr (Or.inr ⟨h, hk⟩))
    · rw [max_eq_left h]
      exact max_eq_left (EReal.mul_nonneg h hk)
  rw [e, mul_assoc, mul_comm k w]

/-- The kernel's score, the scale with the weights, is the reference's, the scale with the products. -/
theorem score_eq (x1 : FVec Ideal S32x4x16x64 .f32) (x3 : FVec Ideal S32x4x16 .f32) (n : Fin 32) (s : Fin 4) (k : Fin 64 → EReal) :
    scoreOf (fun h d => x1 (ix4 n s h d)) (fun h => scaled x3 n s h) k = refScore x1 x3 n s k := by
  unfold scoreOf refScore
  exact Finset.sum_congr rfl fun h _ => scale_out _ _ _ scale_nonneg

/-- A key of zeros scores zero. -/
theorem score_zero (q : Fin 16 → Fin 64 → EReal) (w : Fin 16 → EReal) : scoreOf q w (fun _ => 0) = 0 := by
  unfold scoreOf
  simp

section
variable (hO : Ok m) (c : Dev nD)

/-- The five arguments. -/
abbrev X0 : IVec S32x64 32 := m ((c : Thread nD τ).loc main_arg0)
abbrev X1 : FVec Ideal S32x4x16x64 .f32 := m ((c : Thread nD τ).loc main_arg1)
abbrev X2 : FVec Ideal S32x4x64 .f32 := m ((c : Thread nD τ).loc main_arg2)
abbrev X3 : FVec Ideal S32x4x16 .f32 := m ((c : Thread nD τ).loc main_arg3)
abbrev X4 : FVec Ideal S1x2560x128x64 .f32 := m ((c : Thread nD τ).loc main_arg4)

/-- The eight pages of step `t`. -/
def pages (t : Fin (at_ m hO).N) (u : Fin 8) : FVec Ideal S128x64 .f32 :=
  match u with
  | 0 => iblk m hO c 3 t
  | 1 => iblk m hO c 4 t
  | 2 => iblk m hO c 5 t
  | 3 => iblk m hO c 6 t
  | 4 => iblk m hO c 7 t
  | 5 => iblk m hO c 8 t
  | 6 => iblk m hO c 9 t
  | 7 => iblk m hO c 10 t

/-- Page `u` of step `t` is the page that the reference gathers. -/
theorem page_read (hb : ∀ y, (X0 m c y).toNat < 2560) (t : Fin (at_ m hO).N) (u : Fin 8) (n : Fin 32) (g : Fin 64)
    (hn : n.val = t.val / 8) (hg : g.val = 8 * (t.val % 8) + u.val) (l : Fin 128) (d : Fin 64) :
    pages m hO c t u (ix2 l d) = val_main_v10 (F := Ideal) (X0 m c) (X4 m c) (ix4 n g l d) := by
  have h0 := hb (ix2 n g)
  rw [gathered _ _ n g l d h0]
  have hc : c = 0 := Subsingleton.elim _ _
  have hw : (⟨(X0 m c (ix2 n g)).toNat, h0⟩ : Fin 2560).val = (show BitVec 32 from tbl m 0 (ix2 n g)).toNat := by
    subst hc
    exact congrArg (fun x : IVec S32x64 32 => (x (ix2 n g)).toNat) (tbl_eq m).symm
  match u, hg with
  | ⟨0, _⟩, hg => exact read_p0 m hO c t n g hn hg _ hw l d
  | ⟨1, _⟩, hg => exact read_p1 m hO c t n g hn hg _ hw l d
  | ⟨2, _⟩, hg => exact read_p2 m hO c t n g hn hg _ hw l d
  | ⟨3, _⟩, hg => exact read_p3 m hO c t n g hn hg _ hw l d
  | ⟨4, _⟩, hg => exact read_p4 m hO c t n g hn hg _ hw l d
  | ⟨5, _⟩, hg => exact read_p5 m hO c t n g hn hg _ hw l d
  | ⟨6, _⟩, hg => exact read_p6 m hO c t n g hn hg _ hw l d
  | ⟨7, _⟩, hg => exact read_p7 m hO c t n g hn hg _ hw l d

/-- An entry of the block that step `t` writes is the reference's. -/
theorem past_point (hb : ∀ y, (X0 m c y).toNat < 2560) (t : Fin (at_ m hO).N) (s : Fin 4) (g : Fin 1024) (n : Fin 32) (s' : Fin 4) (e : Fin 8192)
    (hn : n.val = t.val / 8) (hs : s' = s) (he : e.val = t.val % 8 * 1024 + g.val) :
    pastBlock m hO c t (ix3 (0 : Fin 1) s g) = val_main_v18 (F := Ideal) (X0 m c) (X1 m c) (X2 m c) (X3 m c) (X4 m c) (ix3 n s' e) := by
  subst hs
  have hg := g.isLt
  unfold pastBlock
  refine (tiles_apply (iblk m hO c 0 t) (iblk m hO c 1 t) (pages m hO c t) s' g).trans ?_
  rw [past, ← score_eq]
  refine (page_tile _ _ _ _ _).trans ?_
  refine congr (congr (congrArg scoreOf ?_) ?_) ?_
  · funext h d; exact read_q m hO c t n s' h d hn
  · funext h; exact read_w m hO c t n s' h _ hn
  · funext d
    have e1 : (⟨e.val % 128, Nat.mod_lt _ (by decide)⟩ : Fin 128) = ⟨g.val % 128, Nat.mod_lt _ (by decide)⟩ := Fin.ext (by show e.val % 128 = g.val % 128; omega)
    rw [e1]
    exact page_read m hO c hb t ⟨g.val / 128, by omega⟩ n ⟨e.val / 128, by omega⟩ hn (by show e.val / 128 = 8 * (t.val % 8) + g.val / 128; omega) _ d

/-- An entry of the block of new keys is the reference's. -/
theorem fresh_point (t : Fin (at_ m hO).N) (s : Fin 4) (l : Fin 128) (n : Fin 32) (s' : Fin 4) (l' : Fin 128)
    (hn : n.val = t.val / 8) (hs : s' = s) (hl : l' = l) :
    newBlock m hO c t (ix3 (0 : Fin 1) s l) = val_main_v20 (F := Ideal) (X0 m c) (X1 m c) (X2 m c) (X3 m c) (X4 m c) (ix3 n s' l') := by
  subst hs hl
  have hr : n.val = (rowStart m hO t).val / 8 := by
    show n.val = t.val / 8 * 8 / 8
    omega
  unfold newBlock
  rw [fresh]
  refine (new_tile _ _ _ _ _).trans ?_
  have e : (fun d => (iblk m hO c 2 (rowStart m hO t) : FVec Ideal S1x64x128 .bf16) (ix3 (0 : Fin 1) d l')) = fun d => newKey (X2 m c) n l' d := by
    funext d; exact read_k m hO c _ n d l' hr
  have eq : (fun h d => (iblk m hO c 0 (rowStart m hO t) : FVec Ideal S1x64x64 .bf16) (ix3 (0 : Fin 1) ⟨s'.val * 16 + h.val, by omega⟩ d)) = fun (h : Fin 16) d => X1 m c (ix4 n s' h d) := by
    funext h d; exact read_q m hO c _ n s' h d hr
  have ew : (fun h => (iblk m hO c 1 (rowStart m hO t) : FVec Ideal S1x64x128 .f32) (ix3 (0 : Fin 1) ⟨s'.val * 16 + h.val, by omega⟩ l')) = fun h : Fin 16 => scaled (X3 m c) n s' h := by
    funext h; exact read_w m hO c _ n s' h l' hr
  refine (congr (congr (congrArg scoreOf eq) ew) e).trans ?_
  split
  · rename_i hlt
    rw [← score_eq]
    refine congrArg (scoreOf _ _) ?_
    funext d
    unfold newKey
    rw [dif_pos hlt]
  · rename_i hlt
    have ez : (fun d => newKey (X2 m c) n l' d) = fun _ => 0 := by
      funext d; unfold newKey; rw [dif_neg hlt]
    rw [ez]
    exact score_zero _ _
end

end Cert.ScoresIdeal.Proved

end
-- ==== Proof.ScoresIdealClaim.lean ====
module

public import proofs.«01_k».proof.Defs
public import proofs.«01_k».proof.Proof.ScoresIdealPoint

/-!
# The claim about the scores
-/

@[expose] public section

set_option maxRecDepth 16384

noncomputable section

namespace Cert.ScoresIdeal.Proved

open Cert.ScoresIdeal.Gen Cert.ScoresRefIdeal.Read Cert.ScoresRefIdeal.Proved
open Idealize.ShloMosaic Idealize.ShloMosaic.TcCoe Idealize.SL.Sem
open Idealize.ShloMosaic.Pipeline (Dat RDat Cfg Window cellOf)

variable (m : (ℓ : Loc nD τ sig) → Buf (Elt Ideal) ℓ)

theorem idx11 (hO : Ok m) (t : Fin (at_ m hO).N) : ((at_ m hO).win 11).index t = ![t.val / 8, 0, t.val % 8] :=
  (by decide +kernel : ∀ t : Fin grid0.N, cc0_transform_11 (grid0.coords t) = ![t.val / 8, 0, t.val % 8]) t

theorem idx12 (hO : Ok m) (t : Fin (at_ m hO).N) : ((at_ m hO).win 12).index t = ![t.val / 8, 0, 0] :=
  (by decide +kernel : ∀ t : Fin grid0.N, cc0_transform_12 (grid0.coords t) = ![t.val / 8, 0, 0]) t

theorem covers_11 (hO : Ok m) : ((at_ m hO).win 11).Covers := by
  refine ⟨(by decide : ∀ a : Fin 3, 0 < S1x4x1024.size a), fun β => ?_⟩
  have h0 : (β (0 : Fin 3)).val < 32 := lt_of_lt_of_eq (β (0 : Fin 3)).isLt (show (32 + 1 - 1) / 1 = 32 from rfl)
  have h1 : (β (1 : Fin 3)).val < 1 := lt_of_lt_of_eq (β (1 : Fin 3)).isLt (show (4 + 4 - 1) / 4 = 1 from rfl)
  have h2 : (β (2 : Fin 3)).val < 8 := lt_of_lt_of_eq (β (2 : Fin 3)).isLt (show (8192 + 1024 - 1) / 1024 = 8 from rfl)
  have hN : 8 * (β (0 : Fin 3)).val + (β (2 : Fin 3)).val < (at_ m hO).N := lt_of_lt_of_eq (by omega : _ < 256) N_0.symm
  refine ⟨⟨_, hN⟩, flush_11 _ _, fun a => ⟨?_, Or.inl rfl⟩⟩
  rw [idx11]
  match a with
  | ⟨0, _⟩ => show (8 * (β (0 : Fin 3)).val + (β (2 : Fin 3)).val) / 8 = (β (0 : Fin 3)).val; omega
  | ⟨1, _⟩ => show 0 = (β (1 : Fin 3)).val; omega
  | ⟨2, _⟩ => show (8 * (β (0 : Fin 3)).val + (β (2 : Fin 3)).val) % 8 = (β (2 : Fin 3)).val; omega

theorem covers_12 (hO : Ok m) : ((at_ m hO).win 12).Covers := by
  refine ⟨(by decide : ∀ a : Fin 3, 0 < S1x4x128.size a), fun β => ?_⟩
  have h0 : (β (0 : Fin 3)).val < 32 := lt_of_lt_of_eq (β (0 : Fin 3)).isLt (show (32 + 1 - 1) / 1 = 32 from rfl)
  have h1 : (β (1 : Fin 3)).val < 1 := lt_of_lt_of_eq (β (1 : Fin 3)).isLt (show (4 + 4 - 1) / 4 = 1 from rfl)
  have h2 : (β (2 : Fin 3)).val < 1 := lt_of_lt_of_eq (β (2 : Fin 3)).isLt (show (128 + 128 - 1) / 128 = 1 from rfl)
  have hN : 8 * (β (0 : Fin 3)).val + 7 < (at_ m hO).N := lt_of_lt_of_eq (by omega : _ < 256) N_0.symm
  refine ⟨⟨_, hN⟩, (flush_12 _ _).mpr (by show (8 * (β (0 : Fin 3)).val + 7) % 8 = 7; omega), fun a => ⟨?_, Or.inl rfl⟩⟩
  rw [idx12]
  match a with
  | ⟨0, _⟩ => show (8 * (β (0 : Fin 3)).val + 7) / 8 = (β (0 : Fin 3)).val; omega
  | ⟨1, _⟩ => show 0 = (β (1 : Fin 3)).val; omega
  | ⟨2, _⟩ => show 0 = (β (2 : Fin 3)).val; omega

/-- The array of scores of cached keys, whatever exact data leave these blocks. -/
theorem final_11 (hO : Ok m) (c : Dev nD) (hb : ∀ y, (X0 m c y).toNat < 2560) {U : Type} [Idealize.SL.RA.URA U] (D : Dat τ (Elt Ideal) Unit ℕ U ℕ (at_ m hO) c)
    (hD : ∀ t, ((at_ m hO).win 11).flush t = true → D.after 11 t = pastBlock m hO c t) :
    D.arrAt 11 (at_ m hO).N = val_main_v18 (F := Ideal) (X0 m c) (X1 m c) (X2 m c) (X3 m c) (X4 m c) := by
  refine D.arrAt_eq_of_covers 11 _ (covers_11 m hO) fun t hf y => ?_
  have y0 : (y (0 : Fin 3)).val < 1 := (y (0 : Fin 3)).isLt
  have e := past_point m hO c hb t (y (1 : Fin 3)) (y (2 : Fin 3)) ((((at_ m hO).win 11).blk t).view.emb y (0 : Fin 3))
    ((((at_ m hO).win 11).blk t).view.emb y (1 : Fin 3)) ((((at_ m hO).win 11).blk t).view.emb y (2 : Fin 3))
    (by blk_simp [idx11 m hO t]) (by apply Fin.ext; blk_simp [idx11 m hO t]) (by blk_simp [idx11 m hO t])
  blk_simp
  rw [hD t hf]
  have ey : (y : S1x4x1024.Idx) = ix3 (0 : Fin 1) (y (1 : Fin 3)) (y (2 : Fin 3)) := by
    funext a
    match a with
    | ⟨0, _⟩ => exact Fin.ext (Nat.lt_one_iff.mp y0)
    | ⟨1, _⟩ => rfl
    | ⟨2, _⟩ => rfl
  exact (congrArg (pastBlock m hO c t) ey).trans (e.trans (congrArg (val_main_v18 (F := Ideal) (X0 m c) (X1 m c) (X2 m c) (X3 m c) (X4 m c)) (ix3_eta _)))

/-- The array of scores of new keys. -/
theorem final_12 (hO : Ok m) (c : Dev nD) {U : Type} [Idealize.SL.RA.URA U] (D : Dat τ (Elt Ideal) Unit ℕ U ℕ (at_ m hO) c)
    (hD : ∀ t, ((at_ m hO).win 12).flush t = true → D.after 12 t = newBlock m hO c t) :
    D.arrAt 12 (at_ m hO).N = val_main_v20 (F := Ideal) (X0 m c) (X1 m c) (X2 m c) (X3 m c) (X4 m c) := by
  refine D.arrAt_eq_of_covers 12 _ (covers_12 m hO) fun t hf y => ?_
  have y0 : (y (0 : Fin 3)).val < 1 := (y (0 : Fin 3)).isLt
  have e := fresh_point m hO c t (y (1 : Fin 3)) (y (2 : Fin 3)) ((((at_ m hO).win 12).blk t).view.emb y (0 : Fin 3))
    ((((at_ m hO).win 12).blk t).view.emb y (1 : Fin 3)) ((((at_ m hO).win 12).blk t).view.emb y (2 : Fin 3))
    (by blk_simp [idx12 m hO t]) (by apply Fin.ext; blk_simp [idx12 m hO t]) (by apply Fin.ext; blk_simp [idx12 m hO t])
  blk_simp
  rw [hD t hf]
  have ey : (y : S1x4x128.Idx) = ix3 (0 : Fin 1) (y (1 : Fin 3)) (y (2 : Fin 3)) := by
    funext a
    match a with
    | ⟨0, _⟩ => exact Fin.ext (Nat.lt_one_iff.mp y0)
    | ⟨1, _⟩ => rfl
    | ⟨2, _⟩ => rfl
  exact (congrArg (newBlock m hO c t) ey).trans (e.trans (congrArg (val_main_v20 (F := Ideal) (X0 m c) (X1 m c) (X2 m c) (X3 m c) (X4 m c)) (ix3_eta _)))

/-- What every run leaves in the two result arrays, given a table in range. -/
theorem results (ρ : Dev nD → PrngReg) (hb : ∀ y, (X0 m 0 y).toNat < 2560) :
    θ_run defs (onTc (τ := τ) (main (F := Ideal))) ⟨m, fun _ => 0, ρ⟩ (fun r => ∀ c : Dev nD,
      r.2.mem ((c.tc : Thread nD τ).loc main_v11_0) = val_main_v18 (F := Ideal) (X0 m c) (X1 m c) (X2 m c) (X3 m c) (X4 m c)
      ∧ r.2.mem ((c.tc : Thread nD τ).loc main_v11_1) = val_main_v20 (F := Ideal) (X0 m c) (X1 m c) (X2 m c) (X3 m c) (X4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO : Ok m := ok_of_lt m (fun y => lt_of_le_of_lt (le_of_eq (congrArg (fun x : IVec S32x64 32 => (x y).toNat) (tbl_eq m))) (hb y))
  refine (θ_run defs _ _).mono (fun r h c => ?_) (run m ρ hO)
  obtain rfl : c = 0 := Subsingleton.elim _ _
  obtain ⟨after, hL, hA⟩ := RDat.FramePost.exists_exact h.1 0
  exact ⟨(hA 11).trans (final_11 m hO 0 hb _ fun t hf => Dat.toRRel_leaves (dats m hO 0 0) rfl (hL 11 t hf)),
    (hA 12).trans (final_12 m hO 0 _ fun t hf => Dat.toRRel_leaves (dats m hO 0 0) rfl (hL 12 t hf)),
    ((h.1 0).2 main_arg0 (by decide : main_arg0 ∈ Pipeline.restRefs sig spec0)).trans (V_arg0 m 0),
    ((h.1 0).2 main_arg1 (by decide : main_arg1 ∈ Pipeline.restRefs sig spec0)).trans (V_arg1 m 0),
    ((h.1 0).2 main_arg2 (by decide : main_arg2 ∈ Pipeline.restRefs sig spec0)).trans (V_arg2 m 0),
    ((h.1 0).2 main_arg3 (by decide : main_arg3 ∈ Pipeline.restRefs sig spec0)).trans (V_arg3 m 0),
    ((h.1 0).2 main_arg4 (by decide : main_arg4 ∈ Pipeline.restRefs sig spec0)).trans (V_arg4 m 0)⟩

/-- The declared range bounds the table's words. -/
theorem bound_of_pre (h : Cert.Pre_ScoresIdeal m) (y : S32x64.Idx) : (X0 m 0 y).toNat < 2560 :=
  word_lt (F := Ideal) _ _ _ _ _ (h 0) y

theorem ok_of_pre (h : Cert.Pre_ScoresIdeal m) : Ok m :=
  ok_of_lt m (fun y => lt_of_le_of_lt (le_of_eq (congrArg (fun x : IVec S32x64 32 => (x y).toNat) (tbl_eq m))) (bound_of_pre m h y))

/-- Over the reals the kernel computes the reference's scores, given a table in range. -/
theorem algebraic : Cert.algebraic_ScoresIdeal_ScoresRefIdeal := by
  pair_intro
  · run_from results m g (bound_of_pre m hpre)
  · run_from Cert.ScoresRefIdeal.Value.run m' g'
    · rw [(hagree c).2.2.1, (hagree c).2.2.2.2]
      exact val_main_v18_eq _ _ _ _ _
    · rw [(hagree c).2.2.1, (hagree c).2.2.2.2]
      exact val_main_v20_eq _ _ _ _ _

end Cert.ScoresIdeal.Proved

end
-- ==== Proof.Scores.lean ====
module

public import proofs.«01_k».proof.Defs
public import proofs.«01_k».proof.Proof.ScoresTable
public import proofs.«01_k».proof.Proof.ScoresIdealClaim

/-!
# The scores

The values are proved in `ScoresIdealClaim`; here is what the frame of the program at the machine's floats still asks: that a
table in the declared range names pages of the cache.
-/

@[expose] public section

set_option maxRecDepth 16384

noncomputable section

namespace Cert.Scores.Proved

open Cert.Scores.Gen
open Idealize.ShloMosaic Idealize.ShloMosaic.TcCoe

variable (m : (ℓ : Loc nD τ sig) → Buf (Elt Bits) ℓ)

/-- A table in the declared range names pages of the cache. -/
theorem ok_of_pre (h : Cert.Pre_Scores m) : Ok m :=
  ok_of_lt m fun y => lt_of_le_of_lt (le_of_eq (congrArg (fun x : IVec S32x64 32 => (x y).toNat) (tbl_eq m)))
    (word_lt (F := Bits) _ _ _ _ _ (h 0) y)

end Cert.Scores.Proved

end
-- ==== Proof.MixIdealRun.lean ====
module

public import proofs.«01_k».proof.Proof.Gen.MixIdeal.Frame
public import proofs.«01_k».proof.Proof.Gen.MixIdeal.Skeleton
public import proofs.«01_k».proof.Proof.Gen.MixIdeal.Points
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.Claim

/-!
# The body of the product with the layer norm

One step stores the product of a block of rows with a block of columns in its columns of the scratch; the last step of a block of
rows also stores the layer norm of the scratch and the residual.
-/

@[expose] public section

set_option maxRecDepth 16384

noncomputable section

namespace Cert.MixIdeal.Proved

open Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

theorem zero2 : (![0, 0] : Fin 2 → ℕ) = fun _ => 0 := by decide

theorem ld_S1x2048 {e : EltTy} (x : Vec F S1x2048 e) (h) : View.ld x (Rect.unit (s := S1x2048) ![0, 0] ![1, 2048] h) = x :=
  View.ld_unit_zero (S := S1x2048) zero2 h x
theorem ld_S2048x512 {e : EltTy} (x : Vec F S2048x512 e) (h) : View.ld x (Rect.unit (s := S2048x512) ![0, 0] ![2048, 512] h) = x :=
  View.ld_unit_zero (S := S2048x512) zero2 h x
theorem ld_S512x2048 {e : EltTy} (x : Vec F S512x2048 e) (h) : View.ld x (Rect.unit (s := S512x2048) ![0, 0] ![512, 2048] h) = x :=
  View.ld_unit_zero (S := S512x2048) zero2 h x

/-- The scratch after a step: the step's product in the step's columns, the rest as it was. -/
def put (i : grid0.Coords) (T : Vec F S512x512 .f32) (s : Vec F S512x2048 .f32) : Vec F S512x2048 .f32 := fun y =>
  if h : ∀ a, k0_off1 i a ≤ (y a).val ∧ (y a).val < k0_off1 i a + S512x512.size a then
    T (Rect.unitLocal (s := S512x2048) (off := k0_off1 i) (size := S512x512.size) y h)
  else s y

/-- A store in a step's columns leaves the scratch at `put`. -/
theorem read_put (i : grid0.Coords) (v : View sig .tc .vmem S512x2048 .f32) (f : v.ty.Contents (Elt F))
    (T : Vec F S512x512 .f32) (s : Vec F S512x2048 .f32) (hf : v.read (Elt F) f = s)
    {off : Fin 2 → ℕ} (hoff : off = k0_off1 i) (inb) :
    v.read (Elt F) (v.writes (Elt F) f [(⟨Rect.unit (s := S512x2048) off S512x512.size inb, T⟩ : View.Piece (Elt F) S512x2048 .f32)]) = put i T s := by
  subst hoff
  funext y
  refine (View.read_writes_cons_unit v f inb T [] y rfl).trans ?_
  unfold put
  subst hf
  rfl

set_option maxHeartbeats 4000000 in
/-- The last step of a block of rows. -/
theorem runA (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (hc0 : k0_cond1 i = 1#1)
    (x0 : Vec F S512x2048 .bf16) (x1 : Vec F S2048x512 .bf16) (x2 : Vec F S512x2048 .f32) (x3 : Vec F S1x2048 .f32) (x4 : Vec F S1x2048 .f32) (s : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 x2 (put i (k0_pay1 x0 x1) s) x3 x4) ∗ owns (c : Thread nD τ) arg8 fullShare (k0_pay3 x2 (put i (k0_pay1 x0 x1) s) x3 x4) ∗ owns (c : Thread nD τ) arg9 fullShare (put i (k0_pay1 x0 x1) s)) -∗ K ⟨⟩))
      ⊢ wp frame (wpE (defs₀ (F := F)) Variants.none c none) E (cc0__mm_ln_kernel i arg2 harg2 arg3 harg3 arg4 harg4 arg5 harg5 arg6 harg6 arg7 harg7 arg8 harg8 arg9 harg9) K := by
  simp only [cc0__mm_ln_kernel_eq_skeleton]; unfold cc0__mm_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    rotate_left
    · iexact H5
    · ipureintro
      refine (View.read_writes_eq_canon _ _ _ ?_).trans ?_
      rotate_left
      · sl_unfold_words
        simp only [View.readAt_eq_ld, Memref.IsWhole.read_unread, ld_S1x2048, ld_S2048x512, ld_S512x2048]
        refine (View.canon_unit_zero (S := S512x2048) zero2 _ _).trans ?_
        exact congrArg (fun X => k0_pay2 x2 X x3 x4) (read_put i _ _ _ s (harg9.read_unread _) rfl _)
      · intro y
        exact View.cover_of_tiledL (s := S512x2048) _ ![512, 2048] (by sl_kernel_rfl) y
  isplitl [H6]
  · iexists _; isplitr
    rotate_left
    · iexact H6
    · ipureintro
      refine (View.read_writes_eq_canon _ _ _ ?_).trans ?_
      rotate_left
      · sl_unfold_words
        simp only [View.readAt_eq_ld, Memref.IsWhole.read_unread, ld_S1x2048, ld_S2048x512, ld_S512x2048]
        refine (View.canon_unit_zero (S := S512x2048) zero2 _ _).trans ?_
        exact congrArg (fun X => k0_pay3 x2 X x3 x4) (read_put i _ _ _ s (harg9.read_unread _) rfl _)
      · intro y
        exact View.cover_of_tiledL (s := S512x2048) _ ![512, 2048] (by sl_kernel_rfl) y
  iexists _; isplitr
  rotate_left
  · iexact H7
  · ipureintro
    sl_unfold_words
    simp only [View.readAt_eq_ld, Memref.IsWhole.read_unread, ld_S1x2048, ld_S2048x512, ld_S512x2048]
    exact read_put i _ _ _ s (harg9.read_unread _) rfl _

set_option maxHeartbeats 4000000 in
/-- A step that is not the last of its block of rows. -/
theorem runB (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (hc0 : ¬ k0_cond1 i = 1#1)
    (x0 : Vec F S512x2048 .bf16) (x1 : Vec F S2048x512 .bf16) (x2 : Vec F S512x2048 .f32) (x3 : Vec F S1x2048 .f32) (x4 : Vec F S1x2048 .f32) (s : Vec F S512x2048 .f32) (d5 : Vec F S512x2048 .f32) (d6 : Vec F S512x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (put i (k0_pay1 x0 x1) s)) -∗ K ⟨⟩))
      ⊢ wp frame (wpE (defs₀ (F := F)) Variants.none c none) E (cc0__mm_ln_kernel i arg2 harg2 arg3 harg3 arg4 harg4 arg5 harg5 arg6 harg6 arg7 harg7 arg8 harg8 arg9 harg9) K := by
  simp only [cc0__mm_ln_kernel_eq_skeleton]; unfold cc0__mm_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  rotate_left
  · iexact H7
  · ipureintro
    sl_unfold_words
    simp only [View.readAt_eq_ld, Memref.IsWhole.read_unread, ld_S1x2048, ld_S2048x512, ld_S512x2048]
    exact read_put i _ _ _ s (harg9.read_unread _) rfl _

end Cert.MixIdeal.Proved

end
-- ==== Proof.MixIdealFrame.lean ====
module

public import proofs.«01_k».proof.Proof.MixIdealRun
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.Claim

/-!
# The run of the product with the layer norm

Between steps the scratch holds the products of the steps of the same block of rows that are past; after the last of them it
holds the whole block of rows of the product, and the outputs' blocks are its layer norm.
-/

@[expose] public section

set_option maxRecDepth 16384

noncomputable section

namespace Cert.MixIdeal.Proved

open Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds -/

/-- Before step `n` the scratch holds the products of the earlier steps of the same block of rows. -/
def Done (c : Dev nD) (n : ℕ) (s : Vec F S512x2048 .f32) : Prop :=
  ∀ t' : Fin cfg0.N, t'.val < n → t'.val / 4 = n / 4 → ∀ (y : S512x2048.Idx) (x : S512x512.Idx),
    (y 0).val = (x 0).val → (y 1).val = 512 * (t'.val % 4) + (x 1).val → s y = k0_pay1 (iblk m c 0 t') (iblk m c 1 t') x

/-- The step that makes the column that `y` lies in, of the block of rows of step `t`. -/
def colStep (t : Fin cfg0.N) (y : S512x2048.Idx) : Fin cfg0.N :=
  ⟨t.val / 4 * 4 + (y 1).val / 512, by
    have h1 : (y 1).val < 2048 := (y 1).isLt
    have h2 : t.val < 128 := Nat.lt_of_lt_of_eq t.isLt N_0
    exact lt_of_lt_of_eq (show t.val / 4 * 4 + (y 1).val / 512 < 128 by omega) N_0.symm⟩

/-- A block of rows of the product. -/
def prods (c : Dev nD) (t : Fin cfg0.N) : Vec F S512x2048 .f32 := fun y =>
  k0_pay1 (iblk m c 0 (colStep t y)) (iblk m c 1 (colStep t y))
    (ix2 (⟨(y 0).val, (y 0).isLt⟩ : Fin 512) (⟨(y 1).val % 512, Nat.mod_lt _ (by decide)⟩ : Fin 512))

/-- Where a step's columns begin. -/
theorem off_eq : ∀ t : Fin cfg0.N, k0_off1 (grid0.coords t) = ![0, 512 * (t.val % 4)] :=
  (by decide +kernel : ∀ t : Fin grid0.N, k0_off1 (grid0.coords t) = ![0, 512 * (t.val % 4)])

/-- The branch is taken at the last step of each block of rows. -/
theorem cond_iff : ∀ t : Fin cfg0.N, k0_cond1 (grid0.coords t) = 1#1 ↔ t.val % 4 = 3 :=
  (by decide +kernel : ∀ t : Fin grid0.N, k0_cond1 (grid0.coords t) = 1#1 ↔ t.val % 4 = 3)

theorem put_in (t : Fin cfg0.N) (T : Vec F S512x512 .f32) (s : Vec F S512x2048 .f32) (y : S512x2048.Idx) (x : S512x512.Idx)
    (h0 : (y 0).val = (x 0).val) (h1 : (y 1).val = 512 * (t.val % 4) + (x 1).val) : put (grid0.coords t) T s y = T x := by
  have hx0 : (x 0).val < 512 := (x 0).isLt
  have hx1 : (x 1).val < 512 := (x 1).isLt
  unfold put
  have e0 : k0_off1 (grid0.coords t) 0 = 0 := by rw [off_eq t]; rfl
  have e1 : k0_off1 (grid0.coords t) 1 = 512 * (t.val % 4) := by rw [off_eq t]; rfl
  rw [dif_pos (fun a => by
    match a with
    | ⟨0, _⟩ => show k0_off1 (grid0.coords t) 0 ≤ (y 0).val ∧ (y 0).val < k0_off1 (grid0.coords t) 0 + 512; rw [e0]; omega
    | ⟨1, _⟩ => show k0_off1 (grid0.coords t) 1 ≤ (y 1).val ∧ (y 1).val < k0_off1 (grid0.coords t) 1 + 512; rw [e1]; omega)]
  refine congrArg T (funext fun a => Fin.ext ?_)
  rw [Rect.unitLocal_val]
  match a with
  | ⟨0, _⟩ => show (y 0).val - k0_off1 (grid0.coords t) 0 = (x 0).val; rw [e0]; omega
  | ⟨1, _⟩ => show (y 1).val - k0_off1 (grid0.coords t) 1 = (x 1).val; rw [e1]; omega

theorem put_out (t : Fin cfg0.N) (T : Vec F S512x512 .f32) (s : Vec F S512x2048 .f32) (y : S512x2048.Idx)
    (h1 : (y 1).val < 512 * (t.val % 4) ∨ 512 * (t.val % 4) + 512 ≤ (y 1).val) : put (grid0.coords t) T s y = s y := by
  unfold put
  have e1 : k0_off1 (grid0.coords t) 1 = 512 * (t.val % 4) := by rw [off_eq t]; rfl
  exact dif_neg fun h => by
    have h2 : k0_off1 (grid0.coords t) 1 ≤ (y 1).val ∧ (y 1).val < k0_off1 (grid0.coords t) 1 + 512 := h 1
    rw [e1] at h2; omega

theorem done_zero (c : Dev nD) (s : Vec F S512x2048 .f32) : Done m c 0 s := fun t' h => absurd h (Nat.not_lt_zero _)

/-- A step adds its own product. -/
theorem done_succ (c : Dev nD) (t : Fin cfg0.N) (s : Vec F S512x2048 .f32) (h : Done m c t.val s) :
    Done m c (t.val + 1) (put (grid0.coords t) (k0_pay1 (iblk m c 0 t) (iblk m c 1 t)) s) := by
  intro t' ht hq y x h0 h1
  have hx1 : (x 1).val < 512 := (x 1).isLt
  by_cases e : t' = t
  · subst e
    exact put_in t' _ s y x h0 h1
  · have e' : t'.val ≠ t.val := fun e' => e (Fin.ext e')
    have : t'.val % 4 < t.val % 4 := by omega
    have hm : 512 * (t'.val % 4) + 512 ≤ 512 * (t.val % 4) := by omega
    exact (put_out t _ s y (Or.inl (by omega))).trans (h t' (by omega) (by omega) y x h0 h1)

/-- After the last step of a block of rows the scratch holds all of it. -/
theorem put_all (c : Dev nD) (t : Fin cfg0.N) (s : Vec F S512x2048 .f32) (h : Done m c t.val s) (ht : t.val % 4 = 3) :
    put (grid0.coords t) (k0_pay1 (iblk m c 0 t) (iblk m c 1 t)) s = prods m c t := by
  funext y
  have hy1 : (y 1).val < 2048 := (y 1).isLt
  have hx : (y 1).val = 512 * ((colStep t y).val % 4) + (y 1).val % 512 := by
    unfold colStep; dsimp only; omega
  by_cases e : colStep t y = t
  · have e' := put_in t (k0_pay1 (iblk m c 0 t) (iblk m c 1 t)) s y
      (ix2 (⟨(y 0).val, (y 0).isLt⟩ : Fin 512) (⟨(y 1).val % 512, Nat.mod_lt _ (by decide)⟩ : Fin 512)) rfl (by rw [e] at hx; exact hx)
    rw [e']; unfold prods; rw [e]
  · have e' : (colStep t y).val ≠ t.val := fun e' => e (Fin.ext e')
    have hc : (colStep t y).val = t.val / 4 * 4 + (y 1).val / 512 := rfl
    refine (put_out t _ s y (Or.inl (by omega))).trans ?_
    exact h (colStep t y) (by omega) (by omega) y
      (ix2 (⟨(y 0).val, (y 0).isLt⟩ : Fin 512) (⟨(y 1).val % 512, Nat.mod_lt _ (by decide)⟩ : Fin 512)) rfl hx

/-! ## The invariant and the outputs -/

/-- The scratch. -/
abbrev scr : Memref sig .tc .vmem S512x2048 .f32 := Memref.whole cc0_scratch0

/-- What is held between steps: the scratch, at contents that hold the products made so far. -/
def Inv (c : Dev nD) (n : ℕ) : sProp 𝕄 :=
  iprop((∃ s, ⌜Done m c n s⌝ ∗ owns (c : Thread nD τ) scr fullShare s) ∗ (∃ r, prngReg c r))

theorem rest_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The two windows whose contents the body names. -/
def outs : Fin 7 → Bool := fun w => w.val == 5 || w.val == 6

/-- The block of rows that the last of its steps leaves. -/
def normed (c : Dev nD) (t : Fin cfg0.N) : Vec F S512x2048 .f32 := k0_pay2 (iblk m c 2 t) (prods m c t) (iblk m c 3 t) (iblk m c 4 t)
/-- The same in the narrower format. -/
def normed' (c : Dev nD) (t : Fin cfg0.N) : Vec F S512x2048 .bf16 := k0_pay3 (iblk m c 2 t) (prods m c t) (iblk m c 3 t) (iblk m c 4 t)

/-- What the body leaves in the two outputs: of the last step of a block of rows, the layer norm. -/
def Left (c : Dev nD) (w : Fin cfg0.W) (t : Fin cfg0.N) (X : (cfg0.win w).block.Idx → Elt F (cfg0.win w).elt) : Prop :=
  match w, X with
  | ⟨5, _⟩, X => t.val % 4 = 3 → X = normed m c t
  | ⟨6, _⟩, X => t.val % 4 = 3 → X = normed' m c t
  | _, _ => True

/-- The arrays as the kernel finds them, and what each step leaves in the input windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ t := Inv m c t.val
  q _ := fullShare
  owed _ := 0

theorem A_eq (c : Dev nD) (w : Fin cfg0.W) : (dats m 0 c).A w = V m c (Pipeline.arrRef spec0 w) := by
  dsimp only [dats]

abbrev rdat (c : Dev nD) : RDat τ (Elt F) Unit ℕ (UR sig nD τ) ℕ cfg0 c := (dats m 0 c).toRRel outs (Left m c)

theorem after_0 (c : Dev nD) (t : Fin cfg0.N) : (dats m 0 c).after 0 t = iblk m c 0 t := by dsimp only [dats]; try rfl
theorem found_0 (c : Dev nD) (t : Fin cfg0.N) (d) : (dats m 0 c).before 0 t d = iblk m c 0 t :=
  before0_0_of m (dats m 0 c) (A_eq m c 0) (after_0 m c) t d

theorem after_1 (c : Dev nD) (t : Fin cfg0.N) : (dats m 0 c).after 1 t = iblk m c 1 t := by dsimp only [dats]; try rfl
theorem found_1 (c : Dev nD) (t : Fin cfg0.N) (d) : (dats m 0 c).before 1 t d = iblk m c 1 t :=
  before0_1_of m (dats m 0 c) (A_eq m c 1) (after_1 m c) t d

theorem after_2 (c : Dev nD) (t : Fin cfg0.N) : (dats m 0 c).after 2 t = iblk m c 2 t := by dsimp only [dats]; try rfl
theorem found_2 (c : Dev nD) (t : Fin cfg0.N) (d) : (dats m 0 c).before 2 t d = iblk m c 2 t :=
  before0_2_of m (dats m 0 c) (A_eq m c 2) (after_2 m c) t d

theorem after_3 (c : Dev nD) (t : Fin cfg0.N) : (dats m 0 c).after 3 t = iblk m c 3 t := by dsimp only [dats]; try rfl
theorem found_3 (c : Dev nD) (t : Fin cfg0.N) (d) : (dats m 0 c).before 3 t d = iblk m c 3 t :=
  before0_3_of m (dats m 0 c) (A_eq m c 3) (after_3 m c) t d

theorem after_4 (c : Dev nD) (t : Fin cfg0.N) : (dats m 0 c).after 4 t = iblk m c 4 t := by dsimp only [dats]; try rfl
theorem found_4 (c : Dev nD) (t : Fin cfg0.N) (d) : (dats m 0 c).before 4 t d = iblk m c 4 t :=
  before0_4_of m (dats m 0 c) (A_eq m c 4) (after_4 m c) t d

/-- What the body is handed at step `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d))
    ∗ (∃ Y, ⌜(rdat m c).Finds 5 t Y⌝ ∗ owns (c : Thread nD τ) (st0_5 t) fullShare Y) ∗ (∃ Y, ⌜(rdat m c).Finds 6 t Y⌝ ∗ owns (c : Thread nD τ) (st0_6 t) fullShare Y))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t)
    ∗ (∃ X, ⌜Left m c 5 t X⌝ ∗ owns (c : Thread nD τ) (st0_5 t) fullShare X) ∗ (∃ X, ⌜Left m c 6 t X⌝ ∗ owns (c : Thread nD τ) (st0_6 t) fullShare X))

set_option maxHeartbeats 2400000 in
/-- The body takes the one to the other at every step. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, after_0, after_1, after_2, after_3, after_4]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  by_cases h0 : t.val % 4 = 3
  · iintro ⟨⟨⟨%s, %hs, HS⟩, Hg⟩, Ho, ⟨%d0, H0⟩, ⟨%d1, H1⟩, ⟨%d2, H2⟩, ⟨%d3, H3⟩, ⟨%d4, H4⟩, ⟨%d5, -, H5⟩, ⟨%d6, -, H6⟩⟩
    iapply (runA c (grid0.coords t) _ _ _ _ _ _ _ _ _ _ _ _ _ _ _ _ ((cond_iff t).mpr h0) (iblk m c 0 t) (iblk m c 1 t) (iblk m c 2 t) (iblk m c 3 t) (iblk m c 4 t) s Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · iexists _; isplitr
        rotate_left
        · iexact HS
        · ipureintro; exact done_succ m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      rotate_left
      · iexact H5
      · ipureintro
        intro _
        show _ = normed m c t
        unfold normed
        rw [put_all m c t s hs h0]
    iexists _; isplitr
    rotate_left
    · iexact H6
    · ipureintro
      intro _
      show _ = normed' m c t
      unfold normed'
      rw [put_all m c t s hs h0]
  · iintro ⟨⟨⟨%s, %hs, HS⟩, Hg⟩, Ho, ⟨%d0, H0⟩, ⟨%d1, H1⟩, ⟨%d2, H2⟩, ⟨%d3, H3⟩, ⟨%d4, H4⟩, ⟨%d5, -, H5⟩, ⟨%d6, -, H6⟩⟩
    iapply (runB c (grid0.coords t) _ _ _ _ _ _ _ _ _ _ _ _ _ _ _ _ (fun h => h0 ((cond_iff t).mp h)) (iblk m c 0 t) (iblk m c 1 t) (iblk m c 2 t) (iblk m c 3 t) (iblk m c 4 t) s _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr
        rotate_left
        · iexact HS
        · ipureintro; exact done_succ m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      rotate_left
      · iexact H5
      · ipureintro
        exact fun h => absurd h h0
    iexists _; isplitr
    rotate_left
    · iexact H6
    · ipureintro
      exact fun h => absurd h h0

theorem body_row (t : Fin cfg0.N) :
    defs₀ (F := F) .tc cfg0.body (cfg0.bodyArgs t (cfg0.slots t)) = bodyAt0 t := by
  unfold defs₀; rw [Defs.onTc_tc]

theorem body_holds (c : Dev nD) : Pipeline.BodyObligationRel (dats (F := F) m 0 c) (defs₀ (F := F)) Variants.none () Set.univ outs (Left m c) := fun t => by
  rw [bigSep_W0, bigSep_W0, body_row]
  exact triple_restated (body_at m c t) rfl .rfl fun _ => .rfl

/-! ## The run -/

set_option backward.isDefEq.respectTransparency.types false in
/-- The program terminates; its inputs are unchanged, and the outputs hold what `Left` says. -/
theorem run : θ_run defs (onTc (τ := τ) (main (F := F))) (s₀ m ρ) (fun r => RDat.FramePost cfg0 (fun c => rdat m c) (V m) r ∧ r.2.sem = fun _ => 0) :=
  RDat.θ_run_frame_track (Q' := _) cfgs (0 : Fin 1) launch0 defs₀ Variants.none (fun c => rdat m c) m ρ main
    (hbody := fun c => (body_holds m c).toRRel) (hshare := fun _ _ => ite_self _)
    (howed := fun _ _ => rfl) (V := V m) (hmain := hmain m Variants.none) (hA := A_eq m)
    (hin := fun c => by
      show Pipeline.ΦA spec0 c ⊢ Inv m c 0
      rw [rest_eq]; unfold Inv
      iintro ⟨⟨%s, HS⟩, Hg⟩
      isplitl [HS]
      · iexists s; isplitr
        · ipureintro; exact done_zero m c s
        iexact HS
      iexact Hg)
    (hout := fun c => by
      show Inv m c cfg0.N ⊢ Pipeline.ΦA spec0 c
      rw [rest_eq]; unfold Inv
      iintro ⟨⟨%s, -, HS⟩, Hg⟩
      isplitl [HS]
      · iexists s; iexact HS
      iexact Hg)

/-- Every run ends, with the arguments as launched and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩, h.2⟩) (run m ρ)

end Cert.MixIdeal.Proved

end
-- ==== Proof.Mix.lean ====
/-
  The output projection of the merge, with its residual and its layer norm: the product is made a block of columns a step, the norm
  once a block of rows.
-/
module

public import proofs.«01_k».proof.Defs
public import proofs.«01_k».proof.Proof.MixIdealFrame
public import proofs.«01_k».proof.Proof.Gen.MixRefIdeal.Run
public import proofs.«01_k».proof.Proof.Gen.MixRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MixIdeal.Proved

open Idealize.ShloMosaic Idealize.ShloMosaic.TcCoe Idealize.SL.Sem
open Idealize.ShloMosaic.Pipeline (Dat RDat)
open Cert.MixIdeal Cert.MixIdeal.Gen Cert.MixRefIdeal.Read

variable (m : (ℓ : Loc nD τ sig) → Buf (Elt Ideal) ℓ)

/-- The product's left factor, its right factor, the residual, and the norm's scale and shift, as launched. -/
abbrev X0 (c : Dev nD) : FVec Ideal S8x2048x2048 .f32 := m ((c : Thread nD τ).loc main_arg0)
abbrev X1 (c : Dev nD) : FVec Ideal S1x2048x2048 .f32 := m ((c : Thread nD τ).loc main_arg1)
abbrev X2 (c : Dev nD) : FVec Ideal S8x2048x2048 .f32 := m ((c : Thread nD τ).loc main_arg2)
abbrev X3 (c : Dev nD) : FVec Ideal S1x2048 .f32 := m ((c : Thread nD τ).loc main_arg3)
abbrev X4 (c : Dev nD) : FVec Ideal S1x2048 .f32 := m ((c : Thread nD τ).loc main_arg4)

/-- The reference's result as a function of the arguments. -/
abbrev REF (A : FVec Ideal S8x2048x2048 .f32) (W : FVec Ideal S1x2048x2048 .f32) (H : FVec Ideal S8x2048x2048 .f32)
    (G B : FVec Ideal S1x2048 .f32) : FVec Ideal S16384x2048 .f32 :=
  val_main_v31 (F := Ideal) A W H G B

/-- Which blocks a point of the grid takes. -/
theorem idx : ∀ t : Fin cfg0.N, win0_0.index t = ![t.val / 4, 0] ∧ win0_1.index t = ![0, t.val % 4]
    ∧ win0_2.index t = ![t.val / 4, 0] ∧ win0_3.index t = ![0, 0] ∧ win0_4.index t = ![0, 0]
    ∧ win0_5.index t = ![t.val / 4, 0] ∧ win0_6.index t = ![t.val / 4, 0] :=
  (by decide +kernel : ∀ t : Fin grid0.N, _)

theorem read_x (c : Dev nD) (t : Fin cfg0.N) (r : Fin 512) (k : Fin 2048) (a : Fin 8) (b : Fin 2048)
    (h : t.val / 4 * 512 + r.val = a.val * 2048 + b.val) :
    (iblk m c 0 t : FVec Ideal S512x2048 .bf16) (ix2 r k) = X0 m c (ix3 a b k) := by
  have ht : t.val < 128 := lt_of_lt_of_eq t.isLt N_0
  have e : (iblk m c 0 t : FVec Ideal S512x2048 .bf16) (ix2 r k)
      = (V m c main_v1 : FVec Ideal S16384x2048 .bf16) (ix2 ⟨t.val / 4 * 512 + r.val, by omega⟩ k) := by
    blk_ext [iblk, idx t]
  rw [e]
  entry_read
  pointwise
  blk_ext

theorem read_w (c : Dev nD) (t : Fin cfg0.N) (k : Fin 2048) (r : Fin 512) (a : Fin 2048)
    (h : t.val % 4 * 512 + r.val = a.val) :
    (iblk m c 1 t : FVec Ideal S2048x512 .bf16) (ix2 k r) = X1 m c (ix3 0 k a) := by
  have e : (iblk m c 1 t : FVec Ideal S2048x512 .bf16) (ix2 k r)
      = (V m c main_v3 : FVec Ideal S2048x2048 .bf16) (ix2 k ⟨t.val % 4 * 512 + r.val, by omega⟩) := by
    blk_ext [iblk, idx t]
  rw [e]
  entry_read
  pointwise
  blk_ext

theorem read_h (c : Dev nD) (t : Fin cfg0.N) (r : Fin 512) (k : Fin 2048) (a : Fin 8) (b : Fin 2048)
    (h : t.val / 4 * 512 + r.val = a.val * 2048 + b.val) :
    (iblk m c 2 t : FVec Ideal S512x2048 .f32) (ix2 r k) = X2 m c (ix3 a b k) := by
  have ht : t.val < 128 := lt_of_lt_of_eq t.isLt N_0
  have e : (iblk m c 2 t : FVec Ideal S512x2048 .f32) (ix2 r k)
      = (V m c main_v4 : FVec Ideal S16384x2048 .f32) (ix2 ⟨t.val / 4 * 512 + r.val, by omega⟩ k) := by
    blk_ext [iblk, idx t]
  rw [e]
  entry_read
  pointwise
  blk_ext

theorem read_g (c : Dev nD) (t : Fin cfg0.N) (z : Fin 1) (k : Fin 2048) :
    (iblk m c 3 t : FVec Ideal S1x2048 .f32) (ix2 z k) = X3 m c (ix2 0 k) := by
  have e : (iblk m c 3 t : FVec Ideal S1x2048 .f32) (ix2 z k)
      = (V m c main_v6 : FVec Ideal S1x2048 .f32) (ix2 0 k) := by
    blk_ext [iblk, idx t]
  rw [e]
  entry_read
  pointwise
  blk_ext

theorem read_b (c : Dev nD) (t : Fin cfg0.N) (z : Fin 1) (k : Fin 2048) :
    (iblk m c 4 t : FVec Ideal S1x2048 .f32) (ix2 z k) = X4 m c (ix2 0 k) := by
  have e : (iblk m c 4 t : FVec Ideal S1x2048 .f32) (ix2 z k)
      = (V m c main_v8 : FVec Ideal S1x2048 .f32) (ix2 0 k) := by
    blk_ext [iblk, idx t]
  rw [e]
  entry_read
  pointwise
  blk_ext

/-- An entry of the product is the reference's. -/
theorem prod_eq (c : Dev nD) (t : Fin cfg0.N) (r : Fin 512) (k : Fin 2048) (a : Fin 8) (b : Fin 2048)
    (h : t.val / 4 * 512 + r.val = a.val * 2048 + b.val) :
    prods m c t (ix2 r k) = (val_main_v3 (F := Ideal) (X0 m c) (X1 m c) : FVec Ideal S8x2048x2048 .f32) (ix3 a b k) := by
  have ht : t.val < 128 := lt_of_lt_of_eq t.isLt N_0
  have hc : (colStep t (ix2 r k)).val = t.val / 4 * 4 + k.val / 512 := rfl
  show k0_pay1 (F := Ideal) (iblk m c 0 (colStep t (ix2 r k))) (iblk m c 1 (colStep t (ix2 r k)))
    (ix2 r (⟨k.val % 512, Nat.mod_lt _ (by decide)⟩ : Fin 512)) = _
  pointwise [k0_pay1, val_main_v2, val_main_v3]
  refine Finset.sum_congr rfl fun l _ => Ideal.mul_congr (read_x m c _ _ _ _ _ ?_) ((read_w m c _ _ _ k ?_).trans ?_)
  · omega
  · show (colStep t (ix2 r k)).val % 4 * 512 + k.val % 512 = k.val
    omega
  · blk_ext

/-- The block of rows that is written back is the reference's, entry by entry. -/
theorem point (c : Dev nD) (t : Fin cfg0.N) (r : Fin 512) (s : Fin 2048) (p : Fin 16384) (q : Fin 2048)
    (hp : p.val = t.val / 4 * 512 + r.val) (hq : q.val = s.val) :
    normed m c t (ix2 r s) = REF (X0 m c) (X1 m c) (X2 m c) (X3 m c) (X4 m c) (ix2 p q) := by
  have ht : t.val < 128 := lt_of_lt_of_eq t.isLt N_0
  obtain rfl : q = s := Fin.ext hq
  have hk : ∀ k : Fin 2048, prods m c t (ix2 r k) = (val_main_v3 (F := Ideal) (X0 m c) (X1 m c) : FVec Ideal S8x2048x2048 .f32)
      (ix3 ⟨p.val / 2048, by omega⟩ ⟨p.val % 2048, by omega⟩ k) := fun k => prod_eq m c t r k _ _ (by dsimp only; omega)
  have hh : ∀ k : Fin 2048, (iblk m c 2 t : FVec Ideal S512x2048 .f32) (ix2 r k) = X2 m c
      (ix3 ⟨p.val / 2048, by omega⟩ ⟨p.val % 2048, by omega⟩ k) := fun k => read_h m c t r k _ _ (by dsimp only; omega)
  have hg := read_g m c t 0 q
  have hb := read_b m c t 0 q
  unfold normed
  generalize prods m c t = P at hk ⊢
  generalize hv : val_main_v3 (F := Ideal) (X0 m c) (X1 m c) = G at hk
  generalize (iblk m c 2 t : FVec Ideal S512x2048 .f32) = R at hh ⊢
  generalize (iblk m c 3 t : FVec Ideal S1x2048 .f32) = G3 at hg ⊢
  generalize (iblk m c 4 t : FVec Ideal S1x2048 .f32) = B4 at hb ⊢
  pointwise [k0_pay2, REF, val_main_v0, val_main_v1, val_main_v2, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2, val_main_cst_3, val_main_cst_4, hv]
  simp only [hk, hh, hg, hb]

/-- The array of window 5 after the run is the reference's, whatever the steps left that were not written back. -/
theorem final_5 (c : Dev nD) {U : Type} [Idealize.SL.RA.URA U] (D : Dat τ (Elt Ideal) Unit ℕ U ℕ cfg0 c)
    (hD : ∀ t, (cfg0.win 5).flush t = true → D.after 5 t = normed m c t) :
    D.arrAt 5 cfg0.N = (val_main_v31 (F := Ideal) (X0 m c) (X1 m c) (X2 m c) (X3 m c) (X4 m c) : FVec Ideal S16384x2048 .f32) := by
  refine D.arrAt_eq_of_covers 5 _ (by decide +kernel) fun t hf y => ?_
  have e := point m c t (y (0 : Fin 2)) (y (1 : Fin 2)) (((cfg0.win 5).blk t).view.emb y (0 : Fin 2)) (((cfg0.win 5).blk t).view.emb y (1 : Fin 2))
    (by blk_simp [idx t]) (by blk_simp [idx t])
  blk_simp
  rw [hD t hf]
  exact (congrArg (normed m c t) (eq_ix2 y)).trans (e.trans (congrArg (val_main_v31 (F := Ideal) (X0 m c) (X1 m c) (X2 m c) (X3 m c) (X4 m c)) (ix2_eta _)))

/-- The same in the narrower format: over the reals the cast is nothing. -/
theorem point' (c : Dev nD) (t : Fin cfg0.N) (r : Fin 512) (s : Fin 2048) (p : Fin 16384) (q : Fin 2048)
    (hp : p.val = t.val / 4 * 512 + r.val) (hq : q.val = s.val) :
    normed' m c t (ix2 r s) = (val_main_v32 (F := Ideal) (X0 m c) (X1 m c) (X2 m c) (X3 m c) (X4 m c) : FVec Ideal S16384x2048 .bf16) (ix2 p q) :=
  point m c t r s p q hp hq

/-- The array of window 6 after the run is the reference's, whatever the steps left that were not written back. -/
theorem final_6 (c : Dev nD) {U : Type} [Idealize.SL.RA.URA U] (D : Dat τ (Elt Ideal) Unit ℕ U ℕ cfg0 c)
    (hD : ∀ t, (cfg0.win 6).flush t = true → D.after 6 t = normed' m c t) :
    D.arrAt 6 cfg0.N = (val_main_v32 (F := Ideal) (X0 m c) (X1 m c) (X2 m c) (X3 m c) (X4 m c) : FVec Ideal S16384x2048 .bf16) := by
  refine D.arrAt_eq_of_covers 6 _ (by decide +kernel) fun t hf y => ?_
  have e := point' m c t (y (0 : Fin 2)) (y (1 : Fin 2)) (((cfg0.win 6).blk t).view.emb y (0 : Fin 2)) (((cfg0.win 6).blk t).view.emb y (1 : Fin 2))
    (by blk_simp [idx t]) (by blk_simp [idx t])
  blk_simp
  rw [hD t hf]
  exact (congrArg (normed' m c t) (eq_ix2 y)).trans (e.trans (congrArg (val_main_v32 (F := Ideal) (X0 m c) (X1 m c) (X2 m c) (X3 m c) (X4 m c)) (ix2_eta _)))

/-- What every run leaves in the results. -/
theorem results (ρ : Dev nD → PrngReg) :
    θ_run defs (onTc (τ := τ) (main (F := Ideal))) ⟨m, fun _ => 0, ρ⟩ (fun r => ∀ c : Dev nD,
      r.2.mem ((c.tc : Thread nD τ).loc main_v9_0) = val_main_v31 (F := Ideal) (X0 m c) (X1 m c) (X2 m c) (X3 m c) (X4 m c)
      ∧ r.2.mem ((c.tc : Thread nD τ).loc main_v9_1) = val_main_v32 (F := Ideal) (X0 m c) (X1 m c) (X2 m c) (X3 m c) (X4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run m ρ)
  obtain ⟨after, hL, hA⟩ := RDat.FramePost.exists_exact h.1 c
  exact ⟨(hA 5).trans (final_5 m c _ fun t hf => Dat.toRRel_leaves (dats m 0 c) rfl (hL 5 t hf) ((flush0_5 t).mp hf)),
    (hA 6).trans (final_6 m c _ fun t hf => Dat.toRRel_leaves (dats m 0 c) rfl (hL 6 t hf) ((flush0_6 t).mp hf)),
    ((h.1 c).2 main_arg0 (by decide : main_arg0 ∈ Pipeline.restRefs sig spec0)).trans (V_main_arg0 m c),
    ((h.1 c).2 main_arg1 (by decide : main_arg1 ∈ Pipeline.restRefs sig spec0)).trans (V_main_arg1 m c),
    ((h.1 c).2 main_arg2 (by decide : main_arg2 ∈ Pipeline.restRefs sig spec0)).trans (V_main_arg2 m c),
    ((h.1 c).2 main_arg3 (by decide : main_arg3 ∈ Pipeline.restRefs sig spec0)).trans (V_main_arg3 m c),
    ((h.1 c).2 main_arg4 (by decide : main_arg4 ∈ Pipeline.restRefs sig spec0)).trans (V_main_arg4 m c)⟩

/-- Over the reals the kernel computes the reference's rows. -/
theorem algebraic : Cert.algebraic_MixIdeal_MixRefIdeal := by
  pair_intro
  · run_from results m g
  · run_from Cert.MixRefIdeal.Value.run m' g'
    · rw [Cert.MixRefIdeal.Read.val_main_v31_eq, (hagree c).1, (hagree c).2.1, (hagree c).2.2.1, (hagree c).2.2.2.1, (hagree c).2.2.2.2]
    · rw [Cert.MixRefIdeal.Read.val_main_v32_eq, (hagree c).1, (hagree c).2.1, (hagree c).2.2.1, (hagree c).2.2.2.1, (hagree c).2.2.2.2]

end Cert.MixIdeal.Proved

end
-- ==== Proof.DownIdealRun.lean ====
module

public import proofs.«01_k».proof.Proof.Gen.DownIdeal.Frame
public import proofs.«01_k».proof.Proof.Gen.DownIdeal.Skeleton
public import proofs.«01_k».proof.Proof.Gen.DownIdeal.Points
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.Claim

/-!
# The body of the product with the layer norm

One step stores the product of a block of rows with a block of columns in its columns of the scratch; the last step of a block of
rows also stores the layer norm of the scratch and the residual.
-/

@[expose] public section

set_option maxRecDepth 16384

noncomputable section

namespace Cert.DownIdeal.Proved

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

theorem zero2 : (![0, 0] : Fin 2 → ℕ) = fun _ => 0 := by decide

theorem ld_S1x2048 {e : EltTy} (x : Vec F S1x2048 e) (h) : View.ld x (Rect.unit (s := S1x2048) ![0, 0] ![1, 2048] h) = x :=
  View.ld_unit_zero (S := S1x2048) zero2 h x
theorem ld_S512x2048 {e : EltTy} (x : Vec F S512x2048 e) (h) : View.ld x (Rect.unit (s := S512x2048) ![0, 0] ![512, 2048] h) = x :=
  View.ld_unit_zero (S := S512x2048) zero2 h x
theorem ld_S512x5632 {e : EltTy} (x : Vec F S512x5632 e) (h) : View.ld x (Rect.unit (s := S512x5632) ![0, 0] ![512, 5632] h) = x :=
  View.ld_unit_zero (S := S512x5632) zero2 h x
theorem ld_S5632x256 {e : EltTy} (x : Vec F S5632x256 e) (h) : View.ld x (Rect.unit (s := S5632x256) ![0, 0] ![5632, 256] h) = x :=
  View.ld_unit_zero (S := S5632x256) zero2 h x

/-- The scratch after a step: the step's product in the step's columns, the rest as it was. -/
def put (i : grid0.Coords) (T : Vec F S512x256 .f32) (s : Vec F S512x2048 .f32) : Vec F S512x2048 .f32 := fun y =>
  if h : ∀ a, k0_off1 i a ≤ (y a).val ∧ (y a).val < k0_off1 i a + S512x256.size a then
    T (Rect.unitLocal (s := S512x2048) (off := k0_off1 i) (size := S512x256.size) y h)
  else s y

/-- A store in a step's columns leaves the scratch at `put`. -/
theorem read_put (i : grid0.Coords) (v : View sig .tc .vmem S512x2048 .f32) (f : v.ty.Contents (Elt F))
    (T : Vec F S512x256 .f32) (s : Vec F S512x2048 .f32) (hf : v.read (Elt F) f = s)
    {off : Fin 2 → ℕ} (hoff : off = k0_off1 i) (inb) :
    v.read (Elt F) (v.writes (Elt F) f [(⟨Rect.unit (s := S512x2048) off S512x256.size inb, T⟩ : View.Piece (Elt F) S512x2048 .f32)]) = put i T s := by
  subst hoff
  funext y
  refine (View.read_writes_cons_unit v f inb T [] y rfl).trans ?_
  unfold put
  subst hf
  rfl

set_option maxHeartbeats 4000000 in
/-- The last step of a block of rows. -/
theorem runA (c : Dev nD) (i : grid0.Coords) (arg2 : Memref sig .tc .vmem S512x5632 .bf16) (harg2 : arg2.IsWhole) (arg3 : Memref sig .tc .vmem S5632x256 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (hc0 : k0_cond1 i = 1#1)
    (x0 : Vec F S512x5632 .bf16) (x1 : Vec F S5632x256 .bf16) (x2 : Vec F S512x2048 .f32) (x3 : Vec F S1x2048 .f32) (x4 : Vec F S1x2048 .f32) (s : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 x2 (put i (k0_pay1 x0 x1) s) x3 x4) ∗ owns (c : Thread nD τ) arg8 fullShare (k0_pay3 x2 (put i (k0_pay1 x0 x1) s) x3 x4) ∗ owns (c : Thread nD τ) arg9 fullShare (put i (k0_pay1 x0 x1) s)) -∗ K ⟨⟩))
      ⊢ wp frame (wpE (defs₀ (F := F)) Variants.none c none) E (cc0__mm_ln_kernel i arg2 harg2 arg3 harg3 arg4 harg4 arg5 harg5 arg6 harg6 arg7 harg7 arg8 harg8 arg9 harg9) K := by
  simp only [cc0__mm_ln_kernel_eq_skeleton]; unfold cc0__mm_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    rotate_left
    · iexact H5
    · ipureintro
      refine (View.read_writes_eq_canon _ _ _ ?_).trans ?_
      rotate_left
      · sl_unfold_words
        simp only [View.readAt_eq_ld, Memref.IsWhole.read_unread, ld_S1x2048, ld_S512x2048, ld_S512x5632, ld_S5632x256]
        refine (View.canon_unit_zero (S := S512x2048) zero2 _ _).trans ?_
        exact congrArg (fun X => k0_pay2 x2 X x3 x4) (read_put i _ _ _ s (harg9.read_unread _) rfl _)
      · intro y
        exact View.cover_of_tiledL (s := S512x2048) _ ![512, 2048] (by sl_kernel_rfl) y
  isplitl [H6]
  · iexists _; isplitr
    rotate_left
    · iexact H6
    · ipureintro
      refine (View.read_writes_eq_canon _ _ _ ?_).trans ?_
      rotate_left
      · sl_unfold_words
        simp only [View.readAt_eq_ld, Memref.IsWhole.read_unread, ld_S1x2048, ld_S512x2048, ld_S512x5632, ld_S5632x256]
        refine (View.canon_unit_zero (S := S512x2048) zero2 _ _).trans ?_
        exact congrArg (fun X => k0_pay3 x2 X x3 x4) (read_put i _ _ _ s (harg9.read_unread _) rfl _)
      · intro y
        exact View.cover_of_tiledL (s := S512x2048) _ ![512, 2048] (by sl_kernel_rfl) y
  iexists _; isplitr
  rotate_left
  · iexact H7
  · ipureintro
    sl_unfold_words
    simp only [View.readAt_eq_ld, Memref.IsWhole.read_unread, ld_S1x2048, ld_S512x2048, ld_S512x5632, ld_S5632x256]
    exact read_put i _ _ _ s (harg9.read_unread _) rfl _

set_option maxHeartbeats 4000000 in
/-- A step that is not the last of its block of rows. -/
theorem runB (c : Dev nD) (i : grid0.Coords) (arg2 : Memref sig .tc .vmem S512x5632 .bf16) (harg2 : arg2.IsWhole) (arg3 : Memref sig .tc .vmem S5632x256 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (hc0 : ¬ k0_cond1 i = 1#1)
    (x0 : Vec F S512x5632 .bf16) (x1 : Vec F S5632x256 .bf16) (x2 : Vec F S512x2048 .f32) (x3 : Vec F S1x2048 .f32) (x4 : Vec F S1x2048 .f32) (s : Vec F S512x2048 .f32) (d5 : Vec F S512x2048 .f32) (d6 : Vec F S512x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (put i (k0_pay1 x0 x1) s)) -∗ K ⟨⟩))
      ⊢ wp frame (wpE (defs₀ (F := F)) Variants.none c none) E (cc0__mm_ln_kernel i arg2 harg2 arg3 harg3 arg4 harg4 arg5 harg5 arg6 harg6 arg7 harg7 arg8 harg8 arg9 harg9) K := by
  simp only [cc0__mm_ln_kernel_eq_skeleton]; unfold cc0__mm_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  rotate_left
  · iexact H7
  · ipureintro
    sl_unfold_words
    simp only [View.readAt_eq_ld, Memref.IsWhole.read_unread, ld_S1x2048, ld_S512x2048, ld_S512x5632, ld_S5632x256]
    exact read_put i _ _ _ s (harg9.read_unread _) rfl _

end Cert.DownIdeal.Proved

end
-- ==== Proof.DownIdealFrame.lean ====
module

public import proofs.«01_k».proof.Proof.DownIdealRun
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.Claim

/-!
# The run of the product with the layer norm

Between steps the scratch holds the products of the steps of the same block of rows that are past; after the last of them it
holds the whole block of rows of the product, and the outputs' blocks are its layer norm.
-/

@[expose] public section

set_option maxRecDepth 16384

noncomputable section

namespace Cert.DownIdeal.Proved

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds -/

/-- Before step `n` the scratch holds the products of the earlier steps of the same block of rows. -/
def Done (c : Dev nD) (n : ℕ) (s : Vec F S512x2048 .f32) : Prop :=
  ∀ t' : Fin cfg0.N, t'.val < n → t'.val / 8 = n / 8 → ∀ (y : S512x2048.Idx) (x : S512x256.Idx),
    (y 0).val = (x 0).val → (y 1).val = 256 * (t'.val % 8) + (x 1).val → s y = k0_pay1 (iblk m c 0 t') (iblk m c 1 t') x

/-- The step that makes the column that `y` lies in, of the block of rows of step `t`. -/
def colStep (t : Fin cfg0.N) (y : S512x2048.Idx) : Fin cfg0.N :=
  ⟨t.val / 8 * 8 + (y 1).val / 256, by
    have h1 : (y 1).val < 2048 := (y 1).isLt
    have h2 : t.val < 256 := Nat.lt_of_lt_of_eq t.isLt N_0
    exact lt_of_lt_of_eq (show t.val / 8 * 8 + (y 1).val / 256 < 256 by omega) N_0.symm⟩

/-- A block of rows of the product. -/
def prods (c : Dev nD) (t : Fin cfg0.N) : Vec F S512x2048 .f32 := fun y =>
  k0_pay1 (iblk m c 0 (colStep t y)) (iblk m c 1 (colStep t y))
    (ix2 (⟨(y 0).val, (y 0).isLt⟩ : Fin 512) (⟨(y 1).val % 256, Nat.mod_lt _ (by decide)⟩ : Fin 256))

/-- Where a step's columns begin. -/
theorem off_eq : ∀ t : Fin cfg0.N, k0_off1 (grid0.coords t) = ![0, 256 * (t.val % 8)] :=
  (by decide +kernel : ∀ t : Fin grid0.N, k0_off1 (grid0.coords t) = ![0, 256 * (t.val % 8)])

/-- The branch is taken at the last step of each block of rows. -/
theorem cond_iff : ∀ t : Fin cfg0.N, k0_cond1 (grid0.coords t) = 1#1 ↔ t.val % 8 = 7 :=
  (by decide +kernel : ∀ t : Fin grid0.N, k0_cond1 (grid0.coords t) = 1#1 ↔ t.val % 8 = 7)

theorem put_in (t : Fin cfg0.N) (T : Vec F S512x256 .f32) (s : Vec F S512x2048 .f32) (y : S512x2048.Idx) (x : S512x256.Idx)
    (h0 : (y 0).val = (x 0).val) (h1 : (y 1).val = 256 * (t.val % 8) + (x 1).val) : put (grid0.coords t) T s y = T x := by
  have hx0 : (x 0).val < 512 := (x 0).isLt
  have hx1 : (x 1).val < 256 := (x 1).isLt
  unfold put
  have e0 : k0_off1 (grid0.coords t) 0 = 0 := by rw [off_eq t]; rfl
  have e1 : k0_off1 (grid0.coords t) 1 = 256 * (t.val % 8) := by rw [off_eq t]; rfl
  rw [dif_pos (fun a => by
    match a with
    | ⟨0, _⟩ => show k0_off1 (grid0.coords t) 0 ≤ (y 0).val ∧ (y 0).val < k0_off1 (grid0.coords t) 0 + 512; rw [e0]; omega
    | ⟨1, _⟩ => show k0_off1 (grid0.coords t) 1 ≤ (y 1).val ∧ (y 1).val < k0_off1 (grid0.coords t) 1 + 256; rw [e1]; omega)]
  refine congrArg T (funext fun a => Fin.ext ?_)
  rw [Rect.unitLocal_val]
  match a with
  | ⟨0, _⟩ => show (y 0).val - k0_off1 (grid0.coords t) 0 = (x 0).val; rw [e0]; omega
  | ⟨1, _⟩ => show (y 1).val - k0_off1 (grid0.coords t) 1 = (x 1).val; rw [e1]; omega

theorem put_out (t : Fin cfg0.N) (T : Vec F S512x256 .f32) (s : Vec F S512x2048 .f32) (y : S512x2048.Idx)
    (h1 : (y 1).val < 256 * (t.val % 8) ∨ 256 * (t.val % 8) + 256 ≤ (y 1).val) : put (grid0.coords t) T s y = s y := by
  unfold put
  have e1 : k0_off1 (grid0.coords t) 1 = 256 * (t.val % 8) := by rw [off_eq t]; rfl
  exact dif_neg fun h => by
    have h2 : k0_off1 (grid0.coords t) 1 ≤ (y 1).val ∧ (y 1).val < k0_off1 (grid0.coords t) 1 + 256 := h 1
    rw [e1] at h2; omega

theorem done_zero (c : Dev nD) (s : Vec F S512x2048 .f32) : Done m c 0 s := fun t' h => absurd h (Nat.not_lt_zero _)

/-- A step adds its own product. -/
theorem done_succ (c : Dev nD) (t : Fin cfg0.N) (s : Vec F S512x2048 .f32) (h : Done m c t.val s) :
    Done m c (t.val + 1) (put (grid0.coords t) (k0_pay1 (iblk m c 0 t) (iblk m c 1 t)) s) := by
  intro t' ht hq y x h0 h1
  have hx1 : (x 1).val < 256 := (x 1).isLt
  by_cases e : t' = t
  · subst e
    exact put_in t' _ s y x h0 h1
  · have e' : t'.val ≠ t.val := fun e' => e (Fin.ext e')
    have : t'.val % 8 < t.val % 8 := by omega
    have hm : 256 * (t'.val % 8) + 256 ≤ 256 * (t.val % 8) := by omega
    exact (put_out t _ s y (Or.inl (by omega))).trans (h t' (by omega) (by omega) y x h0 h1)

/-- After the last step of a block of rows the scratch holds all of it. -/
theorem put_all (c : Dev nD) (t : Fin cfg0.N) (s : Vec F S512x2048 .f32) (h : Done m c t.val s) (ht : t.val % 8 = 7) :
    put (grid0.coords t) (k0_pay1 (iblk m c 0 t) (iblk m c 1 t)) s = prods m c t := by
  funext y
  have hy1 : (y 1).val < 2048 := (y 1).isLt
  have hx : (y 1).val = 256 * ((colStep t y).val % 8) + (y 1).val % 256 := by
    unfold colStep; dsimp only; omega
  by_cases e : colStep t y = t
  · have e' := put_in t (k0_pay1 (iblk m c 0 t) (iblk m c 1 t)) s y
      (ix2 (⟨(y 0).val, (y 0).isLt⟩ : Fin 512) (⟨(y 1).val % 256, Nat.mod_lt _ (by decide)⟩ : Fin 256)) rfl (by rw [e] at hx; exact hx)
    rw [e']; unfold prods; rw [e]
  · have e' : (colStep t y).val ≠ t.val := fun e' => e (Fin.ext e')
    have hc : (colStep t y).val = t.val / 8 * 8 + (y 1).val / 256 := rfl
    refine (put_out t _ s y (Or.inl (by omega))).trans ?_
    exact h (colStep t y) (by omega) (by omega) y
      (ix2 (⟨(y 0).val, (y 0).isLt⟩ : Fin 512) (⟨(y 1).val % 256, Nat.mod_lt _ (by decide)⟩ : Fin 256)) rfl hx

/-! ## The invariant and the outputs -/

/-- The scratch. -/
abbrev scr : Memref sig .tc .vmem S512x2048 .f32 := Memref.whole cc0_scratch0

/-- What is held between steps: the scratch, at contents that hold the products made so far. -/
def Inv (c : Dev nD) (n : ℕ) : sProp 𝕄 :=
  iprop((∃ s, ⌜Done m c n s⌝ ∗ owns (c : Thread nD τ) scr fullShare s) ∗ (∃ r, prngReg c r))

theorem rest_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The two windows whose contents the body names. -/
def outs : Fin 7 → Bool := fun w => w.val == 5 || w.val == 6

/-- The block of rows that the last of its steps leaves. -/
def normed (c : Dev nD) (t : Fin cfg0.N) : Vec F S512x2048 .f32 := k0_pay2 (iblk m c 2 t) (prods m c t) (iblk m c 3 t) (iblk m c 4 t)
/-- The same in the narrower format. -/
def normed' (c : Dev nD) (t : Fin cfg0.N) : Vec F S512x2048 .bf16 := k0_pay3 (iblk m c 2 t) (prods m c t) (iblk m c 3 t) (iblk m c 4 t)

/-- What the body leaves in the two outputs: of the last step of a block of rows, the layer norm. -/
def Left (c : Dev nD) (w : Fin cfg0.W) (t : Fin cfg0.N) (X : (cfg0.win w).block.Idx → Elt F (cfg0.win w).elt) : Prop :=
  match w, X with
  | ⟨5, _⟩, X => t.val % 8 = 7 → X = normed m c t
  | ⟨6, _⟩, X => t.val % 8 = 7 → X = normed' m c t
  | _, _ => True

/-- The arrays as the kernel finds them, and what each step leaves in the input windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ t := Inv m c t.val
  q _ := fullShare
  owed _ := 0

theorem A_eq (c : Dev nD) (w : Fin cfg0.W) : (dats m 0 c).A w = V m c (Pipeline.arrRef spec0 w) := by
  dsimp only [dats]

abbrev rdat (c : Dev nD) : RDat τ (Elt F) Unit ℕ (UR sig nD τ) ℕ cfg0 c := (dats m 0 c).toRRel outs (Left m c)

theorem after_0 (c : Dev nD) (t : Fin cfg0.N) : (dats m 0 c).after 0 t = iblk m c 0 t := by dsimp only [dats]; try rfl
theorem found_0 (c : Dev nD) (t : Fin cfg0.N) (d) : (dats m 0 c).before 0 t d = iblk m c 0 t :=
  before0_0_of m (dats m 0 c) (A_eq m c 0) (after_0 m c) t d

theorem after_1 (c : Dev nD) (t : Fin cfg0.N) : (dats m 0 c).after 1 t = iblk m c 1 t := by dsimp only [dats]; try rfl
theorem found_1 (c : Dev nD) (t : Fin cfg0.N) (d) : (dats m 0 c).before 1 t d = iblk m c 1 t :=
  before0_1_of m (dats m 0 c) (A_eq m c 1) (after_1 m c) t d

theorem after_2 (c : Dev nD) (t : Fin cfg0.N) : (dats m 0 c).after 2 t = iblk m c 2 t := by dsimp only [dats]; try rfl
theorem found_2 (c : Dev nD) (t : Fin cfg0.N) (d) : (dats m 0 c).before 2 t d = iblk m c 2 t :=
  before0_2_of m (dats m 0 c) (A_eq m c 2) (after_2 m c) t d

theorem after_3 (c : Dev nD) (t : Fin cfg0.N) : (dats m 0 c).after 3 t = iblk m c 3 t := by dsimp only [dats]; try rfl
theorem found_3 (c : Dev nD) (t : Fin cfg0.N) (d) : (dats m 0 c).before 3 t d = iblk m c 3 t :=
  before0_3_of m (dats m 0 c) (A_eq m c 3) (after_3 m c) t d

theorem after_4 (c : Dev nD) (t : Fin cfg0.N) : (dats m 0 c).after 4 t = iblk m c 4 t := by dsimp only [dats]; try rfl
theorem found_4 (c : Dev nD) (t : Fin cfg0.N) (d) : (dats m 0 c).before 4 t d = iblk m c 4 t :=
  before0_4_of m (dats m 0 c) (A_eq m c 4) (after_4 m c) t d

/-- What the body is handed at step `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d))
    ∗ (∃ Y, ⌜(rdat m c).Finds 5 t Y⌝ ∗ owns (c : Thread nD τ) (st0_5 t) fullShare Y) ∗ (∃ Y, ⌜(rdat m c).Finds 6 t Y⌝ ∗ owns (c : Thread nD τ) (st0_6 t) fullShare Y))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t)
    ∗ (∃ X, ⌜Left m c 5 t X⌝ ∗ owns (c : Thread nD τ) (st0_5 t) fullShare X) ∗ (∃ X, ⌜Left m c 6 t X⌝ ∗ owns (c : Thread nD τ) (st0_6 t) fullShare X))

set_option maxHeartbeats 2400000 in
/-- The body takes the one to the other at every step. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, after_0, after_1, after_2, after_3, after_4]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  by_cases h0 : t.val % 8 = 7
  · iintro ⟨⟨⟨%s, %hs, HS⟩, Hg⟩, Ho, ⟨%d0, H0⟩, ⟨%d1, H1⟩, ⟨%d2, H2⟩, ⟨%d3, H3⟩, ⟨%d4, H4⟩, ⟨%d5, -, H5⟩, ⟨%d6, -, H6⟩⟩
    iapply (runA c (grid0.coords t) _ _ _ _ _ _ _ _ _ _ _ _ _ _ _ _ ((cond_iff t).mpr h0) (iblk m c 0 t) (iblk m c 1 t) (iblk m c 2 t) (iblk m c 3 t) (iblk m c 4 t) s Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · iexists _; isplitr
        rotate_left
        · iexact HS
        · ipureintro; exact done_succ m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      rotate_left
      · iexact H5
      · ipureintro
        intro _
        show _ = normed m c t
        unfold normed
        rw [put_all m c t s hs h0]
    iexists _; isplitr
    rotate_left
    · iexact H6
    · ipureintro
      intro _
      show _ = normed' m c t
      unfold normed'
      rw [put_all m c t s hs h0]
  · iintro ⟨⟨⟨%s, %hs, HS⟩, Hg⟩, Ho, ⟨%d0, H0⟩, ⟨%d1, H1⟩, ⟨%d2, H2⟩, ⟨%d3, H3⟩, ⟨%d4, H4⟩, ⟨%d5, -, H5⟩, ⟨%d6, -, H6⟩⟩
    iapply (runB c (grid0.coords t) _ _ _ _ _ _ _ _ _ _ _ _ _ _ _ _ (fun h => h0 ((cond_iff t).mp h)) (iblk m c 0 t) (iblk m c 1 t) (iblk m c 2 t) (iblk m c 3 t) (iblk m c 4 t) s _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr
        rotate_left
        · iexact HS
        · ipureintro; exact done_succ m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      rotate_left
      · iexact H5
      · ipureintro
        exact fun h => absurd h h0
    iexists _; isplitr
    rotate_left
    · iexact H6
    · ipureintro
      exact fun h => absurd h h0

theorem body_row (t : Fin cfg0.N) :
    defs₀ (F := F) .tc cfg0.body (cfg0.bodyArgs t (cfg0.slots t)) = bodyAt0 t := by
  unfold defs₀; rw [Defs.onTc_tc]

theorem body_holds (c : Dev nD) : Pipeline.BodyObligationRel (dats (F := F) m 0 c) (defs₀ (F := F)) Variants.none () Set.univ outs (Left m c) := fun t => by
  rw [bigSep_W0, bigSep_W0, body_row]
  exact triple_restated (body_at m c t) rfl .rfl fun _ => .rfl

/-! ## The run -/

set_option backward.isDefEq.respectTransparency.types false in
/-- The program terminates; its inputs are unchanged, and the outputs hold what `Left` says. -/
theorem run : θ_run defs (onTc (τ := τ) (main (F := F))) (s₀ m ρ) (fun r => RDat.FramePost cfg0 (fun c => rdat m c) (V m) r ∧ r.2.sem = fun _ => 0) :=
  RDat.θ_run_frame_track (Q' := _) cfgs (0 : Fin 1) launch0 defs₀ Variants.none (fun c => rdat m c) m ρ main
    (hbody := fun c => (body_holds m c).toRRel) (hshare := fun _ _ => ite_self _)
    (howed := fun _ _ => rfl) (V := V m) (hmain := hmain m Variants.none) (hA := A_eq m)
    (hin := fun c => by
      show Pipeline.ΦA spec0 c ⊢ Inv m c 0
      rw [rest_eq]; unfold Inv
      iintro ⟨⟨%s, HS⟩, Hg⟩
      isplitl [HS]
      · iexists s; isplitr
        · ipureintro; exact done_zero m c s
        iexact HS
      iexact Hg)
    (hout := fun c => by
      show Inv m c cfg0.N ⊢ Pipeline.ΦA spec0 c
      rw [rest_eq]; unfold Inv
      iintro ⟨⟨%s, -, HS⟩, Hg⟩
      isplitl [HS]
      · iexists s; iexact HS
      iexact Hg)

/-- Every run ends, with the arguments as launched and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩, h.2⟩) (run m ρ)

end Cert.DownIdeal.Proved

end
-- ==== Proof.Down.lean ====
/-
  The down projection of the feed-forward part, with its residual and its layer norm: the product is made a block of columns a step, the norm
  once a block of rows.
-/
module

public import proofs.«01_k».proof.Defs
public import proofs.«01_k».proof.Proof.DownIdealFrame
public import proofs.«01_k».proof.Proof.Gen.DownRefIdeal.Run
public import proofs.«01_k».proof.Proof.Gen.DownRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DownIdeal.Proved

open Idealize.ShloMosaic Idealize.ShloMosaic.TcCoe Idealize.SL.Sem
open Idealize.ShloMosaic.Pipeline (Dat RDat)
open Cert.DownIdeal Cert.DownIdeal.Gen Cert.DownRefIdeal.Read

variable (m : (ℓ : Loc nD τ sig) → Buf (Elt Ideal) ℓ)

/-- The product's left factor, its right factor, the residual, and the norm's scale and shift, as launched. -/
abbrev X0 (c : Dev nD) : FVec Ideal S8x2048x5632 .f32 := m ((c : Thread nD τ).loc main_arg0)
abbrev X1 (c : Dev nD) : FVec Ideal S1x5632x2048 .f32 := m ((c : Thread nD τ).loc main_arg1)
abbrev X2 (c : Dev nD) : FVec Ideal S8x2048x2048 .f32 := m ((c : Thread nD τ).loc main_arg2)
abbrev X3 (c : Dev nD) : FVec Ideal S1x2048 .f32 := m ((c : Thread nD τ).loc main_arg3)
abbrev X4 (c : Dev nD) : FVec Ideal S1x2048 .f32 := m ((c : Thread nD τ).loc main_arg4)

/-- The reference's result as a function of the arguments. -/
abbrev REF (A : FVec Ideal S8x2048x5632 .f32) (W : FVec Ideal S1x5632x2048 .f32) (H : FVec Ideal S8x2048x2048 .f32)
    (G B : FVec Ideal S1x2048 .f32) : FVec Ideal S16384x2048 .f32 :=
  val_main_v31 (F := Ideal) A W H G B

/-- Which blocks a point of the grid takes. -/
theorem idx : ∀ t : Fin cfg0.N, win0_0.index t = ![t.val / 8, 0] ∧ win0_1.index t = ![0, t.val % 8]
    ∧ win0_2.index t = ![t.val / 8, 0] ∧ win0_3.index t = ![0, 0] ∧ win0_4.index t = ![0, 0]
    ∧ win0_5.index t = ![t.val / 8, 0] ∧ win0_6.index t = ![t.val / 8, 0] :=
  (by decide +kernel : ∀ t : Fin grid0.N, _)

theorem read_x (c : Dev nD) (t : Fin cfg0.N) (r : Fin 512) (k : Fin 5632) (a : Fin 8) (b : Fin 2048)
    (h : t.val / 8 * 512 + r.val = a.val * 2048 + b.val) :
    (iblk m c 0 t : FVec Ideal S512x5632 .bf16) (ix2 r k) = X0 m c (ix3 a b k) := by
  have ht : t.val < 256 := lt_of_lt_of_eq t.isLt N_0
  have e : (iblk m c 0 t : FVec Ideal S512x5632 .bf16) (ix2 r k)
      = (V m c main_v1 : FVec Ideal S16384x5632 .bf16) (ix2 ⟨t.val / 8 * 512 + r.val, by omega⟩ k) := by
    blk_ext [iblk, idx t]
  rw [e]
  entry_read
  pointwise
  blk_ext

theorem read_w (c : Dev nD) (t : Fin cfg0.N) (k : Fin 5632) (r : Fin 256) (a : Fin 2048)
    (h : t.val % 8 * 256 + r.val = a.val) :
    (iblk m c 1 t : FVec Ideal S5632x256 .bf16) (ix2 k r) = X1 m c (ix3 0 k a) := by
  have e : (iblk m c 1 t : FVec Ideal S5632x256 .bf16) (ix2 k r)
      = (V m c main_v3 : FVec Ideal S5632x2048 .bf16) (ix2 k ⟨t.val % 8 * 256 + r.val, by omega⟩) := by
    blk_ext [iblk, idx t]
  rw [e]
  entry_read
  pointwise
  blk_ext

theorem read_h (c : Dev nD) (t : Fin cfg0.N) (r : Fin 512) (k : Fin 2048) (a : Fin 8) (b : Fin 2048)
    (h : t.val / 8 * 512 + r.val = a.val * 2048 + b.val) :
    (iblk m c 2 t : FVec Ideal S512x2048 .f32) (ix2 r k) = X2 m c (ix3 a b k) := by
  have ht : t.val < 256 := lt_of_lt_of_eq t.isLt N_0
  have e : (iblk m c 2 t : FVec Ideal S512x2048 .f32) (ix2 r k)
      = (V m c main_v4 : FVec Ideal S16384x2048 .f32) (ix2 ⟨t.val / 8 * 512 + r.val, by omega⟩ k) := by
    blk_ext [iblk, idx t]
  rw [e]
  entry_read
  pointwise
  blk_ext

theorem read_g (c : Dev nD) (t : Fin cfg0.N) (z : Fin 1) (k : Fin 2048) :
    (iblk m c 3 t : FVec Ideal S1x2048 .f32) (ix2 z k) = X3 m c (ix2 0 k) := by
  have e : (iblk m c 3 t : FVec Ideal S1x2048 .f32) (ix2 z k)
      = (V m c main_v6 : FVec Ideal S1x2048 .f32) (ix2 0 k) := by
    blk_ext [iblk, idx t]
  rw [e]
  entry_read
  pointwise
  blk_ext

theorem read_b (c : Dev nD) (t : Fin cfg0.N) (z : Fin 1) (k : Fin 2048) :
    (iblk m c 4 t : FVec Ideal S1x2048 .f32) (ix2 z k) = X4 m c (ix2 0 k) := by
  have e : (iblk m c 4 t : FVec Ideal S1x2048 .f32) (ix2 z k)
      = (V m c main_v8 : FVec Ideal S1x2048 .f32) (ix2 0 k) := by
    blk_ext [iblk, idx t]
  rw [e]
  entry_read
  pointwise
  blk_ext

/-- An entry of the product is the reference's. -/
theorem prod_eq (c : Dev nD) (t : Fin cfg0.N) (r : Fin 512) (k : Fin 2048) (a : Fin 8) (b : Fin 2048)
    (h : t.val / 8 * 512 + r.val = a.val * 2048 + b.val) :
    prods m c t (ix2 r k) = (val_main_v1 (F := Ideal) (X0 m c) (X1 m c) : FVec Ideal S8x2048x2048 .f32) (ix3 a b k) := by
  have ht : t.val < 256 := lt_of_lt_of_eq t.isLt N_0
  have hc : (colStep t (ix2 r k)).val = t.val / 8 * 8 + k.val / 256 := rfl
  show k0_pay1 (F := Ideal) (iblk m c 0 (colStep t (ix2 r k))) (iblk m c 1 (colStep t (ix2 r k)))
    (ix2 r (⟨k.val % 256, Nat.mod_lt _ (by decide)⟩ : Fin 256)) = _
  pointwise [k0_pay1, val_main_v0, val_main_v1]
  refine Finset.sum_congr rfl fun l _ => Ideal.mul_congr (read_x m c _ _ _ _ _ ?_) ((read_w m c _ _ _ k ?_).trans ?_)
  · omega
  · show (colStep t (ix2 r k)).val % 8 * 256 + k.val % 256 = k.val
    omega
  · blk_ext

/-- The block of rows that is written back is the reference's, entry by entry. -/
theorem point (c : Dev nD) (t : Fin cfg0.N) (r : Fin 512) (s : Fin 2048) (p : Fin 16384) (q : Fin 2048)
    (hp : p.val = t.val / 8 * 512 + r.val) (hq : q.val = s.val) :
    normed m c t (ix2 r s) = REF (X0 m c) (X1 m c) (X2 m c) (X3 m c) (X4 m c) (ix2 p q) := by
  have ht : t.val < 256 := lt_of_lt_of_eq t.isLt N_0
  obtain rfl : q = s := Fin.ext hq
  have hk : ∀ k : Fin 2048, prods m c t (ix2 r k) = (val_main_v1 (F := Ideal) (X0 m c) (X1 m c) : FVec Ideal S8x2048x2048 .f32)
      (ix3 ⟨p.val / 2048, by omega⟩ ⟨p.val % 2048, by omega⟩ k) := fun k => prod_eq m c t r k _ _ (by dsimp only; omega)
  have hh : ∀ k : Fin 2048, (iblk m c 2 t : FVec Ideal S512x2048 .f32) (ix2 r k) = X2 m c
      (ix3 ⟨p.val / 2048, by omega⟩ ⟨p.val % 2048, by omega⟩ k) := fun k => read_h m c t r k _ _ (by dsimp only; omega)
  have hg := read_g m c t 0 q
  have hb := read_b m c t 0 q
  unfold normed
  generalize prods m c t = P at hk ⊢
  generalize hv : val_main_v1 (F := Ideal) (X0 m c) (X1 m c) = G at hk
  generalize (iblk m c 2 t : FVec Ideal S512x2048 .f32) = R at hh ⊢
  generalize (iblk m c 3 t : FVec Ideal S1x2048 .f32) = G3 at hg ⊢
  generalize (iblk m c 4 t : FVec Ideal S1x2048 .f32) = B4 at hb ⊢
  pointwise [k0_pay2, REF, val_main_v0, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2, val_main_cst_3, val_main_cst_4, hv]
  simp only [hk, hh, hg, hb]

/-- The array of window 5 after the run is the reference's, whatever the steps left that were not written back. -/
theorem final_5 (c : Dev nD) {U : Type} [Idealize.SL.RA.URA U] (D : Dat τ (Elt Ideal) Unit ℕ U ℕ cfg0 c)
    (hD : ∀ t, (cfg0.win 5).flush t = true → D.after 5 t = normed m c t) :
    D.arrAt 5 cfg0.N = (val_main_v31 (F := Ideal) (X0 m c) (X1 m c) (X2 m c) (X3 m c) (X4 m c) : FVec Ideal S16384x2048 .f32) := by
  refine D.arrAt_eq_of_covers 5 _ (by decide +kernel) fun t hf y => ?_
  have e := point m c t (y (0 : Fin 2)) (y (1 : Fin 2)) (((cfg0.win 5).blk t).view.emb y (0 : Fin 2)) (((cfg0.win 5).blk t).view.emb y (1 : Fin 2))
    (by blk_simp [idx t]) (by blk_simp [idx t])
  blk_simp
  rw [hD t hf]
  exact (congrArg (normed m c t) (eq_ix2 y)).trans (e.trans (congrArg (val_main_v31 (F := Ideal) (X0 m c) (X1 m c) (X2 m c) (X3 m c) (X4 m c)) (ix2_eta _)))

/-- What every run leaves in the results. -/
theorem results (ρ : Dev nD → PrngReg) :
    θ_run defs (onTc (τ := τ) (main (F := Ideal))) ⟨m, fun _ => 0, ρ⟩ (fun r => ∀ c : Dev nD,
      r.2.mem ((c.tc : Thread nD τ).loc main_v9_0) = val_main_v31 (F := Ideal) (X0 m c) (X1 m c) (X2 m c) (X3 m c) (X4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run m ρ)
  obtain ⟨after, hL, hA⟩ := RDat.FramePost.exists_exact h.1 c
  exact ⟨(hA 5).trans (final_5 m c _ fun t hf => Dat.toRRel_leaves (dats m 0 c) rfl (hL 5 t hf) ((flush0_5 t).mp hf)),
    ((h.1 c).2 main_arg0 (by decide : main_arg0 ∈ Pipeline.restRefs sig spec0)).trans (V_main_arg0 m c),
    ((h.1 c).2 main_arg1 (by decide : main_arg1 ∈ Pipeline.restRefs sig spec0)).trans (V_main_arg1 m c),
    ((h.1 c).2 main_arg2 (by decide : main_arg2 ∈ Pipeline.restRefs sig spec0)).trans (V_main_arg2 m c),
    ((h.1 c).2 main_arg3 (by decide : main_arg3 ∈ Pipeline.restRefs sig spec0)).trans (V_main_arg3 m c),
    ((h.1 c).2 main_arg4 (by decide : main_arg4 ∈ Pipeline.restRefs sig spec0)).trans (V_main_arg4 m c)⟩

/-- Over the reals the kernel computes the reference's rows. -/
theorem algebraic : Cert.algebraic_DownIdeal_DownRefIdeal := by
  pair_intro
  · run_from results m g
  · run_from Cert.DownRefIdeal.Value.run m' g'
    · rw [Cert.DownRefIdeal.Read.val_main_v31_eq, (hagree c).1, (hagree c).2.1, (hagree c).2.2.1, (hagree c).2.2.2.1, (hagree c).2.2.2.2]

end Cert.DownIdeal.Proved

end
-- ==== Proof.ConvFfnIdealRun.lean ====
module

public import proofs.«01_k».proof.Proof.Gen.ConvFfnIdeal.Frame
public import proofs.«01_k».proof.Proof.Gen.ConvFfnIdeal.Skeleton
public import proofs.«01_k».proof.Proof.Gen.ConvFfnIdeal.Points
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.Claim

/-!
# One step of the ConvFFN's up and gate projections

A step makes a tile of the two projections, in two halves of 256 columns. In each half it reads the last eight rows that the tile
above left, convolves, and leaves its own last eight rows in their place.
-/

@[expose] public section

set_option maxRecDepth 16384

noncomputable section

namespace Cert.ConvFfnIdeal.Proved

open Cert.ConvFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## Stores in part of a buffer -/

/-- A buffer after a store in the box of sizes `size` at `off`: the stored tile in the box, the rest as it was. -/
def put {s : Shape} {e : EltTy} (off size : Fin s.rank → ℕ) (T : ((a : Fin s.rank) → Fin (size a)) → Elt F e)
    (d : s.Idx → Elt F e) : s.Idx → Elt F e := fun y =>
  if h : ∀ a, off a ≤ (y a).val ∧ (y a).val < off a + size a then T (Rect.unitLocal y h) else d y

/-- Reading after a list of stores, the newest first. -/
theorem read_put {s : Shape} {e : EltTy} (v : View sig .tc .vmem s e) (f : v.ty.Contents (Elt F)) {off off' size : Fin s.rank → ℕ}
    (inb : ∀ a, off a + size a ≤ s.size a) (w : (Rect.unit off size inb).shape.Idx → Elt F e) (L : List (View.Piece (Elt F) s e))
    (heq : off = off') (d : s.Idx → Elt F e) (hd : v.read (Elt F) (v.writes (Elt F) f L) = d) :
    v.read (Elt F) (v.writes (Elt F) f ((⟨Rect.unit off size inb, w⟩ : View.Piece (Elt F) s e) :: L)) = put off' size w d := by
  subst hd
  exact funext fun y => View.read_writes_cons_unit v f inb w L y heq

/-- A store over the whole buffer leaves what is stored. -/
theorem put_whole {s : Shape} {e : EltTy} (off : Fin s.rank → ℕ) (h0 : ∀ a, off a = 0) (T d : s.Idx → Elt F e) :
    put off s.size T d = T := by
  funext y
  unfold put
  rw [dif_pos fun a => by rw [h0 a]; exact ⟨Nat.zero_le _, by rw [Nat.zero_add]; exact (y a).isLt⟩]
  exact congrArg T (funext fun a => Fin.ext (by rw [Rect.unitLocal_val, h0 a, Nat.sub_zero]))

/-! ## The halves of a step's blocks -/

/-- The left half of a weight's block. -/
abbrev wl : Rect S2048x512 := Rect.unit (s := S2048x512) ![0, 0] S2048x256.size inb_S2048x512_S2048x256_0_0
/-- The right half of a weight's block. -/
abbrev wr : Rect S2048x512 := Rect.unit (s := S2048x512) ![0, 256] S2048x256.size inb_S2048x512_S2048x256_0_256
/-- The left half of the convolution's block. -/
abbrev cl : Rect S3x512 := Rect.unit (s := S3x512) ![0, 0] S3x256.size inb_S3x512_S3x256_0_0
/-- The right half of the convolution's block. -/
abbrev cr : Rect S3x512 := Rect.unit (s := S3x512) ![0, 256] S3x256.size inb_S3x512_S3x256_0_256
/-- The left half of the bias's block. -/
abbrev bl : Rect S1x512 := Rect.unit (s := S1x512) ![0, 0] S1x256.size inb_S1x512_S1x256_0_0
/-- The right half of the bias's block. -/
abbrev br : Rect S1x512 := Rect.unit (s := S1x512) ![0, 256] S1x256.size inb_S1x512_S1x256_0_256
/-- Where the left half of a column tile's last rows lies in the scratch. -/
abbrev kl (i : grid0.Coords) : Rect S11x8x512 := Rect.unit (s := S11x8x512) (k0_off1 i) S1x8x256.size (k0_off1_inb i)
/-- Where the right half lies. -/
abbrev kr (i : grid0.Coords) : Rect S11x8x512 := Rect.unit (s := S11x8x512) (k0_off2 i) S1x8x256.size (k0_off2_inb i)

/-- The left half of a tile of the up projection. -/
def upL (x0 : Vec F S512x2048 .bf16) (x1 : Vec F S2048x512 .bf16) : FVec F S512x256 .f32 := k0_pay5 x0 (View.ld x1 wl)
/-- The right half. -/
def upR (x0 : Vec F S512x2048 .bf16) (x1 : Vec F S2048x512 .bf16) : FVec F S512x256 .f32 := k0_pay18 (k0_pay4 x0) (View.ld x1 wr)

/-- The left half of a tile of the activation, from the last rows `C` of the tile above. -/
def actL (i : grid0.Coords) (x0 : Vec F S512x2048 .bf16) (x1 : Vec F S2048x512 .bf16) (x2 : Vec F S2048x512 .bf16) (x3 : Vec F S3x512 .f32) (x4 : Vec F S1x512 .f32) (C : Vec F S1x8x256 .f32) : FVec F S512x256 .bf16 :=
  k0_pay16 (k0_pay6 x0 (View.ld x2 wl))
    (k0_pay14 (upL x0 x1) (iota .tc S512x256 32 [0] iota_S512x256_d0_w32) (k0_pay7 x0 (View.ld x1 wl)) (k0_pay8 x0 (View.ld x1 wl)) (k0_pay10 i C) (k0_pay11 i C) (View.ld x3 cl) (View.ld x4 bl))
    (k0_pay15 (upL x0 x1) (iota .tc S512x256 32 [0] iota_S512x256_d0_w32) (k0_pay7 x0 (View.ld x1 wl)) (k0_pay8 x0 (View.ld x1 wl)) (k0_pay10 i C) (k0_pay11 i C) (View.ld x3 cl) (View.ld x4 bl))
/-- The right half. -/
def actR (i : grid0.Coords) (x0 : Vec F S512x2048 .bf16) (x1 : Vec F S2048x512 .bf16) (x2 : Vec F S2048x512 .bf16) (x3 : Vec F S3x512 .f32) (x4 : Vec F S1x512 .f32) (C : Vec F S1x8x256 .f32) : FVec F S512x256 .bf16 :=
  k0_pay1 (k0_pay19 (k0_pay4 x0) (View.ld x2 wr))
    (k0_pay27 (upR x0 x1) (iota .tc S512x256 32 [0] iota_S512x256_d0_w32) (k0_pay20 (k0_pay4 x0) (View.ld x1 wr)) (k0_pay21 (k0_pay4 x0) (View.ld x1 wr)) (k0_pay23 (BitVec.ofNat 32 (i 0).val) C) (k0_pay24 (BitVec.ofNat 32 (i 0).val) C) (View.ld x3 cr) (View.ld x4 br))
    (k0_pay28 (upR x0 x1) (iota .tc S512x256 32 [0] iota_S512x256_d0_w32) (k0_pay20 (k0_pay4 x0) (View.ld x1 wr)) (k0_pay21 (k0_pay4 x0) (View.ld x1 wr)) (k0_pay23 (BitVec.ofNat 32 (i 0).val) C) (k0_pay24 (BitVec.ofNat 32 (i 0).val) C) (View.ld x3 cr) (View.ld x4 br))

/-- A tile of the activation, over what its buffer held. -/
def act (i : grid0.Coords) (x0 : Vec F S512x2048 .bf16) (x1 : Vec F S2048x512 .bf16) (x2 : Vec F S2048x512 .bf16) (x3 : Vec F S3x512 .f32) (x4 : Vec F S1x512 .f32) (C D : Vec F S1x8x256 .f32) (d : Vec F S512x512 .bf16) : Vec F S512x512 .bf16 :=
  put (s := S512x512) ![0, 256] S512x256.size (actR i x0 x1 x2 x3 x4 D) (put (s := S512x512) ![0, 0] S512x256.size (actL i x0 x1 x2 x3 x4 C) d)
/-- The last eight rows of a tile of the up projection, over what their buffer held. -/
def tail (x0 : Vec F S512x2048 .bf16) (x1 : Vec F S2048x512 .bf16) (d : Vec F S8x512 .f32) : Vec F S8x512 .f32 :=
  put (s := S8x512) ![0, 256] S8x256.size (k0_pay2 (upR x0 x1)) (put (s := S8x512) ![0, 0] S8x256.size (k0_pay17 (upL x0 x1)) d)
/-- The scratch after the left half of a step. -/
def midway (i : grid0.Coords) (x0 : Vec F S512x2048 .bf16) (x1 : Vec F S2048x512 .bf16) (s : Vec F S11x8x512 .f32) : Vec F S11x8x512 .f32 :=
  put (s := S11x8x512) (k0_off1 i) S1x8x256.size (k0_pay12 (upL x0 x1)) s
/-- The scratch after a step. -/
def carry (i : grid0.Coords) (x0 : Vec F S512x2048 .bf16) (x1 : Vec F S2048x512 .bf16) (s : Vec F S11x8x512 .f32) : Vec F S11x8x512 .f32 :=
  put (s := S11x8x512) (k0_off2 i) S1x8x256.size (k0_pay25 (upR x0 x1)) (midway i x0 x1 s)

/-- The left half's store is not in the columns that the right half reads. -/
theorem ld_midway (i : grid0.Coords) (x0 : Vec F S512x2048 .bf16) (x1 : Vec F S2048x512 .bf16) (s : Vec F S11x8x512 .f32) :
    View.ld (midway i x0 x1 s) (kr i) = View.ld s (kr i) := by
  funext x
  refine dif_neg fun h => ?_
  have h2 := (h (2 : Fin 3)).2
  have e : ((kr i).idx x (2 : Fin 3)).val = 256 + 1 * (x (2 : Fin 3)).val := rfl
  rw [e] at h2
  have : k0_off1 i (2 : Fin 3) = 0 := rfl
  rw [this] at h2
  change 256 + 1 * (x (2 : Fin 3)).val < 0 + 256 at h2
  omega

/-- The body's branch: the first step of all. -/
abbrev isFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem zero2 : (![0, 0] : Fin 2 → ℕ) = fun _ => 0 := by decide
theorem ld_x (x : Vec F S512x2048 .bf16) (h) : View.ld x (Rect.unit (s := S512x2048) ![0, 0] ![512, 2048] h) = x :=
  View.ld_unit_zero (S := S512x2048) zero2 h x

set_option maxHeartbeats 4000000 in
/-- The first step, which sets the scratch to zero. -/
theorem runA (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S11x8x512 .f32) (harg9 : arg9.IsWhole) (hc0 : isFirst i)
    (x0 : Vec F S512x2048 .bf16) (x1 : Vec F S2048x512 .bf16) (x2 : Vec F S2048x512 .bf16) (x3 : Vec F S3x512 .f32) (x4 : Vec F S1x512 .f32) (s : Vec F S11x8x512 .f32) (d5 : Vec F S512x512 .bf16) (d6 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (act i x0 x1 x2 x3 x4 (View.ld (k0_pay3 (F := F)) (kl i)) (View.ld (k0_pay3 (F := F)) (kr i)) d5) ∗ owns (c : Thread nD τ) arg8 fullShare (tail x0 x1 d6) ∗ owns (c : Thread nD τ) arg9 fullShare (carry i x0 x1 (k0_pay3 (F := F)))) -∗ K ⟨⟩))
      ⊢ wp frame (wpE (defs₀ (F := F)) Variants.none c none) E (cc0__ffn1_kernel i arg2 harg2 arg3 harg3 arg4 harg4 arg5 harg5 arg6 harg6 arg7 harg7 arg8 harg8 arg9 harg9) K := by
  simp only [cc0__ffn1_kernel_eq_skeleton]; unfold cc0__ffn1_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    rotate_left
    · iexact H5
    · ipureintro
      sl_unfold_words
      simp only [View.readAt_eq_ld, Memref.IsWhole.read_unread, ld_x]
      refine (read_put arg7.view _ _ _ _ rfl _ (read_put arg7.view _ _ _ _ rfl _ (harg7.read_unread d5))).trans ?_
      have hw : ∀ f, arg9.view.read (Elt F) (arg9.view.writes (Elt F) f [(⟨Rect.unit (s := S11x8x512) ![0, 0, 0] S11x8x512.size inb_S11x8x512_S11x8x512_0_0_0, k0_pay3 (F := F)⟩ : View.Piece (Elt F) S11x8x512 .f32)]) = k0_pay3 (F := F) := fun f =>
        (read_put arg9.view f _ _ [] rfl _ rfl).trans (put_whole _ (by decide) _ _)
      have hC : View.ld (arg9.view.read (Elt F) (arg9.view.writes (Elt F) arg9.view.junk [(⟨Rect.unit (s := S11x8x512) ![0, 0, 0] S11x8x512.size inb_S11x8x512_S11x8x512_0_0_0, k0_pay3 (F := F)⟩ : View.Piece (Elt F) S11x8x512 .f32)])) (kl i) = View.ld (k0_pay3 (F := F)) (kl i) :=
        congrArg (fun X => View.ld X (kl i)) (hw _)
      have hD : View.ld (arg9.view.read (Elt F) (arg9.view.writes (Elt F) arg9.view.junk [(⟨kl i, k0_pay12 (upL x0 x1)⟩ : View.Piece (Elt F) S11x8x512 .f32), (⟨Rect.unit (s := S11x8x512) ![0, 0, 0] S11x8x512.size inb_S11x8x512_S11x8x512_0_0_0, k0_pay3 (F := F)⟩ : View.Piece (Elt F) S11x8x512 .f32)])) (kr i) = View.ld (k0_pay3 (F := F)) (kr i) :=
        (congrArg (fun X => View.ld X (kr i)) (read_put arg9.view _ _ _ _ rfl _ (hw _))).trans (ld_midway i x0 x1 _)
      exact congrArg₂ (fun C D => act i x0 x1 x2 x3 x4 C D d5) hC hD
  isplitl [H6]
  · iexists _; isplitr
    rotate_left
    · iexact H6
    · ipureintro
      sl_unfold_words
      simp only [View.readAt_eq_ld, Memref.IsWhole.read_unread, ld_x]
      exact read_put arg8.view _ _ _ _ rfl _ (read_put arg8.view _ _ _ _ rfl _ (harg8.read_unread d6))
  iexists _; isplitr
  rotate_left
  · iexact H7
  · ipureintro
    sl_unfold_words
    simp only [View.readAt_eq_ld, Memref.IsWhole.read_unread, ld_x]
    exact read_put arg9.view _ _ _ _ rfl _ (read_put arg9.view _ _ _ _ rfl _ ((read_put arg9.view _ _ _ _ rfl _ rfl).trans (put_whole _ (by decide) _ _)))

set_option maxHeartbeats 4000000 in
/-- A later step. -/
theorem runB (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S11x8x512 .f32) (harg9 : arg9.IsWhole) (hc0 : ¬ isFirst i)
    (x0 : Vec F S512x2048 .bf16) (x1 : Vec F S2048x512 .bf16) (x2 : Vec F S2048x512 .bf16) (x3 : Vec F S3x512 .f32) (x4 : Vec F S1x512 .f32) (s : Vec F S11x8x512 .f32) (d5 : Vec F S512x512 .bf16) (d6 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (act i x0 x1 x2 x3 x4 (View.ld s (kl i)) (View.ld s (kr i)) d5) ∗ owns (c : Thread nD τ) arg8 fullShare (tail x0 x1 d6) ∗ owns (c : Thread nD τ) arg9 fullShare (carry i x0 x1 s)) -∗ K ⟨⟩))
      ⊢ wp frame (wpE (defs₀ (F := F)) Variants.none c none) E (cc0__ffn1_kernel i arg2 harg2 arg3 harg3 arg4 harg4 arg5 harg5 arg6 harg6 arg7 harg7 arg8 harg8 arg9 harg9) K := by
  simp only [cc0__ffn1_kernel_eq_skeleton]; unfold cc0__ffn1_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    rotate_left
    · iexact H5
    · ipureintro
      sl_unfold_words
      simp only [View.readAt_eq_ld, Memref.IsWhole.read_unread, ld_x]
      refine (read_put arg7.view _ _ _ _ rfl _ (read_put arg7.view _ _ _ _ rfl _ (harg7.read_unread d5))).trans ?_
      unfold act actL actR upL upR
      rfl
  isplitl [H6]
  · iexists _; isplitr
    rotate_left
    · iexact H6
    · ipureintro
      sl_unfold_words
      simp only [View.readAt_eq_ld, Memref.IsWhole.read_unread, ld_x]
      exact read_put arg8.view _ _ _ _ rfl _ (read_put arg8.view _ _ _ _ rfl _ (harg8.read_unread d6))
  iexists _; isplitr
  rotate_left
  · iexact H7
  · ipureintro
    sl_unfold_words
    simp only [View.readAt_eq_ld, Memref.IsWhole.read_unread, ld_x]
    exact read_put arg9.view _ _ _ _ rfl _ (read_put arg9.view _ _ _ _ rfl _ (harg9.read_unread s))

end Cert.ConvFfnIdeal.Proved

end
-- ==== Proof.ConvFfnIdealFrame.lean ====
module

public import proofs.«01_k».proof.Proof.ConvFfnIdealRun
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.Claim

/-!
# The run of the ConvFFN's up and gate projections

Between steps the scratch holds, for each of the eleven column tiles, the last eight rows of the tile of the up projection that was
made there last. A step at the start of a sequence reads zeros in their place.
-/

@[expose] public section

set_option maxRecDepth 16384

noncomputable section

namespace Cert.ConvFfnIdeal.Proved

open Cert.ConvFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the steps read and store -/

theorem in_put {s : Shape} {e : EltTy} (off size : Fin s.rank → ℕ) (T : ((a : Fin s.rank) → Fin (size a)) → Elt F e)
    (d : s.Idx → Elt F e) (y : s.Idx) (x : (a : Fin s.rank) → Fin (size a)) (h : ∀ a, (y a).val = off a + (x a).val) :
    put off size T d y = T x := by
  unfold put
  rw [dif_pos fun a => by have := (x a).isLt; have := h a; omega]
  exact congrArg T (funext fun a => Fin.ext (by rw [Rect.unitLocal_val, h a]; omega))

theorem out_put {s : Shape} {e : EltTy} (off size : Fin s.rank → ℕ) (T : ((a : Fin s.rank) → Fin (size a)) → Elt F e)
    (d : s.Idx → Elt F e) (y : s.Idx) (a : Fin s.rank) (h : (y a).val < off a ∨ off a + size a ≤ (y a).val) :
    put off size T d y = d y := by
  unfold put
  exact dif_neg fun h' => by have := h' a; omega

/-- Two stores that cover a buffer leave nothing of what it held. -/
theorem put_cover {s : Shape} {e : EltTy} (o₁ z₁ o₂ z₂ : Fin s.rank → ℕ) (A : ((a : Fin s.rank) → Fin (z₁ a)) → Elt F e)
    (B : ((a : Fin s.rank) → Fin (z₂ a)) → Elt F e) (d d' : s.Idx → Elt F e)
    (h : ∀ y : s.Idx, (∀ a, o₁ a ≤ (y a).val ∧ (y a).val < o₁ a + z₁ a) ∨ (∀ a, o₂ a ≤ (y a).val ∧ (y a).val < o₂ a + z₂ a)) :
    put o₂ z₂ B (put o₁ z₁ A d) = put o₂ z₂ B (put o₁ z₁ A d') := by
  funext y
  unfold put
  by_cases h2 : ∀ a, o₂ a ≤ (y a).val ∧ (y a).val < o₂ a + z₂ a
  · rw [dif_pos h2, dif_pos h2]
  · have h1 := (h y).resolve_right h2
    rw [dif_neg h2, dif_neg h2, dif_pos h1, dif_pos h1]

theorem off1_eq : ∀ t : Fin cfg0.N, k0_off1 (grid0.coords t) = ![t.val % 11, 0, 0] :=
  (by decide +kernel : ∀ t : Fin grid0.N, k0_off1 (grid0.coords t) = ![t.val % 11, 0, 0])
theorem off2_eq : ∀ t : Fin cfg0.N, k0_off2 (grid0.coords t) = ![t.val % 11, 0, 256] :=
  (by decide +kernel : ∀ t : Fin grid0.N, k0_off2 (grid0.coords t) = ![t.val % 11, 0, 256])
/-- The branch is taken at the first step only. -/
theorem first_iff : ∀ t : Fin cfg0.N, isFirst (grid0.coords t) ↔ t.val = 0 :=
  (by decide +kernel : ∀ t : Fin grid0.N, isFirst (grid0.coords t) ↔ t.val = 0)

/-- The word that says whether a block of rows is the first of its sequence. -/
def startWord (a : BitVec 32) : BitVec 1 :=
  let q : BitVec 32 := Scalar.select (Scalar.cmpi .eq 4#32 0#32) 1#32 4#32
  let r : BitVec 32 := Scalar.remsi a q
  Scalar.cmpi .eq (Scalar.select (Scalar.andi (Scalar.xori (Scalar.cmpi .slt r 0#32) (Scalar.cmpi .slt q 0#32)) (Scalar.cmpi .ne r 0#32)) (Scalar.addi r q) r) 0#32
theorem start_yes : ∀ t : Fin cfg0.N, t.val / 11 % 4 = 0 → startWord (BitVec.ofNat 32 ((grid0.coords t) 0).val) = 1#1 :=
  (by decide +kernel : ∀ t : Fin grid0.N, t.val / 11 % 4 = 0 → startWord (BitVec.ofNat 32 ((grid0.coords t) 0).val) = 1#1)
theorem start_no : ∀ t : Fin cfg0.N, t.val / 11 % 4 ≠ 0 → startWord (BitVec.ofNat 32 ((grid0.coords t) 0).val) = 0#1 :=
  (by decide +kernel : ∀ t : Fin grid0.N, t.val / 11 % 4 ≠ 0 → startWord (BitVec.ofNat 32 ((grid0.coords t) 0).val) = 0#1)

theorem pay9_eq (i : grid0.Coords) (v : Vec F S1x8x256 .f32) :
    k0_pay9 i v = Scalar.select (startWord (BitVec.ofNat 32 (i 0).val)) (broadcast S8x256 (Scalar.ofBits .f32 0x00000000#32 : F .f32)) (shapeCast S8x256 v shapeCasts_S1x8x256_S8x256) := rfl
theorem pay22_eq (a : BitVec 32) (v : Vec F S1x8x256 .f32) :
    k0_pay22 a v = Scalar.select (startWord a) (broadcast S8x256 (Scalar.ofBits .f32 0x00000000#32 : F .f32)) (shapeCast S8x256 v shapeCasts_S1x8x256_S8x256) := rfl

/-- At the start of a sequence the rows above are zeros, whatever the scratch holds. -/
theorem pay9_start (t : Fin cfg0.N) (h : t.val / 11 % 4 = 0) (v : Vec F S1x8x256 .f32) :
    k0_pay9 (grid0.coords t) v = broadcast S8x256 (Scalar.ofBits .f32 0x00000000#32 : F .f32) := by
  rw [pay9_eq, start_yes t h]; rfl
theorem pay9_inside (t : Fin cfg0.N) (h : t.val / 11 % 4 ≠ 0) (v : Vec F S1x8x256 .f32) :
    k0_pay9 (grid0.coords t) v = shapeCast S8x256 v shapeCasts_S1x8x256_S8x256 := by
  rw [pay9_eq, start_no t h]; rfl
theorem pay22_start (t : Fin cfg0.N) (h : t.val / 11 % 4 = 0) (v : Vec F S1x8x256 .f32) :
    k0_pay22 (BitVec.ofNat 32 ((grid0.coords t) 0).val) v = broadcast S8x256 (Scalar.ofBits .f32 0x00000000#32 : F .f32) := by
  rw [pay22_eq, start_yes t h]; rfl
theorem pay22_inside (t : Fin cfg0.N) (h : t.val / 11 % 4 ≠ 0) (v : Vec F S1x8x256 .f32) :
    k0_pay22 (BitVec.ofNat 32 ((grid0.coords t) 0).val) v = shapeCast S8x256 v shapeCasts_S1x8x256_S8x256 := by
  rw [pay22_eq, start_no t h]; rfl

theorem act_over (i : grid0.Coords) (x0 : Vec F S512x2048 .bf16) (x1 : Vec F S2048x512 .bf16) (x2 : Vec F S2048x512 .bf16) (x3 : Vec F S3x512 .f32) (x4 : Vec F S1x512 .f32) (C D : Vec F S1x8x256 .f32) (d d' : Vec F S512x512 .bf16) :
    act i x0 x1 x2 x3 x4 C D d = act i x0 x1 x2 x3 x4 C D d' :=
  put_cover (s := S512x512) _ _ _ _ _ _ _ _ fun y => by
    have h0 : (y (0 : Fin 2)).val < 512 := (y 0).isLt
    have h1 : (y (1 : Fin 2)).val < 512 := (y 1).isLt
    rcases Nat.lt_or_ge (y (1 : Fin 2)).val 256 with h | h
    · exact Or.inl fun a => by
        match a with
        | ⟨0, _⟩ => exact ⟨Nat.zero_le _, by show (y (0 : Fin 2)).val < 0 + 512; omega⟩
        | ⟨1, _⟩ => exact ⟨Nat.zero_le _, by show (y (1 : Fin 2)).val < 0 + 256; omega⟩
    · exact Or.inr fun a => by
        match a with
        | ⟨0, _⟩ => exact ⟨Nat.zero_le _, by show (y (0 : Fin 2)).val < 0 + 512; omega⟩
        | ⟨1, _⟩ => exact ⟨h, by show (y (1 : Fin 2)).val < 256 + 256; omega⟩

theorem tail_over (x0 : Vec F S512x2048 .bf16) (x1 : Vec F S2048x512 .bf16) (d d' : Vec F S8x512 .f32) : tail x0 x1 d = tail x0 x1 d' :=
  put_cover (s := S8x512) _ _ _ _ _ _ _ _ fun y => by
    have h0 : (y (0 : Fin 2)).val < 8 := (y 0).isLt
    have h1 : (y (1 : Fin 2)).val < 512 := (y 1).isLt
    rcases Nat.lt_or_ge (y (1 : Fin 2)).val 256 with h | h
    · exact Or.inl fun a => by
        match a with
        | ⟨0, _⟩ => exact ⟨Nat.zero_le _, by show (y (0 : Fin 2)).val < 0 + 8; omega⟩
        | ⟨1, _⟩ => exact ⟨Nat.zero_le _, by show (y (1 : Fin 2)).val < 0 + 256; omega⟩
    · exact Or.inr fun a => by
        match a with
        | ⟨0, _⟩ => exact ⟨Nat.zero_le _, by show (y (0 : Fin 2)).val < 0 + 8; omega⟩
        | ⟨1, _⟩ => exact ⟨h, by show (y (1 : Fin 2)).val < 256 + 256; omega⟩

/-- At the start of a sequence a tile of the activation does not depend on the scratch. -/
theorem act_start (t : Fin cfg0.N) (h : t.val / 11 % 4 = 0) (x0 : Vec F S512x2048 .bf16) (x1 : Vec F S2048x512 .bf16) (x2 : Vec F S2048x512 .bf16) (x3 : Vec F S3x512 .f32) (x4 : Vec F S1x512 .f32) (C D C' D' : Vec F S1x8x256 .f32) (d : Vec F S512x512 .bf16) :
    act (grid0.coords t) x0 x1 x2 x3 x4 C D d = act (grid0.coords t) x0 x1 x2 x3 x4 C' D' d := by
  have e10 : k0_pay10 (grid0.coords t) C = k0_pay10 (grid0.coords t) C' := by unfold k0_pay10; rw [pay9_start t h, pay9_start t h]
  have e11 : k0_pay11 (grid0.coords t) C = k0_pay11 (grid0.coords t) C' := by unfold k0_pay11; rw [pay9_start t h, pay9_start t h]
  have e23 : k0_pay23 (BitVec.ofNat 32 ((grid0.coords t) 0).val) D = k0_pay23 (BitVec.ofNat 32 ((grid0.coords t) 0).val) D' := by
    unfold k0_pay23; rw [pay22_start t h, pay22_start t h]
  have e24 : k0_pay24 (BitVec.ofNat 32 ((grid0.coords t) 0).val) D = k0_pay24 (BitVec.ofNat 32 ((grid0.coords t) 0).val) D' := by
    unfold k0_pay24; rw [pay22_start t h, pay22_start t h]
  unfold act actL actR
  rw [e10, e11, e23, e24]

/-! ## What the scratch holds -/

/-- The step above in the same column tile, eleven steps before. -/
def above (t : Fin cfg0.N) : Fin cfg0.N := ⟨t.val - 11, lt_of_le_of_lt (Nat.sub_le _ _) t.isLt⟩

/-- The left half of the last eight rows of step `t`'s tile of the up projection. -/
def lastL (c : Dev nD) (t : Fin cfg0.N) : Vec F S1x8x256 .f32 := k0_pay12 (upL (iblk m c 0 t) (iblk m c 1 t))
/-- The right half. -/
def lastR (c : Dev nD) (t : Fin cfg0.N) : Vec F S1x8x256 .f32 := k0_pay25 (upR (iblk m c 0 t) (iblk m c 1 t))

/-- Before step `n` the scratch holds the last eight rows of the tiles that the eleven steps before it made. -/
def Done (c : Dev nD) (n : ℕ) (s : Vec F S11x8x512 .f32) : Prop :=
  ∀ t' : Fin cfg0.N, t'.val < n → n ≤ t'.val + 11 →
    View.ld s (kl (grid0.coords t')) = lastL m c t' ∧ View.ld s (kr (grid0.coords t')) = lastR m c t'

theorem done_zero (c : Dev nD) (s : Vec F S11x8x512 .f32) : Done m c 0 s := fun t' h => absurd h (Nat.not_lt_zero _)

theorem kl_val (t : Fin cfg0.N) (x : S1x8x256.Idx) (a : Fin 3) : ((kl (grid0.coords t)).idx x a).val = k0_off1 (grid0.coords t) a + 1 * (x a).val := rfl
theorem kr_val (t : Fin cfg0.N) (x : S1x8x256.Idx) (a : Fin 3) : ((kr (grid0.coords t)).idx x a).val = k0_off2 (grid0.coords t) a + 1 * (x a).val := rfl

/-- A step puts its own last rows in the place of those above. -/
theorem done_succ (c : Dev nD) (t : Fin cfg0.N) (s : Vec F S11x8x512 .f32) (h : Done m c t.val s) :
    Done m c (t.val + 1) (carry (grid0.coords t) (iblk m c 0 t) (iblk m c 1 t) s) := by
  intro t' h1 h2
  have o10 : k0_off1 (grid0.coords t) (0 : Fin 3) = t.val % 11 := by rw [off1_eq t]; rfl
  have o20 : k0_off2 (grid0.coords t) (0 : Fin 3) = t.val % 11 := by rw [off2_eq t]; rfl
  have o22 : k0_off2 (grid0.coords t) (2 : Fin 3) = 256 := by rw [off2_eq t]; rfl
  have o12 : k0_off1 (grid0.coords t) (2 : Fin 3) = 0 := by rw [off1_eq t]; rfl
  by_cases e : t' = t
  · subst e
    constructor
    · funext x
      have hx : (x (2 : Fin 3)).val < 256 := (x 2).isLt
      refine (out_put (s := S11x8x512) _ S1x8x256.size _ _ ((kl (grid0.coords t')).idx x) (2 : Fin 3) (Or.inl ?_)).trans ?_
      · rw [kl_val, o22, o12]; omega
      · exact in_put (s := S11x8x512) _ S1x8x256.size _ _ ((kl (grid0.coords t')).idx x) x fun a => by rw [kl_val]; omega
    · funext x
      exact in_put (s := S11x8x512) _ S1x8x256.size _ _ ((kr (grid0.coords t')).idx x) x fun a => by rw [kr_val]; omega
  · have e' : t'.val ≠ t.val := fun e' => e (Fin.ext e')
    have hm : t'.val % 11 ≠ t.val % 11 := by omega
    have p10 : k0_off1 (grid0.coords t') (0 : Fin 3) = t'.val % 11 := by rw [off1_eq t']; rfl
    have p20 : k0_off2 (grid0.coords t') (0 : Fin 3) = t'.val % 11 := by rw [off2_eq t']; rfl
    have hd := h t' (by omega) (by omega)
    have keep : ∀ y : S11x8x512.Idx, (y (0 : Fin 3)).val = t'.val % 11 →
        carry (grid0.coords t) (iblk m c 0 t) (iblk m c 1 t) s y = s y := fun y hy => by
      refine (out_put (s := S11x8x512) _ S1x8x256.size _ _ y (0 : Fin 3) ?_).trans (out_put (s := S11x8x512) _ S1x8x256.size _ _ y (0 : Fin 3) ?_)
      · rw [o20, hy]; show _ ∨ t.val % 11 + 1 ≤ t'.val % 11; omega
      · rw [o10, hy]; show _ ∨ t.val % 11 + 1 ≤ t'.val % 11; omega
    constructor
    · refine Eq.trans (funext fun x => keep _ ?_) hd.1
      have hx : (x (0 : Fin 3)).val < 1 := (x 0).isLt
      rw [kl_val, p10]; omega
    · refine Eq.trans (funext fun x => keep _ ?_) hd.2
      have hx : (x (0 : Fin 3)).val < 1 := (x 0).isLt
      rw [kr_val, p20]; omega

/-- What a step reads of the scratch, past the first eleven: the last rows of the tile above. -/
theorem done_reads (c : Dev nD) (t : Fin cfg0.N) (s : Vec F S11x8x512 .f32) (h : Done m c t.val s) (ht : 11 ≤ t.val) :
    View.ld s (kl (grid0.coords t)) = lastL m c (above t) ∧ View.ld s (kr (grid0.coords t)) = lastR m c (above t) := by
  have ha : (above t).val = t.val - 11 := rfl
  have hd := h (above t) (by omega) (by omega)
  have e1 : k0_off1 (grid0.coords t) = k0_off1 (grid0.coords (above t)) := by
    rw [off1_eq, off1_eq, show (above t).val % 11 = t.val % 11 by omega]
  have e2 : k0_off2 (grid0.coords t) = k0_off2 (grid0.coords (above t)) := by
    rw [off2_eq, off2_eq, show (above t).val % 11 = t.val % 11 by omega]
  constructor
  · refine Eq.trans (funext fun x => congrArg s (funext fun a => Fin.ext ?_)) hd.1
    refine (kl_val t x a).trans (Eq.trans ?_ (kl_val (above t) x a).symm)
    rw [e1]
  · refine Eq.trans (funext fun x => congrArg s (funext fun a => Fin.ext ?_)) hd.2
    refine (kr_val t x a).trans (Eq.trans ?_ (kr_val (above t) x a).symm)
    rw [e2]

/-! ## The invariant and the outputs -/

/-- The scratch. -/
abbrev scr : Memref sig .tc .vmem S11x8x512 .f32 := Memref.whole cc0_scratch0

/-- What is held between steps. -/
def Inv (c : Dev nD) (n : ℕ) : sProp 𝕄 :=
  iprop((∃ s, ⌜Done m c n s⌝ ∗ owns (c : Thread nD τ) scr fullShare s) ∗ (∃ r, prngReg c r))

theorem rest_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The tile of the activation that step `t` leaves. -/
def actAt (c : Dev nD) (t : Fin cfg0.N) : Vec F S512x512 .bf16 :=
  act (grid0.coords t) (iblk m c 0 t) (iblk m c 1 t) (iblk m c 2 t) (iblk m c 3 t) (iblk m c 4 t) (lastL m c (above t)) (lastR m c (above t)) (fun _ => (Scalar.ofBits .bf16 0x0000#16 : F .bf16))
/-- The last rows of the up projection that step `t` leaves. -/
def tailAt (c : Dev nD) (t : Fin cfg0.N) : Vec F S8x512 .f32 :=
  tail (iblk m c 0 t) (iblk m c 1 t) (fun _ => (Scalar.ofBits .f32 0x00000000#32 : F .f32))

theorem actAt_of (c : Dev nD) (t : Fin cfg0.N) (s : Vec F S11x8x512 .f32) (h : Done m c t.val s) (d : Vec F S512x512 .bf16) :
    act (grid0.coords t) (iblk m c 0 t) (iblk m c 1 t) (iblk m c 2 t) (iblk m c 3 t) (iblk m c 4 t) (View.ld s (kl (grid0.coords t))) (View.ld s (kr (grid0.coords t))) d = actAt m c t := by
  refine (act_over _ _ _ _ _ _ _ _ d (fun _ => (Scalar.ofBits .bf16 0x0000#16 : F .bf16))).trans ?_
  by_cases h11 : 11 ≤ t.val
  · have hr := done_reads m c t s h h11
    rw [hr.1, hr.2]; rfl
  · exact act_start t (by omega) _ _ _ _ _ _ _ _ _ _

/-- The arrays as the kernel finds them, and what each step leaves in the windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => actAt m c t
    | ⟨6, _⟩ => tailAt m c t
  Φ t := Inv m c t.val
  q _ := fullShare
  owed _ := 0

theorem A_eq (c : Dev nD) (w : Fin cfg0.W) : (dats m 0 c).A w = V m c (Pipeline.arrRef spec0 w) := by
  dsimp only [dats]
theorem after_5 (c : Dev nD) (t : Fin cfg0.N) : (dats m 0 c).after 5 t = actAt m c t := by dsimp only [dats]
theorem after_6 (c : Dev nD) (t : Fin cfg0.N) : (dats m 0 c).after 6 t = tailAt m c t := by dsimp only [dats]
theorem after_0 (c : Dev nD) (t : Fin cfg0.N) : (dats m 0 c).after 0 t = iblk m c 0 t := by dsimp only [dats]
theorem found_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem found_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem found_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem found_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem found_4 (c : Dev nD) (t : Fin cfg0.N) (d) : (dats m 0 c).before 4 t d = iblk m c 4 t :=
  before0_4_of m (dats m 0 c) (A_eq m c 4) (after_4 m c) t d

/-- What the body is handed at step `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

set_option maxHeartbeats 2400000 in
/-- The body takes the one to the other at every step. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, after_0, after_1, after_2, after_3, after_4, after_5, after_6]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  by_cases h0 : t.val = 0
  · iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
    rw [← actAt_of m c t (k0_pay3 (F := F)) (show Done m c t.val (k0_pay3 (F := F)) from by rw [h0]; exact done_zero m c _) ((dats m 0 c).before 5 t d5), show tailAt m c t = tail (iblk m c 0 t) (iblk m c 1 t) ((dats m 0 c).before 6 t d6) from tail_over _ _ _ _]
    iapply (runA c (grid0.coords t) _ _ _ _ _ _ _ _ _ _ _ _ _ _ _ _ ((first_iff t).mpr h0) (iblk m c 0 t) (iblk m c 1 t) (iblk m c 2 t) (iblk m c 3 t) (iblk m c 4 t) s ((dats m 0 c).before 5 t d5) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr
        rotate_left
        · iexact HS
        · ipureintro; exact done_succ m c t (k0_pay3 (F := F)) (show Done m c t.val (k0_pay3 (F := F)) from by rw [h0]; exact done_zero m c _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
    rw [← actAt_of m c t s hs ((dats m 0 c).before 5 t d5), show tailAt m c t = tail (iblk m c 0 t) (iblk m c 1 t) ((dats m 0 c).before 6 t d6) from tail_over _ _ _ _]
    iapply (runB c (grid0.coords t) _ _ _ _ _ _ _ _ _ _ _ _ _ _ _ _ (fun h => h0 ((first_iff t).mp h)) (iblk m c 0 t) (iblk m c 1 t) (iblk m c 2 t) (iblk m c 3 t) (iblk m c 4 t) s ((dats m 0 c).before 5 t d5) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr
        rotate_left
        · iexact HS
        · ipureintro; exact done_succ m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_row (t : Fin cfg0.N) :
    defs₀ (F := F) .tc cfg0.body (cfg0.bodyArgs t (cfg0.slots t)) = bodyAt0 t := by
  unfold defs₀; rw [Defs.onTc_tc]

theorem body_holds (c : Dev nD) : Pipeline.BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
/-- The program terminates with its arrays at what the steps leave. -/
theorem run : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_holds m c).loose) (hshare := fun _ _ => ite_self _)
    (howed := fun _ _ => rfl) (V₀ := V0 m) (opss := [hostOps1]) (hsub := sfx_sub) (hfresh := sfx_fresh) (hkeep := sfx_keeps)
    (hmain := hmain m Variants.none) (hA := A_eq m)
    (hin := fun c => by
      show Pipeline.ΦA spec0 c ⊢ Inv m c 0
      rw [rest_eq]; unfold Inv
      iintro ⟨⟨%s, HS⟩, Hg⟩
      isplitl [HS]
      · iexists s; isplitr
        · ipureintro; exact done_zero m c s
        iexact HS
      iexact Hg)
    (hout := fun c => by
      show Inv m c cfg0.N ⊢ Pipeline.ΦA spec0 c
      rw [rest_eq]; unfold Inv
      iintro ⟨⟨%s, -, HS⟩, Hg⟩
      isplitl [HS]
      · iexists s; iexact HS
      iexact Hg)
    (Q' := _) (hQ' := fun _ h => h)

/-- Every run ends, with the arguments as launched and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩, h.2⟩) (run m ρ)

end Cert.ConvFfnIdeal.Proved

end
-- ==== Proof.ConvFfn.lean ====
/-
  The ConvFFN's up and gate projections with the short convolution between them: a tile of the up projection is convolved along the
  sequence, the two rows above the tile coming from the tile made eleven steps before, or being zero at the start of a sequence.
-/
module

public import proofs.«01_k».proof.Defs
public import proofs.«01_k».proof.Proof.ConvFfnIdealFrame
public import proofs.«01_k».proof.Proof.Gen.ConvFfnRefIdeal.Run
public import proofs.«01_k».proof.Proof.Gen.ConvFfnRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.ConvFfnIdeal.Proved

open Idealize.ShloMosaic Idealize.ShloMosaic.TcCoe Idealize.SL.Sem
open Idealize.ShloMosaic.Pipeline (Dat)
open Cert.ConvFfnIdeal Cert.ConvFfnIdeal.Gen Cert.ConvFfnRefIdeal.Read

/-! ## One half of a tile -/

/-- Half a tile of the activation: from the tokens, the two weights' columns, the convolution's, the bias's, and the eight rows above. -/
def half (x0 : Vec Ideal S512x2048 .bf16) (u g : Vec Ideal S2048x256 .bf16) (w : Vec Ideal S3x256 .f32) (b : Vec Ideal S1x256 .f32)
    (P : FVec Ideal S8x256 .f32) : FVec Ideal S512x256 .bf16 :=
  k0_pay16 (k0_pay6 x0 g)
    (k0_pay14 (k0_pay5 x0 u) (iota .tc S512x256 32 [0] iota_S512x256_d0_w32) (k0_pay7 x0 u) (k0_pay8 x0 u)
      (extractStridedSlice S1x256 ![7, 0] P slices_S8x256_o7_0_S1x256) (extractStridedSlice S1x256 ![6, 0] P slices_S8x256_o6_0_S1x256) w b)
    (k0_pay15 (k0_pay5 x0 u) (iota .tc S512x256 32 [0] iota_S512x256_d0_w32) (k0_pay7 x0 u) (k0_pay8 x0 u)
      (extractStridedSlice S1x256 ![7, 0] P slices_S8x256_o7_0_S1x256) (extractStridedSlice S1x256 ![6, 0] P slices_S8x256_o6_0_S1x256) w b)

theorem actL_half (i : grid0.Coords) (x0 : Vec Ideal S512x2048 .bf16) (x1 x2 : Vec Ideal S2048x512 .bf16) (x3 : Vec Ideal S3x512 .f32)
    (x4 : Vec Ideal S1x512 .f32) (C : Vec Ideal S1x8x256 .f32) :
    actL i x0 x1 x2 x3 x4 C = half x0 (View.ld x1 wl) (View.ld x2 wl) (View.ld x3 cl) (View.ld x4 bl) (k0_pay9 i C) := rfl
theorem actR_half (i : grid0.Coords) (x0 : Vec Ideal S512x2048 .bf16) (x1 x2 : Vec Ideal S2048x512 .bf16) (x3 : Vec Ideal S3x512 .f32)
    (x4 : Vec Ideal S1x512 .f32) (C : Vec Ideal S1x8x256 .f32) :
    actR i x0 x1 x2 x3 x4 C = half x0 (View.ld x1 wr) (View.ld x2 wr) (View.ld x3 cr) (View.ld x4 br) (k0_pay22 (BitVec.ofNat 32 (i 0).val) C) := rfl
theorem upR_eq (x0 : Vec Ideal S512x2048 .bf16) (x1 : Vec Ideal S2048x512 .bf16) : upR x0 x1 = k0_pay5 x0 (View.ld x1 wr) := rfl

/-- The value before the activation, from the rows two above, one above and here. -/
def mixed (w0 w1 w2 b y2 y1 y0 : Ideal .f32) : Ideal .f32 := w0 * y2 + w1 * y1 + w2 * y0 + b
/-- The activation times the gate. -/
def gel (z g : Ideal .f32) : Ideal .f32 :=
  Ideal.ofBits FTy.f32 1056964608#32 * z *
    (1 + Ideal.tanh (Ideal.ofBits FTy.f32 1061962282#32 * (z + Ideal.ofBits FTy.f32 1027024659#32 * (z * z * z)))) * g

theorem mixed_congr {w0 w1 w2 b y2 y1 y0 w0' w1' w2' b' y2' y1' y0' : Ideal .f32} (h0 : w0 = w0') (h1 : w1 = w1') (h2 : w2 = w2') (hb : b = b')
    (g2 : y2 = y2') (g1 : y1 = y1') (g0 : y0 = y0') : mixed w0 w1 w2 b y2 y1 y0 = mixed w0' w1' w2' b' y2' y1' y0' := by
  rw [h0, h1, h2, hb, g2, g1, g0]
theorem gel_congr {z g z' g' : Ideal .f32} (hz : z = z') (hg : g = g') : gel z g = gel z' g' := by rw [hz, hg]

/-- The row above, in the tile or from the eight rows above it. -/
def prev1 (U : FVec Ideal S512x256 .f32) (P : FVec Ideal S8x256 .f32) (r : Fin 512) (s : Fin 256) : Ideal .f32 :=
  Scalar.select (IntOp.cmpi CmpIPredicate.eq (BitVec.ofNat 32 r.val) 0#32) (P (ix2 7 s))
    (U (ix2 ⟨(r.val + 512 - 1) % 512, Nat.mod_lt _ (by decide)⟩ s))
/-- The row two above. -/
def prev2 (U : FVec Ideal S512x256 .f32) (P : FVec Ideal S8x256 .f32) (r : Fin 512) (s : Fin 256) : Ideal .f32 :=
  Scalar.select (IntOp.cmpi CmpIPredicate.eq (BitVec.ofNat 32 r.val) 0#32) (P (ix2 6 s))
    (Scalar.select (IntOp.cmpi CmpIPredicate.eq (BitVec.ofNat 32 r.val) 1#32) (P (ix2 7 s))
      (U (ix2 ⟨(r.val + 512 - 2) % 512, Nat.mod_lt _ (by decide)⟩ s)))

theorem half_apply (x0 : Vec Ideal S512x2048 .bf16) (u g : Vec Ideal S2048x256 .bf16) (w : Vec Ideal S3x256 .f32) (b : Vec Ideal S1x256 .f32)
    (P : FVec Ideal S8x256 .f32) (r : Fin 512) (s : Fin 256) :
    half x0 u g w b P (ix2 r s) = gel (mixed (w (ix2 0 s)) (w (ix2 1 s)) (w (ix2 2 s)) (b (ix2 0 s))
      (prev2 (k0_pay5 x0 u) P r s) (prev1 (k0_pay5 x0 u) P r s) (k0_pay5 x0 u (ix2 r s))) (k0_pay6 x0 g (ix2 r s)) := by
  unfold half k0_pay7 k0_pay8
  generalize k0_pay5 x0 u = U
  generalize k0_pay6 x0 g = G
  pointwise [k0_pay16, k0_pay14, k0_pay15, k0_pay13]
  rfl

theorem word_first (r : Fin 512) (n : Fin 2) (α : Type) (x y : α) :
    Scalar.select (IntOp.cmpi CmpIPredicate.eq (BitVec.ofNat 32 r.val) (BitVec.ofNat 32 n.val)) x y = if r.val = n.val then x else y := by
  have h : ∀ r : Fin 512, ∀ n : Fin 2, IntOp.cmpi CmpIPredicate.eq (BitVec.ofNat 32 r.val) (BitVec.ofNat 32 n.val) = if r.val = n.val then 1#1 else 0#1 := by
    decide +kernel
  rw [h]
  by_cases e : r.val = n.val
  · rw [if_pos e, if_pos e]; rfl
  · rw [if_neg e, if_neg e]; rfl

theorem prev1_eq (U : FVec Ideal S512x256 .f32) (P : FVec Ideal S8x256 .f32) (r : Fin 512) (s : Fin 256) :
    prev1 U P r s = if r.val = 0 then P (ix2 7 s) else U (ix2 ⟨(r.val + 512 - 1) % 512, Nat.mod_lt _ (by decide)⟩ s) :=
  word_first r 0 _ _ _
theorem prev2_eq (U : FVec Ideal S512x256 .f32) (P : FVec Ideal S8x256 .f32) (r : Fin 512) (s : Fin 256) :
    prev2 U P r s = if r.val = 0 then P (ix2 6 s) else if r.val = 1 then P (ix2 7 s)
      else U (ix2 ⟨(r.val + 512 - 2) % 512, Nat.mod_lt _ (by decide)⟩ s) :=
  (word_first r 0 _ _ _).trans (if_congr Iff.rfl rfl (word_first r 1 _ _ _))

/-! ## The reference -/

variable (m : (ℓ : Loc nD τ sig) → Buf (Elt Ideal) ℓ)

/-- The tokens, the up and the gate weights, the convolution's weights and its bias, as launched. -/
abbrev X0 (c : Dev nD) : FVec Ideal S8x2048x2048 .f32 := m ((c : Thread nD τ).loc main_arg0)
abbrev X1 (c : Dev nD) : FVec Ideal S1x2048x5632 .f32 := m ((c : Thread nD τ).loc main_arg1)
abbrev X2 (c : Dev nD) : FVec Ideal S1x2048x5632 .f32 := m ((c : Thread nD τ).loc main_arg2)
abbrev X3 (c : Dev nD) : FVec Ideal S1x3x5632 .f32 := m ((c : Thread nD τ).loc main_arg3)
abbrev X4 (c : Dev nD) : FVec Ideal S1x5632 .f32 := m ((c : Thread nD τ).loc main_arg4)

/-- The reference's up projection. -/
abbrev UP (c : Dev nD) : FVec Ideal S8x2048x5632 .f32 := val_main_v2 (F := Ideal) (X0 m c) (X1 m c)
/-- The reference's gate projection. -/
abbrev GATE (c : Dev nD) : FVec Ideal S8x2048x5632 .f32 := val_main_v4 (F := Ideal) (X0 m c) (X2 m c)
/-- The reference's activation. -/
abbrev REF (c : Dev nD) : FVec Ideal S8x2048x5632 .bf16 := val_main_v46 (F := Ideal) (X0 m c) (X1 m c) (X2 m c) (X3 m c) (X4 m c)

/-- The reference's row two above: zero before the sequence. -/
def above2 (c : Dev nD) (a : Fin 8) (b : Fin 2048) (q : Fin 5632) : Ideal .f32 :=
  if h : b.val < 2 then 0 else UP m c (ix3 a ⟨b.val - 2, by omega⟩ q)
/-- The reference's row above. -/
def above1 (c : Dev nD) (a : Fin 8) (b : Fin 2048) (q : Fin 5632) : Ideal .f32 :=
  if h : 1 + b.val < 2 then 0 else UP m c (ix3 a ⟨1 + b.val - 2, by omega⟩ q)

/-- The same with the factors in the reference's order. -/
theorem reorder (w0 w1 w2 b y2 y1 y0 g : Ideal .f32) :
    (y2 * w0 + y1 * w1 + y0 * w2 + b) * (Ideal.ofBits FTy.f32 1056964608#32 * (1 + Ideal.tanh (Ideal.ofBits FTy.f32 1061962282#32 *
      ((y2 * w0 + y1 * w1 + y0 * w2 + b) + Ideal.ofBits FTy.f32 1027024659#32 *
        ((y2 * w0 + y1 * w1 + y0 * w2 + b) * (y2 * w0 + y1 * w1 + y0 * w2 + b) * (y2 * w0 + y1 * w1 + y0 * w2 + b)))))) * g
      = gel (mixed w0 w1 w2 b y2 y1 y0) g := by
  have e : y2 * w0 + y1 * w1 + y0 * w2 + b = mixed w0 w1 w2 b y2 y1 y0 := by
    unfold mixed
    rw [mul_comm y2, mul_comm y1, mul_comm y0]
  rw [e]
  unfold gel
  rw [← mul_assoc (mixed w0 w1 w2 b y2 y1 y0) (Ideal.ofBits FTy.f32 1056964608#32), mul_comm (mixed w0 w1 w2 b y2 y1 y0) (Ideal.ofBits FTy.f32 1056964608#32)]

theorem ref_apply (c : Dev nD) (a : Fin 8) (b : Fin 2048) (q : Fin 5632) :
    REF m c (ix3 a b q) = gel (mixed (X3 m c (ix3 0 0 q)) (X3 m c (ix3 0 1 q)) (X3 m c (ix3 0 2 q)) (X4 m c (ix2 0 q))
      (above2 m c a b q) (above1 m c a b q) (UP m c (ix3 a b q))) (GATE m c (ix3 a b q)) := by
  unfold above2 above1 UP GATE
  generalize hU : val_main_v2 (F := Ideal) (X0 m c) (X1 m c) = U
  generalize hG : val_main_v4 (F := Ideal) (X0 m c) (X2 m c) = G
  pointwise [val_main_cst, val_main_cst_0, val_main_cst_1, val_main_cst_2, val_main_cst_3, val_main_v0, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, hU]
  simp only [hU, hG]
  exact reorder _ _ _ _ _ _ _ _

theorem ref_tail (c : Dev nD) (z : Fin 1) (a : Fin 8) (b : Fin 2) (q : Fin 5632) :
    (val_main_v47 (F := Ideal) (X0 m c) (X1 m c) : FVec Ideal S1x8x2x5632 .f32) (ix4 z a b q) = UP m c (ix3 a ⟨2046 + b.val, by omega⟩ q) := by
  generalize hU : val_main_v2 (F := Ideal) (X0 m c) (X1 m c) = U
  pointwise [val_main_cst, val_main_cst_0, val_main_cst_1, val_main_cst_2, val_main_cst_3, val_main_v0, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, hU]
  rw [dif_neg (by omega)]
  exact congrArg (fun z => U (ix3 a z q)) (Fin.ext (by show 2048 + b.val - 2 = 2046 + b.val; omega))

/-! ## What the windows hold -/

theorem idx : ∀ t : Fin cfg0.N, win0_0.index t = ![t.val / 11, 0] ∧ win0_1.index t = ![0, t.val % 11]
    ∧ win0_2.index t = ![0, t.val % 11] ∧ win0_3.index t = ![0, t.val % 11] ∧ win0_4.index t = ![0, t.val % 11]
    ∧ win0_5.index t = ![t.val / 11, t.val % 11] ∧ win0_6.index t = ![t.val / 11, t.val % 11] :=
  (by decide +kernel : ∀ t : Fin grid0.N, _)

theorem read_x (c : Dev nD) (t : Fin cfg0.N) (r : Fin 512) (k : Fin 2048) (a : Fin 8) (b : Fin 2048)
    (h : t.val / 11 * 512 + r.val = a.val * 2048 + b.val) :
    (iblk m c 0 t : FVec Ideal S512x2048 .bf16) (ix2 r k) = X0 m c (ix3 a b k) := by
  have ht : t.val < 352 := lt_of_lt_of_eq t.isLt N_0
  have e : (iblk m c 0 t : FVec Ideal S512x2048 .bf16) (ix2 r k)
      = (V m c main_v1 : FVec Ideal S16384x2048 .bf16) (ix2 ⟨t.val / 11 * 512 + r.val, by omega⟩ k) := by
    blk_ext [iblk, idx t]
  rw [e]
  simp only [V, V0, hostOps0, List.flatten_cons, List.flatten_nil, List.append_nil, List.cons_append, List.nil_append]
  entry_read
  pointwise
  blk_ext

theorem read_1 (c : Dev nD) (t : Fin cfg0.N) (k : Fin 2048) (j : Fin 512) (q : Fin 5632) (h : q.val = t.val % 11 * 512 + j.val) :
    (iblk m c 1 t : FVec Ideal S2048x512 .bf16) (ix2 k j) = X1 m c (ix3 0 k q) := by
  have e : (iblk m c 1 t : FVec Ideal S2048x512 .bf16) (ix2 k j)
      = (V m c main_v3 : FVec Ideal S2048x5632 .bf16) (ix2 k ⟨t.val % 11 * 512 + j.val, by omega⟩) := by
    blk_ext [iblk, idx t]
  rw [e]
  simp only [V, V0, hostOps0, List.flatten_cons, List.flatten_nil, List.append_nil, List.cons_append, List.nil_append]
  entry_read
  pointwise
  blk_ext

theorem read_2 (c : Dev nD) (t : Fin cfg0.N) (k : Fin 2048) (j : Fin 512) (q : Fin 5632) (h : q.val = t.val % 11 * 512 + j.val) :
    (iblk m c 2 t : FVec Ideal S2048x512 .bf16) (ix2 k j) = X2 m c (ix3 0 k q) := by
  have e : (iblk m c 2 t : FVec Ideal S2048x512 .bf16) (ix2 k j)
      = (V m c main_v5 : FVec Ideal S2048x5632 .bf16) (ix2 k ⟨t.val % 11 * 512 + j.val, by omega⟩) := by
    blk_ext [iblk, idx t]
  rw [e]
  simp only [V, V0, hostOps0, List.flatten_cons, List.flatten_nil, List.append_nil, List.cons_append, List.nil_append]
  entry_read
  pointwise
  blk_ext

theorem read_3 (c : Dev nD) (t : Fin cfg0.N) (k : Fin 3) (j : Fin 512) (q : Fin 5632) (h : q.val = t.val % 11 * 512 + j.val) :
    (iblk m c 3 t : FVec Ideal S3x512 .f32) (ix2 k j) = X3 m c (ix3 0 k q) := by
  have e : (iblk m c 3 t : FVec Ideal S3x512 .f32) (ix2 k j)
      = (V m c main_v6 : FVec Ideal S3x5632 .f32) (ix2 k ⟨t.val % 11 * 512 + j.val, by omega⟩) := by
    blk_ext [iblk, idx t]
  rw [e]
  simp only [V, V0, hostOps0, List.flatten_cons, List.flatten_nil, List.append_nil, List.cons_append, List.nil_append]
  entry_read
  pointwise
  blk_ext

theorem read_4 (c : Dev nD) (t : Fin cfg0.N) (k : Fin 1) (j : Fin 512) (q : Fin 5632) (h : q.val = t.val % 11 * 512 + j.val) :
    (iblk m c 4 t : FVec Ideal S1x512 .f32) (ix2 k j) = X4 m c (ix2 0 q) := by
  have e : (iblk m c 4 t : FVec Ideal S1x512 .f32) (ix2 k j)
      = (V m c main_v8 : FVec Ideal S1x5632 .f32) (ix2 k ⟨t.val % 11 * 512 + j.val, by omega⟩) := by
    blk_ext [iblk, idx t]
  rw [e]
  simp only [V, V0, hostOps0, List.flatten_cons, List.flatten_nil, List.append_nil, List.cons_append, List.nil_append]
  entry_read
  pointwise
  blk_ext

/-! ## The left half -/

theorem upL_apply (c : Dev nD) (t : Fin cfg0.N) (r : Fin 512) (s : Fin 256) (a : Fin 8) (b : Fin 2048) (q : Fin 5632)
    (h : t.val / 11 * 512 + r.val = a.val * 2048 + b.val) (hq : q.val = t.val % 11 * 512 + (0 + s.val)) :
    k0_pay5 (iblk m c 0 t) (View.ld (iblk m c 1 t : Vec Ideal S2048x512 .bf16) wl) (ix2 r s) = UP m c (ix3 a b q) := by
  have hw : ∀ k : Fin 2048, View.ld (iblk m c 1 t : Vec Ideal S2048x512 .bf16) wl (ix2 k s) = X1 m c (ix3 0 k q) := fun k =>
    (congrArg (iblk m c 1 t : Vec Ideal S2048x512 .bf16) (funext fun a => Fin.ext (by
      match a with
      | ⟨0, _⟩ => exact (Nat.zero_add _).trans (Nat.one_mul _)
      | ⟨1, _⟩ => exact congrArg (0 + ·) (Nat.one_mul _)))).trans (read_1 m c t k ⟨0 + s.val, by omega⟩ q hq)
  generalize View.ld (iblk m c 1 t : Vec Ideal S2048x512 .bf16) wl = W at hw ⊢
  pointwise [k0_pay5, k0_pay4, val_main_v1, val_main_v2]
  refine Finset.sum_congr rfl fun k _ => Ideal.mul_congr (read_x m c t r k a b h) (hw k)

theorem gateL_apply (c : Dev nD) (t : Fin cfg0.N) (r : Fin 512) (s : Fin 256) (a : Fin 8) (b : Fin 2048) (q : Fin 5632)
    (h : t.val / 11 * 512 + r.val = a.val * 2048 + b.val) (hq : q.val = t.val % 11 * 512 + (0 + s.val)) :
    k0_pay6 (iblk m c 0 t) (View.ld (iblk m c 2 t : Vec Ideal S2048x512 .bf16) wl) (ix2 r s) = GATE m c (ix3 a b q) := by
  have hw : ∀ k : Fin 2048, View.ld (iblk m c 2 t : Vec Ideal S2048x512 .bf16) wl (ix2 k s) = X2 m c (ix3 0 k q) := fun k =>
    (congrArg (iblk m c 2 t : Vec Ideal S2048x512 .bf16) (funext fun a => Fin.ext (by
      match a with
      | ⟨0, _⟩ => exact (Nat.zero_add _).trans (Nat.one_mul _)
      | ⟨1, _⟩ => exact congrArg (0 + ·) (Nat.one_mul _)))).trans (read_2 m c t k ⟨0 + s.val, by omega⟩ q hq)
  generalize View.ld (iblk m c 2 t : Vec Ideal S2048x512 .bf16) wl = W at hw ⊢
  pointwise [k0_pay6, k0_pay4, val_main_v3, val_main_v4]
  refine Finset.sum_congr rfl fun k _ => Ideal.mul_congr (read_x m c t r k a b h) (hw k)

/-- The rows above are zero at the start of a sequence. -/
theorem rowsL_start (c : Dev nD) (t : Fin cfg0.N) (k : Fin 8) (s : Fin 256) (h : t.val / 11 % 4 = 0) :
    k0_pay9 (grid0.coords t) (lastL m c (above t)) (ix2 k s) = 0 := by
  rw [pay9_start t h]
  pointwise

/-- Elsewhere they are the last rows of the tile above. -/
theorem rowsL_inside (c : Dev nD) (t : Fin cfg0.N) (k : Fin 8) (s : Fin 256) (a : Fin 8) (b : Fin 2048) (q : Fin 5632) (h : t.val / 11 % 4 ≠ 0)
    (hb : t.val / 11 * 512 + k.val = a.val * 2048 + b.val + 8) (hq : q.val = t.val % 11 * 512 + (0 + s.val)) :
    k0_pay9 (grid0.coords t) (lastL m c (above t)) (ix2 k s) = UP m c (ix3 a b q) := by
  have ha : (above t).val = t.val - 11 := rfl
  rw [pay9_inside t h]
  have e := upL_apply m c (above t) ⟨504 + k.val, by omega⟩ s a b q (by show (above t).val / 11 * 512 + (504 + k.val) = _; omega) (by omega)
  refine Eq.trans ?_ e
  unfold lastL
  show shapeCast S8x256 (k0_pay12 (k0_pay5 (iblk m c 0 (above t)) (View.ld (iblk m c 1 (above t) : Vec Ideal S2048x512 .bf16) wl))) shapeCasts_S1x8x256_S8x256 (ix2 k s) = _
  generalize k0_pay5 (iblk m c 0 (above t)) (View.ld (iblk m c 1 (above t) : Vec Ideal S2048x512 .bf16) wl) = U
  pointwise [k0_pay12]

theorem prevL1 (c : Dev nD) (t : Fin cfg0.N) (r : Fin 512) (s : Fin 256) (a : Fin 8) (b : Fin 2048) (q : Fin 5632)
    (h : t.val / 11 * 512 + r.val = a.val * 2048 + b.val) (hq : q.val = t.val % 11 * 512 + (0 + s.val)) :
    prev1 (k0_pay5 (iblk m c 0 t) (View.ld (iblk m c 1 t : Vec Ideal S2048x512 .bf16) wl)) (k0_pay9 (grid0.coords t) (lastL m c (above t))) r s = above1 m c a b q := by
  rw [prev1_eq]
  unfold above1
  by_cases h0 : r.val = 0
  · rw [if_pos h0]
    by_cases hs : t.val / 11 % 4 = 0
    · rw [rowsL_start m c t 7 s hs, dif_pos (by omega)]
    · rw [dif_neg (by omega)]
      exact rowsL_inside m c t 7 s a _ q hs (by show _ + 7 = _ + (1 + b.val - 2) + 8; omega) hq
  · rw [if_neg h0, dif_neg (by omega)]
    exact upL_apply m c t _ s a _ q (by show _ + (r.val + 512 - 1) % 512 = _ + (1 + b.val - 2); omega) hq

theorem prevL2 (c : Dev nD) (t : Fin cfg0.N) (r : Fin 512) (s : Fin 256) (a : Fin 8) (b : Fin 2048) (q : Fin 5632)
    (h : t.val / 11 * 512 + r.val = a.val * 2048 + b.val) (hq : q.val = t.val % 11 * 512 + (0 + s.val)) :
    prev2 (k0_pay5 (iblk m c 0 t) (View.ld (iblk m c 1 t : Vec Ideal S2048x512 .bf16) wl)) (k0_pay9 (grid0.coords t) (lastL m c (above t))) r s = above2 m c a b q := by
  rw [prev2_eq]
  unfold above2
  by_cases h0 : r.val = 0
  · rw [if_pos h0]
    by_cases hs : t.val / 11 % 4 = 0
    · rw [rowsL_start m c t 6 s hs, dif_pos (by omega)]
    · rw [dif_neg (by omega)]
      exact rowsL_inside m c t 6 s a _ q hs (by show _ + 6 = _ + (b.val - 2) + 8; omega) hq
  · rw [if_neg h0]
    by_cases h1 : r.val = 1
    · rw [if_pos h1]
      by_cases hs : t.val / 11 % 4 = 0
      · rw [rowsL_start m c t 7 s hs, dif_pos (by omega)]
      · rw [dif_neg (by omega)]
        exact rowsL_inside m c t 7 s a _ q hs (by show _ + 7 = _ + (b.val - 2) + 8; omega) hq
    · rw [if_neg h1, dif_neg (by omega)]
      exact upL_apply m c t _ s a _ q (by show _ + (r.val + 512 - 2) % 512 = _ + (b.val - 2); omega) hq

theorem actL_apply (c : Dev nD) (t : Fin cfg0.N) (r : Fin 512) (s : Fin 256) (a : Fin 8) (b : Fin 2048) (q : Fin 5632)
    (h : t.val / 11 * 512 + r.val = a.val * 2048 + b.val) (hq : q.val = t.val % 11 * 512 + (0 + s.val)) :
    actL (grid0.coords t) (iblk m c 0 t) (iblk m c 1 t) (iblk m c 2 t) (iblk m c 3 t) (iblk m c 4 t) (lastL m c (above t)) (ix2 r s) = REF m c (ix3 a b q) := by
  have hw : ∀ k : Fin 3, View.ld (iblk m c 3 t : Vec Ideal S3x512 .f32) cl (ix2 k s) = X3 m c (ix3 0 k q) := fun k =>
    (congrArg (iblk m c 3 t : Vec Ideal S3x512 .f32) (funext fun a => Fin.ext (by
      match a with
      | ⟨0, _⟩ => exact (Nat.zero_add _).trans (Nat.one_mul _)
      | ⟨1, _⟩ => exact congrArg (0 + ·) (Nat.one_mul _)))).trans (read_3 m c t k ⟨0 + s.val, by omega⟩ q hq)
  have hb : View.ld (iblk m c 4 t : Vec Ideal S1x512 .f32) bl (ix2 0 s) = X4 m c (ix2 0 q) :=
    (congrArg (iblk m c 4 t : Vec Ideal S1x512 .f32) (funext fun a => Fin.ext (by
      match a with
      | ⟨0, _⟩ => exact (Nat.zero_add _).trans (Nat.one_mul _)
      | ⟨1, _⟩ => exact congrArg (0 + ·) (Nat.one_mul _)))).trans (read_4 m c t 0 ⟨0 + s.val, by omega⟩ q hq)
  refine (congrFun (actL_half _ _ _ _ _ _ _) (ix2 r s)).trans ((half_apply _ _ _ _ _ _ r s).trans (Eq.trans ?_ (ref_apply m c a b q).symm))
  exact gel_congr (mixed_congr (hw 0) (hw 1) (hw 2) hb (prevL2 m c t r s a b q h hq) (prevL1 m c t r s a b q h hq) (upL_apply m c t r s a b q h hq))
    (gateL_apply m c t r s a b q h hq)

/-! ## The right half -/

theorem upR_apply (c : Dev nD) (t : Fin cfg0.N) (r : Fin 512) (s : Fin 256) (a : Fin 8) (b : Fin 2048) (q : Fin 5632)
    (h : t.val / 11 * 512 + r.val = a.val * 2048 + b.val) (hq : q.val = t.val % 11 * 512 + (256 + s.val)) :
    k0_pay5 (iblk m c 0 t) (View.ld (iblk m c 1 t : Vec Ideal S2048x512 .bf16) wr) (ix2 r s) = UP m c (ix3 a b q) := by
  have hw : ∀ k : Fin 2048, View.ld (iblk m c 1 t : Vec Ideal S2048x512 .bf16) wr (ix2 k s) = X1 m c (ix3 0 k q) := fun k =>
    (congrArg (iblk m c 1 t : Vec Ideal S2048x512 .bf16) (funext fun a => Fin.ext (by
      match a with
      | ⟨0, _⟩ => exact (Nat.zero_add _).trans (Nat.one_mul _)
      | ⟨1, _⟩ => exact congrArg (256 + ·) (Nat.one_mul _)))).trans (read_1 m c t k ⟨256 + s.val, by omega⟩ q hq)
  generalize View.ld (iblk m c 1 t : Vec Ideal S2048x512 .bf16) wr = W at hw ⊢
  pointwise [k0_pay5, k0_pay4, val_main_v1, val_main_v2]
  refine Finset.sum_congr rfl fun k _ => Ideal.mul_congr (read_x m c t r k a b h) (hw k)

theorem gateR_apply (c : Dev nD) (t : Fin cfg0.N) (r : Fin 512) (s : Fin 256) (a : Fin 8) (b : Fin 2048) (q : Fin 5632)
    (h : t.val / 11 * 512 + r.val = a.val * 2048 + b.val) (hq : q.val = t.val % 11 * 512 + (256 + s.val)) :
    k0_pay6 (iblk m c 0 t) (View.ld (iblk m c 2 t : Vec Ideal S2048x512 .bf16) wr) (ix2 r s) = GATE m c (ix3 a b q) := by
  have hw : ∀ k : Fin 2048, View.ld (iblk m c 2 t : Vec Ideal S2048x512 .bf16) wr (ix2 k s) = X2 m c (ix3 0 k q) := fun k =>
    (congrArg (iblk m c 2 t : Vec Ideal S2048x512 .bf16) (funext fun a => Fin.ext (by
      match a with
      | ⟨0, _⟩ => exact (Nat.zero_add _).trans (Nat.one_mul _)
      | ⟨1, _⟩ => exact congrArg (256 + ·) (Nat.one_mul _)))).trans (read_2 m c t k ⟨256 + s.val, by omega⟩ q hq)
  generalize View.ld (iblk m c 2 t : Vec Ideal S2048x512 .bf16) wr = W at hw ⊢
  pointwise [k0_pay6, k0_pay4, val_main_v3, val_main_v4]
  refine Finset.sum_congr rfl fun k _ => Ideal.mul_congr (read_x m c t r k a b h) (hw k)

/-- The rows above are zero at the start of a sequence. -/
theorem rowsR_start (c : Dev nD) (t : Fin cfg0.N) (k : Fin 8) (s : Fin 256) (h : t.val / 11 % 4 = 0) :
    k0_pay22 (BitVec.ofNat 32 ((grid0.coords t) 0).val) (lastR m c (above t)) (ix2 k s) = 0 := by
  rw [pay22_start t h]
  pointwise

/-- Elsewhere they are the last rows of the tile above. -/
theorem rowsR_inside (c : Dev nD) (t : Fin cfg0.N) (k : Fin 8) (s : Fin 256) (a : Fin 8) (b : Fin 2048) (q : Fin 5632) (h : t.val / 11 % 4 ≠ 0)
    (hb : t.val / 11 * 512 + k.val = a.val * 2048 + b.val + 8) (hq : q.val = t.val % 11 * 512 + (256 + s.val)) :
    k0_pay22 (BitVec.ofNat 32 ((grid0.coords t) 0).val) (lastR m c (above t)) (ix2 k s) = UP m c (ix3 a b q) := by
  have ha : (above t).val = t.val - 11 := rfl
  rw [pay22_inside t h]
  have e := upR_apply m c (above t) ⟨504 + k.val, by omega⟩ s a b q (by show (above t).val / 11 * 512 + (504 + k.val) = _; omega) (by omega)
  refine Eq.trans ?_ e
  unfold lastR
  show shapeCast S8x256 (k0_pay25 (k0_pay5 (iblk m c 0 (above t)) (View.ld (iblk m c 1 (above t) : Vec Ideal S2048x512 .bf16) wr))) shapeCasts_S1x8x256_S8x256 (ix2 k s) = _
  generalize k0_pay5 (iblk m c 0 (above t)) (View.ld (iblk m c 1 (above t) : Vec Ideal S2048x512 .bf16) wr) = U
  pointwise [k0_pay25]

theorem prevR1 (c : Dev nD) (t : Fin cfg0.N) (r : Fin 512) (s : Fin 256) (a : Fin 8) (b : Fin 2048) (q : Fin 5632)
    (h : t.val / 11 * 512 + r.val = a.val * 2048 + b.val) (hq : q.val = t.val % 11 * 512 + (256 + s.val)) :
    prev1 (k0_pay5 (iblk m c 0 t) (View.ld (iblk m c 1 t : Vec Ideal S2048x512 .bf16) wr)) (k0_pay22 (BitVec.ofNat 32 ((grid0.coords t) 0).val) (lastR m c (above t))) r s = above1 m c a b q := by
  rw [prev1_eq]
  unfold above1
  by_cases h0 : r.val = 0
  · rw [if_pos h0]
    by_cases hs : t.val / 11 % 4 = 0
    · rw [rowsR_start m c t 7 s hs, dif_pos (by omega)]
    · rw [dif_neg (by omega)]
      exact rowsR_inside m c t 7 s a _ q hs (by show _ + 7 = _ + (1 + b.val - 2) + 8; omega) hq
  · rw [if_neg h0, dif_neg (by omega)]
    exact upR_apply m c t _ s a _ q (by show _ + (r.val + 512 - 1) % 512 = _ + (1 + b.val - 2); omega) hq

theorem prevR2 (c : Dev nD) (t : Fin cfg0.N) (r : Fin 512) (s : Fin 256) (a : Fin 8) (b : Fin 2048) (q : Fin 5632)
    (h : t.val / 11 * 512 + r.val = a.val * 2048 + b.val) (hq : q.val = t.val % 11 * 512 + (256 + s.val)) :
    prev2 (k0_pay5 (iblk m c 0 t) (View.ld (iblk m c 1 t : Vec Ideal S2048x512 .bf16) wr)) (k0_pay22 (BitVec.ofNat 32 ((grid0.coords t) 0).val) (lastR m c (above t))) r s = above2 m c a b q := by
  rw [prev2_eq]
  unfold above2
  by_cases h0 : r.val = 0
  · rw [if_pos h0]
    by_cases hs : t.val / 11 % 4 = 0
    · rw [rowsR_start m c t 6 s hs, dif_pos (by omega)]
    · rw [dif_neg (by omega)]
      exact rowsR_inside m c t 6 s a _ q hs (by show _ + 6 = _ + (b.val - 2) + 8; omega) hq
  · rw [if_neg h0]
    by_cases h1 : r.val = 1
    · rw [if_pos h1]
      by_cases hs : t.val / 11 % 4 = 0
      · rw [rowsR_start m c t 7 s hs, dif_pos (by omega)]
      · rw [dif_neg (by omega)]
        exact rowsR_inside m c t 7 s a _ q hs (by show _ + 7 = _ + (b.val - 2) + 8; omega) hq
    · rw [if_neg h1, dif_neg (by omega)]
      exact upR_apply m c t _ s a _ q (by show _ + (r.val + 512 - 2) % 512 = _ + (b.val - 2); omega) hq

theorem actR_apply (c : Dev nD) (t : Fin cfg0.N) (r : Fin 512) (s : Fin 256) (a : Fin 8) (b : Fin 2048) (q : Fin 5632)
    (h : t.val / 11 * 512 + r.val = a.val * 2048 + b.val) (hq : q.val = t.val % 11 * 512 + (256 + s.val)) :
    actR (grid0.coords t) (iblk m c 0 t) (iblk m c 1 t) (iblk m c 2 t) (iblk m c 3 t) (iblk m c 4 t) (lastR m c (above t)) (ix2 r s) = REF m c (ix3 a b q) := by
  have hw : ∀ k : Fin 3, View.ld (iblk m c 3 t : Vec Ideal S3x512 .f32) cr (ix2 k s) = X3 m c (ix3 0 k q) := fun k =>
    (congrArg (iblk m c 3 t : Vec Ideal S3x512 .f32) (funext fun a => Fin.ext (by
      match a with
      | ⟨0, _⟩ => exact (Nat.zero_add _).trans (Nat.one_mul _)
      | ⟨1, _⟩ => exact congrArg (256 + ·) (Nat.one_mul _)))).trans (read_3 m c t k ⟨256 + s.val, by omega⟩ q hq)
  have hb : View.ld (iblk m c 4 t : Vec Ideal S1x512 .f32) br (ix2 0 s) = X4 m c (ix2 0 q) :=
    (congrArg (iblk m c 4 t : Vec Ideal S1x512 .f32) (funext fun a => Fin.ext (by
      match a with
      | ⟨0, _⟩ => exact (Nat.zero_add _).trans (Nat.one_mul _)
      | ⟨1, _⟩ => exact congrArg (256 + ·) (Nat.one_mul _)))).trans (read_4 m c t 0 ⟨256 + s.val, by omega⟩ q hq)
  refine (congrFun (actR_half _ _ _ _ _ _ _) (ix2 r s)).trans ((half_apply _ _ _ _ _ _ r s).trans (Eq.trans ?_ (ref_apply m c a b q).symm))
  exact gel_congr (mixed_congr (hw 0) (hw 1) (hw 2) hb (prevR2 m c t r s a b q h hq) (prevR1 m c t r s a b q h hq) (upR_apply m c t r s a b q h hq))
    (gateR_apply m c t r s a b q h hq)

/-! ## The arrays the run leaves -/

theorem act_point (c : Dev nD) (t : Fin cfg0.N) (r j : Fin 512) (p : Fin 16384) (q : Fin 5632)
    (hp : p.val = t.val / 11 * 512 + r.val) (hq : q.val = t.val % 11 * 512 + j.val) :
    actAt m c t (ix2 r j) = REF m c (ix3 ⟨p.val / 2048, by omega⟩ ⟨p.val % 2048, by omega⟩ q) := by
  unfold actAt act
  rcases Nat.lt_or_ge j.val 256 with hj | hj
  · have hA := actL_apply m c t r ⟨j.val, hj⟩ ⟨p.val / 2048, by omega⟩ ⟨p.val % 2048, by omega⟩ q (by show t.val / 11 * 512 + r.val = p.val / 2048 * 2048 + p.val % 2048; omega)
      (by show q.val = t.val % 11 * 512 + (0 + j.val); omega)
    refine (out_put (s := S512x512) _ S512x256.size _ _ (ix2 r j) (1 : Fin 2) (Or.inl ?_)).trans ?_
    · exact hj
    refine (in_put (s := S512x512) _ S512x256.size _ _ (ix2 r j) (ix2 r (⟨j.val, hj⟩ : Fin 256)) fun a => ?_).trans hA
    match a with
    | ⟨0, _⟩ => exact (Nat.zero_add _).symm
    | ⟨1, _⟩ => exact (Nat.zero_add _).symm
  · have hA := actR_apply m c t r ⟨j.val - 256, by omega⟩ ⟨p.val / 2048, by omega⟩ ⟨p.val % 2048, by omega⟩ q (by show t.val / 11 * 512 + r.val = p.val / 2048 * 2048 + p.val % 2048; omega)
      (by show q.val = t.val % 11 * 512 + (256 + (j.val - 256)); omega)
    refine (in_put (s := S512x512) _ S512x256.size _ _ (ix2 r j) (ix2 r (⟨j.val - 256, by omega⟩ : Fin 256)) fun a => ?_).trans hA
    match a with
    | ⟨0, _⟩ => exact (Nat.zero_add _).symm
    | ⟨1, _⟩ => show j.val = 256 + (j.val - 256); omega

theorem tail_point (c : Dev nD) (t : Fin cfg0.N) (r : Fin 8) (j : Fin 512) (p : Fin 256) (q : Fin 5632)
    (hp : p.val = t.val / 11 * 8 + r.val) (hq : q.val = t.val % 11 * 512 + j.val) :
    tailAt m c t (ix2 r j) = UP m c (ix3 ⟨p.val / 32, by omega⟩ ⟨p.val / 8 % 4 * 512 + 504 + p.val % 8, by omega⟩ q) := by
  unfold tailAt tail
  rcases Nat.lt_or_ge j.val 256 with hj | hj
  · refine (out_put (s := S8x512) _ S8x256.size _ _ (ix2 r j) (1 : Fin 2) (Or.inl ?_)).trans ?_
    · exact hj
    refine (in_put (s := S8x512) _ S8x256.size _ _ (ix2 r j) (ix2 r (⟨j.val, hj⟩ : Fin 256)) fun a => ?_).trans ?_
    · match a with
      | ⟨0, _⟩ => exact (Nat.zero_add _).symm
      | ⟨1, _⟩ => exact (Nat.zero_add _).symm
    have hA := upL_apply m c t ⟨504 + r.val, by omega⟩ ⟨j.val, hj⟩ ⟨p.val / 32, by omega⟩ ⟨p.val / 8 % 4 * 512 + 504 + p.val % 8, by omega⟩ q
      (by show t.val / 11 * 512 + (504 + r.val) = p.val / 32 * 2048 + (p.val / 8 % 4 * 512 + 504 + p.val % 8); omega)
      (by show q.val = t.val % 11 * 512 + (0 + j.val); omega)
    refine Eq.trans ?_ hA
    show k0_pay17 (k0_pay5 (iblk m c 0 t) (View.ld (iblk m c 1 t : Vec Ideal S2048x512 .bf16) wl)) _ = _
    generalize k0_pay5 (iblk m c 0 t) (View.ld (iblk m c 1 t : Vec Ideal S2048x512 .bf16) wl) = U
    pointwise [k0_pay17]
  · refine (in_put (s := S8x512) _ S8x256.size _ _ (ix2 r j) (ix2 r (⟨j.val - 256, by omega⟩ : Fin 256)) fun a => ?_).trans ?_
    · match a with
      | ⟨0, _⟩ => exact (Nat.zero_add _).symm
      | ⟨1, _⟩ => show j.val = 256 + (j.val - 256); omega
    have hA := upR_apply m c t ⟨504 + r.val, by omega⟩ ⟨j.val - 256, by omega⟩ ⟨p.val / 32, by omega⟩ ⟨p.val / 8 % 4 * 512 + 504 + p.val % 8, by omega⟩ q
      (by show t.val / 11 * 512 + (504 + r.val) = p.val / 32 * 2048 + (p.val / 8 % 4 * 512 + 504 + p.val % 8); omega)
      (by show q.val = t.val % 11 * 512 + (256 + (j.val - 256)); omega)
    refine Eq.trans ?_ hA
    rw [upR_eq]
    generalize k0_pay5 (iblk m c 0 t) (View.ld (iblk m c 1 t : Vec Ideal S2048x512 .bf16) wr) = U
    pointwise [k0_pay2]

/-- The activation with the tokens of all sequences in one row of rows. -/
def flatAct (c : Dev nD) : FVec Ideal S16384x5632 .bf16 := fun y =>
  REF m c (ix3 ⟨(y (0 : Fin 2)).val / 2048, by have : (y (0 : Fin 2)).val < 16384 := (y 0).isLt; omega⟩
    ⟨(y (0 : Fin 2)).val % 2048, Nat.mod_lt _ (by decide)⟩ (y (1 : Fin 2)))
/-- The last eight rows of every tile of the up projection. -/
def flatTail (c : Dev nD) : FVec Ideal S256x5632 .f32 := fun y =>
  UP m c (ix3 ⟨(y (0 : Fin 2)).val / 32, by have : (y (0 : Fin 2)).val < 256 := (y 0).isLt; omega⟩
    ⟨(y (0 : Fin 2)).val / 8 % 4 * 512 + 504 + (y (0 : Fin 2)).val % 8, by omega⟩ (y (1 : Fin 2)))

theorem final_5 (c : Dev nD) : (dats m 0 c).arrAt 5 cfg0.N = flatAct m c := by
  refine (dats m 0 c).arrAt_eq_of_covers 5 _ (by decide +kernel) fun t hf y => ?_
  have e := act_point m c t (y (0 : Fin 2)) (y (1 : Fin 2)) (((cfg0.win 5).blk t).view.emb y (0 : Fin 2)) (((cfg0.win 5).blk t).view.emb y (1 : Fin 2))
    (by blk_simp [idx t]) (by blk_simp [idx t])
  blk_simp
  rw [after_5]
  exact (congrArg (actAt m c t) (eq_ix2 y)).trans e

theorem final_6 (c : Dev nD) : (dats m 0 c).arrAt 6 cfg0.N = flatTail m c := by
  refine (dats m 0 c).arrAt_eq_of_covers 6 _ (by decide +kernel) fun t hf y => ?_
  have e := tail_point m c t (y (0 : Fin 2)) (y (1 : Fin 2)) (((cfg0.win 6).blk t).view.emb y (0 : Fin 2)) (((cfg0.win 6).blk t).view.emb y (1 : Fin 2))
    (by blk_simp [idx t]) (by blk_simp [idx t])
  blk_simp
  rw [after_6]
  exact (congrArg (tailAt m c t) (eq_ix2 y)).trans e

/-- The host's reshape of the activation. -/
theorem end_act (c : Dev nD) : Pipeline.afterTail₀ cfgs (dats m) 0 (V0 m) [hostOps1] c main_v14 = REF m c := by
  have e : Pipeline.afterTail₀ cfgs (dats m) 0 (V0 m) [hostOps1] c main_v14
      = shapeCast S8x2048x5632 (flatAct m c) shapeCasts_S16384x5632_S8x2048x5632 := by
    rw [← final_5 m c]
    unfold Pipeline.afterTail₀
    simp only [hostOps1, List.flatten_cons, List.flatten_nil, List.append_nil, List.cons_append, List.nil_append]
    after_results
    exact congrArg (fun A => shapeCast S8x2048x5632 A shapeCasts_S16384x5632_S8x2048x5632) (Pipeline.withArrays_arr spec0 (by decide) c (V0 m c) _ 5)
  rw [e]
  have hf : ∀ (p : Fin 16384) (q : Fin 5632), flatAct m c (ix2 p q)
      = REF m c (ix3 ⟨p.val / 2048, by omega⟩ ⟨p.val % 2048, Nat.mod_lt _ (by decide)⟩ q) := fun _ _ => rfl
  generalize flatAct m c = A at hf ⊢
  generalize (REF m c : FVec Ideal S8x2048x5632 .bf16) = R at hf ⊢
  refine funext fun (y : S8x2048x5632.Idx) => ?_
  rw [eq_ix3 y]
  generalize y (0 : Fin 3) = a
  generalize y (1 : Fin 3) = b
  generalize y (2 : Fin 3) = q
  pointwise [hf]
  blk_ext

/-- The host's slice of the last two rows of every sequence. -/
theorem end_tail (c : Dev nD) : Pipeline.afterTail₀ cfgs (dats m) 0 (V0 m) [hostOps1] c main_v13
    = val_main_v47 (F := Ideal) (X0 m c) (X1 m c) := by
  have e : Pipeline.afterTail₀ cfgs (dats m) 0 (V0 m) [hostOps1] c main_v13
      = broadcastInDim S1x8x2x5632 ![1, 2, 3] bcast_S8x2x5632_S1x8x2x5632_1_2_3 (shapeCast S8x2x5632
        (extractStridedSlice S8x1x2x5632 ![0, 3, 6, 0] (shapeCast S8x4x8x5632 (flatTail m c) shapeCasts_S256x5632_S8x4x8x5632)
          slices_S8x4x8x5632_S8x1x2x5632_0_3_6_0) shapeCasts_S8x1x2x5632_S8x2x5632) := by
    rw [← final_6 m c]
    unfold Pipeline.afterTail₀
    simp only [hostOps1, List.flatten_cons, List.flatten_nil, List.append_nil, List.cons_append, List.nil_append]
    after_results
    have hw : Pipeline.withArrays (cfgs 0).spec c (V0 m c) (fun w => (dats m 0 c).arrAt w (cfgs 0).N) (Proc.tc.devRef main_v9_1)
        = (dats m 0 c).arrAt 6 cfg0.N := Pipeline.withArrays_arr spec0 (by decide) c (V0 m c) _ 6
    rw [hw]
    generalize (dats m 0 c).arrAt 6 cfg0.N = A
    rfl
  rw [e]
  refine funext fun (y : S1x8x2x5632.Idx) => ?_
  rw [eq_ix4 y]
  generalize y (0 : Fin 4) = z
  generalize y (1 : Fin 4) = a
  generalize y (2 : Fin 4) = b
  generalize y (3 : Fin 4) = q
  refine Eq.trans ?_ (ref_tail m c z a b q).symm
  have hf : ∀ (p : Fin 256) (q : Fin 5632), flatTail m c (ix2 p q)
      = UP m c (ix3 ⟨p.val / 32, by omega⟩ ⟨p.val / 8 % 4 * 512 + 504 + p.val % 8, by omega⟩ q) := fun _ _ => rfl
  generalize flatTail m c = A at hf ⊢
  generalize (UP m c : FVec Ideal S8x2048x5632 .f32) = R at hf ⊢
  pointwise [hf]
  blk_ext

/-- What every run leaves in the results. -/
theorem results (ρ : Dev nD → PrngReg) :
    θ_run defs (onTc (τ := τ) (main (F := Ideal))) ⟨m, fun _ => 0, ρ⟩ (fun r => ∀ c : Dev nD,
      r.2.mem ((c.tc : Thread nD τ).loc main_v14) = val_main_v46 (F := Ideal) (X0 m c) (X1 m c) (X2 m c) (X3 m c) (X4 m c)
      ∧ r.2.mem ((c.tc : Thread nD τ).loc main_v13) = val_main_v47 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run m ρ)
  exact ⟨((h.1 c).2 main_v14 (Pipeline.mem_restRefs_of main_v14 (by decide) (by decide))).trans (end_act m c),
    ((h.1 c).2 main_v13 (Pipeline.mem_restRefs_of main_v13 (by decide) (by decide))).trans (end_tail m c),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c)⟩

theorem v46_congr {a a' : FVec Ideal S8x2048x2048 .f32} {b b' d d' : FVec Ideal S1x2048x5632 .f32} {e e' : FVec Ideal S1x3x5632 .f32}
    {f f' : FVec Ideal S1x5632 .f32} (h0 : a = a') (h1 : b = b') (h2 : d = d') (h3 : e = e') (h4 : f = f') :
    val_main_v46 (F := Ideal) a b d e f = val_main_v46 (F := Ideal) a' b' d' e' f' := by
  rw [h0, h1, h2, h3, h4]

/-- Over the reals the kernel computes the reference's activation and the rows that the next call convolves with. -/
theorem algebraic : Cert.algebraic_ConvFfnIdeal_ConvFfnRefIdeal := by
  pair_intro
  · run_from results m g
  · run_from Cert.ConvFfnRefIdeal.Value.run m' g'
    · exact (Cert.ConvFfnRefIdeal.Read.val_main_v46_eq m' c).trans
        (v46_congr (hagree c).1 (hagree c).2.1 (hagree c).2.2.1 (hagree c).2.2.2.1 (hagree c).2.2.2.2)
    · exact Cert.ConvFfnRefIdeal.Read.val_main_v47_eq _ _

end Cert.ConvFfnIdeal.Proved

end
-- ==== Proof.ConvAIdealRun.lean ====
module

public import proofs.«01_k».proof.Proof.Gen.ConvAIdeal.Frame.Runs
public import proofs.«01_k».proof.Proof.Gen.ConvAIdeal.Skeleton
public import proofs.«01_k».proof.Proof.Gen.ConvAIdeal.Points
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.Claim

/-!
# One step of the short gated convolution

A step makes a tile of the three projections, multiplies the second with the third, convolves the product with the last eight rows
that the tile above left before it, multiplies with the first, and leaves its own last eight rows of the product.
-/

@[expose] public section

set_option maxRecDepth 16384

noncomputable section

namespace Cert.ConvAIdeal.Proved

open Cert.ConvAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## Stores in part of a buffer -/

/-- A buffer after a store in the box of sizes `size` at `off`: the stored tile in the box, the rest as it was. -/
def put {s : Shape} {e : EltTy} (off size : Fin s.rank → ℕ) (T : ((a : Fin s.rank) → Fin (size a)) → Elt F e)
    (d : s.Idx → Elt F e) : s.Idx → Elt F e := fun y =>
  if h : ∀ a, off a ≤ (y a).val ∧ (y a).val < off a + size a then T (Rect.unitLocal y h) else d y

/-- Reading after a list of stores, the newest first. -/
theorem read_put {s : Shape} {e : EltTy} (v : View sig .tc .vmem s e) (f : v.ty.Contents (Elt F)) {off off' size : Fin s.rank → ℕ}
    (inb : ∀ a, off a + size a ≤ s.size a) (w : (Rect.unit off size inb).shape.Idx → Elt F e) (L : List (View.Piece (Elt F) s e))
    (heq : off = off') (d : s.Idx → Elt F e) (hd : v.read (Elt F) (v.writes (Elt F) f L) = d) :
    v.read (Elt F) (v.writes (Elt F) f ((⟨Rect.unit off size inb, w⟩ : View.Piece (Elt F) s e) :: L)) = put off' size w d := by
  subst hd
  exact funext fun y => View.read_writes_cons_unit v f inb w L y heq

/-- A store over the whole buffer leaves what is stored. -/
theorem put_whole {s : Shape} {e : EltTy} (off : Fin s.rank → ℕ) (h0 : ∀ a, off a = 0) (T d : s.Idx → Elt F e) :
    put off s.size T d = T := by
  funext y
  unfold put
  rw [dif_pos fun a => by rw [h0 a]; exact ⟨Nat.zero_le _, by rw [Nat.zero_add]; exact (y a).isLt⟩]
  exact congrArg T (funext fun a => Fin.ext (by rw [Rect.unitLocal_val, h0 a, Nat.sub_zero]))

/-! ## What a step computes -/

/-- Where a column tile's last rows lie in the scratch. -/
abbrev place (i : grid0.Coords) : Rect S4x8x256 := Rect.unit (s := S4x8x256) (k0_off1 i) S1x8x256.size (k0_off1_inb i)

/-- The word that says whether a block of rows is the first of its sequence. -/
def startWord (a : BitVec 32) : BitVec 1 :=
  let q : BitVec 32 := Scalar.select (Scalar.cmpi .eq 4#32 0#32) 1#32 4#32
  let r : BitVec 32 := Scalar.remsi a q
  Scalar.cmpi .eq (Scalar.select (Scalar.andi (Scalar.xori (Scalar.cmpi .slt r 0#32) (Scalar.cmpi .slt q 0#32)) (Scalar.cmpi .ne r 0#32)) (Scalar.addi r q) r) 0#32

/-- A tile of the product of the second and third projections. -/
def prod (x0 : Vec F S512x2048 .bf16) (x2 x3 : Vec F S2048x256 .bf16) : FVec F S512x256 .f32 := k0_pay4 x0 x2 x3

/-- A tile of the branch, from the last rows `C` of the tile above. -/
def gated (i : grid0.Coords) (x0 : Vec F S512x2048 .bf16) (x1 : Vec F S2048x256 .bf16) (x2 : Vec F S2048x256 .bf16) (x3 : Vec F S2048x256 .bf16) (x4 : Vec F S3x256 .f32) (C : Vec F S1x8x256 .f32) : Vec F S512x256 .bf16 :=
  k0_pay8 (k0_pay3 x0 x1) (prod x0 x2 x3) (iota .tc S512x256 32 [0] iota_S512x256_d0_w32) (k0_pay5 x0 x2 x3) (k0_pay6 x0 x2 x3)
    (startWord (BitVec.ofNat 32 (i 0).val)) C x4
/-- The last eight rows of a tile of the product. -/
def tail (x0 : Vec F S512x2048 .bf16) (x2 x3 : Vec F S2048x256 .bf16) : Vec F S8x256 .f32 := k0_pay9 (prod x0 x2 x3)
/-- The scratch after a step. -/
def carry (i : grid0.Coords) (x0 : Vec F S512x2048 .bf16) (x2 x3 : Vec F S2048x256 .bf16) (s : Vec F S4x8x256 .f32) : Vec F S4x8x256 .f32 :=
  put (s := S4x8x256) (k0_off1 i) S1x8x256.size (k0_pay7 (prod x0 x2 x3)) s

theorem zero2 : (![0, 0] : Fin 2 → ℕ) = fun _ => 0 := by decide
theorem ld_x (x : Vec F S512x2048 .bf16) (h) : View.ld x (Rect.unit (s := S512x2048) ![0, 0] ![512, 2048] h) = x :=
  View.ld_unit_zero (S := S512x2048) zero2 h x
theorem ld_w (x : Vec F S2048x256 .bf16) (h) : View.ld x (Rect.unit (s := S2048x256) ![0, 0] ![2048, 256] h) = x :=
  View.ld_unit_zero (S := S2048x256) zero2 h x
theorem ld_c (x : Vec F S3x256 .f32) (h) : View.ld x (Rect.unit (s := S3x256) ![0, 0] ![3, 256] h) = x :=
  View.ld_unit_zero (S := S3x256) zero2 h x

set_option maxHeartbeats 4000000 in
/-- The first step, which sets the scratch to zero. -/
theorem runA (c : Dev nD) (i : grid0.Coords) (arg2 : Memref sig .tc .vmem S512x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S3x256 .f32) (harg6 : arg6.IsWhole) (arg7 : Memref sig .tc .vmem S512x256 .bf16) (harg7 : arg7.IsWhole) (arg8 : Memref sig .tc .vmem S8x256 .f32) (harg8 : arg8.IsWhole) (arg9 : Memref sig .tc .vmem S4x8x256 .f32) (harg9 : arg9.IsWhole) (hc0 : cond0_0 i)
    (x0 : Vec F S512x2048 .bf16) (x1 : Vec F S2048x256 .bf16) (x2 : Vec F S2048x256 .bf16) (x3 : Vec F S2048x256 .bf16) (x4 : Vec F S3x256 .f32) (s : Vec F S4x8x256 .f32) (d5 : Vec F S512x256 .bf16) (d6 : Vec F S8x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (gated i x0 x1 x2 x3 x4 (View.ld (k0_pay1 (F := F)) (place i))) ∗ owns (c : Thread nD τ) arg8 fullShare (tail x0 x2 x3) ∗ owns (c : Thread nD τ) arg9 fullShare (carry i x0 x2 x3 (k0_pay1 (F := F)))) -∗ K ⟨⟩))
      ⊢ wp frame (wpE (defs₀ (F := F)) Variants.none c none) E (cc0__branch_a_kernel i arg2 harg2 arg3 harg3 arg4 harg4 arg5 harg5 arg6 harg6 arg7 harg7 arg8 harg8 arg9 harg9) K := by
  simp only [cc0__branch_a_kernel_eq_skeleton]; unfold cc0__branch_a_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    rotate_left
    · iexact H5
    · ipureintro
      sl_unfold_words
      simp only [View.readAt_eq_ld, Memref.IsWhole.read_unread, ld_x, ld_w, ld_c]
      refine ((read_put arg7.view _ _ _ _ rfl _ rfl).trans (put_whole _ (by decide) _ _)).trans ?_
      have hw : ∀ f, arg9.view.read (Elt F) (arg9.view.writes (Elt F) f [(⟨Rect.unit (s := S4x8x256) ![0, 0, 0] S4x8x256.size inb_S4x8x256_S4x8x256_0_0_0, k0_pay1 (F := F)⟩ : View.Piece (Elt F) S4x8x256 .f32)]) = k0_pay1 (F := F) := fun f =>
        (read_put arg9.view f _ _ [] rfl _ rfl).trans (put_whole _ (by decide) _ _)
      have hC : View.ld (arg9.view.read (Elt F) (arg9.view.writes (Elt F) arg9.view.junk [(⟨Rect.unit (s := S4x8x256) ![0, 0, 0] S4x8x256.size inb_S4x8x256_S4x8x256_0_0_0, k0_pay1 (F := F)⟩ : View.Piece (Elt F) S4x8x256 .f32)])) (place i) = View.ld (k0_pay1 (F := F)) (place i) :=
        congrArg (fun X => View.ld X (place i)) (hw _)
      exact congrArg (fun C => gated i x0 x1 x2 x3 x4 C) hC
  isplitl [H6]
  · iexists _; isplitr
    rotate_left
    · iexact H6
    · ipureintro
      sl_unfold_words
      simp only [View.readAt_eq_ld, Memref.IsWhole.read_unread, ld_x, ld_w, ld_c]
      exact (read_put arg8.view _ _ _ _ rfl _ rfl).trans (put_whole _ (by decide) _ _)
  iexists _; isplitr
  rotate_left
  · iexact H7
  · ipureintro
    sl_unfold_words
    simp only [View.readAt_eq_ld, Memref.IsWhole.read_unread, ld_x, ld_w, ld_c]
    exact read_put arg9.view _ _ _ _ rfl _ ((read_put arg9.view _ _ _ _ rfl _ rfl).trans (put_whole _ (by decide) _ _))

set_option maxHeartbeats 4000000 in
/-- A later step. -/
theorem runB (c : Dev nD) (i : grid0.Coords) (arg2 : Memref sig .tc .vmem S512x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S3x256 .f32) (harg6 : arg6.IsWhole) (arg7 : Memref sig .tc .vmem S512x256 .bf16) (harg7 : arg7.IsWhole) (arg8 : Memref sig .tc .vmem S8x256 .f32) (harg8 : arg8.IsWhole) (arg9 : Memref sig .tc .vmem S4x8x256 .f32) (harg9 : arg9.IsWhole) (hc0 : ¬ cond0_0 i)
    (x0 : Vec F S512x2048 .bf16) (x1 : Vec F S2048x256 .bf16) (x2 : Vec F S2048x256 .bf16) (x3 : Vec F S2048x256 .bf16) (x4 : Vec F S3x256 .f32) (s : Vec F S4x8x256 .f32) (d5 : Vec F S512x256 .bf16) (d6 : Vec F S8x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (gated i x0 x1 x2 x3 x4 (View.ld s (place i))) ∗ owns (c : Thread nD τ) arg8 fullShare (tail x0 x2 x3) ∗ owns (c : Thread nD τ) arg9 fullShare (carry i x0 x2 x3 s)) -∗ K ⟨⟩))
      ⊢ wp frame (wpE (defs₀ (F := F)) Variants.none c none) E (cc0__branch_a_kernel i arg2 harg2 arg3 harg3 arg4 harg4 arg5 harg5 arg6 harg6 arg7 harg7 arg8 harg8 arg9 harg9) K := by
  simp only [cc0__branch_a_kernel_eq_skeleton]; unfold cc0__branch_a_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    rotate_left
    · iexact H5
    · ipureintro
      sl_unfold_words
      simp only [View.readAt_eq_ld, Memref.IsWhole.read_unread, ld_x, ld_w, ld_c]
      refine ((read_put arg7.view _ _ _ _ rfl _ rfl).trans (put_whole _ (by decide) _ _)).trans ?_
      unfold gated prod
      rfl
  isplitl [H6]
  · iexists _; isplitr
    rotate_left
    · iexact H6
    · ipureintro
      sl_unfold_words
      simp only [View.readAt_eq_ld, Memref.IsWhole.read_unread, ld_x, ld_w, ld_c]
      exact (read_put arg8.view _ _ _ _ rfl _ rfl).trans (put_whole _ (by decide) _ _)
  iexists _; isplitr
  rotate_left
  · iexact H7
  · ipureintro
    sl_unfold_words
    simp only [View.readAt_eq_ld, Memref.IsWhole.read_unread, ld_x, ld_w, ld_c]
    exact read_put arg9.view _ _ _ _ rfl _ (harg9.read_unread s)

end Cert.ConvAIdeal.Proved

end
-- ==== Proof.ConvAIdealFrame.lean ====
module

public import proofs.«01_k».proof.Proof.ConvAIdealRun
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.Claim

/-!
# The run of the short gated convolution

Between steps the scratch holds, for each of the four column tiles, the last eight rows of the product that was made there last. A
step at the start of a sequence reads zeros in their place.
-/

@[expose] public section

set_option maxRecDepth 16384

noncomputable section

namespace Cert.ConvAIdeal.Proved

open Cert.ConvAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the steps read and store -/

theorem in_put {s : Shape} {e : EltTy} (off size : Fin s.rank → ℕ) (T : ((a : Fin s.rank) → Fin (size a)) → Elt F e)
    (d : s.Idx → Elt F e) (y : s.Idx) (x : (a : Fin s.rank) → Fin (size a)) (h : ∀ a, (y a).val = off a + (x a).val) :
    put off size T d y = T x := by
  unfold put
  rw [dif_pos fun a => by have := (x a).isLt; have := h a; omega]
  exact congrArg T (funext fun a => Fin.ext (by rw [Rect.unitLocal_val, h a]; omega))

theorem out_put {s : Shape} {e : EltTy} (off size : Fin s.rank → ℕ) (T : ((a : Fin s.rank) → Fin (size a)) → Elt F e)
    (d : s.Idx → Elt F e) (y : s.Idx) (a : Fin s.rank) (h : (y a).val < off a ∨ off a + size a ≤ (y a).val) :
    put off size T d y = d y := by
  unfold put
  exact dif_neg fun h' => by have := h' a; omega

theorem off1_eq : ∀ t : Fin cfg0.N, k0_off1 (grid0.coords t) = ![t.val % 4, 0, 0] :=
  (by decide +kernel : ∀ t : Fin grid0.N, k0_off1 (grid0.coords t) = ![t.val % 4, 0, 0])
/-- The branch is taken at the first step only. -/
theorem first_iff (t : Fin cfg0.N) : cond0_0 (grid0.coords t) ↔ t.val = 0 :=
  (hcond0_0 t).trans (by have := lt_of_lt_of_eq t.isLt (show cfg0.N = 128 from N_0); omega)

theorem start_yes : ∀ t : Fin cfg0.N, t.val / 4 % 4 = 0 → startWord (BitVec.ofNat 32 ((grid0.coords t) 0).val) = 1#1 :=
  (by decide +kernel : ∀ t : Fin grid0.N, t.val / 4 % 4 = 0 → startWord (BitVec.ofNat 32 ((grid0.coords t) 0).val) = 1#1)
theorem start_no : ∀ t : Fin cfg0.N, t.val / 4 % 4 ≠ 0 → startWord (BitVec.ofNat 32 ((grid0.coords t) 0).val) = 0#1 :=
  (by decide +kernel : ∀ t : Fin grid0.N, t.val / 4 % 4 ≠ 0 → startWord (BitVec.ofNat 32 ((grid0.coords t) 0).val) = 0#1)

/-- At the start of a sequence a tile does not depend on the scratch. -/
theorem gated_start (t : Fin cfg0.N) (h : t.val / 4 % 4 = 0) (x0 : Vec F S512x2048 .bf16) (x1 : Vec F S2048x256 .bf16) (x2 : Vec F S2048x256 .bf16) (x3 : Vec F S2048x256 .bf16) (x4 : Vec F S3x256 .f32) (C C' : Vec F S1x8x256 .f32) :
    gated (grid0.coords t) x0 x1 x2 x3 x4 C = gated (grid0.coords t) x0 x1 x2 x3 x4 C' := by
  unfold gated
  rw [start_yes t h]
  rfl

/-! ## What the scratch holds -/

/-- The step above in the same column tile, four steps before. -/
def above (t : Fin cfg0.N) : Fin cfg0.N := ⟨t.val - 4, lt_of_le_of_lt (Nat.sub_le _ _) t.isLt⟩

/-- The last eight rows of step `t`'s tile of the product. -/
def last (c : Dev nD) (t : Fin cfg0.N) : Vec F S1x8x256 .f32 := k0_pay7 (prod (iblk m c 0 t) (iblk m c 2 t) (iblk m c 3 t))

/-- Before step `n` the scratch holds the last eight rows of the tiles that the four steps before it made. -/
def Done (c : Dev nD) (n : ℕ) (s : Vec F S4x8x256 .f32) : Prop :=
  ∀ t' : Fin cfg0.N, t'.val < n → n ≤ t'.val + 4 → View.ld s (place (grid0.coords t')) = last m c t'

theorem done_zero (c : Dev nD) (s : Vec F S4x8x256 .f32) : Done m c 0 s := fun t' h => absurd h (Nat.not_lt_zero _)

theorem place_val (t : Fin cfg0.N) (x : S1x8x256.Idx) (a : Fin 3) : ((place (grid0.coords t)).idx x a).val = k0_off1 (grid0.coords t) a + 1 * (x a).val := rfl

/-- A step puts its own last rows in the place of those above. -/
theorem done_succ (c : Dev nD) (t : Fin cfg0.N) (s : Vec F S4x8x256 .f32) (h : Done m c t.val s) :
    Done m c (t.val + 1) (carry (grid0.coords t) (iblk m c 0 t) (iblk m c 2 t) (iblk m c 3 t) s) := by
  intro t' h1 h2
  have o10 : k0_off1 (grid0.coords t) (0 : Fin 3) = t.val % 4 := by rw [off1_eq t]; rfl
  by_cases e : t' = t
  · subst e
    funext x
    exact in_put (s := S4x8x256) _ S1x8x256.size _ _ ((place (grid0.coords t')).idx x) x fun a => by rw [place_val]; omega
  · have e' : t'.val ≠ t.val := fun e' => e (Fin.ext e')
    have hm : t'.val % 4 ≠ t.val % 4 := by omega
    have p10 : k0_off1 (grid0.coords t') (0 : Fin 3) = t'.val % 4 := by rw [off1_eq t']; rfl
    refine Eq.trans (funext fun x => ?_) (h t' (by omega) (by omega))
    refine out_put (s := S4x8x256) _ S1x8x256.size _ _ ((place (grid0.coords t')).idx x) (0 : Fin 3) ?_
    have hx : (x (0 : Fin 3)).val < 1 := (x 0).isLt
    rw [o10, place_val, p10]
    show _ ∨ t.val % 4 + 1 ≤ t'.val % 4 + 1 * (x (0 : Fin 3)).val
    omega

/-- What a step reads of the scratch, past the first four: the last rows of the tile above. -/
theorem done_reads (c : Dev nD) (t : Fin cfg0.N) (s : Vec F S4x8x256 .f32) (h : Done m c t.val s) (ht : 4 ≤ t.val) :
    View.ld s (place (grid0.coords t)) = last m c (above t) := by
  have ha : (above t).val = t.val - 4 := rfl
  have e1 : k0_off1 (grid0.coords t) = k0_off1 (grid0.coords (above t)) := by
    rw [off1_eq, off1_eq, show (above t).val % 4 = t.val % 4 by omega]
  refine Eq.trans (funext fun x => congrArg s (funext fun a => Fin.ext ?_)) (h (above t) (by omega) (by omega))
  refine (place_val t x a).trans (Eq.trans ?_ (place_val (above t) x a).symm)
  rw [e1]

/-! ## The invariant and the outputs -/

/-- The scratch. -/
abbrev scr : Memref sig .tc .vmem S4x8x256 .f32 := Memref.whole cc0_scratch0

/-- What is held between steps. -/
def Inv (c : Dev nD) (n : ℕ) : sProp 𝕄 :=
  iprop((∃ s, ⌜Done m c n s⌝ ∗ owns (c : Thread nD τ) scr fullShare s) ∗ (∃ r, prngReg c r))

theorem rest_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The tile of the branch that step `t` leaves. -/
def gatedAt (c : Dev nD) (t : Fin cfg0.N) : Vec F S512x256 .bf16 :=
  gated (grid0.coords t) (iblk m c 0 t) (iblk m c 1 t) (iblk m c 2 t) (iblk m c 3 t) (iblk m c 4 t) (last m c (above t))
/-- The last rows of the product that step `t` leaves. -/
def tailAt (c : Dev nD) (t : Fin cfg0.N) : Vec F S8x256 .f32 :=
  tail (iblk m c 0 t) (iblk m c 2 t) (iblk m c 3 t)

theorem gatedAt_of (c : Dev nD) (t : Fin cfg0.N) (s : Vec F S4x8x256 .f32) (h : Done m c t.val s) :
    gated (grid0.coords t) (iblk m c 0 t) (iblk m c 1 t) (iblk m c 2 t) (iblk m c 3 t) (iblk m c 4 t) (View.ld s (place (grid0.coords t))) = gatedAt m c t := by
  by_cases h4 : 4 ≤ t.val
  · rw [done_reads m c t s h h4]; rfl
  · exact gated_start t (by omega) _ _ _ _ _ _ _

/-- The arrays as the kernel finds them, and what each step leaves in the windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gatedAt m c t
    | ⟨6, _⟩ => tailAt m c t
  Φ t := Inv m c t.val
  q w := Pipeline.shareOf spec0 w
  owed _ := 0

theorem A_eq (c : Dev nD) (w : Fin cfg0.W) : (dats m 0 c).A w = V m c (Pipeline.arrRef spec0 w) := by
  dsimp only [dats]
theorem after_5 (c : Dev nD) (t : Fin cfg0.N) : (dats m 0 c).after 5 t = gatedAt m c t := by dsimp only [dats]
theorem after_6 (c : Dev nD) (t : Fin cfg0.N) : (dats m 0 c).after 6 t = tailAt m c t := by dsimp only [dats]
theorem after_0 (c : Dev nD) (t : Fin cfg0.N) : (dats m 0 c).after 0 t = iblk m c 0 t := by dsimp only [dats]
theorem found_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem found_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem found_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem found_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem found_4 (c : Dev nD) (t : Fin cfg0.N) (d) : (dats m 0 c).before 4 t d = iblk m c 4 t :=
  before0_4_of m (dats m 0 c) (A_eq m c 4) (after_4 m c) t d

/-- What the body is handed at step `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t))

set_option maxHeartbeats 2400000 in
/-- The body takes the one to the other at every step. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, after_0, after_1, after_2, after_3, after_4, after_5, after_6]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  by_cases h0 : t.val = 0
  · iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
    rw [← gatedAt_of m c t (k0_pay1 (F := F)) (show Done m c t.val (k0_pay1 (F := F)) from by rw [h0]; exact done_zero m c _)]
    iapply (runA c (grid0.coords t) _ _ _ _ _ _ _ _ _ _ _ _ _ _ _ _ ((first_iff t).mpr h0) (iblk m c 0 t) (iblk m c 1 t) (iblk m c 2 t) (iblk m c 3 t) (iblk m c 4 t) s ((dats m 0 c).before 5 t d5) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr
        rotate_left
        · iexact HS
        · ipureintro; exact done_succ m c t (k0_pay1 (F := F)) (show Done m c t.val (k0_pay1 (F := F)) from by rw [h0]; exact done_zero m c _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
    rw [← gatedAt_of m c t s hs]
    iapply (runB c (grid0.coords t) _ _ _ _ _ _ _ _ _ _ _ _ _ _ _ _ (fun h => h0 ((first_iff t).mp h)) (iblk m c 0 t) (iblk m c 1 t) (iblk m c 2 t) (iblk m c 3 t) (iblk m c 4 t) s ((dats m 0 c).before 5 t d5) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr
        rotate_left
        · iexact HS
        · ipureintro; exact done_succ m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_row (t : Fin cfg0.N) :
    defs₀ (F := F) .tc cfg0.body (cfg0.bodyArgs t (cfg0.slots t)) = bodyAt0 t := by
  unfold defs₀; rw [Defs.onTc_tc]

theorem body_holds (c : Dev nD) : Pipeline.BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
/-- The program terminates with its arrays at what the steps leave. -/
theorem run : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_holds m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by
      show Pipeline.ΦA spec0 c ⊢ Inv m c 0
      rw [rest_eq]; unfold Inv
      iintro ⟨⟨%s, HS⟩, Hg⟩
      isplitl [HS]
      · iexists s; isplitr
        · ipureintro; exact done_zero m c s
        iexact HS
      iexact Hg)
    (hout := fun c => by
      show Inv m c cfg0.N ⊢ Pipeline.ΦA spec0 c
      rw [rest_eq]; unfold Inv
      iintro ⟨⟨%s, -, HS⟩, Hg⟩
      isplitl [HS]
      · iexists s; iexact HS
      iexact Hg)

/-- Every run ends, with the arguments as launched and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩, h.2⟩) (run m ρ)

end Cert.ConvAIdeal.Proved

end
-- ==== Proof.ConvA.lean ====
/-
  The short gated convolution: the second and third of its projections are multiplied, the product is convolved along the sequence,
  the two rows above a tile coming from the tile made four steps before, or being zero at the start of a sequence, and the first
  projection gates the result.
-/
module

public import proofs.«01_k».proof.Defs
public import proofs.«01_k».proof.Proof.ConvAIdealFrame
public import proofs.«01_k».proof.Proof.Gen.ConvARefIdeal.Run
public import proofs.«01_k».proof.Proof.Gen.ConvARefIdeal.Read
public import Idealize.ShloMosaic.Lib.Pipeline.ValueKit
public import Idealize.ShloMosaic.Lib.Pointwise
public import Idealize.ShloMosaic.Lib.Claim

@[expose] public section

set_option maxRecDepth 16384

noncomputable section

namespace Cert.ConvAIdeal.Proved

open Idealize.ShloMosaic Idealize.ShloMosaic.TcCoe Idealize.SL.Sem
open Idealize.ShloMosaic.Pipeline (Dat)
open Cert.ConvAIdeal Cert.ConvAIdeal.Gen Cert.ConvARefIdeal.Read

/-! ## One tile -/

/-- The convolution of the rows two above, one above and here. -/
def mixed (w0 w1 w2 y2 y1 y0 : Ideal .f32) : Ideal .f32 := w0 * y2 + w1 * y1 + w2 * y0

theorem mixed_congr {w0 w1 w2 y2 y1 y0 w0' w1' w2' y2' y1' y0' : Ideal .f32} (h0 : w0 = w0') (h1 : w1 = w1') (h2 : w2 = w2')
    (g2 : y2 = y2') (g1 : y1 = y1') (g0 : y0 = y0') : mixed w0 w1 w2 y2 y1 y0 = mixed w0' w1' w2' y2' y1' y0' := by
  rw [h0, h1, h2, g2, g1, g0]

/-- The row above, in the tile or from the eight rows above it. -/
def prev1 (U : FVec Ideal S512x256 .f32) (P : Fin 8 → Fin 256 → Ideal .f32) (r : Fin 512) (s : Fin 256) : Ideal .f32 :=
  Scalar.select (IntOp.cmpi CmpIPredicate.eq (BitVec.ofNat 32 r.val) 0#32) (P 7 s)
    (U (ix2 ⟨(r.val + 512 - 1) % 512, Nat.mod_lt _ (by decide)⟩ s))
/-- The row two above. -/
def prev2 (U : FVec Ideal S512x256 .f32) (P : Fin 8 → Fin 256 → Ideal .f32) (r : Fin 512) (s : Fin 256) : Ideal .f32 :=
  Scalar.select (IntOp.cmpi CmpIPredicate.eq (BitVec.ofNat 32 r.val) 0#32) (P 6 s)
    (Scalar.select (IntOp.cmpi CmpIPredicate.eq (BitVec.ofNat 32 r.val) 1#32) (P 7 s)
      (U (ix2 ⟨(r.val + 512 - 2) % 512, Nat.mod_lt _ (by decide)⟩ s)))

/-- The eight rows above a tile at the start of a sequence. -/
def none8 : Fin 8 → Fin 256 → Ideal .f32 := fun _ _ => 0
/-- The eight rows above a tile elsewhere. -/
def rows8 (C : FVec Ideal S1x8x256 .f32) : Fin 8 → Fin 256 → Ideal .f32 := fun k s => C (ix3 0 k s)

/-- A factor times a choice between zero and a value. -/
theorem mul_select (b : BitVec 1) (w x : Ideal .f32) : w * Scalar.select b 0 x = Scalar.select b 0 (w * x) := by
  unfold Scalar.select
  split
  · exact mul_zero w
  · rfl

theorem tile_start (G U : FVec Ideal S512x256 .f32) (C : FVec Ideal S1x8x256 .f32) (w : Vec Ideal S3x256 .f32) (r : Fin 512) (s : Fin 256) :
    k0_pay8 G U (iota .tc S512x256 32 [0] iota_S512x256_d0_w32) (dynamicRotate 0 1#32 none U rotates_S512x256_d0)
      (dynamicRotate 0 2#32 none U rotates_S512x256_d0) 1#1 C w (ix2 r s)
      = G (ix2 r s) * mixed (w (ix2 0 s)) (w (ix2 1 s)) (w (ix2 2 s)) (prev2 U none8 r s) (prev1 U none8 r s) (U (ix2 r s)) := by
  have e : ∀ X Y : FVec Ideal S8x256 .f32, Scalar.select 1#1 X Y = X := fun _ _ => rfl
  unfold k0_pay8
  simp only [e]
  pointwise
  simp only [mixed, prev1, prev2, none8, mul_select]

theorem tile_inside (G U : FVec Ideal S512x256 .f32) (C : FVec Ideal S1x8x256 .f32) (w : Vec Ideal S3x256 .f32) (r : Fin 512) (s : Fin 256) :
    k0_pay8 G U (iota .tc S512x256 32 [0] iota_S512x256_d0_w32) (dynamicRotate 0 1#32 none U rotates_S512x256_d0)
      (dynamicRotate 0 2#32 none U rotates_S512x256_d0) 0#1 C w (ix2 r s)
      = G (ix2 r s) * mixed (w (ix2 0 s)) (w (ix2 1 s)) (w (ix2 2 s)) (prev2 U (rows8 C) r s) (prev1 U (rows8 C) r s) (U (ix2 r s)) := by
  have e : ∀ X Y : FVec Ideal S8x256 .f32, Scalar.select 0#1 X Y = Y := fun _ _ => rfl
  unfold k0_pay8
  simp only [e]
  pointwise
  rfl

theorem word_first (r : Fin 512) (n : Fin 2) (α : Type) (x y : α) :
    Scalar.select (IntOp.cmpi CmpIPredicate.eq (BitVec.ofNat 32 r.val) (BitVec.ofNat 32 n.val)) x y = if r.val = n.val then x else y := by
  have h : ∀ r : Fin 512, ∀ n : Fin 2, IntOp.cmpi CmpIPredicate.eq (BitVec.ofNat 32 r.val) (BitVec.ofNat 32 n.val) = if r.val = n.val then 1#1 else 0#1 := by
    decide +kernel
  rw [h]
  by_cases e : r.val = n.val
  · rw [if_pos e, if_pos e]; rfl
  · rw [if_neg e, if_neg e]; rfl

theorem prev1_eq (U : FVec Ideal S512x256 .f32) (P : Fin 8 → Fin 256 → Ideal .f32) (r : Fin 512) (s : Fin 256) :
    prev1 U P r s = if r.val = 0 then P 7 s else U (ix2 ⟨(r.val + 512 - 1) % 512, Nat.mod_lt _ (by decide)⟩ s) :=
  word_first r 0 _ _ _
theorem prev2_eq (U : FVec Ideal S512x256 .f32) (P : Fin 8 → Fin 256 → Ideal .f32) (r : Fin 512) (s : Fin 256) :
    prev2 U P r s = if r.val = 0 then P 6 s else if r.val = 1 then P 7 s
      else U (ix2 ⟨(r.val + 512 - 2) % 512, Nat.mod_lt _ (by decide)⟩ s) :=
  (word_first r 0 _ _ _).trans (if_congr Iff.rfl rfl (word_first r 1 _ _ _))

/-! ## The reference -/

variable (m : (ℓ : Loc nD τ sig) → Buf (Elt Ideal) ℓ)

/-- The tokens, the combined projection's weights and the convolution's, as launched. -/
abbrev X0 (c : Dev nD) : FVec Ideal S8x2048x2048 .f32 := m ((c : Thread nD τ).loc main_arg0)
abbrev X1 (c : Dev nD) : FVec Ideal S1x2048x11344 .f32 := m ((c : Thread nD τ).loc main_arg1)
abbrev X2 (c : Dev nD) : FVec Ideal S1x3x1024 .f32 := m ((c : Thread nD τ).loc main_arg2)

/-- The reference's first projection, the gate. -/
abbrev GATE (c : Dev nD) : FVec Ideal S8x2048x1024 .f32 := val_main_v2 (F := Ideal) (X0 m c) (X1 m c)
/-- The reference's product of the second and the third. -/
abbrev PROD (c : Dev nD) : FVec Ideal S8x2048x1024 .f32 := val_main_v14 (F := Ideal) (X0 m c) (X1 m c)
/-- The reference's branch. -/
abbrev REF (c : Dev nD) : FVec Ideal S8x2048x1024 .bf16 := val_main_v39 (F := Ideal) (X0 m c) (X1 m c) (X2 m c)

/-- The reference's row two above: zero before the sequence. -/
def above2 (c : Dev nD) (a : Fin 8) (b : Fin 2048) (q : Fin 1024) : Ideal .f32 :=
  if h : b.val < 2 then 0 else PROD m c (ix3 a ⟨b.val - 2, by omega⟩ q)
/-- The reference's row above. -/
def above1 (c : Dev nD) (a : Fin 8) (b : Fin 2048) (q : Fin 1024) : Ideal .f32 :=
  if h : 1 + b.val < 2 then 0 else PROD m c (ix3 a ⟨1 + b.val - 2, by omega⟩ q)

/-- The same with the factors in the reference's order. -/
theorem reorder (w0 w1 w2 y2 y1 y0 g : Ideal .f32) : g * (y2 * w0 + y1 * w1 + y0 * w2) = g * mixed w0 w1 w2 y2 y1 y0 := by
  unfold mixed
  rw [mul_comm y2, mul_comm y1, mul_comm y0]

theorem ref_apply (c : Dev nD) (a : Fin 8) (b : Fin 2048) (q : Fin 1024) :
    REF m c (ix3 a b q) = GATE m c (ix3 a b q) * mixed (X2 m c (ix3 0 0 q)) (X2 m c (ix3 0 1 q)) (X2 m c (ix3 0 2 q))
      (above2 m c a b q) (above1 m c a b q) (PROD m c (ix3 a b q)) := by
  unfold above2 above1 PROD GATE
  generalize hU : val_main_v14 (F := Ideal) (X0 m c) (X1 m c) = U
  generalize hG : val_main_v2 (F := Ideal) (X0 m c) (X1 m c) = G
  pointwise [val_main_cst, val_main_v13, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, hU]
  simp only [hU, hG]
  exact reorder _ _ _ _ _ _ _

theorem ref_tail (c : Dev nD) (z : Fin 1) (a : Fin 8) (b : Fin 2) (q : Fin 1024) :
    (val_main_v40 (F := Ideal) (X0 m c) (X1 m c) : FVec Ideal S1x8x2x1024 .f32) (ix4 z a b q) = PROD m c (ix3 a ⟨2046 + b.val, by omega⟩ q) := by
  generalize hU : val_main_v14 (F := Ideal) (X0 m c) (X1 m c) = U
  pointwise [val_main_cst, val_main_v13, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, hU]
  rw [dif_neg (by omega)]
  exact congrArg (fun z => U (ix3 a z q)) (Fin.ext (by show 2048 + b.val - 2 = 2046 + b.val; omega))

/-! ## What the windows hold -/

theorem idx : ∀ t : Fin cfg0.N, win0_0.index t = ![t.val / 4, 0] ∧ win0_1.index t = ![0, t.val % 4]
    ∧ win0_2.index t = ![0, 4 + t.val % 4] ∧ win0_3.index t = ![0, 8 + t.val % 4] ∧ win0_4.index t = ![0, t.val % 4]
    ∧ win0_5.index t = ![t.val / 4, t.val % 4] ∧ win0_6.index t = ![t.val / 4, t.val % 4] :=
  (by decide +kernel : ∀ t : Fin grid0.N, _)

theorem read_x (c : Dev nD) (t : Fin cfg0.N) (r : Fin 512) (k : Fin 2048) (a : Fin 8) (b : Fin 2048)
    (h : t.val / 4 * 512 + r.val = a.val * 2048 + b.val) :
    (iblk m c 0 t : FVec Ideal S512x2048 .bf16) (ix2 r k) = X0 m c (ix3 a b k) := by
  have ht : t.val < 128 := lt_of_lt_of_eq t.isLt N_0
  have e : (iblk m c 0 t : FVec Ideal S512x2048 .bf16) (ix2 r k)
      = (V m c main_v1 : FVec Ideal S16384x2048 .bf16) (ix2 ⟨t.val / 4 * 512 + r.val, by omega⟩ k) := by
    blk_ext [iblk, idx t]
  rw [e]
  simp only [V, V0, hostOps0, List.flatten_cons, List.flatten_nil, List.append_nil, List.cons_append, List.nil_append]
  entry_read
  pointwise
  blk_ext

theorem read_1 (c : Dev nD) (t : Fin cfg0.N) (k : Fin 2048) (j : Fin 256) (q : Fin 11344) (h : q.val = 0 + (t.val % 4 * 256 + j.val)) :
    (iblk m c 1 t : FVec Ideal S2048x256 .bf16) (ix2 k j) = X1 m c (ix3 0 k q) := by
  have e : (iblk m c 1 t : FVec Ideal S2048x256 .bf16) (ix2 k j)
      = (V m c main_v4 : FVec Ideal S2048x3072 .bf16) (ix2 k ⟨0 + (t.val % 4 * 256 + j.val), by omega⟩) := by
    blk_ext [iblk, idx t]
  rw [e]
  simp only [V, V0, hostOps0, List.flatten_cons, List.flatten_nil, List.append_nil, List.cons_append, List.nil_append]
  entry_read
  pointwise
  blk_ext

theorem read_2 (c : Dev nD) (t : Fin cfg0.N) (k : Fin 2048) (j : Fin 256) (q : Fin 11344) (h : q.val = 1024 + (t.val % 4 * 256 + j.val)) :
    (iblk m c 2 t : FVec Ideal S2048x256 .bf16) (ix2 k j) = X1 m c (ix3 0 k q) := by
  have e : (iblk m c 2 t : FVec Ideal S2048x256 .bf16) (ix2 k j)
      = (V m c main_v4 : FVec Ideal S2048x3072 .bf16) (ix2 k ⟨1024 + (t.val % 4 * 256 + j.val), by omega⟩) := by
    blk_ext [iblk, idx t]
  rw [e]
  simp only [V, V0, hostOps0, List.flatten_cons, List.flatten_nil, List.append_nil, List.cons_append, List.nil_append]
  entry_read
  pointwise
  blk_ext

theorem read_3 (c : Dev nD) (t : Fin cfg0.N) (k : Fin 2048) (j : Fin 256) (q : Fin 11344) (h : q.val = 2048 + (t.val % 4 * 256 + j.val)) :
    (iblk m c 3 t : FVec Ideal S2048x256 .bf16) (ix2 k j) = X1 m c (ix3 0 k q) := by
  have e : (iblk m c 3 t : FVec Ideal S2048x256 .bf16) (ix2 k j)
      = (V m c main_v4 : FVec Ideal S2048x3072 .bf16) (ix2 k ⟨2048 + (t.val % 4 * 256 + j.val), by omega⟩) := by
    blk_ext [iblk, idx t]
  rw [e]
  simp only [V, V0, hostOps0, List.flatten_cons, List.flatten_nil, List.append_nil, List.cons_append, List.nil_append]
  entry_read
  pointwise
  blk_ext

theorem read_4 (c : Dev nD) (t : Fin cfg0.N) (k : Fin 3) (j : Fin 256) (q : Fin 1024) (h : q.val = t.val % 4 * 256 + j.val) :
    (iblk m c 4 t : FVec Ideal S3x256 .f32) (ix2 k j) = X2 m c (ix3 0 k q) := by
  have e : (iblk m c 4 t : FVec Ideal S3x256 .f32) (ix2 k j)
      = (V m c main_v5 : FVec Ideal S3x1024 .f32) (ix2 k ⟨t.val % 4 * 256 + j.val, by omega⟩) := by
    blk_ext [iblk, idx t]
  rw [e]
  simp only [V, V0, hostOps0, List.flatten_cons, List.flatten_nil, List.append_nil, List.cons_append, List.nil_append]
  entry_read
  pointwise
  blk_ext

/-! ## What a step computes -/

theorem prod_apply (c : Dev nD) (t : Fin cfg0.N) (r : Fin 512) (s : Fin 256) (a : Fin 8) (b : Fin 2048) (q : Fin 1024)
    (h : t.val / 4 * 512 + r.val = a.val * 2048 + b.val) (hq : q.val = t.val % 4 * 256 + s.val) :
    prod (iblk m c 0 t) (iblk m c 2 t) (iblk m c 3 t) (ix2 r s) = PROD m c (ix3 a b q) := by
  have h2 : ∀ k : Fin 2048, (iblk m c 2 t : FVec Ideal S2048x256 .bf16) (ix2 k s) = X1 m c (ix3 0 k ⟨1024 + q.val, by omega⟩) := fun k =>
    read_2 m c t k s _ (by show 1024 + q.val = _; omega)
  have h3 : ∀ k : Fin 2048, (iblk m c 3 t : FVec Ideal S2048x256 .bf16) (ix2 k s) = X1 m c (ix3 0 k ⟨2048 + q.val, by omega⟩) := fun k =>
    read_3 m c t k s _ (by show 2048 + q.val = _; omega)
  have h0 : ∀ k : Fin 2048, (iblk m c 0 t : FVec Ideal S512x2048 .bf16) (ix2 r k) = X0 m c (ix3 a b k) := fun k => read_x m c t r k a b h
  unfold prod
  generalize (iblk m c 0 t : FVec Ideal S512x2048 .bf16) = A at h0 ⊢
  generalize (iblk m c 2 t : FVec Ideal S2048x256 .bf16) = B at h2 ⊢
  generalize (iblk m c 3 t : FVec Ideal S2048x256 .bf16) = D at h3 ⊢
  pointwise [k0_pay4, k0_pay2, val_main_v0, val_main_v1, val_main_v3, val_main_v4, val_main_v14]
  exact Ideal.mul_congr (Finset.sum_congr rfl fun k _ => Ideal.mul_congr (h0 k) (h2 k)) (Finset.sum_congr rfl fun k _ => Ideal.mul_congr (h0 k) (h3 k))

theorem gate_apply (c : Dev nD) (t : Fin cfg0.N) (r : Fin 512) (s : Fin 256) (a : Fin 8) (b : Fin 2048) (q : Fin 1024)
    (h : t.val / 4 * 512 + r.val = a.val * 2048 + b.val) (hq : q.val = t.val % 4 * 256 + s.val) :
    k0_pay3 (iblk m c 0 t) (iblk m c 1 t) (ix2 r s) = GATE m c (ix3 a b q) := by
  have h1 : ∀ k : Fin 2048, (iblk m c 1 t : FVec Ideal S2048x256 .bf16) (ix2 k s) = X1 m c (ix3 0 k ⟨q.val, by omega⟩) := fun k =>
    read_1 m c t k s _ (by show q.val = _; omega)
  have h0 : ∀ k : Fin 2048, (iblk m c 0 t : FVec Ideal S512x2048 .bf16) (ix2 r k) = X0 m c (ix3 a b k) := fun k => read_x m c t r k a b h
  generalize (iblk m c 0 t : FVec Ideal S512x2048 .bf16) = A at h0 ⊢
  generalize (iblk m c 1 t : FVec Ideal S2048x256 .bf16) = B at h1 ⊢
  pointwise [k0_pay3, k0_pay2, val_main_v0, val_main_v1, val_main_v2]
  exact Finset.sum_congr rfl fun k _ => Ideal.mul_congr (h0 k) (h1 k)

/-- The rows above a tile inside a sequence are the last rows of the tile above. -/
theorem rows_inside (c : Dev nD) (t : Fin cfg0.N) (k : Fin 8) (s : Fin 256) (a : Fin 8) (b : Fin 2048) (q : Fin 1024) (h : t.val / 4 % 4 ≠ 0)
    (hb : t.val / 4 * 512 + k.val = a.val * 2048 + b.val + 8) (hq : q.val = t.val % 4 * 256 + s.val) :
    rows8 (last m c (above t)) k s = PROD m c (ix3 a b q) := by
  have ha : (above t).val = t.val - 4 := rfl
  have e := prod_apply m c (above t) ⟨504 + k.val, by omega⟩ s a b q (by show (above t).val / 4 * 512 + (504 + k.val) = _; omega) (by omega)
  refine Eq.trans ?_ e
  unfold rows8 last
  generalize prod (iblk m c 0 (above t)) (iblk m c 2 (above t)) (iblk m c 3 (above t)) = U
  pointwise [k0_pay7]

theorem prev_1 (c : Dev nD) (t : Fin cfg0.N) (P : Fin 8 → Fin 256 → Ideal .f32) (r : Fin 512) (s : Fin 256) (a : Fin 8) (b : Fin 2048) (q : Fin 1024)
    (h : t.val / 4 * 512 + r.val = a.val * 2048 + b.val) (hq : q.val = t.val % 4 * 256 + s.val)
    (hs : t.val / 4 % 4 = 0 → P = none8) (hi : t.val / 4 % 4 ≠ 0 → P = rows8 (last m c (above t))) :
    prev1 (prod (iblk m c 0 t) (iblk m c 2 t) (iblk m c 3 t)) P r s = above1 m c a b q := by
  rw [prev1_eq]
  unfold above1
  by_cases h0 : r.val = 0
  · rw [if_pos h0]
    by_cases h4 : t.val / 4 % 4 = 0
    · rw [hs h4, dif_pos (by omega)]; rfl
    · rw [hi h4, dif_neg (by omega)]
      exact rows_inside m c t 7 s a _ q h4 (by show _ + 7 = _ + (1 + b.val - 2) + 8; omega) hq
  · rw [if_neg h0, dif_neg (by omega)]
    exact prod_apply m c t _ s a _ q (by show _ + (r.val + 512 - 1) % 512 = _ + (1 + b.val - 2); omega) hq

theorem prev_2 (c : Dev nD) (t : Fin cfg0.N) (P : Fin 8 → Fin 256 → Ideal .f32) (r : Fin 512) (s : Fin 256) (a : Fin 8) (b : Fin 2048) (q : Fin 1024)
    (h : t.val / 4 * 512 + r.val = a.val * 2048 + b.val) (hq : q.val = t.val % 4 * 256 + s.val)
    (hs : t.val / 4 % 4 = 0 → P = none8) (hi : t.val / 4 % 4 ≠ 0 → P = rows8 (last m c (above t))) :
    prev2 (prod (iblk m c 0 t) (iblk m c 2 t) (iblk m c 3 t)) P r s = above2 m c a b q := by
  rw [prev2_eq]
  unfold above2
  by_cases h0 : r.val = 0
  · rw [if_pos h0]
    by_cases h4 : t.val / 4 % 4 = 0
    · rw [hs h4, dif_pos (by omega)]; rfl
    · rw [hi h4, dif_neg (by omega)]
      exact rows_inside m c t 6 s a _ q h4 (by show _ + 6 = _ + (b.val - 2) + 8; omega) hq
  · rw [if_neg h0]
    by_cases h1 : r.val = 1
    · rw [if_pos h1]
      by_cases h4 : t.val / 4 % 4 = 0
      · rw [hs h4, dif_pos (by omega)]; rfl
      · rw [hi h4, dif_neg (by omega)]
        exact rows_inside m c t 7 s a _ q h4 (by show _ + 7 = _ + (b.val - 2) + 8; omega) hq
    · rw [if_neg h1, dif_neg (by omega)]
      exact prod_apply m c t _ s a _ q (by show _ + (r.val + 512 - 2) % 512 = _ + (b.val - 2); omega) hq

/-- A tile is the reference's branch there. -/
theorem gated_apply (c : Dev nD) (t : Fin cfg0.N) (r : Fin 512) (s : Fin 256) (a : Fin 8) (b : Fin 2048) (q : Fin 1024)
    (h : t.val / 4 * 512 + r.val = a.val * 2048 + b.val) (hq : q.val = t.val % 4 * 256 + s.val) :
    gatedAt m c t (ix2 r s) = REF m c (ix3 a b q) := by
  have hc : ∀ k : Fin 3, (iblk m c 4 t : FVec Ideal S3x256 .f32) (ix2 k s) = X2 m c (ix3 0 k q) := fun k => read_4 m c t k s q hq
  refine Eq.trans ?_ (ref_apply m c a b q).symm
  unfold gatedAt gated
  by_cases h4 : t.val / 4 % 4 = 0
  · rw [start_yes t h4]
    refine (tile_start _ (prod (iblk m c 0 t) (iblk m c 2 t) (iblk m c 3 t)) _ _ r s).trans ?_
    exact Ideal.mul_congr (gate_apply m c t r s a b q h hq) (mixed_congr (hc 0) (hc 1) (hc 2)
      (prev_2 m c t none8 r s a b q h hq (fun _ => rfl) (fun h' => absurd h4 h'))
      (prev_1 m c t none8 r s a b q h hq (fun _ => rfl) (fun h' => absurd h4 h')) (prod_apply m c t r s a b q h hq))
  · rw [start_no t h4]
    refine (tile_inside _ (prod (iblk m c 0 t) (iblk m c 2 t) (iblk m c 3 t)) _ _ r s).trans ?_
    exact Ideal.mul_congr (gate_apply m c t r s a b q h hq) (mixed_congr (hc 0) (hc 1) (hc 2)
      (prev_2 m c t _ r s a b q h hq (fun h' => absurd h' h4) (fun _ => rfl))
      (prev_1 m c t _ r s a b q h hq (fun h' => absurd h' h4) (fun _ => rfl)) (prod_apply m c t r s a b q h hq))

/-- The last rows of a tile of the product. -/
theorem tail_apply (c : Dev nD) (t : Fin cfg0.N) (r : Fin 8) (j : Fin 256) (p : Fin 256) (q : Fin 1024)
    (hp : p.val = t.val / 4 * 8 + r.val) (hq : q.val = t.val % 4 * 256 + j.val) :
    tailAt m c t (ix2 r j) = PROD m c (ix3 ⟨p.val / 32, by omega⟩ ⟨p.val / 8 % 4 * 512 + 504 + p.val % 8, by omega⟩ q) := by
  have hA := prod_apply m c t ⟨504 + r.val, by omega⟩ j ⟨p.val / 32, by omega⟩ ⟨p.val / 8 % 4 * 512 + 504 + p.val % 8, by omega⟩ q
    (by show t.val / 4 * 512 + (504 + r.val) = p.val / 32 * 2048 + (p.val / 8 % 4 * 512 + 504 + p.val % 8); omega) hq
  refine Eq.trans ?_ hA
  unfold tailAt tail
  generalize prod (iblk m c 0 t) (iblk m c 2 t) (iblk m c 3 t) = U
  pointwise [k0_pay9]

/-! ## The arrays the run leaves -/

/-- The branch with the tokens of all sequences in one row of rows. -/
def flatBranch (c : Dev nD) : FVec Ideal S16384x1024 .bf16 := fun y =>
  REF m c (ix3 ⟨(y (0 : Fin 2)).val / 2048, by have : (y (0 : Fin 2)).val < 16384 := (y 0).isLt; omega⟩
    ⟨(y (0 : Fin 2)).val % 2048, Nat.mod_lt _ (by decide)⟩ (y (1 : Fin 2)))
/-- The last eight rows of every tile of the product. -/
def flatTail (c : Dev nD) : FVec Ideal S256x1024 .f32 := fun y =>
  PROD m c (ix3 ⟨(y (0 : Fin 2)).val / 32, by have : (y (0 : Fin 2)).val < 256 := (y 0).isLt; omega⟩
    ⟨(y (0 : Fin 2)).val / 8 % 4 * 512 + 504 + (y (0 : Fin 2)).val % 8, by omega⟩ (y (1 : Fin 2)))

theorem branch_point (c : Dev nD) (t : Fin cfg0.N) (r : Fin 512) (j : Fin 256) (p : Fin 16384) (q : Fin 1024)
    (hp : p.val = t.val / 4 * 512 + r.val) (hq : q.val = t.val % 4 * 256 + j.val) :
    gatedAt m c t (ix2 r j) = REF m c (ix3 ⟨p.val / 2048, by omega⟩ ⟨p.val % 2048, by omega⟩ q) :=
  gated_apply m c t r j ⟨p.val / 2048, by omega⟩ ⟨p.val % 2048, by omega⟩ q
    (by show t.val / 4 * 512 + r.val = p.val / 2048 * 2048 + p.val % 2048; omega) hq

theorem final_5 (c : Dev nD) : (dats m 0 c).arrAt 5 cfg0.N = flatBranch m c := by
  refine (dats m 0 c).arrAt_eq_of_covers 5 _ (by decide +kernel) fun t hf y => ?_
  have e := branch_point m c t (y (0 : Fin 2)) (y (1 : Fin 2)) (((cfg0.win 5).blk t).view.emb y (0 : Fin 2)) (((cfg0.win 5).blk t).view.emb y (1 : Fin 2))
    (by blk_simp [idx t]) (by blk_simp [idx t])
  blk_simp
  rw [after_5]
  exact (congrArg (gatedAt m c t) (eq_ix2 y)).trans e

theorem final_6 (c : Dev nD) : (dats m 0 c).arrAt 6 cfg0.N = flatTail m c := by
  refine (dats m 0 c).arrAt_eq_of_covers 6 _ (by decide +kernel) fun t hf y => ?_
  have e := tail_apply m c t (y (0 : Fin 2)) (y (1 : Fin 2)) (((cfg0.win 6).blk t).view.emb y (0 : Fin 2)) (((cfg0.win 6).blk t).view.emb y (1 : Fin 2))
    (by blk_simp [idx t]) (by blk_simp [idx t])
  blk_simp
  rw [after_6]
  exact (congrArg (tailAt m c t) (eq_ix2 y)).trans e

/-- Windows that share an array only read it. -/
theorem shared : Pipeline.SharedIn (cfgs 0).spec := by decide +kernel

/-- The host's reshape of the branch. -/
theorem end_branch (c : Dev nD) : Pipeline.afterTail₀ cfgs (dats m) 0 (V0 m) [hostOps1] c main_v11 = REF m c := by
  have e : Pipeline.afterTail₀ cfgs (dats m) 0 (V0 m) [hostOps1] c main_v11
      = shapeCast S8x2048x1024 (flatBranch m c) shapeCasts_S16384x1024_S8x2048x1024 := by
    rw [← final_5 m c]
    unfold Pipeline.afterTail₀
    simp only [hostOps1, List.flatten_cons, List.flatten_nil, List.append_nil, List.cons_append, List.nil_append]
    after_results
    exact congrArg (fun A => shapeCast S8x2048x1024 A shapeCasts_S16384x1024_S8x2048x1024) ((dats m 0 c).withArrays_arrAt shared (V0 m c) (fun _ => rfl) 5)
  rw [e]
  have hf : ∀ (p : Fin 16384) (q : Fin 1024), flatBranch m c (ix2 p q)
      = REF m c (ix3 ⟨p.val / 2048, by omega⟩ ⟨p.val % 2048, Nat.mod_lt _ (by decide)⟩ q) := fun _ _ => rfl
  generalize flatBranch m c = A at hf ⊢
  generalize (REF m c : FVec Ideal S8x2048x1024 .bf16) = R at hf ⊢
  refine funext fun (y : S8x2048x1024.Idx) => ?_
  rw [eq_ix3 y]
  generalize y (0 : Fin 3) = a
  generalize y (1 : Fin 3) = b
  generalize y (2 : Fin 3) = q
  pointwise [hf]
  blk_ext

/-- The host's slice of the last two rows of every sequence. -/
theorem end_tail (c : Dev nD) : Pipeline.afterTail₀ cfgs (dats m) 0 (V0 m) [hostOps1] c main_v10
    = val_main_v40 (F := Ideal) (X0 m c) (X1 m c) := by
  have e : Pipeline.afterTail₀ cfgs (dats m) 0 (V0 m) [hostOps1] c main_v10
      = broadcastInDim S1x8x2x1024 ![1, 2, 3] bcast_S8x2x1024_S1x8x2x1024_1_2_3 (shapeCast S8x2x1024
        (extractStridedSlice S8x1x2x1024 ![0, 3, 6, 0] (shapeCast S8x4x8x1024 (flatTail m c) shapeCasts_S256x1024_S8x4x8x1024)
          slices_S8x4x8x1024_S8x1x2x1024_0_3_6_0) shapeCasts_S8x1x2x1024_S8x2x1024) := by
    rw [← final_6 m c]
    unfold Pipeline.afterTail₀
    simp only [hostOps1, List.flatten_cons, List.flatten_nil, List.append_nil, List.cons_append, List.nil_append]
    after_results
    have hw : Pipeline.withArrays (cfgs 0).spec c (V0 m c) (fun w => (dats m 0 c).arrAt w (cfgs 0).N) (Proc.tc.devRef main_v6_1)
        = (dats m 0 c).arrAt 6 cfg0.N := (dats m 0 c).withArrays_arrAt shared (V0 m c) (fun _ => rfl) 6
    rw [hw]
    generalize (dats m 0 c).arrAt 6 cfg0.N = A
    rfl
  rw [e]
  refine funext fun (y : S1x8x2x1024.Idx) => ?_
  rw [eq_ix4 y]
  generalize y (0 : Fin 4) = z
  generalize y (1 : Fin 4) = a
  generalize y (2 : Fin 4) = b
  generalize y (3 : Fin 4) = q
  refine Eq.trans ?_ (ref_tail m c z a b q).symm
  have hf : ∀ (p : Fin 256) (q : Fin 1024), flatTail m c (ix2 p q)
      = PROD m c (ix3 ⟨p.val / 32, by omega⟩ ⟨p.val / 8 % 4 * 512 + 504 + p.val % 8, by omega⟩ q) := fun _ _ => rfl
  generalize flatTail m c = A at hf ⊢
  generalize (PROD m c : FVec Ideal S8x2048x1024 .f32) = R at hf ⊢
  pointwise [hf]
  blk_ext

/-- What every run leaves in the results. -/
theorem results (ρ : Dev nD → PrngReg) :
    θ_run defs (onTc (τ := τ) (main (F := Ideal))) ⟨m, fun _ => 0, ρ⟩ (fun r => ∀ c : Dev nD,
      r.2.mem ((c.tc : Thread nD τ).loc main_v11) = val_main_v39 (F := Ideal) (X0 m c) (X1 m c) (X2 m c)
      ∧ r.2.mem ((c.tc : Thread nD τ).loc main_v10) = val_main_v40 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run m ρ)
  exact ⟨((h.1 c).2 main_v11 (Pipeline.mem_restRefs_of main_v11 (by decide) (by decide))).trans (end_branch m c),
    ((h.1 c).2 main_v10 (Pipeline.mem_restRefs_of main_v10 (by decide) (by decide))).trans (end_tail m c),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c)⟩

theorem v39_congr {a a' : FVec Ideal S8x2048x2048 .f32} {b b' : FVec Ideal S1x2048x11344 .f32} {d d' : FVec Ideal S1x3x1024 .f32}
    (h0 : a = a') (h1 : b = b') (h2 : d = d') :
    val_main_v39 (F := Ideal) a b d = val_main_v39 (F := Ideal) a' b' d' := by
  rw [h0, h1, h2]

/-- Over the reals the kernel computes the reference's branch and the rows that the next call convolves with. -/
theorem algebraic : Cert.algebraic_ConvAIdeal_ConvARefIdeal := by
  pair_intro
  · run_from results m g
  · run_from Cert.ConvARefIdeal.Value.run m' g'
    · exact (Cert.ConvARefIdeal.Read.val_main_v39_eq m' c).trans (v39_congr (hagree c).1 (hagree c).2.1 (hagree c).2.2)
    · exact Cert.ConvARefIdeal.Read.val_main_v40_eq _ _

end Cert.ConvAIdeal.Proved

end
-- ==== Proof.IdxKeysNorm.lean ====
/-
  The layer norm of the index keys: the kernel sums over 128 lanes what is zero beyond 64, and multiplies by a sixty-fourth; the
  reference sums over 64 and divides.
-/
module

public import proofs.«01_k».proof.Defs
public import proofs.«01_k».proof.Proof.Gen.IdxKeysIdeal.Frame
public import proofs.«01_k».proof.Proof.Gen.IdxKeysRefIdeal.Run
public import proofs.«01_k».proof.Proof.Gen.IdxKeysRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.IdxKeysIdeal.Proved

open Idealize.ShloMosaic Idealize.ShloMosaic.TcCoe Idealize.SL.Sem
open Idealize.ShloMosaic.Pipeline (Dat)
open Cert.IdxKeysIdeal Cert.IdxKeysIdeal.Gen Cert.IdxKeysRefIdeal.Read

/-! ## The layer norm -/

/-- The norm of 64 values at one of them, with its scale and shift. -/
def lnorm (z : Fin 64 → EReal) (g b : EReal) (l : Fin 64) : EReal :=
  (z l - (∑ x, z x) * Ideal.ofBits .f32 0x3C800000#32)
    * Ideal.rsqrt ((∑ x, (z x - (∑ x, z x) * Ideal.ofBits .f32 0x3C800000#32) * (z x - (∑ x, z x) * Ideal.ofBits .f32 0x3C800000#32))
      * Ideal.ofBits .f32 0x3C800000#32 + Ideal.ofBits .f32 0x3727C5AC#32) * g + b

theorem word_64 (l : Fin 128) (α : Type) (x y : α) :
    Scalar.select (IntOp.cmpi CmpIPredicate.slt (BitVec.ofNat 32 l.val) 64#32) x y = if l.val < 64 then x else y := by
  have h : ∀ l : Fin 128, IntOp.cmpi CmpIPredicate.slt (BitVec.ofNat 32 l.val) 64#32 = if l.val < 64 then 1#1 else 0#1 := by
    decide +kernel
  rw [h]
  by_cases e : l.val < 64
  · rw [if_pos e, if_pos e]; rfl
  · rw [if_neg e, if_neg e]; rfl

/-- A sum over 128 lanes of what is zero beyond the first 64. -/
theorem sum_64 (f : Fin 128 → EReal) : (∑ x : Fin 128, Scalar.select (IntOp.cmpi CmpIPredicate.slt (BitVec.ofNat 32 x.val) 64#32) (f x) 0)
    = ∑ x : Fin 64, f ⟨x.val, by omega⟩ := by
  simp only [word_64]
  rw [show (∑ x : Fin 128, if x.val < 64 then f x else 0) = ∑ x : Fin (64 + 64), if x.val < 64 then f x else 0 from rfl, Fin.sum_univ_add]
  rw [Finset.sum_congr rfl (fun (x : Fin 64) _ => if_pos (show (Fin.castAdd 64 x).val < 64 from x.isLt)),
    Finset.sum_congr rfl (fun (x : Fin 64) _ => if_neg (show ¬ (Fin.natAdd 64 x).val < 64 by rw [Fin.val_natAdd]; omega)),
    Finset.sum_const_zero, add_zero]
  rfl

theorem select_twice (w : BitVec 1) (a b : EReal) : Scalar.select w (Scalar.select w a b) b = Scalar.select w a b := by
  unfold Scalar.select
  split <;> rfl

/-- A sixty-fourth is a division by sixty-four. -/
theorem div_64 (x : EReal) : Ideal.div x (Ideal.ofBits .f32 0x42800000#32) = x * Ideal.ofBits .f32 0x3C800000#32 := by
  have h : Ideal.ofBits .f32 0x42800000#32 = ((64 : ℝ) : EReal) := by simp [Ideal.ofBits, Ideal.ieee, -EReal.coe_mul]; norm_num
  have h' : Ideal.ofBits .f32 0x3C800000#32 = ((1 / 64 : ℝ) : EReal) := by simp [Ideal.ofBits, Ideal.ieee, -EReal.coe_mul]; norm_num
  rw [h, h', Ideal.div_coe (by norm_num)]

/-- The norm with divisions. -/
def lnormDiv (z : Fin 64 → EReal) (g b : EReal) (l : Fin 64) : EReal :=
  (z l - Ideal.div (∑ x, z x) (Ideal.ofBits .f32 0x42800000#32))
    * Ideal.rsqrt (Ideal.div (∑ x, (z x - Ideal.div (∑ x, z x) (Ideal.ofBits .f32 0x42800000#32))
      * (z x - Ideal.div (∑ x, z x) (Ideal.ofBits .f32 0x42800000#32))) (Ideal.ofBits .f32 0x42800000#32)
      + Ideal.ofBits .f32 0x3727C5AC#32) * g + b

theorem lnorm_div (z : Fin 64 → EReal) (g b : EReal) (l : Fin 64) : lnormDiv z g b l = lnorm z g b l := by
  unfold lnormDiv lnorm
  simp only [div_64]

/-- A quarter of an eighth is a thirty-second. -/
theorem scale_32 (x : EReal) : x * Ideal.ofBits .f32 0x3E800000#32 * Ideal.ofBits .f32 0x3E000000#32 = x * Ideal.ofBits .f32 0x3D000000#32 := by
  have h : Ideal.ofBits .f32 0x3E800000#32 = ((1 / 4 : ℝ) : EReal) := by simp [Ideal.ofBits, Ideal.ieee, -EReal.coe_mul]; norm_num
  have h' : Ideal.ofBits .f32 0x3E000000#32 = ((1 / 8 : ℝ) : EReal) := by simp [Ideal.ofBits, Ideal.ieee, -EReal.coe_mul]; norm_num
  have h'' : Ideal.ofBits .f32 0x3D000000#32 = ((1 / 32 : ℝ) : EReal) := by simp [Ideal.ofBits, Ideal.ieee, -EReal.coe_mul]; norm_num
  rw [h, h', h'', mul_assoc, ← EReal.coe_mul]
  norm_num

/-- What the kernel normalises, before the rotation. -/
theorem norm_at (x0 : Vec Ideal S512x2048 .bf16) (x1 : Vec Ideal S2048x128 .bf16) (g b : Vec Ideal S1x128 .f32) (r : Fin 512) (l : Fin 128)
    (h : l.val < 64) :
    k0_pay4 (F := Ideal) x0 x1 g b (ix2 r l)
      = lnorm (fun x => k0_pay3 (F := Ideal) x0 x1 (ix2 r ⟨x.val, by omega⟩)) (g (ix2 0 l)) (b (ix2 0 l)) ⟨l.val, h⟩ := by
  unfold k0_pay4
  generalize k0_pay3 (F := Ideal) x0 x1 = Z
  pointwise
  simp only [select_twice, sum_64]
  rw [word_64, if_pos h]
  rfl

/-- The reference's norm of the index keys. -/
abbrev NORM (X : FVec Ideal S8x2048x2048 .f32) (W : FVec Ideal S1x2048x11344 .f32) (G B : FVec Ideal S1x64 .f32) (a : Fin 8) (b : Fin 2048)
    (l : Fin 64) : EReal := val_main_v38 (F := Ideal) X W G B (ix3 a b l)

theorem ref_at (X : FVec Ideal S8x2048x2048 .f32) (W : FVec Ideal S1x2048x11344 .f32) (G B : FVec Ideal S1x64 .f32) (a : Fin 8) (b : Fin 2048)
    (l : Fin 64) : NORM X W G B a b l
      = lnorm (fun x => val_main_v9 (F := Ideal) X W (ix3 a b x)) (G (ix2 0 l)) (B (ix2 0 l)) l := by
  refine Eq.trans ?_ (lnorm_div _ _ _ _)
  unfold NORM
  pointwise [val_main_v13, val_main_v14, val_main_cst, val_main_v15, val_main_v16, val_main_cst_0, val_main_v17, val_main_v18, val_main_v19,
    val_main_v20, val_main_v21, val_main_cst_1, val_main_v22, val_main_v23, val_main_cst_2, val_main_v24, val_main_v25, val_main_v26,
    val_main_v27, val_main_cst_3, val_main_v28, val_main_v29, val_main_v30, val_main_v31, val_main_v32, val_main_v33, val_main_v34,
    val_main_v35, val_main_v36, val_main_v37, val_main_v38]
  rfl

end Cert.IdxKeysIdeal.Proved

end
-- ==== Proof.IdxKeysTable.lean ====
/-
  The rotary tables of the index keys: what the host's lines write into the lanes of a tile of two heads.
-/
module

public import proofs.«01_k».proof.Defs
public import proofs.«01_k».proof.Proof.Gen.IdxKeysIdeal.Frame
public import proofs.«01_k».proof.Proof.Gen.IdxKeysRefIdeal.Run
public import proofs.«01_k».proof.Proof.Gen.IdxKeysRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.IdxKeysIdeal.Proved

open Idealize.ShloMosaic Idealize.ShloMosaic.TcCoe Idealize.SL.Sem
open Idealize.ShloMosaic.Pipeline (Dat)
open Cert.IdxKeysIdeal Cert.IdxKeysIdeal.Gen Cert.IdxKeysRefIdeal.Read

/-! ## The rotary tables -/

/-- A head's lanes written twice, for a tile of two heads. -/
def part (A : FVec Ideal S2048x64 .f32) : FVec Ideal S2048x128 .f32 :=
  shapeCast _ (broadcastInDim S1x2048x2x64 ![0, 1, 2, 3] bcast_S1x2048x1x64_S1x2048x2x64_0_1_2_3
    (shapeCast _ A shapeCasts_S2048x64_S1x2048x1x64)) shapeCasts_S1x2048x2x64_S2048x128

/-- The three tables beside one another. -/
def beside (A B C : FVec Ideal S2048x128 .f32) : FVec Ideal S2048x384 .f32 :=
  concatenate S2048x384 1 [⟨S2048x128, A⟩, ⟨S2048x128, B⟩, ⟨S2048x128, C⟩]
    concatenates_S2048x128_S2048x128_S2048x128_S2048x384_d1

/-- The lanes of a head: the two halves that are rotated, and the rest. -/
def lanes (A B : FVec Ideal S2048x8 .f32) (C : FVec Ideal S2048x48 .f32) : FVec Ideal S2048x64 .f32 :=
  concatenate S2048x64 1 [⟨S2048x8, A⟩, ⟨S2048x8, B⟩, ⟨S2048x48, C⟩]
    concatenates_S2048x8_S2048x8_S2048x48_S2048x64_d1

/-- The lanes of a head: the first half that is rotated, and the rest. -/
def first (A : FVec Ideal S2048x8 .f32) (B : FVec Ideal S2048x56 .f32) : FVec Ideal S2048x64 .f32 :=
  concatenate S2048x64 1 [⟨S2048x8, A⟩, ⟨S2048x56, B⟩] concatenates_S2048x8_S2048x56_S2048x64_d1

/-- The cosines and the sines of the reference. -/
abbrev CS : FVec Ideal S2048x8 .f32 := val_main_v53 (F := Ideal)
abbrev SN : FVec Ideal S2048x8 .f32 := val_main_v55 (F := Ideal)

/-- What the lines that make the tables leave, whatever they find. -/
abbrev T (W : Valuation τ sig (Elt Ideal)) (b : Ref sig .tc) : (Proc.devRef (τ := τ) .tc b).ty.Contents (Elt Ideal) :=
  StableHlo.after hostOps0_6 W (Proc.devRef .tc b)

set_option maxHeartbeats 1000000 in
theorem host_v44 (W : Valuation τ sig (Elt Ideal)) : (T W main_v44 : FVec Ideal S2048x384 .f32) = beside (T W main_v37) (T W main_v40) (T W main_v43) := by
  rfl

theorem host_v37 (W : Valuation τ sig (Elt Ideal)) : (T W main_v37 : FVec Ideal S2048x128 .f32) = part (T W main_v28) := by
  rfl

theorem host_v40 (W : Valuation τ sig (Elt Ideal)) : (T W main_v40 : FVec Ideal S2048x128 .f32) = part (T W main_v31) := by
  rfl

theorem host_v43 (W : Valuation τ sig (Elt Ideal)) : (T W main_v43 : FVec Ideal S2048x128 .f32) = part (T W main_v34) := by
  rfl

set_option maxHeartbeats 1000000 in
theorem host_v28 (W : Valuation τ sig (Elt Ideal)) : (T W main_v28 : FVec Ideal S2048x64 .f32) = lanes (T W main_v25) (T W main_v25) (T W main_v27) := by
  rfl

theorem host_v31 (W : Valuation τ sig (Elt Ideal)) : (T W main_v31 : FVec Ideal S2048x64 .f32) = first (T W main_v29) (T W main_v30) := by
  rfl

set_option maxHeartbeats 1000000 in
theorem host_v34 (W : Valuation τ sig (Elt Ideal)) : (T W main_v34 : FVec Ideal S2048x64 .f32) = lanes (T W main_v32) (T W main_v26) (T W main_v33) := by
  rfl

theorem host_v29 (W : Valuation τ sig (Elt Ideal)) : (T W main_v29 : FVec Ideal S2048x8 .f32) = Host.negf SN := by
  rfl

theorem host_v27 (W : Valuation τ sig (Elt Ideal)) : (T W main_v27 : FVec Ideal S2048x48 .f32) = broadcastInDim S2048x48 ![] bcast_S_S2048x48 (constant (F := Ideal) S_ .f32 0x3F800000#32) := by
  rfl

theorem host_v30 (W : Valuation τ sig (Elt Ideal)) : (T W main_v30 : FVec Ideal S2048x56 .f32) = broadcastInDim S2048x56 ![] bcast_S_S2048x56 (constant (F := Ideal) S_ .f32 0x00000000#32) := by
  rfl

theorem host_v32 (W : Valuation τ sig (Elt Ideal)) : (T W main_v32 : FVec Ideal S2048x8 .f32) = broadcastInDim S2048x8 ![] bcast_S_S2048x8 (constant (F := Ideal) S_ .f32 0x00000000#32) := by
  rfl

theorem host_v33 (W : Valuation τ sig (Elt Ideal)) : (T W main_v33 : FVec Ideal S2048x48 .f32) = broadcastInDim S2048x48 ![] bcast_S_S2048x48 (constant (F := Ideal) S_ .f32 0x00000000#32) := by
  rfl

theorem host_v25 (W : Valuation τ sig (Elt Ideal)) : (T W main_v25 : FVec Ideal S2048x8 .f32) = CS := by
  rfl

theorem host_v26 (W : Valuation τ sig (Elt Ideal)) : (T W main_v26 : FVec Ideal S2048x8 .f32) = SN := by
  rfl

/-- The table's first 128 columns: the cosine of the lane's angle where the head is rotated, else one. -/
theorem tab_cos (W : Valuation τ sig (Elt Ideal)) (b : Fin 2048) (l : Fin 384) (h : l.val < 128) :
    (T W main_v44 : FVec Ideal S2048x384 .f32) (ix2 b l) =
      if h1 : l.val % 64 < 8 then CS (ix2 b ⟨l.val % 64, h1⟩)
      else if h2 : l.val % 64 - 8 < 8 then CS (ix2 b ⟨l.val % 64 - 8, h2⟩) else (1 : EReal) := by
  rw [host_v44, host_v37, host_v40, host_v43, host_v28, host_v27, host_v25]
  generalize CS = C
  pointwise [beside, part, lanes]
  rw [dif_pos h]

/-- The next 128 columns: minus the sine, on the first half of the rotated lanes. -/
theorem tab_up (W : Valuation τ sig (Elt Ideal)) (b : Fin 2048) (l : Fin 384) (h : 128 ≤ l.val) (h' : l.val < 256) :
    (T W main_v44 : FVec Ideal S2048x384 .f32) (ix2 b l) =
      if h1 : (l.val - 128) % 64 < 8 then -SN (ix2 b ⟨(l.val - 128) % 64, h1⟩) else (0 : EReal) := by
  rw [host_v44, host_v37, host_v40, host_v43, host_v31, host_v29, host_v30]
  generalize SN = S
  pointwise [beside, part, first]
  rw [dif_neg (by omega), dif_pos (by omega)]

/-- The last 128 columns: the sine, on the second half of the rotated lanes. -/
theorem tab_dn (W : Valuation τ sig (Elt Ideal)) (b : Fin 2048) (l : Fin 384) (h : 256 ≤ l.val) :
    (T W main_v44 : FVec Ideal S2048x384 .f32) (ix2 b l) =
      if h1 : (l.val - 128 - 128) % 64 < 8 then (0 : EReal)
      else if h2 : (l.val - 128 - 128) % 64 - 8 < 8 then SN (ix2 b ⟨(l.val - 128 - 128) % 64 - 8, h2⟩) else (0 : EReal) := by
  rw [host_v44, host_v37, host_v40, host_v43, host_v34, host_v32, host_v33, host_v26]
  generalize SN = S
  pointwise [beside, part, lanes]
  rw [dif_neg (by omega), dif_neg (by omega)]

end Cert.IdxKeysIdeal.Proved

end
-- ==== Proof.IdxKeysStep.lean ====
/-
  A step of the index keys' projection: the normalised tile and the three products with the rotary tables.
-/
module

public import proofs.«01_k».proof.Defs
public import proofs.«01_k».proof.Proof.Gen.IdxKeysIdeal.Frame
public import proofs.«01_k».proof.Proof.Gen.IdxKeysRefIdeal.Run
public import proofs.«01_k».proof.Proof.Gen.IdxKeysRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.IdxKeysIdeal.Proved

open Idealize.ShloMosaic Idealize.ShloMosaic.TcCoe Idealize.SL.Sem
open Idealize.ShloMosaic.Pipeline (Dat)
open Cert.IdxKeysIdeal Cert.IdxKeysIdeal.Gen Cert.IdxKeysRefIdeal.Read

/-- What a step normalises. -/
abbrev stepNorm (x0 : Vec Ideal S512x2048 .bf16) (x1 : Vec Ideal S2048x128 .bf16) (x3 x4 : Vec Ideal S1x128 .f32) : FVec Ideal S512x128 .f32 :=
  k0_pay4 (F := Ideal) x0 x1 x3 x4

/-- Three products taken at equal indices have equal sums. -/
theorem combine {α β : Type} (Z : α → EReal) (T : β → EReal) {a a' b b' d d' : α} {i i' j j' k k' : β}
    (ha : a = a') (hb : b = b') (hd : d = d') (hi : i = i') (hj : j = j') (hk : k = k') :
    Z a * T i + Z b * T j + Z d * T k = Z a' * T i' + Z b' * T j' + Z d' * T k' := by
  subst ha hb hd hi hj hk; rfl

/-- What a step writes of the keys: the norm times the cosines, plus its lanes moved down and up by half of the rotated lanes times
    the two tables of sines. -/
theorem ker_at (x0 : Vec Ideal S512x2048 .bf16) (x1 : Vec Ideal S2048x128 .bf16) (x2 : Vec Ideal S512x384 .f32) (x3 x4 : Vec Ideal S1x128 .f32)
    (r : Fin 512) (s : Fin 64) :
    out0_5 (F := Ideal) x0 x1 x2 x3 x4 (ix2 r s)
      = (stepNorm x0 x1 x3 x4 (ix2 r ⟨s.val, by omega⟩) * x2 (ix2 r ⟨s.val, by omega⟩)
        + stepNorm x0 x1 x3 x4 (ix2 r ⟨(s.val + 8) % 128, by omega⟩) * x2 (ix2 r ⟨128 + s.val, by omega⟩)
        + stepNorm x0 x1 x3 x4 (ix2 r ⟨(s.val + 120) % 128, by omega⟩) * x2 (ix2 r ⟨256 + s.val, by omega⟩) : EReal) := by
  unfold out0_5
  frame_out
  unfold stepNorm
  generalize k0_pay4 (F := Ideal) x0 x1 x3 x4 = Y
  pointwise [k0_pay1, k0_pay5, r0_3, r0_4, r0_5, r0_6, View.ld]
  all_goals refine combine (fun s : Fin 128 => Y (ix2 r s)) (fun l : Fin 384 => x2 (ix2 r l)) ?_ ?_ ?_ ?_ ?_ ?_
  all_goals first | rfl | exact Fin.ext (by dsimp only; omega) | exact Fin.ext (by omega)

end Cert.IdxKeysIdeal.Proved

end
-- ==== Proof.IdxKeysRead.lean ====
/-
  What the steps of the index keys' projection read: the tokens, the padded weights, the tables, the norm's scale and shift.
-/
module

public import proofs.«01_k».proof.Defs
public import proofs.«01_k».proof.Proof.Gen.IdxKeysIdeal.Frame
public import proofs.«01_k».proof.Proof.Gen.IdxKeysRefIdeal.Run
public import proofs.«01_k».proof.Proof.Gen.IdxKeysRefIdeal.Read
public import proofs.«01_k».proof.Proof.IdxKeysNorm
public import proofs.«01_k».proof.Proof.IdxKeysTable
public import proofs.«01_k».proof.Proof.IdxKeysStep
public import Idealize.ShloMosaic.Lib.Pipeline.ValueKit
public import Idealize.ShloMosaic.Lib.Pointwise
public import Idealize.ShloMosaic.Lib.Claim

@[expose] public section

set_option maxRecDepth 16384

noncomputable section

namespace Cert.IdxKeysIdeal.Proved

open Idealize.ShloMosaic Idealize.ShloMosaic.TcCoe Idealize.SL.Sem
open Idealize.ShloMosaic.Pipeline (Dat)
open Cert.IdxKeysIdeal Cert.IdxKeysIdeal.Gen Cert.IdxKeysRefIdeal.Read

variable (m : (ℓ : Loc nD τ sig) → Buf (Elt Ideal) ℓ)

theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The launch finds the tables that those lines leave. -/
theorem tables (c : Dev nD) : ∃ W : Valuation τ sig (Elt Ideal), ∀ b : Ref sig .tc, V m c b = T W b := by
  refine ⟨StableHlo.after (List.flatten [hostOps0, hostOps0_1, hostOps0_2, hostOps0_3, hostOps0_4, hostOps0_5]) (fun b => m (c, b)), fun b => ?_⟩
  have e : (List.flatten [hostOps0, hostOps0_1, hostOps0_2, hostOps0_3, hostOps0_4, hostOps0_5, hostOps0_6] : List (HloOp τ sig (Elt Ideal)))
      = List.flatten [hostOps0, hostOps0_1, hostOps0_2, hostOps0_3, hostOps0_4, hostOps0_5] ++ hostOps0_6 := by
    simp only [List.flatten_cons, List.flatten_nil, List.append_nil, List.append_assoc]
  show StableHlo.after (List.flatten [hostOps0, hostOps0_1, hostOps0_2, hostOps0_3, hostOps0_4, hostOps0_5, hostOps0_6]) (fun b => m (c, b)) _ = _
  rw [e, after_two]

/-! ## What the windows hold -/

/-- The tokens, the combined projection's weights and the norm's scale and shift, as launched. -/
abbrev X0 (c : Dev nD) : FVec Ideal S8x2048x2048 .f32 := m ((c : Thread nD τ).loc main_arg0)
abbrev X1 (c : Dev nD) : FVec Ideal S1x2048x11344 .f32 := m ((c : Thread nD τ).loc main_arg1)
abbrev X2 (c : Dev nD) : FVec Ideal S1x64 .f32 := m ((c : Thread nD τ).loc main_arg2)
abbrev X3 (c : Dev nD) : FVec Ideal S1x64 .f32 := m ((c : Thread nD τ).loc main_arg3)

theorem idx : ∀ t : Fin cfg0.N, win0_0.index t = ![t.val, 0] ∧ win0_1.index t = ![0, 0] ∧ win0_2.index t = ![t.val % 4, 0]
    ∧ win0_3.index t = ![0, 0] ∧ win0_4.index t = ![0, 0] ∧ win0_5.index t = ![t.val, 0] ∧ win0_6.index t = ![t.val, 0] :=
  (by decide +kernel : ∀ t : Fin grid0.N, _)

theorem read_x (c : Dev nD) (t : Fin cfg0.N) (r : Fin 512) (k : Fin 2048) (a : Fin 8) (b : Fin 2048)
    (h : t.val * 512 + r.val = a.val * 2048 + b.val) :
    (iblk m c 0 t : FVec Ideal S512x2048 .bf16) (ix2 r k) = X0 m c (ix3 a b k) := by
  have ht : t.val < 32 := lt_of_lt_of_eq t.isLt N_0
  have e : (iblk m c 0 t : FVec Ideal S512x2048 .bf16) (ix2 r k)
      = (V m c main_v1 : FVec Ideal S16384x2048 .bf16) (ix2 ⟨t.val * 512 + r.val, by omega⟩ k) := by
    blk_ext [iblk, idx t]
  rw [e]
  simp only [V, hostOps0, hostOps0_1, hostOps0_2, hostOps0_3, hostOps0_4, hostOps0_5, hostOps0_6, List.flatten_cons, List.flatten_nil,
    List.append_nil, List.cons_append, List.nil_append]
  entry_read
  pointwise
  blk_ext

set_option maxHeartbeats 1000000 in
theorem host_v5 (c : Dev nD) : (V m c main_v5 : FVec Ideal S2048x128 .bf16) = truncf .bf16
    (pad S2048x128 ![0, 0] ![0, 48] ![0, 0] (extractStridedSlice S2048x80 ![0, 7168] (shapeCast S2048x11344 (X1 m c) shapeCasts_S1x2048x11344_S2048x11344)
      slices_S2048x11344_S2048x80_0_7168) (sitofp .f32 (constantI S_ 32 0#32) : FVec Ideal S_ .f32) pads_S2048x80_S2048x128_000_0480 h_S_) bitsLt_bf16_f32 := by
  simp only [V, hostOps0, hostOps0_1, hostOps0_2, hostOps0_3, hostOps0_4, hostOps0_5, hostOps0_6, List.flatten_cons, List.flatten_nil,
    List.append_nil, List.cons_append, List.nil_append]
  after_results
  rfl

theorem read_w (c : Dev nD) (t : Fin cfg0.N) (k : Fin 2048) (j : Fin 128) (h : j.val < 80) (q : Fin 11344) (hq : q.val = 7168 + j.val) :
    (iblk m c 1 t : FVec Ideal S2048x128 .bf16) (ix2 k j) = X1 m c (ix3 0 k q) := by
  have e : (iblk m c 1 t : FVec Ideal S2048x128 .bf16) (ix2 k j) = (V m c main_v5 : FVec Ideal S2048x128 .bf16) (ix2 k j) := by
    blk_ext [iblk, idx t]
  rw [e, host_v5]
  pointwise
  rw [dif_pos h]
  blk_ext

theorem read_t (c : Dev nD) (t : Fin cfg0.N) (r : Fin 512) (l : Fin 384) (b : Fin 2048) (h : t.val % 4 * 512 + r.val = b.val) :
    (iblk m c 2 t : FVec Ideal S512x384 .f32) (ix2 r l) = (V m c main_v44 : FVec Ideal S2048x384 .f32) (ix2 b l) := by
  blk_ext [iblk, idx t]

theorem read_cos (c : Dev nD) (t : Fin cfg0.N) (r : Fin 512) (l : Fin 384) (b : Fin 2048) (h : t.val % 4 * 512 + r.val = b.val) (hl : l.val < 128) :
    (iblk m c 2 t : FVec Ideal S512x384 .f32) (ix2 r l) = if h1 : l.val % 64 < 8 then CS (ix2 b ⟨l.val % 64, h1⟩)
      else if h2 : l.val % 64 - 8 < 8 then CS (ix2 b ⟨l.val % 64 - 8, h2⟩) else (1 : EReal) := by
  obtain ⟨W, hW⟩ := tables m c
  exact (read_t m c t r l b h).trans ((congrFun (hW main_v44) (ix2 b l)).trans (tab_cos W b l hl))

theorem read_up (c : Dev nD) (t : Fin cfg0.N) (r : Fin 512) (l : Fin 384) (b : Fin 2048) (h : t.val % 4 * 512 + r.val = b.val) (hl : 128 ≤ l.val) (hl' : l.val < 256) :
    (iblk m c 2 t : FVec Ideal S512x384 .f32) (ix2 r l) = if h1 : (l.val - 128) % 64 < 8 then -SN (ix2 b ⟨(l.val - 128) % 64, h1⟩) else (0 : EReal) := by
  obtain ⟨W, hW⟩ := tables m c
  exact (read_t m c t r l b h).trans ((congrFun (hW main_v44) (ix2 b l)).trans (tab_up W b l hl hl'))

theorem read_dn (c : Dev nD) (t : Fin cfg0.N) (r : Fin 512) (l : Fin 384) (b : Fin 2048) (h : t.val % 4 * 512 + r.val = b.val) (hl : 256 ≤ l.val) :
    (iblk m c 2 t : FVec Ideal S512x384 .f32) (ix2 r l) = if h1 : (l.val - 128 - 128) % 64 < 8 then (0 : EReal)
      else if h2 : (l.val - 128 - 128) % 64 - 8 < 8 then SN (ix2 b ⟨(l.val - 128 - 128) % 64 - 8, h2⟩) else (0 : EReal) := by
  obtain ⟨W, hW⟩ := tables m c
  exact (read_t m c t r l b h).trans ((congrFun (hW main_v44) (ix2 b l)).trans (tab_dn W b l hl))

set_option maxHeartbeats 1000000 in
theorem host_v8 (c : Dev nD) : (V m c main_v8 : FVec Ideal S1x128 .f32) = broadcastInDim S1x128 ![1] bcast_S128_S1x128_1
    (pad S128 ![0] ![64] ![0] (shapeCast S64 (X2 m c) shapeCasts_S1x64_S64) (sitofp .f32 (constantI S_ 32 0#32) : FVec Ideal S_ .f32) pads_S64_S128_0640 h_S_) := by
  simp only [V, hostOps0, hostOps0_1, hostOps0_2, hostOps0_3, hostOps0_4, hostOps0_5, hostOps0_6, List.flatten_cons, List.flatten_nil,
    List.append_nil, List.cons_append, List.nil_append]
  after_results
  rfl

theorem read_g (c : Dev nD) (t : Fin cfg0.N) (j : Fin 128) (h : j.val < 64) :
    (iblk m c 3 t : FVec Ideal S1x128 .f32) (ix2 0 j) = X2 m c (ix2 0 ⟨j.val, h⟩) := by
  have e : (iblk m c 3 t : FVec Ideal S1x128 .f32) (ix2 0 j) = (V m c main_v8 : FVec Ideal S1x128 .f32) (ix2 0 j) := by
    blk_ext [iblk, idx t]
  rw [e, host_v8]
  pointwise
  rw [dif_pos h]

set_option maxHeartbeats 1000000 in
theorem host_v11 (c : Dev nD) : (V m c main_v11 : FVec Ideal S1x128 .f32) = broadcastInDim S1x128 ![1] bcast_S128_S1x128_1
    (pad S128 ![0] ![64] ![0] (shapeCast S64 (X3 m c) shapeCasts_S1x64_S64) (sitofp .f32 (constantI S_ 32 0#32) : FVec Ideal S_ .f32) pads_S64_S128_0640 h_S_) := by
  simp only [V, hostOps0, hostOps0_1, hostOps0_2, hostOps0_3, hostOps0_4, hostOps0_5, hostOps0_6, List.flatten_cons, List.flatten_nil,
    List.append_nil, List.cons_append, List.nil_append]
  after_results
  rfl

theorem read_b (c : Dev nD) (t : Fin cfg0.N) (j : Fin 128) (h : j.val < 64) :
    (iblk m c 4 t : FVec Ideal S1x128 .f32) (ix2 0 j) = X3 m c (ix2 0 ⟨j.val, h⟩) := by
  have e : (iblk m c 4 t : FVec Ideal S1x128 .f32) (ix2 0 j) = (V m c main_v11 : FVec Ideal S1x128 .f32) (ix2 0 j) := by
    blk_ext [iblk, idx t]
  rw [e, host_v11]
  pointwise
  rw [dif_pos h]

/-! ## A step -/

/-- A column of a step's product is the projection's. -/
theorem col_eq (c : Dev nD) (t : Fin cfg0.N) (r : Fin 512) (j : Fin 128) (hj : j.val < 80) (a : Fin 8) (b : Fin 2048)
    (h : t.val * 512 + r.val = a.val * 2048 + b.val) :
    k0_pay3 (F := Ideal) (iblk m c 0 t) (iblk m c 1 t) (ix2 r j)
      = (val_main_v1 (F := Ideal) (X0 m c) (X1 m c) : FVec Ideal Cert.IdxKeysRefIdeal.S8x2048x11344 .f32) (ix3 a b ⟨7168 + j.val, by omega⟩) := by
  have h0 : ∀ k : Fin 2048, (iblk m c 0 t : FVec Ideal S512x2048 .bf16) (ix2 r k) = X0 m c (ix3 a b k) := fun k => read_x m c t r k a b h
  have h1 : ∀ k : Fin 2048, (iblk m c 1 t : FVec Ideal S2048x128 .bf16) (ix2 k j) = X1 m c (ix3 0 k ⟨7168 + j.val, by omega⟩) := fun k =>
    read_w m c t k j hj _ rfl
  generalize (iblk m c 0 t : FVec Ideal S512x2048 .bf16) = A at h0 ⊢
  generalize (iblk m c 1 t : FVec Ideal S2048x128 .bf16) = B at h1 ⊢
  pointwise [k0_pay3, val_main_v0, val_main_v1]
  exact Finset.sum_congr rfl fun k _ => Ideal.mul_congr (h0 k) (h1 k)

theorem lnorm_congr {z z' : Fin 64 → EReal} {g g' b b' : EReal} {l l' : Fin 64} (hz : z = z') (hg : g = g') (hb : b = b') (hl : l = l') :
    lnorm z g b l = lnorm z' g' b' l' := by
  subst hz hg hb hl; rfl

theorem step_norm (c : Dev nD) (t : Fin cfg0.N) (r : Fin 512) (j : Fin 128) (hj : j.val < 64) (a : Fin 8) (b : Fin 2048)
    (h : t.val * 512 + r.val = a.val * 2048 + b.val) :
    stepNorm (iblk m c 0 t) (iblk m c 1 t) (iblk m c 3 t) (iblk m c 4 t) (ix2 r j)
      = NORM (X0 m c) (X1 m c) (X2 m c) (X3 m c) a b ⟨j.val, hj⟩ := by
  refine (norm_at _ _ _ _ r j hj).trans (Eq.trans ?_ (ref_at _ _ _ _ a b ⟨j.val, hj⟩).symm)
  refine lnorm_congr (funext fun x => ?_) (read_g m c t j hj) (read_b m c t j hj) rfl
  refine (col_eq m c t r ⟨x.val, by omega⟩ (by show x.val < 80; omega) a b h).trans ?_
  generalize hP : val_main_v1 (F := Ideal) (X0 m c) (X1 m c) = P
  pointwise [val_main_v9, hP]

end Cert.IdxKeysIdeal.Proved

end
-- ==== Proof.IdxKeysPoint.lean ====
/-
  What a step of the index keys' projection writes is the reference's keys and head weights there.
-/
module

public import proofs.«01_k».proof.Defs
public import proofs.«01_k».proof.Proof.Gen.IdxKeysIdeal.Frame
public import proofs.«01_k».proof.Proof.Gen.IdxKeysRefIdeal.Run
public import proofs.«01_k».proof.Proof.Gen.IdxKeysRefIdeal.Read
public import proofs.«01_k».proof.Proof.IdxKeysRead
public import Idealize.ShloMosaic.Lib.Pipeline.ValueKit
public import Idealize.ShloMosaic.Lib.Pointwise
public import Idealize.ShloMosaic.Lib.Claim

@[expose] public section

set_option maxRecDepth 16384

noncomputable section

namespace Cert.IdxKeysIdeal.Proved

open Idealize.ShloMosaic Idealize.ShloMosaic.TcCoe Idealize.SL.Sem
open Idealize.ShloMosaic.Pipeline (Dat)
open Cert.IdxKeysIdeal Cert.IdxKeysIdeal.Gen Cert.IdxKeysRefIdeal.Read

variable (m : (ℓ : Loc nD τ sig) → Buf (Elt Ideal) ℓ)

/-- The reference's keys and head weights. -/
abbrev REFK (c : Dev nD) : FVec Ideal S16384x64 .f32 := val_main_v76 (F := Ideal) (X0 m c) (X1 m c) (X2 m c) (X3 m c)
abbrev REFW (c : Dev nD) : FVec Ideal S16384x16 .f32 := val_main_v79 (F := Ideal) (X0 m c) (X1 m c)

/-- The partial rotation at row `p`, lane `s`, over normalized keys `R` and tables `C`, `S`. -/
def lanesOf (R : FVec Ideal Cert.IdxKeysRefIdeal.S8x2048x64 .f32) (C S : FVec Ideal S2048x8 .f32) (p : Fin 16384) (s : Fin 64) : EReal :=
  if h : s.val < 16 then
    (if h1 : s.val < 8 then
      R (ix3 ⟨p.val / 2048, by omega⟩ ⟨p.val % 2048, by omega⟩ s) * C (ix2 ⟨p.val % 2048, by omega⟩ ⟨s.val, h1⟩)
        - R (ix3 ⟨p.val / 2048, by omega⟩ ⟨p.val % 2048, by omega⟩ ⟨8 + s.val, by omega⟩) * S (ix2 ⟨p.val % 2048, by omega⟩ ⟨s.val, h1⟩)
    else
      R (ix3 ⟨p.val / 2048, by omega⟩ ⟨p.val % 2048, by omega⟩ s) * C (ix2 ⟨p.val % 2048, by omega⟩ ⟨s.val - 8, by omega⟩)
        + R (ix3 ⟨p.val / 2048, by omega⟩ ⟨p.val % 2048, by omega⟩ ⟨s.val - 8, by omega⟩) * S (ix2 ⟨p.val % 2048, by omega⟩ ⟨s.val - 8, by omega⟩))
  else R (ix3 ⟨p.val / 2048, by omega⟩ ⟨p.val % 2048, by omega⟩ s)

/-- The kernel's sum of three products is the partial rotation. -/
theorem lane_sum (Y : FVec Ideal S512x128 .f32) (R : FVec Ideal Cert.IdxKeysRefIdeal.S8x2048x64 .f32) (C S : FVec Ideal S2048x8 .f32) (r : Fin 512)
    (p : Fin 16384) (s : Fin 64)
    (hN : ∀ j : Fin 128, ∀ hj : j.val < 64, Y (ix2 r j) = R (ix3 ⟨p.val / 2048, by omega⟩ ⟨p.val % 2048, by omega⟩ ⟨j.val, hj⟩)) :
    ((Y (ix2 r ⟨s.val, by omega⟩) * (if h1 : s.val % 64 < 8 then C (ix2 ⟨p.val % 2048, by omega⟩ ⟨s.val % 64, h1⟩)
          else if h2 : s.val % 64 - 8 < 8 then C (ix2 ⟨p.val % 2048, by omega⟩ ⟨s.val % 64 - 8, h2⟩) else (1 : EReal))
      + Y (ix2 r ⟨(s.val + 8) % 128, by omega⟩) * (if h1 : (128 + s.val - 128) % 64 < 8 then
            - S (ix2 ⟨p.val % 2048, by omega⟩ ⟨(128 + s.val - 128) % 64, h1⟩) else (0 : EReal)))
      + Y (ix2 r ⟨(s.val + 120) % 128, by omega⟩) * (if h1 : (256 + s.val - 128 - 128) % 64 < 8 then (0 : EReal)
          else if h2 : (256 + s.val - 128 - 128) % 64 - 8 < 8 then
            S (ix2 ⟨p.val % 2048, by omega⟩ ⟨(256 + s.val - 128 - 128) % 64 - 8, h2⟩) else (0 : EReal)) : EReal) = lanesOf R C S p s := by
  have hs1 : (128 + s.val - 128) % 64 = s.val := by omega
  have hs2 : (256 + s.val - 128 - 128) % 64 = s.val := by omega
  have hs3 : s.val % 64 = s.val := by omega
  rw [hN ⟨s.val, by omega⟩ s.isLt]
  unfold lanesOf
  by_cases h1 : s.val < 8
  · have e : (s.val + 8) % 128 = 8 + s.val := by omega
    have f := hN ⟨(s.val + 8) % 128, by omega⟩ (by dsimp only; omega)
    rw [f]
    simp only [hs1, hs2, hs3, h1, e, dif_pos, show s.val < 16 by omega, mul_zero, add_zero, mul_neg, ← sub_eq_add_neg]
  by_cases h2 : s.val < 16
  · have e : (s.val + 120) % 128 = s.val - 8 := by omega
    have f := hN ⟨(s.val + 120) % 128, by omega⟩ (by dsimp only; omega)
    rw [f]
    simp only [hs1, hs2, hs3, h1, h2, e, dif_pos, dif_neg, not_false_eq_true, show s.val - 8 < 8 by omega, mul_zero, add_zero]
  · simp only [hs1, hs2, hs3, h1, h2, dif_pos, dif_neg, not_false_eq_true, show ¬ (s.val - 8 < 8) by omega, mul_zero, add_zero, mul_one]

/-- The reference's key at row `p`, lane `s`, is the partial rotation of its normalized keys. -/
theorem ref_keys (x0 : FVec Ideal S8x2048x2048 .f32) (x1 : FVec Ideal S1x2048x11344 .f32) (x2 x3 : FVec Ideal S1x64 .f32)
    (p : Fin 16384) (s : Fin 64) :
    val_main_v76 (F := Ideal) x0 x1 x2 x3 (ix2 p s)
      = lanesOf (val_main_v38 (F := Ideal) x0 x1 x2 x3) (val_main_v53 (F := Ideal)) (val_main_v55 (F := Ideal)) p s := by
  unfold lanesOf
  generalize hR : val_main_v38 (F := Ideal) x0 x1 x2 x3 = R
  pointwise [val_main_v39, val_main_v40, val_main_v41, val_main_v42, val_main_cst_4, val_main_v43, val_main_v44, val_main_cst_5,
    val_main_v45, val_main_v46, val_main_v47, val_main_v48, val_main_v49, val_main_v50, val_main_v51, val_main_v52, val_main_v54,
    val_main_v56, val_main_v57, val_main_v58, val_main_v59, val_main_v60, val_main_v61, val_main_v62, val_main_v63, val_main_v64,
    val_main_v65, val_main_v66, val_main_v67, val_main_v68, val_main_v69, val_main_v70, val_main_v71, val_main_v72, val_main_v73,
    val_main_cst_6, val_main_v74, val_main_v75, val_main_v76, hR]
  by_cases h : s.val < 16
  · by_cases h1 : s.val < 8
    · simp only [h, h1, dif_pos]
    · have e : 8 + (s.val - 8) = s.val := by omega
      simp only [h, h1, e, dif_pos, dif_neg, not_false_eq_true]
  · have e : 16 + (s.val - 16) = s.val := by omega
    simp only [h, e, dif_neg, not_false_eq_true]

/-- A step's key is the reference's. -/
theorem point_k (c : Dev nD) (t : Fin cfg0.N) (r : Fin 512) (s : Fin 64) (p : Fin 16384) (hp : p.val = t.val * 512 + r.val) :
    out0_5 (F := Ideal) (iblk m c 0 t) (iblk m c 1 t) (iblk m c 2 t) (iblk m c 3 t) (iblk m c 4 t) (ix2 r s) = REFK m c (ix2 p s) := by
  have ht : t.val < 32 := lt_of_lt_of_eq t.isLt N_0
  have hN : ∀ j : Fin 128, ∀ hj : j.val < 64, stepNorm (iblk m c 0 t) (iblk m c 1 t) (iblk m c 3 t) (iblk m c 4 t) (ix2 r j)
      = val_main_v38 (F := Ideal) (X0 m c) (X1 m c) (X2 m c) (X3 m c) (ix3 ⟨p.val / 2048, by omega⟩ ⟨p.val % 2048, by omega⟩ ⟨j.val, hj⟩) :=
    fun j hj =>
    step_norm m c t r j hj ⟨p.val / 2048, by omega⟩ ⟨p.val % 2048, by omega⟩ (by dsimp only; omega)
  rw [ker_at, read_cos m c t r _ ⟨p.val % 2048, by omega⟩ (by dsimp only; omega) (by dsimp only; omega),
    read_up m c t r _ ⟨p.val % 2048, by omega⟩ (by dsimp only; omega) (by dsimp only; omega) (by dsimp only; omega),
    read_dn m c t r _ ⟨p.val % 2048, by omega⟩ (by dsimp only; omega) (by dsimp only; omega)]
  generalize stepNorm (iblk m c 0 t) (iblk m c 1 t) (iblk m c 3 t) (iblk m c 4 t) = Y at hN ⊢
  unfold REFK CS SN
  rw [ref_keys]
  generalize val_main_v38 (F := Ideal) (X0 m c) (X1 m c) (X2 m c) (X3 m c) = R at hN ⊢
  generalize val_main_v53 (F := Ideal) = C
  generalize val_main_v55 (F := Ideal) = S
  exact lane_sum Y R C S r p s hN

theorem point_w (c : Dev nD) (t : Fin cfg0.N) (r : Fin 512) (s : Fin 16) (p : Fin 16384) (hp : p.val = t.val * 512 + r.val) :
    out0_6 (F := Ideal) (iblk m c 0 t) (iblk m c 1 t) (iblk m c 2 t) (iblk m c 3 t) (iblk m c 4 t) (ix2 r s) = REFW m c (ix2 p s) := by
  have ht : t.val < 32 := lt_of_lt_of_eq t.isLt N_0
  have hZ := col_eq m c t r ⟨64 + s.val, by omega⟩ (by show 64 + s.val < 80; omega) ⟨p.val / 2048, by omega⟩ ⟨p.val % 2048, by omega⟩
    (by dsimp only; omega)
  unfold out0_6 REFW
  frame_out
  generalize k0_pay3 (F := Ideal) (iblk m c 0 t) (iblk m c 1 t) = Z at hZ ⊢
  generalize hP : val_main_v1 (F := Ideal) (X0 m c) (X1 m c) = P at hZ
  pointwise [k0_pay2, r0_7, View.ld, val_main_cst_7, val_main_v77, val_main_v78, val_main_v79, val_main_v10, val_main_v73, val_main_v74,
    val_main_v75, val_main_cst_6, hP]
  refine Eq.trans ?_ (scale_32 _).symm
  exact congrArg (· * Ideal.ofBits .f32 0x3D000000#32) (hZ.trans (by blk_ext))

end Cert.IdxKeysIdeal.Proved

end
-- ==== Proof.IdxKeys.lean ====
/-
  The indexer's keys and head weights: one product of the tokens with 80 columns of the combined projection, padded to 128; the first
  64 columns are normalised over themselves and rotated, the next 16 are scaled.
-/
module

public import proofs.«01_k».proof.Defs
public import proofs.«01_k».proof.Proof.Gen.IdxKeysIdeal.Frame
public import proofs.«01_k».proof.Proof.Gen.IdxKeysRefIdeal.Run
public import proofs.«01_k».proof.Proof.Gen.IdxKeysRefIdeal.Read
public import proofs.«01_k».proof.Proof.IdxKeysPoint
public import Idealize.ShloMosaic.Lib.Pipeline.ValueKit
public import Idealize.ShloMosaic.Lib.Pointwise
public import Idealize.ShloMosaic.Lib.Claim

@[expose] public section

set_option maxRecDepth 16384

noncomputable section

namespace Cert.IdxKeysIdeal.Proved

open Idealize.ShloMosaic Idealize.ShloMosaic.TcCoe Idealize.SL.Sem
open Idealize.ShloMosaic.Pipeline (Dat)
open Cert.IdxKeysIdeal Cert.IdxKeysIdeal.Gen Cert.IdxKeysRefIdeal.Read

variable (m : (ℓ : Loc nD τ sig) → Buf (Elt Ideal) ℓ)

/-! ## The arrays the run leaves -/

theorem final_5 (c : Dev nD) : (dats m 0 c).arrAt 5 (cfgs 0).N = REFK m c := by
  refine (dats m 0 c).arrAt_eq_of_covers 5 _ (by decide +kernel) fun t _ y => ?_
  have e := point_k m c t (y 0) (y 1) (((cfg0.win 5).blk t).view.emb y 0) (by blk_simp [idx t])
  blk_simp
  rw [after0_5]
  refine (congrArg _ (eq_ix2 y)).trans (e.trans (congrArg (REFK m c) ?_))
  blk_ext [idx t]

theorem final_6 (c : Dev nD) : (dats m 0 c).arrAt 6 (cfgs 0).N = REFW m c := by
  refine (dats m 0 c).arrAt_eq_of_covers 6 _ (by decide +kernel) fun t _ y => ?_
  have e := point_w m c t (y 0) (y 1) (((cfg0.win 6).blk t).view.emb y 0) (by blk_simp [idx t])
  blk_simp
  rw [after0_6]
  refine (congrArg _ (eq_ix2 y)).trans (e.trans (congrArg (REFW m c) ?_))
  blk_ext [idx t]

/-- What every run leaves in the results. -/
theorem results (ρ : Dev nD → PrngReg) :
    θ_run defs (onTc (τ := τ) (main (F := Ideal))) ⟨m, fun _ => 0, ρ⟩ (fun r => ∀ c : Dev nD,
      r.2.mem ((c.tc : Thread nD τ).loc main_v45_0) = val_main_v76 (F := Ideal) (X0 m c) (X1 m c) (X2 m c) (X3 m c)
      ∧ r.2.mem ((c.tc : Thread nD τ).loc main_v45_1) = val_main_v79 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Gen.run_main m ρ)
  exact ⟨((h c).1 5).trans (final_5 m c), ((h c).1 6).trans (final_6 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

theorem v76_congr {a a' : FVec Ideal S8x2048x2048 .f32} {b b' : FVec Ideal S1x2048x11344 .f32} {d d' e e' : FVec Ideal S1x64 .f32}
    (h0 : a = a') (h1 : b = b') (h2 : d = d') (h3 : e = e') : val_main_v76 (F := Ideal) a b d e = val_main_v76 (F := Ideal) a' b' d' e' := by
  rw [h0, h1, h2, h3]

theorem v79_congr {a a' : FVec Ideal S8x2048x2048 .f32} {b b' : FVec Ideal S1x2048x11344 .f32}
    (h0 : a = a') (h1 : b = b') : val_main_v79 (F := Ideal) a b = val_main_v79 (F := Ideal) a' b' := by
  rw [h0, h1]

/-- What every run of the reference leaves in its results. -/
theorem ref_results (m' : (ℓ : Loc Cert.IdxKeysRefIdeal.nD Cert.IdxKeysRefIdeal.τ Cert.IdxKeysRefIdeal.sig) → Buf (Elt Ideal) ℓ)
    (ρ : Dev Cert.IdxKeysRefIdeal.nD → PrngReg) :
    θ_run (Cert.IdxKeysRefIdeal.defs (F := Ideal)) (onTc (τ := Cert.IdxKeysRefIdeal.τ) (Cert.IdxKeysRefIdeal.main (F := Ideal)))
      ⟨m', fun _ => 0, ρ⟩ (fun r => ∀ c : Dev Cert.IdxKeysRefIdeal.nD,
      r.2.mem ((c.tc : Thread Cert.IdxKeysRefIdeal.nD Cert.IdxKeysRefIdeal.τ).loc Cert.IdxKeysRefIdeal.main_v76)
        = val_main_v76 (F := Ideal) (m' ((c.tc : Thread Cert.IdxKeysRefIdeal.nD Cert.IdxKeysRefIdeal.τ).loc Cert.IdxKeysRefIdeal.main_arg0)) (m' ((c.tc : Thread Cert.IdxKeysRefIdeal.nD Cert.IdxKeysRefIdeal.τ).loc Cert.IdxKeysRefIdeal.main_arg1)) (m' ((c.tc : Thread Cert.IdxKeysRefIdeal.nD Cert.IdxKeysRefIdeal.τ).loc Cert.IdxKeysRefIdeal.main_arg2)) (m' ((c.tc : Thread Cert.IdxKeysRefIdeal.nD Cert.IdxKeysRefIdeal.τ).loc Cert.IdxKeysRefIdeal.main_arg3))
      ∧ r.2.mem ((c.tc : Thread Cert.IdxKeysRefIdeal.nD Cert.IdxKeysRefIdeal.τ).loc Cert.IdxKeysRefIdeal.main_v79)
        = val_main_v79 (F := Ideal) (m' ((c.tc : Thread Cert.IdxKeysRefIdeal.nD Cert.IdxKeysRefIdeal.τ).loc Cert.IdxKeysRefIdeal.main_arg0)) (m' ((c.tc : Thread Cert.IdxKeysRefIdeal.nD Cert.IdxKeysRefIdeal.τ).loc Cert.IdxKeysRefIdeal.main_arg1))
      ∧ r.2.mem ((c.tc : Thread Cert.IdxKeysRefIdeal.nD Cert.IdxKeysRefIdeal.τ).loc Cert.IdxKeysRefIdeal.main_arg0) = m' ((c.tc : Thread Cert.IdxKeysRefIdeal.nD Cert.IdxKeysRefIdeal.τ).loc Cert.IdxKeysRefIdeal.main_arg0) ∧ r.2.mem ((c.tc : Thread Cert.IdxKeysRefIdeal.nD Cert.IdxKeysRefIdeal.τ).loc Cert.IdxKeysRefIdeal.main_arg1) = m' ((c.tc : Thread Cert.IdxKeysRefIdeal.nD Cert.IdxKeysRefIdeal.τ).loc Cert.IdxKeysRefIdeal.main_arg1) ∧ r.2.mem ((c.tc : Thread Cert.IdxKeysRefIdeal.nD Cert.IdxKeysRefIdeal.τ).loc Cert.IdxKeysRefIdeal.main_arg2) = m' ((c.tc : Thread Cert.IdxKeysRefIdeal.nD Cert.IdxKeysRefIdeal.τ).loc Cert.IdxKeysRefIdeal.main_arg2) ∧ r.2.mem ((c.tc : Thread Cert.IdxKeysRefIdeal.nD Cert.IdxKeysRefIdeal.τ).loc Cert.IdxKeysRefIdeal.main_arg3) = m' ((c.tc : Thread Cert.IdxKeysRefIdeal.nD Cert.IdxKeysRefIdeal.τ).loc Cert.IdxKeysRefIdeal.main_arg3)) := by
  refine (θ_run _ _ _).mono (fun r h c => ?_) (Cert.IdxKeysRefIdeal.Value.run m' ρ)
  exact ⟨(h c).1.trans (Cert.IdxKeysRefIdeal.Read.val_main_v76_eq m' c),
    (h c).2.1.trans (Cert.IdxKeysRefIdeal.Read.val_main_v79_eq _ _), (h c).2.2⟩

/-- Over the reals the kernel computes the indexer's keys and head weights. -/
theorem algebraic : Cert.algebraic_IdxKeysIdeal_IdxKeysRefIdeal := by
  pair_intro
  · run_from results m g
  · refine (θ_run _ _ _).mono (fun r h c => ?_) (ref_results m' g')
    exact ⟨(h c).1.trans (v76_congr (hagree c).1 (hagree c).2.1 (hagree c).2.2.1 (hagree c).2.2.2),
      (h c).2.1.trans (v79_congr (hagree c).1 (hagree c).2.1), (h c).2.2⟩

end Cert.IdxKeysIdeal.Proved

end
-- ==== Proof.lean ====
/-
  The claim of the certificate: the witnesses of the programs' side conditions, then every program's frame, then for each
  call that idealizing it preserves it and that over the reals it computes its reference. The values are the theorems
  `algebraic` of the modules of `Proof/`, one module a call.
-/
module

public import proofs.«01_k».proof.Defs
public import proofs.«01_k».proof.Proof.Gen.Gates
public import proofs.«01_k».proof.Proof.Gen.GatesIdeal
public import proofs.«01_k».proof.Proof.Gen.GatesRefIdeal
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gates
public import proofs.«01_k».proof.Proof.Gen.Queries
public import proofs.«01_k».proof.Proof.Gen.QueriesIdeal
public import proofs.«01_k».proof.Proof.Gen.QueriesRefIdeal
public import proofs.«01_k».proof.Proof.Gen.Queries.Frame
public import proofs.«01_k».proof.Proof.Gen.QueriesIdeal.Frame
public import proofs.«01_k».proof.Proof.Gen.QueriesIdeal.Value
public import proofs.«01_k».proof.Proof.Gen.QueriesRefIdeal.Run
public import proofs.«01_k».proof.Proof.Gen.QueriesRefIdeal.Read
public import proofs.«01_k».proof.Proof.Queries
public import proofs.«01_k».proof.Proof.Gen.IdxQueries
public import proofs.«01_k».proof.Proof.Gen.IdxQueriesIdeal
public import proofs.«01_k».proof.Proof.Gen.IdxQueriesRefIdeal
public import proofs.«01_k».proof.Proof.Gen.IdxQueries.Frame
public import proofs.«01_k».proof.Proof.Gen.IdxQueriesIdeal.Frame
public import proofs.«01_k».proof.Proof.Gen.IdxQueriesIdeal.Value
public import proofs.«01_k».proof.Proof.Gen.IdxQueriesRefIdeal.Run
public import proofs.«01_k».proof.Proof.Gen.IdxQueriesRefIdeal.Read
public import proofs.«01_k».proof.Proof.IdxQueries
public import proofs.«01_k».proof.Proof.Gen.Merge
public import proofs.«01_k».proof.Proof.Gen.MergeIdeal
public import proofs.«01_k».proof.Proof.Gen.MergeRefIdeal
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge
public import proofs.«01_k».proof.Proof.Gen.Scores
public import proofs.«01_k».proof.Proof.Gen.ScoresIdeal
public import proofs.«01_k».proof.Proof.Gen.ScoresRefIdeal
public import proofs.«01_k».proof.Proof.ScoresFrame
public import proofs.«01_k».proof.Proof.Gen.ScoresRefIdeal.Run
public import proofs.«01_k».proof.Proof.Gen.ScoresRefIdeal.Read
public import proofs.«01_k».proof.Proof.Scores
public import proofs.«01_k».proof.Proof.Gen.Mix
public import proofs.«01_k».proof.Proof.Gen.MixIdeal
public import proofs.«01_k».proof.Proof.Gen.MixRefIdeal
public import proofs.«01_k».proof.Proof.MixFrame
public import proofs.«01_k».proof.Proof.Gen.MixRefIdeal.Run
public import proofs.«01_k».proof.Proof.Gen.MixRefIdeal.Read
public import proofs.«01_k».proof.Proof.Mix
public import proofs.«01_k».proof.Proof.Gen.Down
public import proofs.«01_k».proof.Proof.Gen.DownIdeal
public import proofs.«01_k».proof.Proof.Gen.DownRefIdeal
public import proofs.«01_k».proof.Proof.DownFrame
public import proofs.«01_k».proof.Proof.Gen.DownRefIdeal.Run
public import proofs.«01_k».proof.Proof.Gen.DownRefIdeal.Read
public import proofs.«01_k».proof.Proof.Down
public import proofs.«01_k».proof.Proof.Gen.ConvFfn
public import proofs.«01_k».proof.Proof.Gen.ConvFfnIdeal
public import proofs.«01_k».proof.Proof.Gen.ConvFfnRefIdeal
public import proofs.«01_k».proof.Proof.ConvFfnFrame
public import proofs.«01_k».proof.Proof.Gen.ConvFfnRefIdeal.Run
public import proofs.«01_k».proof.Proof.Gen.ConvFfnRefIdeal.Read
public import proofs.«01_k».proof.Proof.ConvFfn
public import proofs.«01_k».proof.Proof.Gen.ConvA
public import proofs.«01_k».proof.Proof.Gen.ConvAIdeal
public import proofs.«01_k».proof.Proof.Gen.ConvARefIdeal
public import proofs.«01_k».proof.Proof.Gen.ConvA.Frame
public import proofs.«01_k».proof.Proof.ConvAIdealFrame
public import proofs.«01_k».proof.Proof.Gen.ConvARefIdeal.Run
public import proofs.«01_k».proof.Proof.Gen.ConvARefIdeal.Read
public import proofs.«01_k».proof.Proof.ConvA
public import proofs.«01_k».proof.Proof.Gen.IdxKeys
public import proofs.«01_k».proof.Proof.Gen.IdxKeysIdeal
public import proofs.«01_k».proof.Proof.Gen.IdxKeysRefIdeal
public import proofs.«01_k».proof.Proof.Gen.IdxKeys.Frame
public import proofs.«01_k».proof.Proof.Gen.IdxKeysIdeal.Frame
public import proofs.«01_k».proof.Proof.Gen.IdxKeysIdeal.Value
public import proofs.«01_k».proof.Proof.Gen.IdxKeysRefIdeal.Run
public import proofs.«01_k».proof.Proof.Gen.IdxKeysRefIdeal.Read
public import proofs.«01_k».proof.Proof.IdxKeys
public import proofs.«01_k».proof.Proof.Gen.Pre_table_in_range
public import Idealize.ShloMosaic.Adequacy
public import Idealize.ShloMosaic.Init

@[expose] public section

noncomputable section

namespace Cert.Proof

open Idealize.ShloMosaic Idealize.SL.Sem

/-- Every call's frames and values, in the order of the statement. -/
theorem claim : Cert.Claim := ⟨
  Cert.Gates.Gen.facts,
  Cert.GatesIdeal.Gen.facts,
  Cert.GatesRefIdeal.Gen.facts,
  Cert.Queries.Gen.facts,
  Cert.QueriesIdeal.Gen.facts,
  Cert.QueriesRefIdeal.Gen.facts,
  Cert.IdxQueries.Gen.facts,
  Cert.IdxQueriesIdeal.Gen.facts,
  Cert.IdxQueriesRefIdeal.Gen.facts,
  Cert.Merge.Gen.facts,
  Cert.MergeIdeal.Gen.facts,
  Cert.MergeRefIdeal.Gen.facts,
  Cert.Scores.Gen.facts,
  Cert.ScoresIdeal.Gen.facts,
  Cert.ScoresRefIdeal.Gen.facts,
  Cert.Mix.Gen.facts,
  Cert.MixIdeal.Gen.facts,
  Cert.MixRefIdeal.Gen.facts,
  Cert.Down.Gen.facts,
  Cert.DownIdeal.Gen.facts,
  Cert.DownRefIdeal.Gen.facts,
  Cert.ConvFfn.Gen.facts,
  Cert.ConvFfnIdeal.Gen.facts,
  Cert.ConvFfnRefIdeal.Gen.facts,
  Cert.ConvA.Gen.facts,
  Cert.ConvAIdeal.Gen.facts,
  Cert.ConvARefIdeal.Gen.facts,
  Cert.IdxKeys.Gen.facts,
  Cert.IdxKeysIdeal.Gen.facts,
  Cert.IdxKeysRefIdeal.Gen.facts,
  Cert.Pre_table_in_range.Gen.facts,
  fun m ρ _ => Cert.Gates.Gen.frame m ρ,
  fun m ρ _ => Cert.GatesIdeal.Gen.frame m ρ,
  fun m ρ _ => (θ_run Cert.GatesRefIdeal.defs _ _).mono (fun r h => ⟨fun c => (h c).2,
    Idealize.ShloMosaic.sem_eq_zero_of_no_sems (by decide) r.2⟩) (Cert.GatesRefIdeal.Value.run m ρ),
  fun m ρ _ => Cert.Queries.Gen.frame m ρ,
  fun m ρ _ => Cert.QueriesIdeal.Gen.frame m ρ,
  fun m ρ _ => (θ_run Cert.QueriesRefIdeal.defs _ _).mono (fun r h => ⟨fun c => (h c).2,
    Idealize.ShloMosaic.sem_eq_zero_of_no_sems (by decide) r.2⟩) (Cert.QueriesRefIdeal.Value.run m ρ),
  fun m ρ _ => Cert.IdxQueries.Gen.frame m ρ,
  fun m ρ _ => Cert.IdxQueriesIdeal.Gen.frame m ρ,
  fun m ρ _ => (θ_run Cert.IdxQueriesRefIdeal.defs _ _).mono (fun r h => ⟨fun c => (h c).2,
    Idealize.ShloMosaic.sem_eq_zero_of_no_sems (by decide) r.2⟩) (Cert.IdxQueriesRefIdeal.Value.run m ρ),
  fun m ρ _ => Cert.Merge.Gen.frame m ρ,
  fun m ρ _ => Cert.MergeIdeal.Gen.frame m ρ,
  fun m ρ _ => (θ_run Cert.MergeRefIdeal.defs _ _).mono (fun r h => ⟨fun c => (h c).2,
    Idealize.ShloMosaic.sem_eq_zero_of_no_sems (by decide) r.2⟩) (Cert.MergeRefIdeal.Value.run m ρ),
  fun m ρ h => Cert.Scores.Proved.frame m ρ (Cert.Scores.Proved.ok_of_pre m h),
  fun m ρ h => Cert.ScoresIdeal.Proved.frame m ρ (Cert.ScoresIdeal.Proved.ok_of_pre m h),
  fun m ρ _ => (θ_run Cert.ScoresRefIdeal.defs _ _).mono (fun r h => ⟨fun c => (h c).2.2,
    Idealize.ShloMosaic.sem_eq_zero_of_no_sems (by decide) r.2⟩) (Cert.ScoresRefIdeal.Value.run m ρ),
  fun m ρ _ => Cert.Mix.Proved.frame m ρ,
  fun m ρ _ => Cert.MixIdeal.Proved.frame m ρ,
  fun m ρ _ => (θ_run Cert.MixRefIdeal.defs _ _).mono (fun r h => ⟨fun c => (h c).2.2,
    Idealize.ShloMosaic.sem_eq_zero_of_no_sems (by decide) r.2⟩) (Cert.MixRefIdeal.Value.run m ρ),
  fun m ρ _ => Cert.Down.Proved.frame m ρ,
  fun m ρ _ => Cert.DownIdeal.Proved.frame m ρ,
  fun m ρ _ => (θ_run Cert.DownRefIdeal.defs _ _).mono (fun r h => ⟨fun c => (h c).2,
    Idealize.ShloMosaic.sem_eq_zero_of_no_sems (by decide) r.2⟩) (Cert.DownRefIdeal.Value.run m ρ),
  fun m ρ _ => Cert.ConvFfn.Proved.frame m ρ,
  fun m ρ _ => Cert.ConvFfnIdeal.Proved.frame m ρ,
  fun m ρ _ => (θ_run Cert.ConvFfnRefIdeal.defs _ _).mono (fun r h => ⟨fun c => (h c).2.2,
    Idealize.ShloMosaic.sem_eq_zero_of_no_sems (by decide) r.2⟩) (Cert.ConvFfnRefIdeal.Value.run m ρ),
  fun m ρ _ => Cert.ConvA.Gen.frame m ρ,
  fun m ρ _ => Cert.ConvAIdeal.Proved.frame m ρ,
  fun m ρ _ => (θ_run Cert.ConvARefIdeal.defs _ _).mono (fun r h => ⟨fun c => (h c).2.2,
    Idealize.ShloMosaic.sem_eq_zero_of_no_sems (by decide) r.2⟩) (Cert.ConvARefIdeal.Value.run m ρ),
  fun m ρ _ => Cert.IdxKeys.Gen.frame m ρ,
  fun m ρ _ => Cert.IdxKeysIdeal.Gen.frame m ρ,
  fun m ρ _ => (θ_run Cert.IdxKeysRefIdeal.defs _ _).mono (fun r h => ⟨fun c => (h c).2.2,
    Idealize.ShloMosaic.sem_eq_zero_of_no_sems (by decide) r.2⟩) (Cert.IdxKeysRefIdeal.Value.run m ρ),
  trivial,
  Cert.GatesIdeal.Proved.algebraic,
  trivial,
  Cert.QueriesIdeal.Proved.algebraic,
  trivial,
  Cert.IdxQueriesIdeal.Proved.algebraic,
  trivial,
  Cert.MergeIdeal.Proved.algebraic,
  trivial,
  Cert.ScoresIdeal.Proved.algebraic,
  trivial,
  Cert.MixIdeal.Proved.algebraic,
  trivial,
  Cert.DownIdeal.Proved.algebraic,
  trivial,
  Cert.ConvFfnIdeal.Proved.algebraic,
  trivial,
  Cert.ConvAIdeal.Proved.algebraic,
  trivial,
  Cert.IdxKeysIdeal.Proved.algebraic⟩

end Cert.Proof

end
